-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_latents [hPre_finite_latents : Cert.Pre_finite_latents.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_latents.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_latents [hPre_finite_latents : Cert.Pre_finite_latents.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_latents.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_latents [hKernel4Ideal : Cert.Kernel4Ideal.Facts] [hPre_finite_latents : Cert.Pre_finite_latents.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_latents m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_latents [hReference4Ideal : Cert.Reference4Ideal.Facts] [hPre_finite_latents : Cert.Pre_finite_latents.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_latents m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v108)) (v1 : (c : Dev Cert.Kernel3Ideal.nD) → Buf (Elt Ideal) ((c.tc : Thread Cert.Kernel3Ideal.nD Cert.Kernel3Ideal.τ).loc Cert.Kernel3Ideal.main_v109)) (v2 : (c : Dev Cert.Kernel3Ideal.nD) → Buf (Elt Ideal) ((c.tc : Thread Cert.Kernel3Ideal.nD Cert.Kernel3Ideal.τ).loc Cert.Kernel3Ideal.main_v110)) (v3 : (c : Dev Cert.Kernel3Ideal.nD) → Buf (Elt Ideal) ((c.tc : Thread Cert.Kernel3Ideal.nD Cert.Kernel3Ideal.τ).loc Cert.Kernel3Ideal.main_v111)) (v4 : (c : Dev Cert.Kernel3Ideal.nD) → Buf (Elt Ideal) ((c.tc : Thread Cert.Kernel3Ideal.nD Cert.Kernel3Ideal.τ).loc Cert.Kernel3Ideal.main_v112)) (v5 : (c : Dev Cert.Kernel3Ideal.nD) → Buf (Elt Ideal) ((c.tc : Thread Cert.Kernel3Ideal.nD Cert.Kernel3Ideal.τ).loc Cert.Kernel3Ideal.main_v113)) (v6 : (c : Dev Cert.Kernel3Ideal.nD) → Buf (Elt Ideal) ((c.tc : Thread Cert.Kernel3Ideal.nD Cert.Kernel3Ideal.τ).loc Cert.Kernel3Ideal.main_v115)) (v7 : (c : Dev Cert.Kernel3Ideal.nD) → Buf (Elt Ideal) ((c.tc : Thread Cert.Kernel3Ideal.nD Cert.Kernel3Ideal.τ).loc Cert.Kernel3Ideal.main_v116)) (v8 : (c : Dev Cert.Kernel3Ideal.nD) → Buf (Elt Ideal) ((c.tc : Thread Cert.Kernel3Ideal.nD Cert.Kernel3Ideal.τ).loc Cert.Kernel3Ideal.main_v118)) (v9 : (c : Dev Cert.Kernel3Ideal.nD) → Buf (Elt Ideal) ((c.tc : Thread Cert.Kernel3Ideal.nD Cert.Kernel3Ideal.τ).loc Cert.Kernel3Ideal.main_v120)) (v10 : (c : Dev Cert.Kernel3Ideal.nD) → Buf (Elt Ideal) ((c.tc : Thread Cert.Kernel3Ideal.nD Cert.Kernel3Ideal.τ).loc Cert.Kernel3Ideal.main_v121)) (v11 : (c : Dev Cert.Kernel3Ideal.nD) → Buf (Elt Ideal) ((c.tc : Thread Cert.Kernel3Ideal.nD Cert.Kernel3Ideal.τ).loc Cert.Kernel3Ideal.main_v122)) (v12 : (c : Dev Cert.Kernel3Ideal.nD) → Buf (Elt Ideal) ((c.tc : Thread Cert.Kernel3Ideal.nD Cert.Kernel3Ideal.τ).loc Cert.Kernel3Ideal.main_v123)) (v13 : (c : Dev Cert.Kernel3Ideal.nD) → Buf (Elt Ideal) ((c.tc : Thread Cert.Kernel3Ideal.nD Cert.Kernel3Ideal.τ).loc Cert.Kernel3Ideal.main_v125)) (v14 : (c : Dev Cert.Kernel3Ideal.nD) → Buf (Elt Ideal) ((c.tc : Thread Cert.Kernel3Ideal.nD Cert.Kernel3Ideal.τ).loc Cert.Kernel3Ideal.main_v126)) (v15 : (c : Dev Cert.Kernel3Ideal.nD) → Buf (Elt Ideal) ((c.tc : Thread Cert.Kernel3Ideal.nD Cert.Kernel3Ideal.τ).loc Cert.Kernel3Ideal.main_v127)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v108) = v0 c
          ∧ r.2.mem ((c.tc : Thread Cert.Kernel3Ideal.nD Cert.Kernel3Ideal.τ).loc Cert.Kernel3Ideal.main_v109) = v1 c
          ∧ r.2.mem ((c.tc : Thread Cert.Kernel3Ideal.nD Cert.Kernel3Ideal.τ).loc Cert.Kernel3Ideal.main_v110) = v2 c
          ∧ r.2.mem ((c.tc : Thread Cert.Kernel3Ideal.nD Cert.Kernel3Ideal.τ).loc Cert.Kernel3Ideal.main_v111) = v3 c
          ∧ r.2.mem ((c.tc : Thread Cert.Kernel3Ideal.nD Cert.Kernel3Ideal.τ).loc Cert.Kernel3Ideal.main_v112) = v4 c
          ∧ r.2.mem ((c.tc : Thread Cert.Kernel3Ideal.nD Cert.Kernel3Ideal.τ).loc Cert.Kernel3Ideal.main_v113) = v5 c
          ∧ r.2.mem ((c.tc : Thread Cert.Kernel3Ideal.nD Cert.Kernel3Ideal.τ).loc Cert.Kernel3Ideal.main_v115) = v6 c
          ∧ r.2.mem ((c.tc : Thread Cert.Kernel3Ideal.nD Cert.Kernel3Ideal.τ).loc Cert.Kernel3Ideal.main_v116) = v7 c
          ∧ r.2.mem ((c.tc : Thread Cert.Kernel3Ideal.nD Cert.Kernel3Ideal.τ).loc Cert.Kernel3Ideal.main_v118) = v8 c
          ∧ r.2.mem ((c.tc : Thread Cert.Kernel3Ideal.nD Cert.Kernel3Ideal.τ).loc Cert.Kernel3Ideal.main_v120) = v9 c
          ∧ r.2.mem ((c.tc : Thread Cert.Kernel3Ideal.nD Cert.Kernel3Ideal.τ).loc Cert.Kernel3Ideal.main_v121) = v10 c
          ∧ r.2.mem ((c.tc : Thread Cert.Kernel3Ideal.nD Cert.Kernel3Ideal.τ).loc Cert.Kernel3Ideal.main_v122) = v11 c
          ∧ r.2.mem ((c.tc : Thread Cert.Kernel3Ideal.nD Cert.Kernel3Ideal.τ).loc Cert.Kernel3Ideal.main_v123) = v12 c
          ∧ r.2.mem ((c.tc : Thread Cert.Kernel3Ideal.nD Cert.Kernel3Ideal.τ).loc Cert.Kernel3Ideal.main_v125) = v13 c
          ∧ r.2.mem ((c.tc : Thread Cert.Kernel3Ideal.nD Cert.Kernel3Ideal.τ).loc Cert.Kernel3Ideal.main_v126) = v14 c
          ∧ r.2.mem ((c.tc : Thread Cert.Kernel3Ideal.nD Cert.Kernel3Ideal.τ).loc Cert.Kernel3Ideal.main_v127) = v15 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_v23) = v2 c
          ∧ r.2.mem ((c.tc : Thread Cert.Reference3Ideal.nD Cert.Reference3Ideal.τ).loc Cert.Reference3Ideal.main_v24) = v3 c
          ∧ r.2.mem ((c.tc : Thread Cert.Reference3Ideal.nD Cert.Reference3Ideal.τ).loc Cert.Reference3Ideal.main_v25) = v4 c
          ∧ r.2.mem ((c.tc : Thread Cert.Reference3Ideal.nD Cert.Reference3Ideal.τ).loc Cert.Reference3Ideal.main_v26) = v5 c
          ∧ r.2.mem ((c.tc : Thread Cert.Reference3Ideal.nD Cert.Reference3Ideal.τ).loc Cert.Reference3Ideal.main_v27) = v6 c
          ∧ r.2.mem ((c.tc : Thread Cert.Reference3Ideal.nD Cert.Reference3Ideal.τ).loc Cert.Reference3Ideal.main_v28) = v7 c
          ∧ r.2.mem ((c.tc : Thread Cert.Reference3Ideal.nD Cert.Reference3Ideal.τ).loc Cert.Reference3Ideal.main_v29) = v8 c
          ∧ r.2.mem ((c.tc : Thread Cert.Reference3Ideal.nD Cert.Reference3Ideal.τ).loc Cert.Reference3Ideal.main_v30) = v9 c
          ∧ r.2.mem ((c.tc : Thread Cert.Reference3Ideal.nD Cert.Reference3Ideal.τ).loc Cert.Reference3Ideal.main_v31) = v10 c
          ∧ r.2.mem ((c.tc : Thread Cert.Reference3Ideal.nD Cert.Reference3Ideal.τ).loc Cert.Reference3Ideal.main_v32) = v11 c
          ∧ r.2.mem ((c.tc : Thread Cert.Reference3Ideal.nD Cert.Reference3Ideal.τ).loc Cert.Reference3Ideal.main_v33) = v12 c
          ∧ r.2.mem ((c.tc : Thread Cert.Reference3Ideal.nD Cert.Reference3Ideal.τ).loc Cert.Reference3Ideal.main_v34) = v13 c
          ∧ r.2.mem ((c.tc : Thread Cert.Reference3Ideal.nD Cert.Reference3Ideal.τ).loc Cert.Reference3Ideal.main_v35) = v14 c
          ∧ r.2.mem ((c.tc : Thread Cert.Reference3Ideal.nD Cert.Reference3Ideal.τ).loc Cert.Reference3Ideal.main_v36) = v15 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "inv_q_lora" .f32 0x3BAAAAAB#32 ((1 / 192 : ℝ) : EReal)
  ∧ IdealRules.named_const.Statement Cert.Kernel4Ideal.κ "q_scale" .f32 0x3E16C740#32 (((Real.sqrt 96)⁻¹ * (Real.log 2)⁻¹ : ℝ) : EReal)

def algebraic_Kernel4Ideal_Reference4Ideal_pre_finite_latents [hKernel4Ideal : Cert.Kernel4Ideal.Facts] [hReference4Ideal : Cert.Reference4Ideal.Facts] [hPre_finite_latents : Cert.Pre_finite_latents.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_latents m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v113)) (v1 : (c : Dev Cert.Kernel4Ideal.nD) → Buf (Elt Ideal) ((c.tc : Thread Cert.Kernel4Ideal.nD Cert.Kernel4Ideal.τ).loc Cert.Kernel4Ideal.main_v114)) (v2 : (c : Dev Cert.Kernel4Ideal.nD) → Buf (Elt Ideal) ((c.tc : Thread Cert.Kernel4Ideal.nD Cert.Kernel4Ideal.τ).loc Cert.Kernel4Ideal.main_v115)) (v3 : (c : Dev Cert.Kernel4Ideal.nD) → Buf (Elt Ideal) ((c.tc : Thread Cert.Kernel4Ideal.nD Cert.Kernel4Ideal.τ).loc Cert.Kernel4Ideal.main_v117)) (v4 : (c : Dev Cert.Kernel4Ideal.nD) → Buf (Elt Ideal) ((c.tc : Thread Cert.Kernel4Ideal.nD Cert.Kernel4Ideal.τ).loc Cert.Kernel4Ideal.main_v112)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v113) = v0 c
          ∧ r.2.mem ((c.tc : Thread Cert.Kernel4Ideal.nD Cert.Kernel4Ideal.τ).loc Cert.Kernel4Ideal.main_v114) = v1 c
          ∧ r.2.mem ((c.tc : Thread Cert.Kernel4Ideal.nD Cert.Kernel4Ideal.τ).loc Cert.Kernel4Ideal.main_v115) = v2 c
          ∧ r.2.mem ((c.tc : Thread Cert.Kernel4Ideal.nD Cert.Kernel4Ideal.τ).loc Cert.Kernel4Ideal.main_v117) = v3 c
          ∧ r.2.mem ((c.tc : Thread Cert.Kernel4Ideal.nD Cert.Kernel4Ideal.τ).loc Cert.Kernel4Ideal.main_v112) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v138) = v0 c
          ∧ r.2.mem ((c.tc : Thread Cert.Reference4Ideal.nD Cert.Reference4Ideal.τ).loc Cert.Reference4Ideal.main_v140) = v1 c
          ∧ r.2.mem ((c.tc : Thread Cert.Reference4Ideal.nD Cert.Reference4Ideal.τ).loc Cert.Reference4Ideal.main_v114) = v2 c
          ∧ r.2.mem ((c.tc : Thread Cert.Reference4Ideal.nD Cert.Reference4Ideal.τ).loc Cert.Reference4Ideal.main_v132) = v3 c
          ∧ r.2.mem ((c.tc : Thread Cert.Reference4Ideal.nD Cert.Reference4Ideal.τ).loc Cert.Reference4Ideal.main_v115) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  IdealRules.named_const.Statement Cert.Kernel5Ideal.κ "b_scale" .f32 0x3E38AA3B#32 (((Real.sqrt 64)⁻¹ * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_finite_latents : Cert.Pre_finite_latents.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_latents (hKernel4Ideal := hKernel4Ideal) (hPre_finite_latents := hPre_finite_latents)
    ∧ quiescent_Reference4Ideal (hReference4Ideal := hReference4Ideal)
    ∧ quiescent_Reference4Ideal_pre_finite_latents (hReference4Ideal := hReference4Ideal) (hPre_finite_latents := hPre_finite_latents)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_latents (hKernel4Ideal := hKernel4Ideal) (hReference4Ideal := hReference4Ideal) (hPre_finite_latents := hPre_finite_latents)
    ∧ preserves_Kernel5_Kernel5Ideal
    ∧ algebraic_Kernel5Ideal_Reference5Ideal (hKernel5Ideal := hKernel5Ideal) (hReference5Ideal := hReference5Ideal)
-- ==== Pre_finite_latents.lean ====
abbrev S8x2048x1024 : Shape := ⟨3, ![8, 2048, 1024]⟩
abbrev S2x1024x3976 : Shape := ⟨3, ![2, 1024, 3976]⟩
abbrev S2x1024 : Shape := ⟨2, ![2, 1024]⟩
abbrev S2x192 : Shape := ⟨2, ![2, 192]⟩
abbrev S2x128 : Shape := ⟨2, ![2, 128]⟩
abbrev S2x192x384 : Shape := ⟨3, ![2, 192, 384]⟩
abbrev S2x128x512 : Shape := ⟨3, ![2, 128, 512]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S2x1024x3976 : S_.BroadcastsInDim S2x1024x3976 (![] : Fin 0 → Fin S2x1024x3976.rank)
  reducesTo_S2x1024x3976_S_d0_1_2 : S2x1024x3976.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S2x192 : S_.BroadcastsInDim S2x192 (![] : Fin 0 → Fin S2x192.rank)
  reducesTo_S2x192_S_d0_1 : S2x192.ReducesTo [0, 1] S_
  bcast_S_S2x192x384 : S_.BroadcastsInDim S2x192x384 (![] : Fin 0 → Fin S2x192x384.rank)
  reducesTo_S2x192x384_S_d0_1_2 : S2x192x384.ReducesTo [0, 1, 2] S_

variable [Facts]

def fn_part1 {F : FTy → Type} [FloatOps F] (main_arg5 : FVec F S2x192x384 .f32) (main_v13 : IVec S_ 1) (main_v16 : IVec S2x192 1) : IVec S_ 1 :=
  let main_c_5 : IVec S_ 1 := constantI S_ 1 1#1
  let main_v17 : IVec S_ 1 := (fun x v => Host.reduce IntOp.andi x v reducesTo_S2x192_S_d0_1 h_S_) main_v16 main_c_5
  let main_v18 : IVec S_ 1 := andi main_v13 main_v17
  let main_v19 : FVec F S2x192x384 .f32 := Host.absf main_arg5
  let main_cst_6 : FVec F S_ .f32 := constant S_ .f32 0x7F800000#32
  let main_v20 : FVec F S2x192x384 .f32 := broadcastInDim S2x192x384 ![] bcast_S_S2x192x384 main_cst_6
  let main_v21 : IVec S2x192x384 1 := cmpf .olt main_v19 main_v20
  let main_c_7 : IVec S_ 1 := constantI S_ 1 1#1
  let main_v22 : IVec S_ 1 := (fun x v => Host.reduce IntOp.andi x v reducesTo_S2x192x384_S_d0_1_2 h_S_) main_v21 main_c_7
  let main_v23 : IVec S_ 1 := andi main_v18 main_v22
  main_v23

def fn {F : FTy → Type} [FloatOps F] (main_arg0 : FVec F S8x2048x1024 .f32) (main_arg1 : FVec F S2x1024x3976 .f32) (main_arg2 : FVec F S2x1024 .f32) (main_arg3 : FVec F S2x192 .f32) (main_arg4 : FVec F S2x128 .f32) (main_arg5 : FVec F S2x192x384 .f32) (main_arg6 : FVec F S2x128x512 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S2x1024x3976 .f32 := Host.absf main_arg1
  let main_cst_0 : FVec F S_ .f32 := constant S_ .f32 0x7F800000#32
  let main_v5 : FVec F S2x1024x3976 .f32 := broadcastInDim S2x1024x3976 ![] bcast_S_S2x1024x3976 main_cst_0
  let main_v6 : IVec S2x1024x3976 1 := cmpf .olt main_v4 main_v5
  let main_c_1 : IVec S_ 1 := constantI S_ 1 1#1
  let main_v7 : IVec S_ 1 := (fun x v => Host.reduce IntOp.andi x v reducesTo_S2x1024x3976_S_d0_1_2 h_S_) main_v6 main_c_1
  let main_v8 : IVec S_ 1 := andi main_v3 main_v7
  let main_v9 : FVec F S2x1024 .f32 := Host.absf main_arg2
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S2x192 .f32 := Host.absf main_arg3
  let main_cst_4 : FVec F S_ .f32 := constant S_ .f32 0x7F800000#32
  let main_v15 : FVec F S2x192 .f32 := broadcastInDim S2x192 ![] bcast_S_S2x192 main_cst_4
  let main_v16 : IVec S2x192 1 := cmpf .olt main_v14 main_v15
  fn_part1 (F := F) main_arg5 main_v13 main_v16
-- ==== Pre_finite_scores.lean ====
abbrev S8x2048x4x64 : Shape := ⟨4, ![8, 2048, 4, 64]⟩
abbrev S8x2048x4x32 : Shape := ⟨4, ![8, 2048, 4, 32]⟩
abbrev S8x2048x32 : Shape := ⟨3, ![8, 2048, 32]⟩
abbrev S8x2048x2304 : Shape := ⟨3, ![8, 2048, 2304]⟩
abbrev S_ : Shape := ⟨0, ![]⟩

class Facts : Prop where
  bcast_S_S8x2048x4x64 : S_.BroadcastsInDim S8x2048x4x64 (![] : Fin 0 → Fin S8x2048x4x64.rank)
  reducesTo_S8x2048x4x64_S_d0_1_2_3 : S8x2048x4x64.ReducesTo [0, 1, 2, 3] S_
  h_S_ : 0 < S_.numel
  bcast_S_S8x2048x4x32 : S_.BroadcastsInDim S8x2048x4x32 (![] : Fin 0 → Fin S8x2048x4x32.rank)
  reducesTo_S8x2048x4x32_S_d0_1_2_3 : S8x2048x4x32.ReducesTo [0, 1, 2, 3] S_
  bcast_S_S8x2048x32 : S_.BroadcastsInDim S8x2048x32 (![] : Fin 0 → Fin S8x2048x32.rank)
  reducesTo_S8x2048x32_S_d0_1_2 : S8x2048x32.ReducesTo [0, 1, 2] S_

variable [Facts]

def fn_part1 {F : FTy → Type} [FloatOps F] (main_v13 : IVec S_ 1) (main_v16 : IVec S8x2048x32 1) : IVec S_ 1 :=
  let main_c_5 : IVec S_ 1 := constantI S_ 1 1#1
  let main_v17 : IVec S_ 1 := (fun x v => Host.reduce IntOp.andi x v reducesTo_S8x2048x32_S_d0_1_2 h_S_) main_v16 main_c_5
  let main_v18 : IVec S_ 1 := andi main_v13 main_v17
  main_v18

def fn {F : FTy → Type} [FloatOps F] (main_arg0 : FVec F S8x2048x4x64 .f32) (main_arg1 : FVec F S8x2048x4x32 .f32) (main_arg2 : FVec F S8x2048x4x64 .f32) (main_arg3 : FVec F S8x2048x32 .f32) (main_arg4 : FVec F S8x2048x4x64 .f32) (main_arg5 : FVec F S8x2048x2304 .f32) : IVec S_ 1 :=
  let main_v0 : FVec F S8x2048x4x64 .f32 := Host.absf main_arg0
  let main_cst : FVec F S_ .f32 := constant S_ .f32 0x7F800000#32
  let main_v1 : FVec F S8x2048x4x64 .f32 := broadcastInDim S8x2048x4x64 ![] bcast_S_S8x2048x4x64 main_cst
  let main_v2 : IVec S8x2048x4x64 1 := cmpf .olt main_v0 main_v1
  let main_c : IVec S_ 1 := constantI S_ 1 1#1
  let main_v3 : IVec S_ 1 := (fun x v => Host.reduce IntOp.andi x v reducesTo_S8x2048x4x64_S_d0_1_2_3 h_S_) main_v2 main_c
  let main_v4 : FVec F S8x2048x4x32 .f32 := Host.absf main_arg1
  let main_cst_0 : FVec F S_ .f32 := constant S_ .f32 0x7F800000#32
  let main_v5 : FVec F S8x2048x4x32 .f32 := broadcastInDim S8x2048x4x32 ![] bcast_S_S8x2048x4x32 main_cst_0
  let main_v6 : IVec S8x2048x4x32 1 := cmpf .olt main_v4 main_v5
  let main_c_1 : IVec S_ 1 := constantI S_ 1 1#1
  let main_v7 : IVec S_ 1 := (fun x v => Host.reduce IntOp.andi x v reducesTo_S8x2048x4x32_S_d0_1_2_3 h_S_) main_v6 main_c_1
  let main_v8 : IVec S_ 1 := andi main_v3 main_v7
  let main_v9 : FVec F S8x2048x4x64 .f32 := Host.absf main_arg2
  let main_cst_2 : FVec F S_ .f32 := constant S_ .f32 0x7F800000#32
  let main_v10 : FVec F S8x2048x4x64 .f32 := broadcastInDim S8x2048x4x64 ![] bcast_S_S8x2048x4x64 main_cst_2
  let main_v11 : IVec S8x2048x4x64 1 := cmpf .olt main_v9 main_v10
  let main_c_3 : IVec S_ 1 := constantI S_ 1 1#1
  let main_v12 : IVec S_ 1 := (fun x v => Host.reduce IntOp.andi x v reducesTo_S8x2048x4x64_S_d0_1_2_3 h_S_) main_v11 main_c_3
  let main_v13 : IVec S_ 1 := andi main_v8 main_v12
  let main_v14 : FVec F S8x2048x32 .f32 := Host.absf main_arg3
  let main_cst_4 : FVec F S_ .f32 := constant S_ .f32 0x7F800000#32
  let main_v15 : FVec F S8x2048x32 .f32 := broadcastInDim S8x2048x32 ![] bcast_S_S8x2048x32 main_cst_4
  let main_v16 : IVec S8x2048x32 1 := cmpf .olt main_v14 main_v15
  fn_part1 (F := F) main_v13 main_v16
-- ==== Kernel.lean ====
abbrev S8x2048x4x64 : Shape := ⟨4, ![8, 2048, 4, 64]⟩
abbrev S8x2048x4x32 : Shape := ⟨4, ![8, 2048, 4, 32]⟩
abbrev S8x2048x32 : Shape := ⟨3, ![8, 2048, 32]⟩
abbrev S8x2048x2304 : Shape := ⟨3, ![8, 2048, 2304]⟩
abbrev S_ : Shape := ⟨0, ![]⟩
abbrev S8x2048x4x128 : Shape := ⟨4, ![8, 2048, 4, 128]⟩
abbrev S8x2048x512 : Shape := ⟨3, ![8, 2048, 512]⟩
abbrev S8x2048x1x32 : Shape := ⟨4, ![8, 2048, 1, 32]⟩
abbrev S8x2048x256 : Shape := ⟨3, ![8, 2048, 256]⟩
abbrev S8x256x2048 : Shape := ⟨3, ![8, 256, 2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S3x128x128 : Shape := ⟨3, ![3, 128, 128]⟩
abbrev S1x256x512 : Shape := ⟨3, ![1, 256, 512]⟩
abbrev S1x2048x512 : Shape := ⟨3, ![1, 2048, 512]⟩
abbrev S1x256x2048 : Shape := ⟨3, ![1, 256, 2048]⟩
abbrev S1x256x256 : Shape := ⟨3, ![1, 256, 256]⟩
abbrev S128x256 : Shape := ⟨2, ![128, 256]⟩
abbrev S256x256 : Shape := ⟨2, ![256, 256]⟩
abbrev S256x128 : Shape := ⟨2, ![256, 128]⟩
abbrev S4x64x128 : Shape := ⟨3, ![4, 64, 128]⟩
abbrev S64x128 : Shape := ⟨2, ![64, 128]⟩
abbrev S1x128x256 : Shape := ⟨3, ![1, 128, 256]⟩
abbrev S1x512x256 : Shape := ⟨3, ![1, 512, 256]⟩
abbrev S512x256 : Shape := ⟨2, ![512, 256]⟩
abbrev S512x128 : Shape := ⟨2, ![512, 128]⟩
abbrev S8x64x128 : Shape := ⟨3, ![8, 64, 128]⟩
abbrev S1x128x512 : Shape := ⟨3, ![1, 128, 512]⟩
abbrev S128x512 : Shape := ⟨2, ![128, 512]⟩
abbrev S1x768x256 : Shape := ⟨3, ![1, 768, 256]⟩
abbrev S768x256 : Shape := ⟨2, ![768, 256]⟩
abbrev S768x128 : Shape := ⟨2, ![768, 128]⟩
abbrev S12x64x128 : Shape := ⟨3, ![12, 64, 128]⟩
abbrev S1x128x768 : Shape := ⟨3, ![1, 128, 768]⟩
abbrev S128x768 : Shape := ⟨2, ![128, 768]⟩
abbrev S1x1024x256 : Shape := ⟨3, ![1, 1024, 256]⟩
abbrev S1024x256 : Shape := ⟨2, ![1024, 256]⟩
abbrev S1024x128 : Shape := ⟨2, ![1024, 128]⟩
abbrev S16x64x128 : Shape := ⟨3, ![16, 64, 128]⟩
abbrev S1x128x1024 : Shape := ⟨3, ![1, 128, 1024]⟩
abbrev S128x1024 : Shape := ⟨2, ![128, 1024]⟩
abbrev S1x1280x256 : Shape := ⟨3, ![1, 1280, 256]⟩
abbrev S1280x256 : Shape := ⟨2, ![1280, 256]⟩
abbrev S1280x128 : Shape := ⟨2, ![1280, 128]⟩
abbrev S20x64x128 : Shape := ⟨3, ![20, 64, 128]⟩
abbrev S1x128x1280 : Shape := ⟨3, ![1, 128, 1280]⟩
abbrev S128x1280 : Shape := ⟨2, ![128, 1280]⟩
abbrev S1x1536x256 : Shape := ⟨3, ![1, 1536, 256]⟩
abbrev S1536x256 : Shape := ⟨2, ![1536, 256]⟩
abbrev S1536x128 : Shape := ⟨2, ![1536, 128]⟩
abbrev S24x64x128 : Shape := ⟨3, ![24, 64, 128]⟩
abbrev S1x128x1536 : Shape := ⟨3, ![1, 128, 1536]⟩
abbrev S128x1536 : Shape := ⟨2, ![128, 1536]⟩
abbrev S1x1792x256 : Shape := ⟨3, ![1, 1792, 256]⟩
abbrev S1792x256 : Shape := ⟨2, ![1792, 256]⟩
abbrev S1792x128 : Shape := ⟨2, ![1792, 128]⟩
abbrev S28x64x128 : Shape := ⟨3, ![28, 64, 128]⟩
abbrev S1x128x1792 : Shape := ⟨3, ![1, 128, 1792]⟩
abbrev S128x1792 : Shape := ⟨2, ![128, 1792]⟩
abbrev S1x2048x256 : Shape := ⟨3, ![1, 2048, 256]⟩
abbrev S2048x256 : Shape := ⟨2, ![2048, 256]⟩
abbrev S2048x128 : Shape := ⟨2, ![2048, 128]⟩
abbrev S32x64x128 : Shape := ⟨3, ![32, 64, 128]⟩
abbrev S1x128x2048 : Shape := ⟨3, ![1, 128, 2048]⟩
abbrev S128x2048 : Shape := ⟨2, ![128, 2048]⟩

abbrev nBuf : Space → Nat
  | .hbm => 51
  | .vmem => 11
  | .smem => 0
  | _ => 0

abbrev bufTy : (tb : Table) → Fin (tcTables nBuf tb) → BufTy
  | .hbm, ⟨0, _⟩ => ⟨S8x2048x4x64, .f32⟩
  | .hbm, ⟨1, _⟩ => ⟨S8x2048x4x32, .f32⟩
  | .hbm, ⟨2, _⟩ => ⟨S8x2048x4x64, .f32⟩
  | .hbm, ⟨3, _⟩ => ⟨S8x2048x32, .f32⟩
  | .hbm, ⟨4, _⟩ => ⟨S8x2048x4x64, .f32⟩
  | .hbm, ⟨5, _⟩ => ⟨S8x2048x2304, .f32⟩
  | .hbm, ⟨6, _⟩ => ⟨S_, .f32⟩
  | .hbm, ⟨7, _⟩ => ⟨S8x2048x4x32, .f32⟩
  | .hbm, ⟨8, _⟩ => ⟨S8x2048x4x128, .f32⟩
  | .hbm, ⟨9, _⟩ => ⟨S8x2048x512, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8x2048x512, .f32⟩
  | .hbm, ⟨18, _⟩ => ⟨S8x2048x512, .f32⟩
  | .hbm, ⟨19, _⟩ => ⟨S8x2048x512, .bf16⟩
  | .hbm, ⟨20, _⟩ => ⟨S8x2048x1x32, .f32⟩
  | .hbm, ⟨21, _⟩ => ⟨S8x2048x4x32, .f32⟩
  | .hbm, ⟨22, _⟩ => ⟨S8x2048x4x128, .f32⟩
  | .hbm, ⟨23, _⟩ => ⟨S8x2048x512, .f32⟩
  | .hbm, ⟨24, _⟩ => ⟨S8x2048x512, .bf16⟩
  | .hbm, ⟨25, _⟩ => ⟨S8x2048x256, .f32⟩
  | .hbm, ⟨26, _⟩ => ⟨S8x256x2048, .f32⟩
  | .hbm, ⟨27, _⟩ => ⟨S8x256x2048, .bf16⟩
  | .hbm, ⟨28, _⟩ => ⟨S128, .i32⟩
  | .hbm, ⟨29, _⟩ => ⟨S128x1, .i32⟩
  | .hbm, ⟨30, _⟩ => ⟨S128, .i32⟩
  | .hbm, ⟨31, _⟩ => ⟨S1x128, .i32⟩
  | .hbm, ⟨32, _⟩ => ⟨S128x128, .i32⟩
  | .hbm, ⟨33, _⟩ => ⟨S128x128, .i32⟩
  | .hbm, ⟨34, _⟩ => ⟨S128x128, .i1⟩
  | .hbm, ⟨35, _⟩ => ⟨S_, .f32⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S_, .f32⟩
  | .hbm, ⟨41, _⟩ => ⟨S128x128, .f32⟩
  | .hbm, ⟨42, _⟩ => ⟨S_, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S1x128x128, .f32⟩
  | .hbm, ⟨47, _⟩ => ⟨S1x128x128, .f32⟩
  | .hbm, ⟨48, _⟩ => ⟨S1x128x128, .f32⟩
  | .hbm, ⟨49, _⟩ => ⟨S3x128x128, .f32⟩
  | .hbm, ⟨50, _⟩ => ⟨S8x2048x256, .bf16⟩
  | .local _ .vmem, ⟨0, _⟩ => ⟨S1x256x512, .bf16⟩
  | .local _ .vmem, ⟨1, _⟩ => ⟨S1x256x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x256, .f32⟩
  | .local _ .vmem, ⟨7, _⟩ => ⟨S1x256x256, .f32⟩
  | .local _ .vmem, ⟨8, _⟩ => ⟨S3x128x128, .f32⟩
  | .local _ .vmem, ⟨9, _⟩ => ⟨S1x256x256, .bf16⟩
  | .local _ .vmem, ⟨10, _⟩ => ⟨S1x256x256, .bf16⟩
  | _, _ => ⟨S8x2048x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_9 : BitVec 32) (c0_i32_26 : BitVec 32) : Fin 3 → Nat :=
  let c1_i32_27 : BitVec 32 := 1#32
  let c_m1_i32 : BitVec 32 := 4294967295#32
  let c2_i32_8 : BitVec 32 := 2#32
  let arg1 : BitVec 32 := BitVec.ofNat 32 (i 1).val
  let v24 : BitVec 32 := Scalar.muli c2_i32_8 arg1
  let v25 : BitVec 32 := Scalar.addi v24 c0_i32_9
  let v47 : BitVec 32 := Scalar.subi v25 c0_i32_26
  let v48 : BitVec 32 := Scalar.maxsi c_m1_i32 v47
  let v49 : BitVec 32 := Scalar.minsi c1_i32_27 v48
  let c1_i32_28 : BitVec 32 := 1#32
  let v50 : BitVec 32 := Scalar.addi v49 c1_i32_28
  let v51 : Index := Scalar.indexCast v50
  let c0_29 : Index := 0#32
  let c0_30 : Index := 0#32
  ![v51.toNat, 0, 0]
def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_off2 (i : grid0.Coords) (c0_i32_9 : BitVec 32) (c2_i32_26 : BitVec 32) : Fin 3 → Nat :=
  let c1_i32_27 : BitVec 32 := 1#32
  let c_m1_i32 : BitVec 32 := 4294967295#32
  let c2_i32_8 : BitVec 32 := 2#32
  let arg1 : BitVec 32 := BitVec.ofNat 32 (i 1).val
  let v24 : BitVec 32 := Scalar.muli c2_i32_8 arg1
  let v25 : BitVec 32 := Scalar.addi v24 c0_i32_9
  let v47 : BitVec 32 := Scalar.subi v25 c2_i32_26
  let v48 : BitVec 32 := Scalar.maxsi c_m1_i32 v47
  let v49 : BitVec 32 := Scalar.minsi c1_i32_27 v48
  let c1_i32_28 : BitVec 32 := 1#32
  let v50 : BitVec 32 := Scalar.addi v49 c1_i32_28
  let v51 : Index := Scalar.indexCast v50
  let c0_29 : Index := 0#32
  let c0_30 : Index := 0#32
  ![v51.toNat, 0, 0]
def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_off3 (i : grid0.Coords) (c0_i32_9 : BitVec 32) (c4_i32_26 : BitVec 32) : Fin 3 → Nat :=
  let c1_i32_27 : BitVec 32 := 1#32
  let c_m1_i32 : BitVec 32 := 4294967295#32
  let c2_i32_8 : BitVec 32 := 2#32
  let arg1 : BitVec 32 := BitVec.ofNat 32 (i 1).val
  let v24 : BitVec 32 := Scalar.muli c2_i32_8 arg1
  let v25 : BitVec 32 := Scalar.addi v24 c0_i32_9
  let v47 : BitVec 32 := Scalar.subi v25 c4_i32_26
  let v48 : BitVec 32 := Scalar.maxsi c_m1_i32 v47
  let v49 : BitVec 32 := Scalar.minsi c1_i32_27 v48
  let c1_i32_28 : BitVec 32 := 1#32
  let v50 : BitVec 32 := Scalar.addi v49 c1_i32_28
  let v51 : Index := Scalar.indexCast v50
  let c0_29 : Index := 0#32
  let c0_30 : Index := 0#32
  ![v51.toNat, 0, 0]
def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_off4 (i : grid0.Coords) (c0_i32_9 : BitVec 32) (c6_i32_26 : BitVec 32) : Fin 3 → Nat :=
  let c1_i32_27 : BitVec 32 := 1#32
  let c_m1_i32 : BitVec 32 := 4294967295#32
  let c2_i32_8 : BitVec 32 := 2#32
  let arg1 : BitVec 32 := BitVec.ofNat 32 (i 1).val
  let v24 : BitVec 32 := Scalar.muli c2_i32_8 arg1
  let v25 : BitVec 32 := Scalar.addi v24 c0_i32_9
  let v47 : BitVec 32 := Scalar.subi v25 c6_i32_26
  let v48 : BitVec 32 := Scalar.maxsi c_m1_i32 v47
  let v49 : BitVec 32 := Scalar.minsi c1_i32_27 v48
  let c1_i32_28 : BitVec 32 := 1#32
  let v50 : BitVec 32 := Scalar.addi v49 c1_i32_28
  let v51 : Index := Scalar.indexCast v50
  let c0_29 : Index := 0#32
  let c0_30 : Index := 0#32
  ![v51.toNat, 0, 0]
def k0_cond5 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

def k0_off5 (i : grid0.Coords) (c0_i32_9 : BitVec 32) (c8_i32 : BitVec 32) : Fin 3 → Nat :=
  let c1_i32_26 : BitVec 32 := 1#32
  let c_m1_i32 : BitVec 32 := 4294967295#32
  let c2_i32_8 : BitVec 32 := 2#32
  let arg1 : BitVec 32 := BitVec.ofNat 32 (i 1).val
  let v24 : BitVec 32 := Scalar.muli c2_i32_8 arg1
  let v25 : BitVec 32 := Scalar.addi v24 c0_i32_9
  let v47 : BitVec 32 := Scalar.subi v25 c8_i32
  let v48 : BitVec 32 := Scalar.maxsi c_m1_i32 v47
  let v49 : BitVec 32 := Scalar.minsi c1_i32_26 v48
  let c1_i32_27 : BitVec 32 := 1#32
  let v50 : BitVec 32 := Scalar.addi v49 c1_i32_27
  let v51 : Index := Scalar.indexCast v50
  let c0_28 : Index := 0#32
  let c0_29 : Index := 0#32
  ![v51.toNat, 0, 0]
def k0_cond6 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

def k0_off6 (i : grid0.Coords) (c0_i32_9 : BitVec 32) (c10_i32 : BitVec 32) : Fin 3 → Nat :=
  let c1_i32_26 : BitVec 32 := 1#32
  let c_m1_i32 : BitVec 32 := 4294967295#32
  let c2_i32_8 : BitVec 32 := 2#32
  let arg1 : BitVec 32 := BitVec.ofNat 32 (i 1).val
  let v24 : BitVec 32 := Scalar.muli c2_i32_8 arg1
  let v25 : BitVec 32 := Scalar.addi v24 c0_i32_9
  let v47 : BitVec 32 := Scalar.subi v25 c10_i32
  let v48 : BitVec 32 := Scalar.maxsi c_m1_i32 v47
  let v49 : BitVec 32 := Scalar.minsi c1_i32_26 v48
  let c1_i32_27 : BitVec 32 := 1#32
  let v50 : BitVec 32 := Scalar.addi v49 c1_i32_27
  let v51 : Index := Scalar.indexCast v50
  let c0_28 : Index := 0#32
  let c0_29 : Index := 0#32
  ![v51.toNat, 0, 0]
def k0_cond7 (i : grid0.Coords) : BitVec 1 :=
  let arg1 : BitVec 32 := BitVec.ofNat 32 (i 1).val
  let c6_i32 : BitVec 32 := 6#32
  let v18 : BitVec 1 := Scalar.cmpi .eq arg1 c6_i32
  let v19 : BitVec 32 := Scalar.extui v18
  let c0_i32_6 : BitVec 32 := 0#32
  let v20 : BitVec 1 := Scalar.cmpi .ne v19 c0_i32_6
  v20

def k0_off7 (i : grid0.Coords) (c0_i32_9 : BitVec 32) (c12_i32 : BitVec 32) : Fin 3 → Nat :=
  let c1_i32_26 : BitVec 32 := 1#32
  let c_m1_i32 : BitVec 32 := 4294967295#32
  let c2_i32_8 : BitVec 32 := 2#32
  let arg1 : BitVec 32 := BitVec.ofNat 32 (i 1).val
  let v24 : BitVec 32 := Scalar.muli c2_i32_8 arg1
  let v25 : BitVec 32 := Scalar.addi v24 c0_i32_9
  let v47 : BitVec 32 := Scalar.subi v25 c12_i32
  let v48 : BitVec 32 := Scalar.maxsi c_m1_i32 v47
  let v49 : BitVec 32 := Scalar.minsi c1_i32_26 v48
  let c1_i32_27 : BitVec 32 := 1#32
  let v50 : BitVec 32 := Scalar.addi v49 c1_i32_27
  let v51 : Index := Scalar.indexCast v50
  let c0_28 : Index := 0#32
  let c0_29 : Index := 0#32
  ![v51.toNat, 0, 0]
def k0_cond8 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_7 : BitVec 32 := 0#32
  let v23 : BitVec 1 := Scalar.cmpi .ne v22 c0_i32_7
  v23

def k0_off8 (i : grid0.Coords) (c0_i32_9 : BitVec 32) (c14_i32 : BitVec 32) : Fin 3 → Nat :=
  let c1_i32_26 : BitVec 32 := 1#32
  let c_m1_i32 : BitVec 32 := 4294967295#32
  let c2_i32_8 : BitVec 32 := 2#32
  let arg1 : BitVec 32 := BitVec.ofNat 32 (i 1).val
  let v24 : BitVec 32 := Scalar.muli c2_i32_8 arg1
  let v25 : BitVec 32 := Scalar.addi v24 c0_i32_9
  let v47 : BitVec 32 := Scalar.subi v25 c14_i32
  let v48 : BitVec 32 := Scalar.maxsi c_m1_i32 v47
  let v49 : BitVec 32 := Scalar.minsi c1_i32_26 v48
  let c1_i32_27 : BitVec 32 := 1#32
  let v50 : BitVec 32 := Scalar.addi v49 c1_i32_27
  let v51 : Index := Scalar.indexCast v50
  let c0_28 : Index := 0#32
  let c0_29 : Index := 0#32
  ![v51.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x2048x4x64 : Shape := ⟨4, ![8, 2048, 4, 64]⟩
abbrev S8x2048x4x32 : Shape := ⟨4, ![8, 2048, 4, 32]⟩
abbrev S8x2048x32 : Shape := ⟨3, ![8, 2048, 32]⟩
abbrev S8x2048x2304 : Shape := ⟨3, ![8, 2048, 2304]⟩
abbrev S_ : Shape := ⟨0, ![]⟩
abbrev S2048 : Shape := ⟨1, ![2048]⟩
abbrev S8x4x2048x2048 : Shape := ⟨4, ![8, 4, 2048, 2048]⟩
abbrev S8x2048x2048x4 : Shape := ⟨4, ![8, 2048, 2048, 4]⟩
abbrev S1x2048 : Shape := ⟨2, ![1, 2048]⟩
abbrev S2048x1 : Shape := ⟨2, ![2048, 1]⟩
abbrev S2048x2048 : Shape := ⟨2, ![2048, 2048]⟩
abbrev S8x4x2048 : Shape := ⟨3, ![8, 4, 2048]⟩
abbrev S8x4x2048x1 : Shape := ⟨4, ![8, 4, 2048, 1]⟩
abbrev S8x4x64x2048 : Shape := ⟨4, ![8, 4, 64, 2048]⟩
abbrev S8x2048x256 : Shape := ⟨3, ![8, 2048, 256]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x4x64, .f32⟩
  | .hbm, ⟨1, _⟩ => ⟨S8x2048x4x32, .f32⟩
  | .hbm, ⟨2, _⟩ => ⟨S8x2048x4x64, .f32⟩
  | .hbm, ⟨3, _⟩ => ⟨S8x2048x32, .f32⟩
  | .hbm, ⟨4, _⟩ => ⟨S8x2048x4x64, .f32⟩
  | .hbm, ⟨5, _⟩ => ⟨S8x2048x2304, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2048, .i32⟩
  | .hbm, ⟨11, _⟩ => ⟨S8x4x2048x2048, .f32⟩
  | .hbm, ⟨12, _⟩ => ⟨S8x2048x2048x4, .f32⟩
  | .hbm, ⟨13, _⟩ => ⟨S8x4x2048x2048, .f32⟩
  | .hbm, ⟨14, _⟩ => ⟨S8x4x2048x2048, .f32⟩
  | .hbm, ⟨15, _⟩ => ⟨S8x4x2048x2048, .f32⟩
  | .hbm, ⟨16, _⟩ => ⟨S8x4x2048x2048, .f32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x4x2048x2048, .i1⟩
  | .hbm, ⟨25, _⟩ => ⟨S8x4x2048x2048, .f32⟩
  | .hbm, ⟨26, _⟩ => ⟨S8x4x2048x2048, .f32⟩
  | .hbm, ⟨27, _⟩ => ⟨S_, .f32⟩
  | .hbm, ⟨28, _⟩ => ⟨S8x4x2048, .f32⟩
  | .hbm, ⟨29, _⟩ => ⟨S_, .f32⟩
  | .hbm, ⟨30, _⟩ => ⟨S8x4x2048, .f32⟩
  | .hbm, ⟨31, _⟩ => ⟨S8x4x2048, .f32⟩
  | .hbm, ⟨32, _⟩ => ⟨S8x4x2048x1, .f32⟩
  | .hbm, ⟨33, _⟩ => ⟨S8x4x2048x2048, .f32⟩
  | .hbm, ⟨34, _⟩ => ⟨S8x4x2048x2048, .f32⟩
  | .hbm, ⟨35, _⟩ => ⟨S8x4x2048x2048, .f32⟩
  | .hbm, ⟨36, _⟩ => ⟨S_, .f32⟩
  | .hbm, ⟨37, _⟩ => ⟨S8x4x2048, .f32⟩
  | .hbm, ⟨38, _⟩ => ⟨S8x4x2048x1, .f32⟩
  | .hbm, ⟨39, _⟩ => ⟨S8x4x2048x2048, .f32⟩
  | .hbm, ⟨40, _⟩ => ⟨S8x4x2048x2048, .f32⟩
  | .hbm, ⟨41, _⟩ => ⟨S8x4x64x2048, .f32⟩
  | .hbm, ⟨42, _⟩ => ⟨S8x2048x4x64, .f32⟩
  | .hbm, ⟨43, _⟩ => ⟨S8x2048x256, .f32⟩
  | .hbm, ⟨44, _⟩ => ⟨S8x2048x256, .f32⟩
  | .hbm, ⟨45, _⟩ => ⟨S8x2048x256, .f32⟩
  | .hbm, ⟨46, _⟩ => ⟨S8x2048x256, .f32⟩
  | .hbm, ⟨47, _⟩ => ⟨S_, .f32⟩
  | .hbm, ⟨48, _⟩ => ⟨S8x2048x256, .f32⟩
  | .hbm, ⟨49, _⟩ => ⟨S8x2048x256, .f32⟩
  | .hbm, ⟨50, _⟩ => ⟨S_, .f32⟩
  | .hbm, ⟨51, _⟩ => ⟨S8x2048x256, .f32⟩
  | .hbm, ⟨52, _⟩ => ⟨S8x2048x256, .f32⟩
  | .hbm, ⟨53, _⟩ => ⟨S8x2048x256, .f32⟩
  | .hbm, ⟨54, _⟩ => ⟨S8x2048x256, .f32⟩
  | .hbm, ⟨55, _⟩ => ⟨S8x2048x256, .bf16⟩
  | _, _ => ⟨S8x2048x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩

abbrev nD : Nat := 1
abbrev τ : Topo := Topo.v7x

variable {F : FTy → Type} [FloatOps F]
-- ==== Kernel2.lean ====
abbrev S8x2048x256 : Shape := ⟨3, ![8, 2048, 256]⟩
abbrev S2x1024x1024 : Shape := ⟨3, ![2, 1024, 1024]⟩
abbrev S8x2048x1024 : Shape := ⟨3, ![8, 2048, 1024]⟩
abbrev S2x1024 : Shape := ⟨2, ![2, 1024]⟩
abbrev S1x1024 : Shape := ⟨2, ![1, 1024]⟩
abbrev S1024 : Shape := ⟨1, ![1024]⟩
abbrev S1x1024x256 : Shape := ⟨3, ![1, 1024, 256]⟩
abbrev S1x1024x1024 : Shape := ⟨3, ![1, 1024, 1024]⟩
abbrev S1024x256 : Shape := ⟨2, ![1024, 256]⟩
abbrev S1024x1024 : Shape := ⟨2, ![1024, 1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S8x2048x256, .bf16⟩
  | .hbm, ⟨1, _⟩ => ⟨S8x2048x256, .bf16⟩
  | .hbm, ⟨2, _⟩ => ⟨S8x2048x256, .bf16⟩
  | .hbm, ⟨3, _⟩ => ⟨S8x2048x256, .bf16⟩
  | .hbm, ⟨4, _⟩ => ⟨S2x1024x1024, .f32⟩
  | .hbm, ⟨5, _⟩ => ⟨S8x2048x1024, .f32⟩
  | .hbm, ⟨6, _⟩ => ⟨S2x1024, .f32⟩
  | .hbm, ⟨7, _⟩ => ⟨S2x1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S8x2048x1024, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x1024, .bf16⟩
  | .local _ .vmem, ⟨9, _⟩ => ⟨S1x1024x1024, .f32⟩
  | .local _ .vmem, ⟨10, _⟩ => ⟨S1x1024x1024, .f32⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | _, _ => ⟨S8x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8x2048x256 : Shape := ⟨3, ![8, 2048, 256]⟩
abbrev S2x1024x1024 : Shape := ⟨3, ![2, 1024, 1024]⟩
abbrev S8x2048x1024 : Shape := ⟨3, ![8, 2048, 1024]⟩
abbrev S2x1024 : Shape := ⟨2, ![2, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x256, .bf16⟩
  | .hbm, ⟨1, _⟩ => ⟨S8x2048x256, .bf16⟩
  | .hbm, ⟨2, _⟩ => ⟨S8x2048x256, .bf16⟩
  | .hbm, ⟨3, _⟩ => ⟨S8x2048x256, .bf16⟩
  | .hbm, ⟨4, _⟩ => ⟨S2x1024x1024, .f32⟩
  | .hbm, ⟨5, _⟩ => ⟨S8x2048x1024, .f32⟩
  | .hbm, ⟨6, _⟩ => ⟨S2x1024, .f32⟩
  | .hbm, ⟨7, _⟩ => ⟨S8x2048x1024, .bf16⟩
  | .hbm, ⟨8, _⟩ => ⟨S8x2048x1024, .f32⟩
  | .hbm, ⟨9, _⟩ => ⟨S1x1024x1024, .f32⟩
  | .hbm, ⟨10, _⟩ => ⟨S1024x1024, .f32⟩
  | .hbm, ⟨11, _⟩ => ⟨S8x2048x1024, .f32⟩
  | .hbm, ⟨12, _⟩ => ⟨S1x1024, .f32⟩
  | .hbm, ⟨13, _⟩ => ⟨S1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S1x1x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | _, _ => ⟨S8x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel3.lean ====
abbrev S8x2048x1024 : Shape := ⟨3, ![8, 2048, 1024]⟩
abbrev S2x1024x3976 : Shape := ⟨3, ![2, 1024, 3976]⟩
abbrev S2x1024 : Shape := ⟨2, ![2, 1024]⟩
abbrev S2x192 : Shape := ⟨2, ![2, 192]⟩
abbrev S2x128 : Shape := ⟨2, ![2, 128]⟩
abbrev S2x192x384 : Shape := ⟨3, ![2, 192, 384]⟩
abbrev S2x128x512 : Shape := ⟨3, ![2, 128, 512]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S2x1024x192 : Shape := ⟨3, ![2, 1024, 192]⟩
abbrev S2x1024x128 : Shape := ⟨3, ![2, 1024, 128]⟩
abbrev S2x1024x32 : Shape := ⟨3, ![2, 1024, 32]⟩
abbrev S2x1024x256 : Shape := ⟨3, ![2, 1024, 256]⟩
abbrev S2x1024x8 : Shape := ⟨3, ![2, 1024, 8]⟩
abbrev S2x1024x64 : Shape := ⟨3, ![2, 1024, 64]⟩
abbrev S2x1024x96 : Shape := ⟨3, ![2, 1024, 96]⟩
abbrev S2x1024x16 : Shape := ⟨3, ![2, 1024, 16]⟩
abbrev S2x1024x640 : Shape := ⟨3, ![2, 1024, 640]⟩
abbrev S2x1024x120 : Shape := ⟨3, ![2, 1024, 120]⟩
abbrev S2x1024x2176 : Shape := ⟨3, ![2, 1024, 2176]⟩
abbrev S2x1024x896 : Shape := ⟨3, ![2, 1024, 896]⟩
abbrev S2x1024x768 : Shape := ⟨3, ![2, 1024, 768]⟩
abbrev S2x1024x4480 : Shape := ⟨3, ![2, 1024, 4480]⟩
abbrev S1x192x384 : Shape := ⟨3, ![1, 192, 384]⟩
abbrev S192x384 : Shape := ⟨2, ![192, 384]⟩
abbrev S1x128x512 : Shape := ⟨3, ![1, 128, 512]⟩
abbrev S128x512 : Shape := ⟨2, ![128, 512]⟩
abbrev S192x4x96 : Shape := ⟨3, ![192, 4, 96]⟩
abbrev S192x4x64 : Shape := ⟨3, ![192, 4, 64]⟩
abbrev S192x4x32 : Shape := ⟨3, ![192, 4, 32]⟩
abbrev S192x4x128 : Shape := ⟨3, ![192, 4, 128]⟩
abbrev S192x512 : Shape := ⟨2, ![192, 512]⟩
abbrev S192x4x16 : Shape := ⟨3, ![192, 4, 16]⟩
abbrev S64x512 : Shape := ⟨2, ![64, 512]⟩
abbrev S256x512 : Shape := ⟨2, ![256, 512]⟩
abbrev S128x4x128 : Shape := ⟨3, ![128, 4, 128]⟩
abbrev S128x4x64 : Shape := ⟨3, ![128, 4, 64]⟩
abbrev S128x256 : Shape := ⟨2, ![128, 256]⟩
abbrev S256x128 : Shape := ⟨2, ![256, 128]⟩
abbrev S1x192 : Shape := ⟨2, ![1, 192]⟩
abbrev S192 : Shape := ⟨1, ![192]⟩
abbrev S64 : Shape := ⟨1, ![64]⟩
abbrev S256 : Shape := ⟨1, ![256]⟩
abbrev S1x256 : Shape := ⟨2, ![1, 256]⟩
abbrev S1x128 : Shape := ⟨2, ![1, 128]⟩
abbrev S128 : Shape := ⟨1, ![128]⟩
abbrev S1x1024 : Shape := ⟨2, ![1, 1024]⟩
abbrev S1024 : Shape := ⟨1, ![1024]⟩
abbrev S8x2048x2304 : Shape := ⟨3, ![8, 2048, 2304]⟩
abbrev S8x2048x896 : Shape := ⟨3, ![8, 2048, 896]⟩
abbrev S8x6x2048x128 : Shape := ⟨4, ![8, 6, 2048, 128]⟩
abbrev S8x2048x512 : Shape := ⟨3, ![8, 2048, 512]⟩
abbrev S8x256x2048 : Shape := ⟨3, ![8, 256, 2048]⟩
abbrev S1x512x1024 : Shape := ⟨3, ![1, 512, 1024]⟩
abbrev S1x1024x4480 : Shape := ⟨3, ![1, 1024, 4480]⟩
abbrev S512x128 : Shape := ⟨2, ![512, 128]⟩
abbrev S1x512x2304 : Shape := ⟨3, ![1, 512, 2304]⟩
abbrev S1x512x896 : Shape := ⟨3, ![1, 512, 896]⟩
abbrev S1x6x512x128 : Shape := ⟨4, ![1, 6, 512, 128]⟩
abbrev S1x512x512 : Shape := ⟨3, ![1, 512, 512]⟩
abbrev S1x256x512 : Shape := ⟨3, ![1, 256, 512]⟩
abbrev S512x1024 : Shape := ⟨2, ![512, 1024]⟩
abbrev S512 : Shape := ⟨1, ![512]⟩
abbrev S512x1 : Shape := ⟨2, ![512, 1]⟩
abbrev S1024x4480 : Shape := ⟨2, ![1024, 4480]⟩
abbrev S512x4480 : Shape := ⟨2, ![512, 4480]⟩
abbrev S512x2304 : Shape := ⟨2, ![512, 2304]⟩
abbrev S512x896 : Shape := ⟨2, ![512, 896]⟩
abbrev S1x1x512x128 : Shape := ⟨4, ![1, 1, 512, 128]⟩
abbrev S512x512 : Shape := ⟨2, ![512, 512]⟩
abbrev S512x256 : Shape := ⟨2, ![512, 256]⟩
abbrev S8x2048x6x128 : Shape := ⟨4, ![8, 2048, 6, 128]⟩
abbrev S8x2048x768 : Shape := ⟨3, ![8, 2048, 768]⟩
abbrev S8x2048x256 : Shape := ⟨3, ![8, 2048, 256]⟩
abbrev S8x2048x32 : Shape := ⟨3, ![8, 2048, 32]⟩
abbrev S8x2048x8 : Shape := ⟨3, ![8, 2048, 8]⟩

abbrev nBuf : Space → Nat
  | .hbm => 160
  | .vmem => 26
  | .smem => 0
  | _ => 0

abbrev hbmTy0_0 (i : Nat) : BufTy := match i % 128 with
  | 0 => ⟨S8x2048x1024, .f32⟩
  | 1 => ⟨S2x1024x3976, .f32⟩
  | 2 => ⟨S2x1024, .f32⟩
  | 3 => ⟨S2x192, .f32⟩
  | 4 => ⟨S2x128, .f32⟩
  | 5 => ⟨S2x192x384, .f32⟩
  | 6 => ⟨S2x128x512, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S2048, .f32⟩
  | 22 => ⟨S2048x1, .f32⟩
  | 23 => ⟨S1x16, .f32⟩
  | 24 => ⟨S2048x16, .f32⟩
  | 25 => ⟨S2048x16, .f32⟩
  | 26 => ⟨S2048x16, .f32⟩
  | 27 => ⟨S2048x16, .f32⟩
  | 28 => ⟨S2048x16, .f32⟩
  | 29 => ⟨S_, .f32⟩
  | 30 => ⟨S2048x64, .f32⟩
  | 31 => ⟨S_, .f32⟩
  | 32 => ⟨S2048x32, .f32⟩
  | 33 => ⟨S2048x128, .f32⟩
  | 34 => ⟨S_, .f32⟩
  | 35 => ⟨S2048x64, .f32⟩
  | 36 => ⟨S2048x128, .f32⟩
  | 37 => ⟨S2x1024x192, .f32⟩
  | 38 => ⟨S2x1024x128, .f32⟩
  | 39 => ⟨S2x1024x32, .f32⟩
  | 40 => ⟨S2x1024x256, .f32⟩
  | 41 => ⟨S2x1024x256, .f32⟩
  | 42 => ⟨S2x1024x256, .f32⟩
  | 43 => ⟨S2x1024x256, .f32⟩
  | 44 => ⟨S2x1024x256, .f32⟩
  | 45 => ⟨S2x1024x256, .f32⟩
  | 46 => ⟨S2x1024x256, .f32⟩
  | 47 => ⟨S2x1024x256, .f32⟩
  | 48 => ⟨S2x1024x256, .f32⟩
  | 49 => ⟨S2x1024x32, .f32⟩
  | 50 => ⟨S2x1024x8, .f32⟩
  | 51 => ⟨S2x1024x256, .f32⟩
  | 52 => ⟨S2x1024x256, .f32⟩
  | 53 => ⟨S2x1024x256, .f32⟩
  | 54 => ⟨S2x1024x256, .f32⟩
  | 55 => ⟨S2x1024x256, .f32⟩
  | 56 => ⟨S_, .f32⟩
  | 57 => ⟨S2x1024x64, .f32⟩
  | 58 => ⟨S_, .f32⟩
  | 59 => ⟨S2x1024x64, .f32⟩
  | 60 => ⟨S_, .f32⟩
  | 61 => ⟨S2x1024x96, .f32⟩
  | 62 => ⟨S2x1024x16, .f32⟩
  | 63 => ⟨S2x1024x16, .f32⟩
  | 64 => ⟨S2x1024x16, .f32⟩
  | 65 => ⟨S_, .f32⟩
  | 66 => ⟨S2x1024x32, .f32⟩
  | 67 => ⟨S2x1024x640, .f32⟩
  | 68 => ⟨S_, .f32⟩
  | 69 => ⟨S2x1024x120, .f32⟩
  | 70 => ⟨S2x1024x2176, .f32⟩
  | 71 => ⟨S2x1024x896, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S2x1024x256, .f32⟩
  | 80 => ⟨S2x1024x256, .f32⟩
  | 81 => ⟨S2x1024x768, .f32⟩
  | 82 => ⟨S2x1024x4480, .f32⟩
  | 83 => ⟨S2x1024x4480, .bf16⟩
  | 84 => ⟨S1x192x384, .f32⟩
  | 85 => ⟨S192x384, .f32⟩
  | 86 => ⟨S1x128x512, .f32⟩
  | 87 => ⟨S128x512, .f32⟩
  | 88 => ⟨S192x4x96, .f32⟩
  | 89 => ⟨S192x4x64, .f32⟩
  | 90 => ⟨S192x4x32, .f32⟩
  | 91 => ⟨S_, .f32⟩
  | 92 => ⟨S192x4x32, .f32⟩
  | 93 => ⟨S192x4x128, .f32⟩
  | 94 => ⟨S192x512, .f32⟩
  | 95 => ⟨S_, .f32⟩
  | 96 => ⟨S192x4x64, .f32⟩
  | 97 => ⟨S192x4x16, .f32⟩
  | 98 => ⟨S192x4x16, .f32⟩
  | 99 => ⟨S192x4x16, .f32⟩
  | 100 => ⟨S192x4x32, .f32⟩
  | 101 => ⟨S192x4x128, .f32⟩
  | 102 => ⟨S192x512, .f32⟩
  | 103 => ⟨S_, .f32⟩
  | 104 => ⟨S64x512, .f32⟩
  | 105 => ⟨S256x512, .f32⟩
  | 106 => ⟨S256x512, .f32⟩
  | 107 => ⟨S128x4x128, .f32⟩
  | 108 => ⟨S128x4x64, .f32⟩
  | 109 => ⟨S128x4x64, .f32⟩
  | 110 => ⟨S_, .f32⟩
  | 111 => ⟨S128x4x64, .f32⟩
  | 112 => ⟨S128x4x128, .f32⟩
  | 113 => ⟨S128x512, .f32⟩
  | 114 => ⟨S128x256, .f32⟩
  | 115 => ⟨S256x128, .f32⟩
  | 116 => ⟨S256x512, .bf16⟩
  | 117 => ⟨S256x512, .bf16⟩
  | 118 => ⟨S128x512, .bf16⟩
  | 119 => ⟨S256x128, .bf16⟩
  | 120 => ⟨S1x192, .f32⟩
  | 121 => ⟨S192, .f32⟩
  | 122 => ⟨S_, .f32⟩
  | 123 => ⟨S64, .f32⟩
  | 124 => ⟨S256, .f32⟩
  | 125 => ⟨S1x256, .f32⟩
  | 126 => ⟨S1x128, .f32⟩
  | 127 => ⟨S128, .f32⟩
  | _ => ⟨S8x2048x1024, .f32⟩

abbrev hbmTy0_1 (i : Nat) : BufTy := match i % 128 with
  | 0 => ⟨S1x128, .f32⟩
  | 1 => ⟨S1x1024, .f32⟩
  | 2 => ⟨S1024, .f32⟩
  | 3 => ⟨S1x1024, .f32⟩
  | 4 => ⟨S8x2048x2304, .f32⟩
  | 5 => ⟨S8x2048x896, .bf16⟩
  | 6 => ⟨S8x6x2048x128, .f32⟩
  | 7 => ⟨S8x2048x512, .bf16⟩
  | 8 => ⟨S8x2048x512, .bf16⟩
  | 9 => ⟨S8x256x2048, .bf16⟩
  | 10 => ⟨S8x2048x6x128, .f32⟩
  | 11 => ⟨S8x2048x768, .f32⟩
  | 12 => ⟨S8x2048x256, .f32⟩
  | 13 => ⟨S8x2048x256, .f32⟩
  | 14 => ⟨S8x2048x256, .f32⟩
  | 15 => ⟨S8x2048x256, .f32⟩
  | 16 => ⟨S8x2048x256, .f32⟩
  | 17 => ⟨S8x2048x256, .f32⟩
  | 18 => ⟨S8x2048x256, .bf16⟩
  | 19 => ⟨S8x2048x256, .f32⟩
  | 20 => ⟨S8x2048x256, .f32⟩
  | 21 => ⟨S8x2048x256, .bf16⟩
  | 22 => ⟨S8x2048x256, .f32⟩
  | 23 => ⟨S8x2048x32, .bf16⟩
  | 24 => ⟨S8x2048x32, .f32⟩
  | 25 => ⟨S8x2048x8, .f32⟩
  | 26 => ⟨S8x2048x256, .f32⟩
  | 27 => ⟨S8x2048x256, .f32⟩
  | 28 => ⟨S8x2048x256, .bf16⟩
  | 29 => ⟨S8x2048x256, .f32⟩
  | 30 => ⟨S8x2048x256, .f32⟩
  | 31 => ⟨S8x2048x256, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024x4480, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x256, .f32⟩
  | .local _ .vmem, ⟨9, _⟩ => ⟨S1x128, .f32⟩
  | .local _ .vmem, ⟨10, _⟩ => ⟨S256x512, .bf16⟩
  | .local _ .vmem, ⟨11, _⟩ => ⟨S256x512, .bf16⟩
  | .local _ .vmem, ⟨12, _⟩ => ⟨S128x512, .bf16⟩
  | .local _ .vmem, ⟨13, _⟩ => ⟨S256x128, .bf16⟩
  | .local _ .vmem, ⟨14, _⟩ => ⟨S1x512x2304, .f32⟩
  | .local _ .vmem, ⟨15, _⟩ => ⟨S1x512x2304, .f32⟩
  | .local _ .vmem, ⟨16, _⟩ => ⟨S1x512x896, .bf16⟩
  | .local _ .vmem, ⟨17, _⟩ => ⟨S1x512x896, .bf16⟩
  | .local _ .vmem, ⟨18, _⟩ => ⟨S1x6x512x128, .f32⟩
  | .local _ .vmem, ⟨19, _⟩ => ⟨S1x6x512x128, .f32⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x256x512, .bf16⟩
  | .local _ .vmem, ⟨25, _⟩ => ⟨S1x256x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_15 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_16 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_17 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_18 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105_0 : Ref sig .tc := ⟨.hbm, 132, rfl⟩
abbrev main_v105_1 : Ref sig .tc := ⟨.hbm, 133, rfl⟩
abbrev main_v105_2 : Ref sig .tc := ⟨.hbm, 134, rfl⟩
abbrev main_v105_3 : Ref sig .tc := ⟨.hbm, 135, rfl⟩
abbrev main_v105_4 : Ref sig .tc := ⟨.hbm, 136, rfl⟩
abbrev main_v105_5 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x4480 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x2304 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x896 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x6x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S8x2048x1024 : Shape := ⟨3, ![8, 2048, 1024]⟩
abbrev S2x1024x3976 : Shape := ⟨3, ![2, 1024, 3976]⟩
abbrev S2x1024 : Shape := ⟨2, ![2, 1024]⟩
abbrev S2x192 : Shape := ⟨2, ![2, 192]⟩
abbrev S2x128 : Shape := ⟨2, ![2, 128]⟩
abbrev S2x192x384 : Shape := ⟨3, ![2, 192, 384]⟩
abbrev S2x128x512 : Shape := ⟨3, ![2, 128, 512]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x3976 : Shape := ⟨3, ![1, 1024, 3976]⟩
abbrev S1024x3976 : Shape := ⟨2, ![1024, 3976]⟩
abbrev S8x2048x3976 : Shape := ⟨3, ![8, 2048, 3976]⟩
abbrev S8x2048x192 : Shape := ⟨3, ![8, 2048, 192]⟩
abbrev S8x2048x128 : Shape := ⟨3, ![8, 2048, 128]⟩
abbrev S8x2048x32 : Shape := ⟨3, ![8, 2048, 32]⟩
abbrev S8x2048x256 : Shape := ⟨3, ![8, 2048, 256]⟩
abbrev S8x2048x8 : Shape := ⟨3, ![8, 2048, 8]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024x3976, .f32⟩
  | .hbm, ⟨2, _⟩ => ⟨S2x1024, .f32⟩
  | .hbm, ⟨3, _⟩ => ⟨S2x192, .f32⟩
  | .hbm, ⟨4, _⟩ => ⟨S2x128, .f32⟩
  | .hbm, ⟨5, _⟩ => ⟨S2x192x384, .f32⟩
  | .hbm, ⟨6, _⟩ => ⟨S2x128x512, .f32⟩
  | .hbm, ⟨7, _⟩ => ⟨S1x1024, .f32⟩
  | .hbm, ⟨8, _⟩ => ⟨S1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S1x1024x3976, .f32⟩
  | .hbm, ⟨26, _⟩ => ⟨S1024x3976, .f32⟩
  | .hbm, ⟨27, _⟩ => ⟨S8x2048x3976, .f32⟩
  | .hbm, ⟨28, _⟩ => ⟨S8x2048x192, .f32⟩
  | .hbm, ⟨29, _⟩ => ⟨S8x2048x128, .f32⟩
  | .hbm, ⟨30, _⟩ => ⟨S8x2048x32, .f32⟩
  | .hbm, ⟨31, _⟩ => ⟨S8x2048x256, .f32⟩
  | .hbm, ⟨32, _⟩ => ⟨S8x2048x256, .f32⟩
  | .hbm, ⟨33, _⟩ => ⟨S8x2048x256, .f32⟩
  | .hbm, ⟨34, _⟩ => ⟨S8x2048x256, .f32⟩
  | .hbm, ⟨35, _⟩ => ⟨S8x2048x256, .f32⟩
  | .hbm, ⟨36, _⟩ => ⟨S8x2048x256, .f32⟩
  | .hbm, ⟨37, _⟩ => ⟨S8x2048x256, .f32⟩
  | .hbm, ⟨38, _⟩ => ⟨S8x2048x256, .f32⟩
  | .hbm, ⟨39, _⟩ => ⟨S8x2048x256, .f32⟩
  | .hbm, ⟨40, _⟩ => ⟨S8x2048x32, .f32⟩
  | .hbm, ⟨41, _⟩ => ⟨S8x2048x8, .f32⟩
  | .hbm, ⟨42, _⟩ => ⟨S8x2048x256, .f32⟩
  | .hbm, ⟨43, _⟩ => ⟨S8x2048x256, .f32⟩
  | .hbm, ⟨44, _⟩ => ⟨S8x2048x256, .f32⟩
  | .hbm, ⟨45, _⟩ => ⟨S8x2048x256, .f32⟩
  | .hbm, ⟨46, _⟩ => ⟨S8x2048x256, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8x2048x256, .f32⟩
  | .hbm, ⟨55, _⟩ => ⟨S8x2048x256, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel4.lean ====
abbrev S8x2048x1024 : Shape := ⟨3, ![8, 2048, 1024]⟩
abbrev S2x1024x3976 : Shape := ⟨3, ![2, 1024, 3976]⟩
abbrev S2x1024 : Shape := ⟨2, ![2, 1024]⟩
abbrev S2x192 : Shape := ⟨2, ![2, 192]⟩
abbrev S2x128 : Shape := ⟨2, ![2, 128]⟩
abbrev S2x192x384 : Shape := ⟨3, ![2, 192, 384]⟩
abbrev S2x128x512 : Shape := ⟨3, ![2, 128, 512]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S2x1024x192 : Shape := ⟨3, ![2, 1024, 192]⟩
abbrev S2x1024x128 : Shape := ⟨3, ![2, 1024, 128]⟩
abbrev S2x1024x32 : Shape := ⟨3, ![2, 1024, 32]⟩
abbrev S2x1024x256 : Shape := ⟨3, ![2, 1024, 256]⟩
abbrev S2x1024x8 : Shape := ⟨3, ![2, 1024, 8]⟩
abbrev S2x1024x64 : Shape := ⟨3, ![2, 1024, 64]⟩
abbrev S2x1024x96 : Shape := ⟨3, ![2, 1024, 96]⟩
abbrev S2x1024x16 : Shape := ⟨3, ![2, 1024, 16]⟩
abbrev S2x1024x640 : Shape := ⟨3, ![2, 1024, 640]⟩
abbrev S2x1024x120 : Shape := ⟨3, ![2, 1024, 120]⟩
abbrev S2x1024x2176 : Shape := ⟨3, ![2, 1024, 2176]⟩
abbrev S2x1024x896 : Shape := ⟨3, ![2, 1024, 896]⟩
abbrev S2x1024x768 : Shape := ⟨3, ![2, 1024, 768]⟩
abbrev S2x1024x4480 : Shape := ⟨3, ![2, 1024, 4480]⟩
abbrev S1x192x384 : Shape := ⟨3, ![1, 192, 384]⟩
abbrev S192x384 : Shape := ⟨2, ![192, 384]⟩
abbrev S1x128x512 : Shape := ⟨3, ![1, 128, 512]⟩
abbrev S128x512 : Shape := ⟨2, ![128, 512]⟩
abbrev S192x4x96 : Shape := ⟨3, ![192, 4, 96]⟩
abbrev S192x4x64 : Shape := ⟨3, ![192, 4, 64]⟩
abbrev S192x4x32 : Shape := ⟨3, ![192, 4, 32]⟩
abbrev S192x4x128 : Shape := ⟨3, ![192, 4, 128]⟩
abbrev S192x512 : Shape := ⟨2, ![192, 512]⟩
abbrev S192x4x16 : Shape := ⟨3, ![192, 4, 16]⟩
abbrev S64x512 : Shape := ⟨2, ![64, 512]⟩
abbrev S256x512 : Shape := ⟨2, ![256, 512]⟩
abbrev S128x4x128 : Shape := ⟨3, ![128, 4, 128]⟩
abbrev S128x4x64 : Shape := ⟨3, ![128, 4, 64]⟩
abbrev S128x256 : Shape := ⟨2, ![128, 256]⟩
abbrev S256x128 : Shape := ⟨2, ![256, 128]⟩
abbrev S1x192 : Shape := ⟨2, ![1, 192]⟩
abbrev S192 : Shape := ⟨1, ![192]⟩
abbrev S64 : Shape := ⟨1, ![64]⟩
abbrev S256 : Shape := ⟨1, ![256]⟩
abbrev S1x256 : Shape := ⟨2, ![1, 256]⟩
abbrev S1x128 : Shape := ⟨2, ![1, 128]⟩
abbrev S128 : Shape := ⟨1, ![128]⟩
abbrev S1x1024 : Shape := ⟨2, ![1, 1024]⟩
abbrev S1024 : Shape := ⟨1, ![1024]⟩
abbrev S8x2048x2304 : Shape := ⟨3, ![8, 2048, 2304]⟩
abbrev S8x2048x896 : Shape := ⟨3, ![8, 2048, 896]⟩
abbrev S8x6x2048x128 : Shape := ⟨4, ![8, 6, 2048, 128]⟩
abbrev S8x2048x512 : Shape := ⟨3, ![8, 2048, 512]⟩
abbrev S8x256x2048 : Shape := ⟨3, ![8, 256, 2048]⟩
abbrev S1x512x1024 : Shape := ⟨3, ![1, 512, 1024]⟩
abbrev S1x1024x4480 : Shape := ⟨3, ![1, 1024, 4480]⟩
abbrev S512x128 : Shape := ⟨2, ![512, 128]⟩
abbrev S1x512x2304 : Shape := ⟨3, ![1, 512, 2304]⟩
abbrev S1x512x896 : Shape := ⟨3, ![1, 512, 896]⟩
abbrev S1x6x512x128 : Shape := ⟨4, ![1, 6, 512, 128]⟩
abbrev S1x512x512 : Shape := ⟨3, ![1, 512, 512]⟩
abbrev S1x256x512 : Shape := ⟨3, ![1, 256, 512]⟩
abbrev S512x1024 : Shape := ⟨2, ![512, 1024]⟩
abbrev S512 : Shape := ⟨1, ![512]⟩
abbrev S512x1 : Shape := ⟨2, ![512, 1]⟩
abbrev S1024x4480 : Shape := ⟨2, ![1024, 4480]⟩
abbrev S512x4480 : Shape := ⟨2, ![512, 4480]⟩
abbrev S512x2304 : Shape := ⟨2, ![512, 2304]⟩
abbrev S512x896 : Shape := ⟨2, ![512, 896]⟩
abbrev S1x1x512x128 : Shape := ⟨4, ![1, 1, 512, 128]⟩
abbrev S512x512 : Shape := ⟨2, ![512, 512]⟩
abbrev S512x256 : Shape := ⟨2, ![512, 256]⟩
abbrev S8x2048x4x128 : Shape := ⟨4, ![8, 2048, 4, 128]⟩
abbrev S8x2048x256 : Shape := ⟨3, ![8, 2048, 256]⟩
abbrev S8x2048x4x64 : Shape := ⟨4, ![8, 2048, 4, 64]⟩
abbrev S8x2048x4x32 : Shape := ⟨4, ![8, 2048, 4, 32]⟩
abbrev S8x2048x1x32 : Shape := ⟨4, ![8, 2048, 1, 32]⟩
abbrev S8x2048x32 : Shape := ⟨3, ![8, 2048, 32]⟩

abbrev nBuf : Space → Nat
  | .hbm => 150
  | .vmem => 26
  | .smem => 0
  | _ => 0

abbrev hbmTy0_0 (i : Nat) : BufTy := match i % 128 with
  | 0 => ⟨S8x2048x1024, .f32⟩
  | 1 => ⟨S2x1024x3976, .f32⟩
  | 2 => ⟨S2x1024, .f32⟩
  | 3 => ⟨S2x192, .f32⟩
  | 4 => ⟨S2x128, .f32⟩
  | 5 => ⟨S2x192x384, .f32⟩
  | 6 => ⟨S2x128x512, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S2048, .f32⟩
  | 22 => ⟨S2048x1, .f32⟩
  | 23 => ⟨S1x16, .f32⟩
  | 24 => ⟨S2048x16, .f32⟩
  | 25 => ⟨S2048x16, .f32⟩
  | 26 => ⟨S2048x16, .f32⟩
  | 27 => ⟨S2048x16, .f32⟩
  | 28 => ⟨S2048x16, .f32⟩
  | 29 => ⟨S_, .f32⟩
  | 30 => ⟨S2048x64, .f32⟩
  | 31 => ⟨S_, .f32⟩
  | 32 => ⟨S2048x32, .f32⟩
  | 33 => ⟨S2048x128, .f32⟩
  | 34 => ⟨S_, .f32⟩
  | 35 => ⟨S2048x64, .f32⟩
  | 36 => ⟨S2048x128, .f32⟩
  | 37 => ⟨S2x1024x192, .f32⟩
  | 38 => ⟨S2x1024x128, .f32⟩
  | 39 => ⟨S2x1024x32, .f32⟩
  | 40 => ⟨S2x1024x256, .f32⟩
  | 41 => ⟨S2x1024x256, .f32⟩
  | 42 => ⟨S2x1024x256, .f32⟩
  | 43 => ⟨S2x1024x256, .f32⟩
  | 44 => ⟨S2x1024x256, .f32⟩
  | 45 => ⟨S2x1024x256, .f32⟩
  | 46 => ⟨S2x1024x256, .f32⟩
  | 47 => ⟨S2x1024x256, .f32⟩
  | 48 => ⟨S2x1024x256, .f32⟩
  | 49 => ⟨S2x1024x32, .f32⟩
  | 50 => ⟨S2x1024x8, .f32⟩
  | 51 => ⟨S2x1024x256, .f32⟩
  | 52 => ⟨S2x1024x256, .f32⟩
  | 53 => ⟨S2x1024x256, .f32⟩
  | 54 => ⟨S2x1024x256, .f32⟩
  | 55 => ⟨S2x1024x256, .f32⟩
  | 56 => ⟨S_, .f32⟩
  | 57 => ⟨S2x1024x64, .f32⟩
  | 58 => ⟨S_, .f32⟩
  | 59 => ⟨S2x1024x64, .f32⟩
  | 60 => ⟨S_, .f32⟩
  | 61 => ⟨S2x1024x96, .f32⟩
  | 62 => ⟨S2x1024x16, .f32⟩
  | 63 => ⟨S2x1024x16, .f32⟩
  | 64 => ⟨S2x1024x16, .f32⟩
  | 65 => ⟨S_, .f32⟩
  | 66 => ⟨S2x1024x32, .f32⟩
  | 67 => ⟨S2x1024x640, .f32⟩
  | 68 => ⟨S_, .f32⟩
  | 69 => ⟨S2x1024x120, .f32⟩
  | 70 => ⟨S2x1024x2176, .f32⟩
  | 71 => ⟨S2x1024x896, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S2x1024x256, .f32⟩
  | 80 => ⟨S2x1024x256, .f32⟩
  | 81 => ⟨S2x1024x768, .f32⟩
  | 82 => ⟨S2x1024x4480, .f32⟩
  | 83 => ⟨S2x1024x4480, .bf16⟩
  | 84 => ⟨S1x192x384, .f32⟩
  | 85 => ⟨S192x384, .f32⟩
  | 86 => ⟨S1x128x512, .f32⟩
  | 87 => ⟨S128x512, .f32⟩
  | 88 => ⟨S192x4x96, .f32⟩
  | 89 => ⟨S192x4x64, .f32⟩
  | 90 => ⟨S192x4x32, .f32⟩
  | 91 => ⟨S_, .f32⟩
  | 92 => ⟨S192x4x32, .f32⟩
  | 93 => ⟨S192x4x128, .f32⟩
  | 94 => ⟨S192x512, .f32⟩
  | 95 => ⟨S_, .f32⟩
  | 96 => ⟨S192x4x64, .f32⟩
  | 97 => ⟨S192x4x16, .f32⟩
  | 98 => ⟨S192x4x16, .f32⟩
  | 99 => ⟨S192x4x16, .f32⟩
  | 100 => ⟨S192x4x32, .f32⟩
  | 101 => ⟨S192x4x128, .f32⟩
  | 102 => ⟨S192x512, .f32⟩
  | 103 => ⟨S_, .f32⟩
  | 104 => ⟨S64x512, .f32⟩
  | 105 => ⟨S256x512, .f32⟩
  | 106 => ⟨S256x512, .f32⟩
  | 107 => ⟨S128x4x128, .f32⟩
  | 108 => ⟨S128x4x64, .f32⟩
  | 109 => ⟨S128x4x64, .f32⟩
  | 110 => ⟨S_, .f32⟩
  | 111 => ⟨S128x4x64, .f32⟩
  | 112 => ⟨S128x4x128, .f32⟩
  | 113 => ⟨S128x512, .f32⟩
  | 114 => ⟨S128x256, .f32⟩
  | 115 => ⟨S256x128, .f32⟩
  | 116 => ⟨S256x512, .bf16⟩
  | 117 => ⟨S256x512, .bf16⟩
  | 118 => ⟨S128x512, .bf16⟩
  | 119 => ⟨S256x128, .bf16⟩
  | 120 => ⟨S1x192, .f32⟩
  | 121 => ⟨S192, .f32⟩
  | 122 => ⟨S_, .f32⟩
  | 123 => ⟨S64, .f32⟩
  | 124 => ⟨S256, .f32⟩
  | 125 => ⟨S1x256, .f32⟩
  | 126 => ⟨S1x128, .f32⟩
  | 127 => ⟨S128, .f32⟩
  | _ => ⟨S8x2048x1024, .f32⟩

abbrev hbmTy0_1 (i : Nat) : BufTy := match i % 128 with
  | 0 => ⟨S1x128, .f32⟩
  | 1 => ⟨S1x1024, .f32⟩
  | 2 => ⟨S1024, .f32⟩
  | 3 => ⟨S1x1024, .f32⟩
  | 4 => ⟨S8x2048x2304, .f32⟩
  | 5 => ⟨S8x2048x896, .bf16⟩
  | 6 => ⟨S8x6x2048x128, .f32⟩
  | 7 => ⟨S8x2048x512, .bf16⟩
  | 8 => ⟨S8x2048x512, .bf16⟩
  | 9 => ⟨S8x256x2048, .bf16⟩
  | 10 => ⟨S8x2048x512, .f32⟩
  | 11 => ⟨S8x2048x4x128, .f32⟩
  | 12 => ⟨S8x2048x512, .f32⟩
  | 13 => ⟨S8x2048x4x128, .f32⟩
  | 14 => ⟨S8x256x2048, .f32⟩
  | 15 => ⟨S8x2048x256, .f32⟩
  | 16 => ⟨S8x2048x4x64, .f32⟩
  | 17 => ⟨S8x2048x4x64, .f32⟩
  | 18 => ⟨S8x2048x4x32, .f32⟩
  | 19 => ⟨S8x2048x4x64, .f32⟩
  | 20 => ⟨S8x2048x1x32, .f32⟩
  | 21 => ⟨S8x2048x32, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024x4480, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x256, .f32⟩
  | .local _ .vmem, ⟨9, _⟩ => ⟨S1x128, .f32⟩
  | .local _ .vmem, ⟨10, _⟩ => ⟨S256x512, .bf16⟩
  | .local _ .vmem, ⟨11, _⟩ => ⟨S256x512, .bf16⟩
  | .local _ .vmem, ⟨12, _⟩ => ⟨S128x512, .bf16⟩
  | .local _ .vmem, ⟨13, _⟩ => ⟨S256x128, .bf16⟩
  | .local _ .vmem, ⟨14, _⟩ => ⟨S1x512x2304, .f32⟩
  | .local _ .vmem, ⟨15, _⟩ => ⟨S1x512x2304, .f32⟩
  | .local _ .vmem, ⟨16, _⟩ => ⟨S1x512x896, .bf16⟩
  | .local _ .vmem, ⟨17, _⟩ => ⟨S1x512x896, .bf16⟩
  | .local _ .vmem, ⟨18, _⟩ => ⟨S1x6x512x128, .f32⟩
  | .local _ .vmem, ⟨19, _⟩ => ⟨S1x6x512x128, .f32⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x256x512, .bf16⟩
  | .local _ .vmem, ⟨25, _⟩ => ⟨S1x256x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_15 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_16 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_17 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_18 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105_0 : Ref sig .tc := ⟨.hbm, 132, rfl⟩
abbrev main_v105_1 : Ref sig .tc := ⟨.hbm, 133, rfl⟩
abbrev main_v105_2 : Ref sig .tc := ⟨.hbm, 134, rfl⟩
abbrev main_v105_3 : Ref sig .tc := ⟨.hbm, 135, rfl⟩
abbrev main_v105_4 : Ref sig .tc := ⟨.hbm, 136, rfl⟩
abbrev main_v105_5 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x4480 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x2304 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x896 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x6x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Kernel4Ideal.lean ====
variable {F : FTy → Type} [FloatOps F] [Named F]
def κ : String → Option EReal := fun
  | "inv_q_lora" => some ((1 / 192 : ℝ) : EReal)
  | "q_scale" => some (((Real.sqrt 96)⁻¹ * (Real.log 2)⁻¹ : ℝ) : EReal)
  | _ => none
-- ==== Reference4Ideal.lean ====
abbrev S8x2048x1024 : Shape := ⟨3, ![8, 2048, 1024]⟩
abbrev S2x1024x3976 : Shape := ⟨3, ![2, 1024, 3976]⟩
abbrev S2x1024 : Shape := ⟨2, ![2, 1024]⟩
abbrev S2x192 : Shape := ⟨2, ![2, 192]⟩
abbrev S2x128 : Shape := ⟨2, ![2, 128]⟩
abbrev S2x192x384 : Shape := ⟨3, ![2, 192, 384]⟩
abbrev S2x128x512 : Shape := ⟨3, ![2, 128, 512]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1x1024x3976 : Shape := ⟨3, ![1, 1024, 3976]⟩
abbrev S1024x3976 : Shape := ⟨2, ![1024, 3976]⟩
abbrev S8x2048x3976 : Shape := ⟨3, ![8, 2048, 3976]⟩
abbrev S8x2048x192 : Shape := ⟨3, ![8, 2048, 192]⟩
abbrev S8x2048x128 : Shape := ⟨3, ![8, 2048, 128]⟩
abbrev S8x2048x32 : Shape := ⟨3, ![8, 2048, 32]⟩
abbrev S8x2048x256 : Shape := ⟨3, ![8, 2048, 256]⟩
abbrev S8x2048x8 : Shape := ⟨3, ![8, 2048, 8]⟩
abbrev S1x192 : Shape := ⟨2, ![1, 192]⟩
abbrev S192 : Shape := ⟨1, ![192]⟩
abbrev S1x1x192 : Shape := ⟨3, ![1, 1, 192]⟩
abbrev S1x192x384 : Shape := ⟨3, ![1, 192, 384]⟩
abbrev S192x384 : Shape := ⟨2, ![192, 384]⟩
abbrev S8x2048x384 : Shape := ⟨3, ![8, 2048, 384]⟩
abbrev S8x2048x4x96 : Shape := ⟨4, ![8, 2048, 4, 96]⟩
abbrev S8x2048x4x64 : Shape := ⟨4, ![8, 2048, 4, 64]⟩
abbrev S8x2048x4x32 : Shape := ⟨4, ![8, 2048, 4, 32]⟩
abbrev S2048x1x16 : Shape := ⟨3, ![2048, 1, 16]⟩
abbrev S8x2048x4x16 : Shape := ⟨4, ![8, 2048, 4, 16]⟩
abbrev S1x2048x1x16 : Shape := ⟨4, ![1, 2048, 1, 16]⟩
abbrev S1x128 : Shape := ⟨2, ![1, 128]⟩
abbrev S128 : Shape := ⟨1, ![128]⟩
abbrev S1x1x128 : Shape := ⟨3, ![1, 1, 128]⟩
abbrev S1x128x512 : Shape := ⟨3, ![1, 128, 512]⟩
abbrev S128x512 : Shape := ⟨2, ![128, 512]⟩
abbrev S8x2048x512 : Shape := ⟨3, ![8, 2048, 512]⟩
abbrev S8x2048x4x128 : Shape := ⟨4, ![8, 2048, 4, 128]⟩
abbrev S8x2048x16 : Shape := ⟨3, ![8, 2048, 16]⟩
abbrev S1x2048x16 : Shape := ⟨3, ![1, 2048, 16]⟩

abbrev nBuf : Space → Nat
  | .hbm => 164
  | .vmem => 0
  | .smem => 0
  | _ => 0

abbrev hbmTy0_0 (i : Nat) : BufTy := match i % 128 with
  | 0 => ⟨S8x2048x1024, .f32⟩
  | 1 => ⟨S2x1024x3976, .f32⟩
  | 2 => ⟨S2x1024, .f32⟩
  | 3 => ⟨S2x192, .f32⟩
  | 4 => ⟨S2x128, .f32⟩
  | 5 => ⟨S2x192x384, .f32⟩
  | 6 => ⟨S2x128x512, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S2048, .f32⟩
  | 22 => ⟨S2048x1, .f32⟩
  | 23 => ⟨S1x16, .f32⟩
  | 24 => ⟨S2048x16, .f32⟩
  | 25 => ⟨S2048x16, .f32⟩
  | 26 => ⟨S2048x16, .f32⟩
  | 27 => ⟨S2048x16, .f32⟩
  | 28 => ⟨S2048x16, .f32⟩
  | 29 => ⟨S1x1024, .f32⟩
  | 30 => ⟨S1024, .f32⟩
  | 31 => ⟨S8x2048x1024, .f32⟩
  | 32 => ⟨S_, .f32⟩
  | 33 => ⟨S8x2048, .f32⟩
  | 34 => ⟨S8x2048x1, .f32⟩
  | 35 => ⟨S_, .f32⟩
  | 36 => ⟨S8x2048x1, .f32⟩
  | 37 => ⟨S8x2048x1, .f32⟩
  | 38 => ⟨S_, .f32⟩
  | 39 => ⟨S8x2048x1, .f32⟩
  | 40 => ⟨S8x2048x1, .f32⟩
  | 41 => ⟨S8x2048x1, .f32⟩
  | 42 => ⟨S8x2048x1024, .f32⟩
  | 43 => ⟨S8x2048x1024, .f32⟩
  | 44 => ⟨S1x1x1024, .f32⟩
  | 45 => ⟨S8x2048x1024, .f32⟩
  | 46 => ⟨S8x2048x1024, .f32⟩
  | 47 => ⟨S1x1024x3976, .f32⟩
  | 48 => ⟨S1024x3976, .f32⟩
  | 49 => ⟨S8x2048x3976, .f32⟩
  | 50 => ⟨S8x2048x192, .f32⟩
  | 51 => ⟨S8x2048x128, .f32⟩
  | 52 => ⟨S8x2048x32, .f32⟩
  | 53 => ⟨S8x2048x256, .f32⟩
  | 54 => ⟨S8x2048x256, .f32⟩
  | 55 => ⟨S8x2048x256, .f32⟩
  | 56 => ⟨S8x2048x256, .f32⟩
  | 57 => ⟨S8x2048x256, .f32⟩
  | 58 => ⟨S8x2048x256, .f32⟩
  | 59 => ⟨S8x2048x256, .f32⟩
  | 60 => ⟨S8x2048x256, .f32⟩
  | 61 => ⟨S8x2048x256, .f32⟩
  | 62 => ⟨S8x2048x32, .f32⟩
  | 63 => ⟨S8x2048x8, .f32⟩
  | 64 => ⟨S8x2048x256, .f32⟩
  | 65 => ⟨S8x2048x256, .f32⟩
  | 66 => ⟨S8x2048x256, .f32⟩
  | 67 => ⟨S8x2048x256, .f32⟩
  | 68 => ⟨S8x2048x256, .f32⟩
  | 69 => ⟨S1x192, .f32⟩
  | 70 => ⟨S192, .f32⟩
  | 71 => ⟨S8x2048x192, .f32⟩
  | 72 => ⟨S_, .f32⟩
  | 73 => ⟨S8x2048, .f32⟩
  | 74 => ⟨S8x2048x1, .f32⟩
  | 75 => ⟨S_, .f32⟩
  | 76 => ⟨S8x2048x1, .f32⟩
  | 77 => ⟨S8x2048x1, .f32⟩
  | 78 => ⟨S_, .f32⟩
  | 79 => ⟨S8x2048x1, .f32⟩
  | 80 => ⟨S8x2048x1, .f32⟩
  | 81 => ⟨S8x2048x1, .f32⟩
  | 82 => ⟨S8x2048x192, .f32⟩
  | 83 => ⟨S8x2048x192, .f32⟩
  | 84 => ⟨S1x1x192, .f32⟩
  | 85 => ⟨S8x2048x192, .f32⟩
  | 86 => ⟨S8x2048x192, .f32⟩
  | 87 => ⟨S1x192x384, .f32⟩
  | 88 => ⟨S192x384, .f32⟩
  | 89 => ⟨S8x2048x384, .f32⟩
  | 90 => ⟨S8x2048x4x96, .f32⟩
  | 91 => ⟨S8x2048x4x64, .f32⟩
  | 92 => ⟨S8x2048x4x32, .f32⟩
  | 93 => ⟨S2048x1x16, .f32⟩
  | 94 => ⟨S2048x1x16, .f32⟩
  | 95 => ⟨S8x2048x4x16, .f32⟩
  | 96 => ⟨S8x2048x4x16, .f32⟩
  | 97 => ⟨S1x2048x1x16, .f32⟩
  | 98 => ⟨S8x2048x4x16, .f32⟩
  | 99 => ⟨S8x2048x4x16, .f32⟩
  | 100 => ⟨S1x2048x1x16, .f32⟩
  | 101 => ⟨S8x2048x4x16, .f32⟩
  | 102 => ⟨S8x2048x4x16, .f32⟩
  | 103 => ⟨S8x2048x4x16, .f32⟩
  | 104 => ⟨S1x2048x1x16, .f32⟩
  | 105 => ⟨S8x2048x4x16, .f32⟩
  | 106 => ⟨S8x2048x4x16, .f32⟩
  | 107 => ⟨S1x2048x1x16, .f32⟩
  | 108 => ⟨S8x2048x4x16, .f32⟩
  | 109 => ⟨S8x2048x4x16, .f32⟩
  | 110 => ⟨S8x2048x4x16, .f32⟩
  | 111 => ⟨S8x2048x4x32, .f32⟩
  | 112 => ⟨S1x128, .f32⟩
  | 113 => ⟨S128, .f32⟩
  | 114 => ⟨S8x2048x128, .f32⟩
  | 115 => ⟨S_, .f32⟩
  | 116 => ⟨S8x2048, .f32⟩
  | 117 => ⟨S8x2048x1, .f32⟩
  | 118 => ⟨S_, .f32⟩
  | 119 => ⟨S8x2048x1, .f32⟩
  | 120 => ⟨S8x2048x1, .f32⟩
  | 121 => ⟨S_, .f32⟩
  | 122 => ⟨S8x2048x1, .f32⟩
  | 123 => ⟨S8x2048x1, .f32⟩
  | 124 => ⟨S8x2048x1, .f32⟩
  | 125 => ⟨S8x2048x128, .f32⟩
  | 126 => ⟨S8x2048x128, .f32⟩
  | 127 => ⟨S1x1x128, .f32⟩
  | _ => ⟨S8x2048x1024, .f32⟩

abbrev hbmTy0_1 (i : Nat) : BufTy := match i % 128 with
  | 0 => ⟨S8x2048x128, .f32⟩
  | 1 => ⟨S8x2048x128, .f32⟩
  | 2 => ⟨S1x128x512, .f32⟩
  | 3 => ⟨S128x512, .f32⟩
  | 4 => ⟨S8x2048x512, .f32⟩
  | 5 => ⟨S8x2048x4x128, .f32⟩
  | 6 => ⟨S8x2048x4x64, .f32⟩
  | 7 => ⟨S8x2048x4x64, .f32⟩
  | 8 => ⟨S8x2048x16, .f32⟩
  | 9 => ⟨S8x2048x16, .f32⟩
  | 10 => ⟨S1x2048x16, .f32⟩
  | 11 => ⟨S8x2048x16, .f32⟩
  | 12 => ⟨S8x2048x16, .f32⟩
  | 13 => ⟨S1x2048x16, .f32⟩
  | 14 => ⟨S8x2048x16, .f32⟩
  | 15 => ⟨S8x2048x16, .f32⟩
  | 16 => ⟨S8x2048x16, .f32⟩
  | 17 => ⟨S1x2048x16, .f32⟩
  | 18 => ⟨S8x2048x16, .f32⟩
  | 19 => ⟨S8x2048x16, .f32⟩
  | 20 => ⟨S1x2048x16, .f32⟩
  | 21 => ⟨S8x2048x16, .f32⟩
  | 22 => ⟨S8x2048x16, .f32⟩
  | 23 => ⟨S8x2048x16, .f32⟩
  | 24 => ⟨S8x2048x32, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S8x2048x4x64, .f32⟩
  | 33 => ⟨S8x2048x4x64, .f32⟩
  | 34 => ⟨S8x2048x4x32, .f32⟩
  | 35 => ⟨S8x2048x4x32, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_v61 : Ref sig .tc := ⟨.hbm, 77, rfl⟩
abbrev main_cst_8 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_cst_9 : Ref sig .tc := ⟨.hbm, 115, rfl⟩
abbrev main_v98 : Ref sig .tc := ⟨.hbm, 116, rfl⟩
abbrev main_v99 : Ref sig .tc := ⟨.hbm, 117, rfl⟩
abbrev main_cst_10 : Ref sig .tc := ⟨.hbm, 118, rfl⟩
abbrev main_v100 : Ref sig .tc := ⟨.hbm, 119, rfl⟩
abbrev main_v101 : Ref sig .tc := ⟨.hbm, 120, rfl⟩
abbrev main_cst_11 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_cst_12 : Ref sig .tc := ⟨.hbm, 153, rfl⟩
abbrev main_v133 : Ref sig .tc := ⟨.hbm, 154, rfl⟩
abbrev main_cst_13 : Ref sig .tc := ⟨.hbm, 155, rfl⟩
abbrev main_v134 : Ref sig .tc := ⟨.hbm, 156, rfl⟩
abbrev main_v135 : Ref sig .tc := ⟨.hbm, 157, rfl⟩
abbrev main_cst_14 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩

abbrev nD : Nat := 1
abbrev τ : Topo := Topo.v7x

variable {F : FTy → Type} [FloatOps F]
-- ==== Kernel5.lean ====
abbrev S2x1024x3976 : Shape := ⟨3, ![2, 1024, 3976]⟩
abbrev S2x1024x4480 : Shape := ⟨3, ![2, 1024, 4480]⟩
abbrev S1x256x3976 : Shape := ⟨3, ![1, 256, 3976]⟩
abbrev S1x256x4480 : Shape := ⟨3, ![1, 256, 4480]⟩
abbrev S256x4480 : Shape := ⟨2, ![256, 4480]⟩
abbrev S1x256x256 : Shape := ⟨3, ![1, 256, 256]⟩
abbrev S256x256 : Shape := ⟨2, ![256, 256]⟩
abbrev S256x192 : Shape := ⟨2, ![256, 192]⟩
abbrev S1x256x192 : Shape := ⟨3, ![1, 256, 192]⟩
abbrev S256x128 : Shape := ⟨2, ![256, 128]⟩
abbrev S1x256x128 : Shape := ⟨3, ![1, 256, 128]⟩
abbrev S256x32 : Shape := ⟨2, ![256, 32]⟩
abbrev S1x256x32 : Shape := ⟨3, ![1, 256, 32]⟩
abbrev S256x16 : Shape := ⟨2, ![256, 16]⟩
abbrev S1x256x16 : Shape := ⟨3, ![1, 256, 16]⟩
abbrev S256x8 : Shape := ⟨2, ![256, 8]⟩
abbrev S1x256x8 : Shape := ⟨3, ![1, 256, 8]⟩
abbrev S1x256x384 : Shape := ⟨3, ![1, 256, 384]⟩
abbrev S256x384 : Shape := ⟨2, ![256, 384]⟩
abbrev S1x256x264 : Shape := ⟨3, ![1, 256, 264]⟩
abbrev S256x264 : Shape := ⟨2, ![256, 264]⟩

abbrev nBuf : Space → Nat
  | .hbm => 2
  | .vmem => 4
  | .smem => 0
  | _ => 0

abbrev bufTy : (tb : Table) → Fin (tcTables nBuf tb) → BufTy
  | .hbm, ⟨0, _⟩ => ⟨S2x1024x3976, .f32⟩
  | .hbm, ⟨1, _⟩ => ⟨S2x1024x4480, .bf16⟩
  | .local _ .vmem, ⟨0, _⟩ => ⟨S1x256x3976, .f32⟩
  | .local _ .vmem, ⟨1, _⟩ => ⟨S1x256x3976, .f32⟩
  | .local _ .vmem, ⟨2, _⟩ => ⟨S1x256x4480, .bf16⟩
  | .local _ .vmem, ⟨3, _⟩ => ⟨S1x256x4480, .bf16⟩
  | _, _ => ⟨S2x1024x3976, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3976 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4480 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Kernel5Ideal.lean ====
variable {F : FTy → Type} [FloatOps F] [Named F]
def κ : String → Option EReal := fun
  | "b_scale" => some (((Real.sqrt 64)⁻¹ * (Real.log 2)⁻¹ : ℝ) : EReal)
  | _ => none
-- ==== Reference5Ideal.lean ====
abbrev S2x1024x3976 : Shape := ⟨3, ![2, 1024, 3976]⟩
abbrev S2x1024x192 : Shape := ⟨3, ![2, 1024, 192]⟩
abbrev S2x1024x128 : Shape := ⟨3, ![2, 1024, 128]⟩
abbrev S2x1024x32 : Shape := ⟨3, ![2, 1024, 32]⟩
abbrev S2x1024x256 : Shape := ⟨3, ![2, 1024, 256]⟩
abbrev S2x1024x8 : Shape := ⟨3, ![2, 1024, 8]⟩
abbrev S2x1024x16 : Shape := ⟨3, ![2, 1024, 16]⟩
abbrev S_ : Shape := ⟨0, ![]⟩
abbrev S2x1024x64 : Shape := ⟨3, ![2, 1024, 64]⟩
abbrev S2x1024x96 : Shape := ⟨3, ![2, 1024, 96]⟩
abbrev S2x1024x640 : Shape := ⟨3, ![2, 1024, 640]⟩
abbrev S2x1024x120 : Shape := ⟨3, ![2, 1024, 120]⟩
abbrev S2x1024x2176 : Shape := ⟨3, ![2, 1024, 2176]⟩
abbrev S2x1024x896 : Shape := ⟨3, ![2, 1024, 896]⟩
abbrev S2x1024x768 : Shape := ⟨3, ![2, 1024, 768]⟩
abbrev S2x1024x4480 : Shape := ⟨3, ![2, 1024, 4480]⟩

abbrev nBuf : Space → Nat
  | .hbm => 48
  | .vmem => 0
  | .smem => 0
  | _ => 0

abbrev bufTy : (tb : Table) → Fin (tcTables nBuf tb) → BufTy
  | .hbm, ⟨0, _⟩ => ⟨S2x1024x3976, .f32⟩
  | .hbm, ⟨1, _⟩ => ⟨S2x1024x192, .f32⟩
  | .hbm, ⟨2, _⟩ => ⟨S2x1024x128, .f32⟩
  | .hbm, ⟨3, _⟩ => ⟨S2x1024x32, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .hbm, ⟨11, _⟩ => ⟨S2x1024x256, .f32⟩
  | .hbm, ⟨12, _⟩ => ⟨S2x1024x256, .f32⟩
  | .hbm, ⟨13, _⟩ => ⟨S2x1024x32, .f32⟩
  | .hbm, ⟨14, _⟩ => ⟨S2x1024x8, .f32⟩
  | .hbm, ⟨15, _⟩ => ⟨S2x1024x256, .f32⟩
  | .hbm, ⟨16, _⟩ => ⟨S2x1024x256, .f32⟩
  | .hbm, ⟨17, _⟩ => ⟨S2x1024x256, .f32⟩
  | .hbm, ⟨18, _⟩ => ⟨S2x1024x256, .f32⟩
  | .hbm, ⟨19, _⟩ => ⟨S2x1024x256, .f32⟩
  | .hbm, ⟨20, _⟩ => ⟨S2x1024x16, .f32⟩
  | .hbm, ⟨21, _⟩ => ⟨S2x1024x16, .f32⟩
  | .hbm, ⟨22, _⟩ => ⟨S_, .f32⟩
  | .hbm, ⟨23, _⟩ => ⟨S2x1024x64, .f32⟩
  | .hbm, ⟨24, _⟩ => ⟨S_, .f32⟩
  | .hbm, ⟨25, _⟩ => ⟨S2x1024x64, .f32⟩
  | .hbm, ⟨26, _⟩ => ⟨S_, .f32⟩
  | .hbm, ⟨27, _⟩ => ⟨S2x1024x96, .f32⟩
  | .hbm, ⟨28, _⟩ => ⟨S2x1024x16, .f32⟩
  | .hbm, ⟨29, _⟩ => ⟨S_, .f32⟩
  | .hbm, ⟨30, _⟩ => ⟨S2x1024x32, .f32⟩
  | .hbm, ⟨31, _⟩ => ⟨S2x1024x640, .f32⟩
  | .hbm, ⟨32, _⟩ => ⟨S_, .f32⟩
  | .hbm, ⟨33, _⟩ => ⟨S2x1024x120, .f32⟩
  | .hbm, ⟨34, _⟩ => ⟨S2x1024x2176, .f32⟩
  | .hbm, ⟨35, _⟩ => ⟨S2x1024x896, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2x1024x256, .f32⟩
  | .hbm, ⟨44, _⟩ => ⟨S2x1024x256, .f32⟩
  | .hbm, ⟨45, _⟩ => ⟨S2x1024x768, .f32⟩
  | .hbm, ⟨46, _⟩ => ⟨S2x1024x4480, .f32⟩
  | .hbm, ⟨47, _⟩ => ⟨S2x1024x4480, .bf16⟩
  | _, _ => ⟨S2x1024x3976, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_cst : Ref sig .tc := ⟨.hbm, 22, rfl⟩
abbrev main_v21 : Ref sig .tc := ⟨.hbm, 23, rfl⟩
abbrev main_cst_0 : Ref sig .tc := ⟨.hbm, 24, rfl⟩
abbrev main_v22 : Ref sig .tc := ⟨.hbm, 25, rfl⟩
abbrev main_cst_1 : Ref sig .tc := ⟨.hbm, 26, rfl⟩
abbrev main_v23 : Ref sig .tc := ⟨.hbm, 27, rfl⟩
abbrev main_v24 : Ref sig .tc := ⟨.hbm, 28, rfl⟩
abbrev main_cst_2 : Ref sig .tc := ⟨.hbm, 29, rfl⟩
abbrev main_v25 : Ref sig .tc := ⟨.hbm, 30, rfl⟩
abbrev main_v26 : Ref sig .tc := ⟨.hbm, 31, rfl⟩
abbrev main_cst_3 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_4 : Ref sig .tc := ⟨.hbm, 36, rfl⟩
abbrev main_v30 : Ref sig .tc := ⟨.hbm, 37, rfl⟩
abbrev main_cst_5 : Ref sig .tc := ⟨.hbm, 38, rfl⟩
abbrev main_v31 : Ref sig .tc := ⟨.hbm, 39, rfl⟩
abbrev main_v32 : Ref sig .tc := ⟨.hbm, 40, rfl⟩
abbrev main_cst_6 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Proof.Block.lean ====
/-
One block of 128 queries against `W` keys, as the attention kernel computes it, read at an index.
The width `W` is a variable here: the kernel has the same text at eight widths.
-/
module

public import Idealize.ShloMosaic.Lib.Pointwise
public import Idealize.ShloMosaic.Lib.Pointwise.IndexVar
public import Idealize.ShloMosaic.Lib.MatmulPlain
public import Idealize.ShloMosaic.Lib.Pipeline.Value
public import proofs.«01_k».proof.Proof.Gen.KernelIdeal

set_option maxRecDepth 16384

@[expose] public section

namespace Cert.Attn

open Idealize.ShloMosaic Cert.KernelIdeal

/-- `W` rows of 128 lanes. -/
abbrev rows (W : ℕ) : Shape := ⟨2, ![W, 128]⟩

/-- The shape facts at width `W`, `m` being the number of groups of 64 rows. -/
structure Widths (W m : ℕ) : Prop where
  castK : (⟨3, ![1, W, 256]⟩ : Shape).ShapeCasts ⟨2, ![W, 256]⟩
  slice0 : (⟨2, ![W, 256]⟩ : Shape).Slices ![0, 0] (rows W)
  slice1 : (⟨2, ![W, 256]⟩ : Shape).Slices ![0, 128] (rows W)
  group : (rows W).ShapeCasts ⟨3, ![m, 64, 128]⟩
  reduce : (⟨3, ![m, 64, 128]⟩ : Shape).Reduces [0] S64x128
  spread : S1x128.Broadcasts (rows W)
  join : Shape.Concatenates [rows W, rows W] ⟨2, ![W, 256]⟩ 1
  castV : (⟨3, ![1, 128, W]⟩ : Shape).ShapeCasts ⟨2, ![128, W]⟩

/-- The shape facts of a width `W` whose first `H` rows are never masked. -/
structure Heads (W H : ℕ) : Prop where
  head : (rows W).Slices ![0, 0] (rows H)
  tail : (rows W).Slices ![H, 0] S256x128
  join : Shape.Concatenates [rows H, S256x128] (rows W) 0

/-- The shape facts at fixed sizes. -/
structure Fixed : Prop where
  castQ : S1x128x128.ShapeCasts S128x128
  joinQ : Shape.Concatenates [S128x128, S128x128] S128x256 1
  stackQ : Shape.Concatenates [S128x256, S128x256] S256x256 0
  stackT : Shape.Concatenates [S128x128, S128x128] S256x128 0
  reduce : S64x128.Reduces [0] S128
  castL : S128.ShapeCasts S1x128
  half0 : S128x256.Slices ![0, 0] S64x128
  half1 : S128x256.Slices ![64, 128] S64x128
  spread : S1x128.Broadcasts S64x128
  stackO : Shape.Concatenates [S64x128, S64x128, S64x128, S64x128] S256x128 0
  top : S256x128.Slices ![0, 0] S128x128
  bottom : S256x128.Slices ![128, 0] S128x128
  turn : S128x128.Transposes [1, 0] S128x128
  castG : S1x128x256.ShapeCasts S128x256
  castO : S128x256.ShapeCasts S1x128x256
  narrow : FTy.bits .bf16 < FTy.bits .f32

variable {W m H : ℕ}

/-- Two heads' queries on the diagonal of one matrix. -/
noncomputable def qPair (f : Fixed) (q0 q1 : Vec Ideal S1x128x128 .bf16) : FVec Ideal S256x256 .bf16 :=
  concatenate S256x256 0
    [⟨S128x256, concatenate S128x256 1 [⟨S128x128, shapeCast S128x128 q0 f.castQ⟩, ⟨S128x128, broadcast S128x128 (Scalar.ofBits (F := Ideal) .bf16 0x0000#16)⟩] f.joinQ⟩,
     ⟨S128x256, concatenate S128x256 1 [⟨S128x128, broadcast S128x128 (Scalar.ofBits (F := Ideal) .bf16 0x0000#16)⟩, ⟨S128x128, shapeCast S128x128 q1 f.castQ⟩] f.joinQ⟩]
    f.stackQ

/-- The scores of `W` keys against the queries of two heads. -/
noncomputable def scores (w : Widths W m) (k : Vec Ideal ⟨3, ![1, W, 256]⟩ .bf16) (q : FVec Ideal S256x256 .bf16) : FVec Ideal ⟨2, ![W, 256]⟩ .f32 :=
  matmul (DotDims.transposedRhs W 256 256) none (shapeCast ⟨2, ![W, 256]⟩ k w.castK : FVec Ideal ⟨2, ![W, 256]⟩ .bf16) q (constant ⟨2, ![W, 256]⟩ .f32 0x00000000#32)

/-- The mask of the last 256 keys, from two tiles. -/
noncomputable def tail (f : Fixed) (t0 t1 : Vec Ideal S1x128x128 .f32) : FVec Ideal S256x128 .f32 :=
  concatenate S256x128 0 [⟨S128x128, shapeCast S128x128 t0 f.castQ⟩, ⟨S128x128, shapeCast S128x128 t1 f.castQ⟩] f.stackT

/-- The lanes of the first head of a pair. -/
noncomputable def lanes0 (w : Widths W m) (s : FVec Ideal ⟨2, ![W, 256]⟩ .f32) : FVec Ideal (rows W) .f32 :=
  extractStridedSlice (rows W) ![0, 0] s w.slice0
/-- The lanes of the second head of a pair. -/
noncomputable def lanes1 (w : Widths W m) (s : FVec Ideal ⟨2, ![W, 256]⟩ .f32) : FVec Ideal (rows W) .f32 :=
  extractStridedSlice (rows W) ![0, 128] s w.slice1

/-- The mask added to the last 256 rows. -/
noncomputable def addTail (h : Heads W H) (s : FVec Ideal (rows W) .f32) (t : FVec Ideal S256x128 .f32) : FVec Ideal (rows W) .f32 :=
  concatenate (rows W) 0 [⟨rows H, extractStridedSlice (rows H) ![0, 0] s h.head⟩, ⟨S256x128, addf (extractStridedSlice S256x128 ![H, 0] s h.tail) t⟩] h.join

/-- Each lane's greatest row. -/
noncomputable def colMax (w : Widths W m) (f : Fixed) (s : FVec Ideal (rows W) .f32) : FVec Ideal S1x128 .f32 :=
  shapeCast S1x128 (multiReduction .maximumf [0] S128 (multiReduction .maximumf [0] S64x128 (shapeCast ⟨3, ![m, 64, 128]⟩ s w.group : FVec Ideal ⟨3, ![m, 64, 128]⟩ .f32) 0xFF800000#32 w.reduce (.inl rfl) rfl)
    0xFF800000#32 f.reduce (.inl rfl) rfl) f.castL

/-- The base-2 exponentials of the rows less each lane's greatest. -/
noncomputable def expo (w : Widths W m) (f : Fixed) (s : FVec Ideal (rows W) .f32) : FVec Ideal (rows W) .f32 :=
  exp2 (subf s (broadcastTo (rows W) (colMax w f s) w.spread))

/-- Each lane's sum over the rows. -/
noncomputable def total (w : Widths W m) (f : Fixed) (x : FVec Ideal (rows W) .f32) : FVec Ideal S1x128 .f32 :=
  shapeCast S1x128 (multiReduction .add [0] S128 (multiReduction .add [0] S64x128 (shapeCast ⟨3, ![m, 64, 128]⟩ x w.group : FVec Ideal ⟨3, ![m, 64, 128]⟩ .f32) 0x00000000#32 w.reduce (.inl rfl) rfl)
    0x00000000#32 f.reduce (.inl rfl) rfl) f.castL

/-- Two heads' values times their weights. -/
noncomputable def product (w : Widths W m) (f : Fixed) (vt : Vec Ideal ⟨3, ![1, 128, W]⟩ .bf16) (x0 x1 : FVec Ideal (rows W) .f32) : FVec Ideal S128x256 .f32 :=
  matmul (DotDims.plain 128 W 256) none (shapeCast ⟨2, ![128, W]⟩ vt w.castV : FVec Ideal ⟨2, ![128, W]⟩ .bf16)
    (concatenate ⟨2, ![W, 256]⟩ 1 [⟨rows W, (truncf .bf16 x0 f.narrow : FVec Ideal (rows W) .bf16)⟩, ⟨rows W, (truncf .bf16 x1 f.narrow : FVec Ideal (rows W) .bf16)⟩] w.join : FVec Ideal ⟨2, ![W, 256]⟩ .bf16)
    (constant ⟨2, ![128, 256]⟩ .f32 0x00000000#32)

/-- The first head's block of the product, divided by the lane's sum. -/
noncomputable def half0 (f : Fixed) (p : FVec Ideal S128x256 .f32) (l : FVec Ideal S1x128 .f32) : FVec Ideal S64x128 .f32 :=
  divf (extractStridedSlice S64x128 ![0, 0] p f.half0) (broadcastTo S64x128 l f.spread)
/-- The second head's block of the product, divided by the lane's sum. -/
noncomputable def half1 (f : Fixed) (p : FVec Ideal S128x256 .f32) (l : FVec Ideal S1x128 .f32) : FVec Ideal S64x128 .f32 :=
  divf (extractStridedSlice S64x128 ![64, 128] p f.half1) (broadcastTo S64x128 l f.spread)

/-- Four heads' blocks, turned back to rows of queries and multiplied by the gate. -/
noncomputable def finish (f : Fixed) (o0 o1 o2 o3 : FVec Ideal S64x128 .f32) (g : Vec Ideal S1x128x256 .f32) : FVec Ideal S1x128x256 .bf16 :=
  let y : FVec Ideal S256x128 .f32 := concatenate S256x128 0 [⟨S64x128, o0⟩, ⟨S64x128, o1⟩, ⟨S64x128, o2⟩, ⟨S64x128, o3⟩] f.stackO
  let z : FVec Ideal S128x256 .f32 := concatenate S128x256 1
    [⟨S128x128, transpose S128x128 [1, 0] (extractStridedSlice S128x128 ![0, 0] y f.top) f.turn⟩,
     ⟨S128x128, transpose S128x128 [1, 0] (extractStridedSlice S128x128 ![128, 0] y f.bottom) f.turn⟩] f.joinQ
  let a : FVec Ideal S128x256 .f32 := shapeCast S128x256 g f.castG
  shapeCast S1x128x256 (truncf .bf16 (mulf z (mulf a (divf (broadcast S128x256 (Scalar.ofBits (F := Ideal) .f32 0x3F800000#32))
    (addf (broadcast S128x256 (Scalar.ofBits (F := Ideal) .f32 0x3F800000#32)) (exp (subf (broadcast S128x256 (Scalar.ofBits (F := Ideal) .f32 0x00000000#32)) a)))))) f.narrow) f.castO

/-- The block of 128 queries: `M` puts the mask on a head's scores. -/
noncomputable def block (w : Widths W m) (f : Fixed) (M : FVec Ideal (rows W) .f32 → FVec Ideal (rows W) .f32)
    (q0 q1 q2 q3 : Vec Ideal S1x128x128 .bf16) (k0 k1 : Vec Ideal ⟨3, ![1, W, 256]⟩ .bf16) (v0 v1 : Vec Ideal ⟨3, ![1, 128, W]⟩ .bf16)
    (g : Vec Ideal S1x128x256 .f32) : FVec Ideal S1x128x256 .bf16 :=
  let s0 := scores w k0 (qPair f q0 q1)
  let s1 := scores w k1 (qPair f q2 q3)
  let x0 := expo w f (M (lanes0 w s0))
  let x1 := expo w f (M (lanes1 w s0))
  let x2 := expo w f (M (lanes0 w s1))
  let x3 := expo w f (M (lanes1 w s1))
  finish f (half0 f (product w f v0 x0 x1) (total w f x0)) (half1 f (product w f v0 x0 x1) (total w f x1))
    (half0 f (product w f v1 x2 x3) (total w f x2)) (half1 f (product w f v1 x2 x3) (total w f x3)) g

/-! ### The parts at an index -/

theorem qPair_apply0 (f : Fixed) (q0 q1 : Vec Ideal S1x128x128 .bf16) (a : Fin 128) (c : Fin 256) :
    qPair f q0 q1 (ix2 ⟨a, by omega⟩ c) = if h : c.val < 128 then q0 (ix3 0 a ⟨c, h⟩) else (0 : EReal) := by
  unfold qPair
  pointwise

theorem qPair_apply1 (f : Fixed) (q0 q1 : Vec Ideal S1x128x128 .bf16) (a : Fin 128) (c : Fin 256) :
    qPair f q0 q1 (ix2 ⟨128 + a, by omega⟩ c) = if h : c.val < 128 then (0 : EReal) else q1 (ix3 0 a ⟨c - 128, by omega⟩) := by
  unfold qPair
  pointwise

theorem scores_apply (w : Widths W m) (k : Vec Ideal ⟨3, ![1, W, 256]⟩ .bf16) (q : FVec Ideal S256x256 .bf16) (r : Fin W) (j : Fin 256) :
    scores w k q (ix2 r j) = ∑ c : Fin 256, (k (ix3 0 r c) : EReal) * q (ix2 j c) := by
  unfold scores
  refine (Ideal.matmul_transposedRhs_apply _ _ _ _ r j).trans ?_
  have h0 : ∀ i, constant (F := Ideal) (⟨2, ![W, 256]⟩ : Shape) .f32 0x00000000#32 i = (0 : EReal) := fun i => Ideal.ofBits_zero_f32
  rw [h0, zero_add]
  refine Finset.sum_congr rfl fun c _ => congrArg₂ (· * ·) ?_ rfl
  exact shapeCast_apply k _ (ix2 r c) (ix3 0 r c) (by
    rw [Shape.rowMajor_val_two, Shape.rowMajor_val_three]
    show ((0 * W + r.val) * 256 + c.val : ℕ) = r.val * 256 + c.val
    ring)

theorem tail_apply (f : Fixed) (t0 t1 : Vec Ideal S1x128x128 .f32) (r : Fin 256) (q : Fin 128) :
    tail f t0 t1 (ix2 r q) = if h : r.val < 128 then t0 (ix3 0 ⟨r, h⟩ q) else t1 (ix3 0 ⟨r - 128, by omega⟩ q) := by
  unfold tail
  pointwise

theorem lanes0_apply (w : Widths W m) (s : FVec Ideal ⟨2, ![W, 256]⟩ .f32) (r : Fin W) (q : Fin 128) :
    lanes0 w s (ix2 r q) = s (ix2 r ⟨q, by omega⟩) := by
  unfold lanes0
  pointwise

theorem lanes1_apply (w : Widths W m) (s : FVec Ideal ⟨2, ![W, 256]⟩ .f32) (r : Fin W) (q : Fin 128) :
    lanes1 w s (ix2 r q) = s (ix2 r ⟨128 + q, by omega⟩) := by
  unfold lanes1
  pointwise

theorem addTail_apply (h : Heads W H) (hW : W = H + 256) (s : FVec Ideal (rows W) .f32) (t : FVec Ideal S256x128 .f32) (r : Fin W) (q : Fin 128) :
    addTail h s t (ix2 r q) = s (ix2 r q) + if h : r.val < H then (0 : EReal) else t (ix2 ⟨r - H, by omega⟩ q) := by
  unfold addTail
  pointwise
  by_cases h1 : r.val < H
  · rw [dif_pos h1, dif_pos h1]; exact (add_zero _).symm
  · rw [dif_neg h1, dif_neg h1]
    refine congrArg₂ (· + ·) (congrArg s ?_) rfl
    exact congrArg (ix2 · q) (Fin.ext (by show H + (r.val - H) = r.val; omega))

theorem expo_apply (w : Widths W m) (f : Fixed) (s : FVec Ideal (rows W) .f32) (r : Fin W) (q : Fin 128) :
    expo w f s (ix2 r q) = Ideal.exp2 (s (ix2 r q) - colMax w f s (ix2 0 q)) := by
  unfold expo
  pointwise
  rfl

theorem product_apply (w : Widths W m) (f : Fixed) (vt : Vec Ideal ⟨3, ![1, 128, W]⟩ .bf16) (x0 x1 : FVec Ideal (rows W) .f32) (d : Fin 128) (j : Fin 256) :
    product w f vt x0 x1 (ix2 d j) = ∑ k : Fin W, (vt (ix3 0 d k) : EReal) * (if h : j.val < 128 then x0 (ix2 k ⟨j, h⟩) else x1 (ix2 k ⟨j - 128, by omega⟩)) := by
  unfold product
  refine (Ideal.matmul_plain_apply _ _ _ _ d j).trans ?_
  have h0 : ∀ i, constant (F := Ideal) (⟨2, ![128, 256]⟩ : Shape) .f32 0x00000000#32 i = (0 : EReal) := fun i => Ideal.ofBits_zero_f32
  rw [h0, zero_add]
  refine Finset.sum_congr rfl fun k _ => congrArg₂ (· * ·) ?_ ?_
  · exact shapeCast_apply vt _ (ix2 d k) (ix3 0 d k) (by
      rw [Shape.rowMajor_val_two, Shape.rowMajor_val_three]
      show ((0 * 128 + d.val) * W + k.val : ℕ) = d.val * W + k.val
      ring)
  · show concatenate ⟨2, ![W, 256]⟩ 1 [⟨rows W, (truncf .bf16 x0 f.narrow : FVec Ideal (rows W) .bf16)⟩, ⟨rows W, (truncf .bf16 x1 f.narrow : FVec Ideal (rows W) .bf16)⟩] _ (ix2 k j) = _
    pointwise

theorem half0_apply (f : Fixed) (p : FVec Ideal S128x256 .f32) (l : FVec Ideal S1x128 .f32) (d : Fin 64) (q : Fin 128) :
    half0 f p l (ix2 d q) = Ideal.div (p (ix2 ⟨d, by omega⟩ ⟨q, by omega⟩)) (l (ix2 0 q)) := by
  unfold half0
  pointwise

theorem half1_apply (f : Fixed) (p : FVec Ideal S128x256 .f32) (l : FVec Ideal S1x128 .f32) (d : Fin 64) (q : Fin 128) :
    half1 f p l (ix2 d q) = Ideal.div (p (ix2 ⟨64 + d, by omega⟩ ⟨128 + q, by omega⟩)) (l (ix2 0 q)) := by
  unfold half1
  pointwise

/-- The gate: a number times its logistic function. -/
noncomputable def silu (g : EReal) : EReal := g * Ideal.div 1 (1 + Ideal.exp (0 - g))

theorem finish_apply (f : Fixed) (o0 o1 o2 o3 : FVec Ideal S64x128 .f32) (g : Vec Ideal S1x128x256 .f32) (q : Fin 128) (j : Fin 256) :
    finish f o0 o1 o2 o3 g (ix3 0 q j) = (if h0 : j.val < 64 then o0 (ix2 ⟨j.val, h0⟩ q) else if h1 : j.val < 128 then o1 (ix2 ⟨j.val - 64, by omega⟩ q)
      else if h2 : j.val < 192 then o2 (ix2 ⟨j.val - 128, by omega⟩ q) else o3 (ix2 ⟨j.val - 192, by omega⟩ q) : EReal) * silu (g (ix3 0 q j)) := by
  unfold finish silu
  pointwise
  congr 1
  split_ifs <;> first | rfl | (exfalso; omega) | (congr 2; first | rfl | (apply Fin.ext; simp only; omega)) | (rw [dif_neg (by omega), dif_pos (by omega)]; congr 2; apply Fin.ext; simp only; omega) | (rw [dif_neg (by omega), dif_neg (by omega)]; congr 2; apply Fin.ext; simp only; omega)

/-! ### Sums and greatest values over groups of rows -/

/-- A row, as a group of 64 and a place in it. -/
theorem row_group (hm : W = 64 * m) (r : Fin W) : (⟨64 * (r.val / 64) + r.val % 64, by omega⟩ : Fin W) = r :=
  Fin.ext (by show 64 * (r.val / 64) + r.val % 64 = r.val; omega)

theorem sum_groups (hm : W = 64 * m) (x : Fin W → EReal) :
    ∑ b : Fin 64, ∑ a : Fin m, x ⟨64 * a.val + b.val, by omega⟩ = ∑ r : Fin W, x r := by
  subst hm
  rw [Finset.sum_comm, ← Fintype.sum_prod_type' (f := fun (a : Fin m) (b : Fin 64) => x ⟨64 * a.val + b.val, by omega⟩)]
  refine Fintype.sum_equiv ((Equiv.prodComm _ _).trans (Equiv.prodComm _ _) |>.trans (finProdFinEquiv.trans (finCongr (by ring)))) _ _ fun p => ?_
  refine congrArg x (Fin.ext ?_)
  simp [finProdFinEquiv]
  ring

/-- Rows grouped by 64, read at a group, a place and a lane. -/
theorem group_apply {w : Widths W m} (hm : W = 64 * m) (x : FVec Ideal (rows W) .f32) (a : Fin m) (b : Fin 64) (q : Fin 128) :
    (shapeCast ⟨3, ![m, 64, 128]⟩ x w.group : FVec Ideal ⟨3, ![m, 64, 128]⟩ .f32) (ix3 a b q) = x (ix2 ⟨64 * a.val + b.val, by omega⟩ q) :=
  shapeCast_apply x _ (ix3 a b q) (ix2 ⟨64 * a.val + b.val, by omega⟩ q) (by
    rw [Shape.rowMajor_val_two, Shape.rowMajor_val_three]
    show ((64 * a.val + b.val) * 128 + q.val : ℕ) = (a.val * 64 + b.val) * 128 + q.val
    ring)

/-- One lane of a vector, read in the matrix of one row. -/
theorem lane_apply (f : Fixed) (y : FVec Ideal S128 .f32) (q : Fin 128) : shapeCast S1x128 y f.castL (ix2 0 q) = y (ix1 q) :=
  shapeCast_apply y _ (ix2 0 q) (ix1 q) (by
    rw [Shape.rowMajor_val_one, Shape.rowMajor_val_two]
    show (q.val : ℕ) = 0 * 128 + q.val
    ring)

theorem total_apply (w : Widths W m) (f : Fixed) (hm : W = 64 * m) (x : FVec Ideal (rows W) .f32) (q : Fin 128) :
    total w f x (ix2 0 q) = ∑ r : Fin W, (x (ix2 r q) : EReal) := by
  rw [← sum_groups hm fun r => x (ix2 r q)]
  unfold total
  rw [lane_apply f]
  refine (Ideal.reduceAdd_r2_a0 f.reduce _ (ix1 q)).trans (Finset.sum_congr rfl fun b _ => ?_)
  refine (Ideal.reduceAdd_r3_a0 w.reduce _ (ix2 b q)).trans (Finset.sum_congr rfl fun a _ => ?_)
  exact group_apply (w := w) hm x a b q

/-- The greatest of a family: it bounds every member and is one of them. -/
def Greatest {ι : Type} (f : ι → EReal) (μ : EReal) : Prop := (∀ i, f i ≤ μ) ∧ ∃ i, f i = μ

theorem greatest_fold {n : ℕ} (hn : 0 < n) (f : Fin n → EReal) {b : EReal} (hb : b = ⊥) : Greatest f ((Finset.univ : Finset (Fin n)).fold max b f) := by
  subst hb
  have h1 : ∀ i, f i ≤ (Finset.univ : Finset (Fin n)).fold max ⊥ f := fun i => Finset.le_fold_max _ |>.2 (.inr ⟨i, Finset.mem_univ _, le_rfl⟩)
  refine ⟨h1, ?_⟩
  rcases (Finset.le_fold_max _).1 (le_refl ((Finset.univ : Finset (Fin n)).fold max ⊥ f)) with h | ⟨i, -, h⟩
  · exact ⟨⟨0, hn⟩, le_antisymm (h1 _) (h.trans bot_le)⟩
  · exact ⟨i, le_antisymm (h1 _) h⟩

/-- The greatest of greatest values is the greatest of all. -/
theorem Greatest.pair {ι κ : Type} {f : ι → κ → EReal} {g : ι → EReal} {μ : EReal} (h : ∀ i, Greatest (f i) (g i)) (h' : Greatest g μ) :
    Greatest (fun p : ι × κ => f p.1 p.2) μ := by
  refine ⟨fun p => ((h p.1).1 p.2).trans (h'.1 p.1), ?_⟩
  obtain ⟨i, hi⟩ := h'.2
  obtain ⟨k, hk⟩ := (h i).2
  exact ⟨(i, k), hk.trans hi⟩

theorem colMax_spec (w : Widths W m) (f : Fixed) (hm : W = 64 * m) (hW : 0 < m) (x : FVec Ideal (rows W) .f32) (q : Fin 128) :
    Greatest (fun r : Fin W => (x (ix2 r q) : EReal)) (colMax w f x (ix2 0 q)) := by
  have hb : (FloatOps.ofBits .f32 0xFF800000#32 : Ideal .f32) = (⊥ : EReal) := by
    show Ideal.ofBits .f32 0xFF800000#32 = ⊥
    simp [Ideal.ofBits, Ideal.ieee]
  let y : FVec Ideal S64x128 .f32 := multiReduction .maximumf [0] S64x128 (shapeCast ⟨3, ![m, 64, 128]⟩ x w.group : FVec Ideal ⟨3, ![m, 64, 128]⟩ .f32) 0xFF800000#32 w.reduce (.inl rfl) rfl
  have h3 : ∀ b : Fin 64, Greatest (fun a : Fin m => (x (ix2 ⟨64 * a.val + b.val, by omega⟩ q) : EReal)) (y (ix2 b q)) := fun b => by
    have e : y (ix2 b q) = (Finset.univ : Finset (Fin m)).fold max (FloatOps.ofBits .f32 0xFF800000#32 : Ideal .f32) (fun a => (shapeCast ⟨3, ![m, 64, 128]⟩ x w.group : FVec Ideal ⟨3, ![m, 64, 128]⟩ .f32) (ix3 a b q)) :=
      (multiReduction_maximumf_eq_fold _ _ w.reduce (.inl rfl) rfl (ix2 b q)).trans (w.reduce.fold_fiber_r3_a0 (ix2 b q) max _ _)
    rw [e, show (fun a => (shapeCast ⟨3, ![m, 64, 128]⟩ x w.group : FVec Ideal ⟨3, ![m, 64, 128]⟩ .f32) (ix3 a b q)) = fun a => x (ix2 ⟨64 * a.val + b.val, by omega⟩ q) from
      funext fun a => group_apply (w := w) hm x a b q]
    exact greatest_fold hW _ hb
  have h2 : Greatest (fun b : Fin 64 => (y (ix2 b q) : EReal)) (colMax w f x (ix2 0 q)) := by
    have e : colMax w f x (ix2 0 q) = (Finset.univ : Finset (Fin 64)).fold max (FloatOps.ofBits .f32 0xFF800000#32 : Ideal .f32) (fun b => y (ix2 b q)) :=
      (lane_apply f _ q).trans ((multiReduction_maximumf_eq_fold y _ f.reduce (.inl rfl) rfl (ix1 q)).trans (f.reduce.fold_fiber_r2_a0 (ix1 q) max _ _))
    rw [e]
    exact greatest_fold (by decide) _ hb
  obtain ⟨h4, p, hp⟩ := Greatest.pair h3 h2
  refine ⟨fun r => ?_, ⟨_, hp⟩⟩
  have := h4 (⟨r.val % 64, by omega⟩, ⟨r.val / 64, by omega⟩)
  simpa only [row_group hm r] using this

/-- One head of a block: from its scores, its weights and its values, the quotient of the two sums. -/
theorem head_spec (w : Widths W m) (f : Fixed) (hm : W = 64 * m) (hW : 0 < m) (x : FVec Ideal (rows W) .f32) (q : Fin 128)
    (S v : ℕ → EReal) (hS : ∀ k : Fin W, x (ix2 k q) = S k) :
    ∃ μ : EReal, (∀ k, k < W → S k ≤ μ) ∧ (∃ k, k < W ∧ S k = μ) ∧
      Ideal.div (∑ k : Fin W, v k * expo w f x (ix2 k q)) (total w f (expo w f x) (ix2 0 q))
        = Ideal.div (∑ k : Fin W, v k * Ideal.exp2 (S k - μ)) (∑ k : Fin W, Ideal.exp2 (S k - μ)) := by
  obtain ⟨h1, k, hk⟩ := colMax_spec w f hm hW x q
  refine ⟨colMax w f x (ix2 0 q), fun k hk => hS ⟨k, hk⟩ ▸ h1 ⟨k, hk⟩, ⟨k, k.isLt, hS k ▸ hk⟩, ?_⟩
  rw [total_apply w f hm]
  simp only [expo_apply, hS]

/-- A key's scores against the first head's queries. -/
theorem score0_apply (w : Widths W m) (f : Fixed) (k : Vec Ideal ⟨3, ![1, W, 256]⟩ .bf16) (q0 q1 : Vec Ideal S1x128x128 .bf16) (r : Fin W) (q : Fin 128) :
    lanes0 w (scores w k (qPair f q0 q1)) (ix2 r q) = ∑ c : Fin 128, (k (ix3 0 r ⟨c, by omega⟩) : EReal) * q0 (ix3 0 q c) := by
  rw [lanes0_apply, scores_apply]
  refine (Fin.sum_univ_add (a := 128) (b := 128) (fun c => (k (ix3 0 r c) : EReal) * qPair f q0 q1 (ix2 ⟨q, by omega⟩ c))).trans ?_
  simp only [qPair_apply0]
  simp
  rfl

/-- A key's scores against the second head's queries. -/
theorem score1_apply (w : Widths W m) (f : Fixed) (k : Vec Ideal ⟨3, ![1, W, 256]⟩ .bf16) (q0 q1 : Vec Ideal S1x128x128 .bf16) (r : Fin W) (q : Fin 128) :
    lanes1 w (scores w k (qPair f q0 q1)) (ix2 r q) = ∑ c : Fin 128, (k (ix3 0 r ⟨128 + c, by omega⟩) : EReal) * q1 (ix3 0 q c) := by
  rw [lanes1_apply, scores_apply]
  refine (Fin.sum_univ_add (a := 128) (b := 128) (fun c => (k (ix3 0 r c) : EReal) * qPair f q0 q1 (ix2 ⟨128 + q, by omega⟩ c))).trans ?_
  simp only [qPair_apply1]
  simp
  rfl

section Block

variable (w : Widths W m) (f : Fixed) (hm : W = 64 * m) (hW : 0 < m) (M : FVec Ideal (rows W) .f32 → FVec Ideal (rows W) .f32)
  (q0 q1 q2 q3 : Vec Ideal S1x128x128 .bf16) (k0 k1 : Vec Ideal ⟨3, ![1, W, 256]⟩ .bf16) (v0 v1 : Vec Ideal ⟨3, ![1, 128, W]⟩ .bf16)
  (g : Vec Ideal S1x128x256 .f32) (mask : ℕ → EReal) (q : Fin 128) (d : Fin 64)
  (hM : ∀ s (r : Fin W), M s (ix2 r q) = (s (ix2 r q) + mask r : EReal)) (S v : ℕ → EReal)

include hm hW hM in
/-- The block at a query `q` and the column `d` of head 0: the quotient of the two sums, times the gate. -/
theorem block_apply0 (hS : ∀ k : Fin W, (∑ c : Fin 128, (k0 (ix3 0 k ⟨c, by omega⟩) : EReal) * q0 (ix3 0 q c)) + mask k = S k)
    (hv : ∀ k : Fin W, (v0 (ix3 0 ⟨d, by omega⟩ k) : EReal) = v k) :
    ∃ μ : EReal, (∀ k, k < W → S k ≤ μ) ∧ (∃ k, k < W ∧ S k = μ) ∧
      block w f M q0 q1 q2 q3 k0 k1 v0 v1 g (ix3 0 q ⟨d, by omega⟩)
        = Ideal.div (∑ k : Fin W, v k * Ideal.exp2 (S k - μ)) (∑ k : Fin W, Ideal.exp2 (S k - μ)) * silu (g (ix3 0 q ⟨d, by omega⟩)) := by
  obtain ⟨μ, h1, h2, h3⟩ := head_spec w f hm hW (M (lanes0 w (scores w k0 (qPair f q0 q1)))) q S v fun k => by rw [hM, score0_apply, hS]
  refine ⟨μ, h1, h2, ?_⟩
  unfold block
  rw [finish_apply, dif_pos (show d.val < 64 by omega), half0_apply, product_apply, ← h3]
  refine congrArg₂ (· * ·) (congrArg₂ Ideal.div (Finset.sum_congr rfl fun k _ => congrArg₂ (· * ·) ?_ ?_) rfl) rfl
  · rw [← hv]
  · exact dif_pos q.isLt

include hm hW hM in
/-- The block at a query `q` and the column `d` of head 1: the quotient of the two sums, times the gate. -/
theorem block_apply1 (hS : ∀ k : Fin W, (∑ c : Fin 128, (k0 (ix3 0 k ⟨128 + c, by omega⟩) : EReal) * q1 (ix3 0 q c)) + mask k = S k)
    (hv : ∀ k : Fin W, (v0 (ix3 0 ⟨64 + d, by omega⟩ k) : EReal) = v k) :
    ∃ μ : EReal, (∀ k, k < W → S k ≤ μ) ∧ (∃ k, k < W ∧ S k = μ) ∧
      block w f M q0 q1 q2 q3 k0 k1 v0 v1 g (ix3 0 q ⟨64 + d, by omega⟩)
        = Ideal.div (∑ k : Fin W, v k * Ideal.exp2 (S k - μ)) (∑ k : Fin W, Ideal.exp2 (S k - μ)) * silu (g (ix3 0 q ⟨64 + d, by omega⟩)) := by
  obtain ⟨μ, h1, h2, h3⟩ := head_spec w f hm hW (M (lanes1 w (scores w k0 (qPair f q0 q1)))) q S v fun k => by rw [hM, score1_apply, hS]
  refine ⟨μ, h1, h2, ?_⟩
  unfold block
  rw [finish_apply, dif_neg (show ¬ 64 + d.val < 64 by omega), dif_pos (show 64 + d.val < 128 by omega), half1_apply, product_apply, ← h3]
  refine congrArg₂ (· * ·) (congrArg₂ Ideal.div (Finset.sum_congr rfl fun k _ => congrArg₂ (· * ·) ?_ ?_) rfl) rfl
  · rw [← hv]
    exact congrArg v0 (congrArg (ix3 0 · k) (Fin.ext (by simp)))
  · exact (dif_neg (show ¬ 128 + q.val < 128 by omega)).trans (congrArg _ (congrArg (ix2 k ·) (Fin.ext (show 128 + q.val - 128 = q.val by omega))))

include hm hW hM in
/-- The block at a query `q` and the column `d` of head 2: the quotient of the two sums, times the gate. -/
theorem block_apply2 (hS : ∀ k : Fin W, (∑ c : Fin 128, (k1 (ix3 0 k ⟨c, by omega⟩) : EReal) * q2 (ix3 0 q c)) + mask k = S k)
    (hv : ∀ k : Fin W, (v1 (ix3 0 ⟨d, by omega⟩ k) : EReal) = v k) :
    ∃ μ : EReal, (∀ k, k < W → S k ≤ μ) ∧ (∃ k, k < W ∧ S k = μ) ∧
      block w f M q0 q1 q2 q3 k0 k1 v0 v1 g (ix3 0 q ⟨128 + d, by omega⟩)
        = Ideal.div (∑ k : Fin W, v k * Ideal.exp2 (S k - μ)) (∑ k : Fin W, Ideal.exp2 (S k - μ)) * silu (g (ix3 0 q ⟨128 + d, by omega⟩)) := by
  obtain ⟨μ, h1, h2, h3⟩ := head_spec w f hm hW (M (lanes0 w (scores w k1 (qPair f q2 q3)))) q S v fun k => by rw [hM, score0_apply, hS]
  refine ⟨μ, h1, h2, ?_⟩
  unfold block
  rw [finish_apply, dif_neg (show ¬ 128 + d.val < 64 by omega), dif_neg (show ¬ 128 + d.val < 128 by omega), dif_pos (show 128 + d.val < 192 by omega), half0_apply, product_apply, ← h3]
  refine congrArg₂ (· * ·) (congrArg₂ Ideal.div (Finset.sum_congr rfl fun k _ => congrArg₂ (· * ·) ?_ ?_) rfl) rfl
  · rw [← hv]
    exact congrArg v1 (congrArg (ix3 0 · k) (Fin.ext (by simp)))
  · exact dif_pos q.isLt

include hm hW hM in
/-- The block at a query `q` and the column `d` of head 3: the quotient of the two sums, times the gate. -/
theorem block_apply3 (hS : ∀ k : Fin W, (∑ c : Fin 128, (k1 (ix3 0 k ⟨128 + c, by omega⟩) : EReal) * q3 (ix3 0 q c)) + mask k = S k)
    (hv : ∀ k : Fin W, (v1 (ix3 0 ⟨64 + d, by omega⟩ k) : EReal) = v k) :
    ∃ μ : EReal, (∀ k, k < W → S k ≤ μ) ∧ (∃ k, k < W ∧ S k = μ) ∧
      block w f M q0 q1 q2 q3 k0 k1 v0 v1 g (ix3 0 q ⟨192 + d, by omega⟩)
        = Ideal.div (∑ k : Fin W, v k * Ideal.exp2 (S k - μ)) (∑ k : Fin W, Ideal.exp2 (S k - μ)) * silu (g (ix3 0 q ⟨192 + d, by omega⟩)) := by
  obtain ⟨μ, h1, h2, h3⟩ := head_spec w f hm hW (M (lanes1 w (scores w k1 (qPair f q2 q3)))) q S v fun k => by rw [hM, score1_apply, hS]
  refine ⟨μ, h1, h2, ?_⟩
  unfold block
  rw [finish_apply, dif_neg (show ¬ 192 + d.val < 64 by omega), dif_neg (show ¬ 192 + d.val < 128 by omega), dif_neg (show ¬ 192 + d.val < 192 by omega), half1_apply, product_apply, ← h3]
  refine congrArg₂ (· * ·) (congrArg₂ Ideal.div (Finset.sum_congr rfl fun k _ => congrArg₂ (· * ·) ?_ ?_) rfl) rfl
  · rw [← hv]
    exact congrArg v1 (congrArg (ix3 0 · k) (Fin.ext (by simp)))
  · exact (dif_neg (show ¬ 128 + q.val < 128 by omega)).trans (congrArg _ (congrArg (ix2 k ·) (Fin.ext (show 128 + q.val - 128 = q.val by omega))))

end Block

end Cert.Attn
-- ==== Proof.Point.lean ====
/-
What one grid point computes: two strips of 128 queries, each a block of the kernel (`block`) over the
first `W` keys, with the mask of the last 256 keys made of two tiles.
-/
module

public import Idealize.ShloMosaic.Lib.Pipeline.ValueKit
public import proofs.«01_k».proof.Proof.Block

set_option maxRecDepth 16384

@[expose] public section

namespace Cert.Attn

open Idealize.ShloMosaic Cert.KernelIdeal Cert.KernelIdeal.Gen

theorem fixed : Fixed := by constructor <;> decide

theorem widths256 : Widths 256 4 := by constructor <;> decide
theorem widths512 : Widths 512 8 := by constructor <;> decide
theorem heads512 : Heads 512 256 := by constructor <;> decide
theorem widths768 : Widths 768 12 := by constructor <;> decide
theorem heads768 : Heads 768 512 := by constructor <;> decide
theorem widths1024 : Widths 1024 16 := by constructor <;> decide
theorem heads1024 : Heads 1024 768 := by constructor <;> decide
theorem widths1280 : Widths 1280 20 := by constructor <;> decide
theorem heads1280 : Heads 1280 1024 := by constructor <;> decide
theorem widths1536 : Widths 1536 24 := by constructor <;> decide
theorem heads1536 : Heads 1536 1280 := by constructor <;> decide
theorem widths1792 : Widths 1792 28 := by constructor <;> decide
theorem heads1792 : Heads 1792 1536 := by constructor <;> decide
theorem widths2048 : Widths 2048 32 := by constructor <;> decide
theorem heads2048 : Heads 2048 1792 := by constructor <;> decide

/-- The first `W` keys lie in the block of all keys. -/
structure Reach (W : ℕ) : Prop where
  k0 : ∀ a, (![0, 0, 0] : Fin 3 → ℕ) a + (![1, W, 256] : Fin 3 → ℕ) a ≤ S1x2048x512.size a
  k1 : ∀ a, (![0, 0, 256] : Fin 3 → ℕ) a + (![1, W, 256] : Fin 3 → ℕ) a ≤ S1x2048x512.size a
  v0 : ∀ a, (![0, 0, 0] : Fin 3 → ℕ) a + (![1, 128, W] : Fin 3 → ℕ) a ≤ S1x256x2048.size a
  v1 : ∀ a, (![0, 128, 0] : Fin 3 → ℕ) a + (![1, 128, W] : Fin 3 → ℕ) a ≤ S1x256x2048.size a

theorem reach256 : Reach 256 := by constructor <;> decide
theorem reach512 : Reach 512 := by constructor <;> decide
theorem reach768 : Reach 768 := by constructor <;> decide
theorem reach1024 : Reach 1024 := by constructor <;> decide
theorem reach1280 : Reach 1280 := by constructor <;> decide
theorem reach1536 : Reach 1536 := by constructor <;> decide
theorem reach1792 : Reach 1792 := by constructor <;> decide
theorem reach2048 : Reach 2048 := by constructor <;> decide

/-- Mask tile `n`: 0 masks every key, 1 the keys past the query, 2 none. -/
noncomputable def tile0 (X4 : Vec Ideal S3x128x128 .f32) : Vec Ideal S1x128x128 .f32 := View.ld X4 (Rect.unit ![0, 0, 0] ![1, 128, 128] (by decide))
noncomputable def tile1 (X4 : Vec Ideal S3x128x128 .f32) : Vec Ideal S1x128x128 .f32 := View.ld X4 (Rect.unit ![1, 0, 0] ![1, 128, 128] (by decide))
noncomputable def tile2 (X4 : Vec Ideal S3x128x128 .f32) : Vec Ideal S1x128x128 .f32 := View.ld X4 (Rect.unit ![2, 0, 0] ![1, 128, 128] (by decide))

variable {W m : ℕ}

/-- Strip 0 of a point: queries 0 to 127 of its block. -/
noncomputable def strip0 (w : Widths W m) (n : Reach W) (M : FVec Ideal (rows W) .f32 → FVec Ideal (rows W) .f32) (X0 : Vec Ideal S1x256x512 .bf16)
    (X1 : Vec Ideal S1x2048x512 .bf16) (X2 : Vec Ideal S1x256x2048 .bf16) (X3 : Vec Ideal S1x256x256 .f32) : FVec Ideal S1x128x256 .bf16 :=
  block w fixed M
    (View.ld X0 (Rect.unit ![0, 0, 0] ![1, 128, 128] inb_S1x256x512_S1x128x128_0_0_0))
    (View.ld X0 (Rect.unit ![0, 0, 128] ![1, 128, 128] inb_S1x256x512_S1x128x128_0_0_128))
    (View.ld X0 (Rect.unit ![0, 0, 256] ![1, 128, 128] inb_S1x256x512_S1x128x128_0_0_256))
    (View.ld X0 (Rect.unit ![0, 0, 384] ![1, 128, 128] inb_S1x256x512_S1x128x128_0_0_384))
    (View.ld X1 (Rect.unit ![0, 0, 0] ![1, W, 256] n.k0)) (View.ld X1 (Rect.unit ![0, 0, 256] ![1, W, 256] n.k1))
    (View.ld X2 (Rect.unit ![0, 0, 0] ![1, 128, W] n.v0)) (View.ld X2 (Rect.unit ![0, 128, 0] ![1, 128, W] n.v1))
    (View.ld X3 (Rect.unit ![0, 0, 0] ![1, 128, 256] inb_S1x256x256_S1x128x256_0_0_0))

/-- Strip 1 of a point: queries 128 to 255 of its block. -/
noncomputable def strip1 (w : Widths W m) (n : Reach W) (M : FVec Ideal (rows W) .f32 → FVec Ideal (rows W) .f32) (X0 : Vec Ideal S1x256x512 .bf16)
    (X1 : Vec Ideal S1x2048x512 .bf16) (X2 : Vec Ideal S1x256x2048 .bf16) (X3 : Vec Ideal S1x256x256 .f32) : FVec Ideal S1x128x256 .bf16 :=
  block w fixed M
    (View.ld X0 (Rect.unit ![0, 128, 0] ![1, 128, 128] inb_S1x256x512_S1x128x128_0_128_0))
    (View.ld X0 (Rect.unit ![0, 128, 128] ![1, 128, 128] inb_S1x256x512_S1x128x128_0_128_128))
    (View.ld X0 (Rect.unit ![0, 128, 256] ![1, 128, 128] inb_S1x256x512_S1x128x128_0_128_256))
    (View.ld X0 (Rect.unit ![0, 128, 384] ![1, 128, 128] inb_S1x256x512_S1x128x128_0_128_384))
    (View.ld X1 (Rect.unit ![0, 0, 0] ![1, W, 256] n.k0)) (View.ld X1 (Rect.unit ![0, 0, 256] ![1, W, 256] n.k1))
    (View.ld X2 (Rect.unit ![0, 0, 0] ![1, 128, W] n.v0)) (View.ld X2 (Rect.unit ![0, 128, 0] ![1, 128, W] n.v1))
    (View.ld X3 (Rect.unit ![0, 128, 0] ![1, 128, 256] inb_S1x256x256_S1x128x256_0_128_0))

/-- Two strips written one below the other. -/
noncomputable def stack (p0 p1 : FVec Ideal S1x128x256 .bf16) : FVec Ideal S1x256x256 .bf16 :=
  View.canon (Val := Elt Ideal) (e := .bf16) (s := S1x256x256)
    [⟨Rect.unit ![0, 128, 0] ![1, 128, 256] inb_S1x256x256_S1x128x256_0_128_0, p1⟩, ⟨Rect.unit ![0, 0, 0] ![1, 128, 256] inb_S1x256x256_S1x128x256_0_0_0, p0⟩]

theorem stack_apply0 (p0 p1 : FVec Ideal S1x128x256 .bf16) (q : Fin 128) (j : Fin 256) : stack p0 p1 (ix3 0 ⟨q, by omega⟩ j) = p0 (ix3 0 q j) := by
  unfold stack
  canon_tiles x h
  · have : q.val = 128 + (x 1).val := h1
    omega
  · exact congrArg p0 (funext fun a => Fin.ext (match a with | ⟨0, _⟩ => h0.symm | ⟨1, _⟩ => h1.symm | ⟨2, _⟩ => h2.symm))

theorem stack_apply1 (p0 p1 : FVec Ideal S1x128x256 .bf16) (q : Fin 128) (j : Fin 256) : stack p0 p1 (ix3 0 ⟨128 + q, by omega⟩ j) = p1 (ix3 0 q j) := by
  unfold stack
  canon_tiles x h
  · have h1' : 128 + q.val = 128 + (x 1).val := h1
    exact congrArg p1 (funext fun a => Fin.ext (match a with | ⟨0, _⟩ => h0.symm | ⟨1, _⟩ => (Nat.add_left_cancel h1').symm | ⟨2, _⟩ => h2.symm))
  · have : 128 + q.val = (x 1).val := h1
    omega

/-- A load of a mask tile, at an offset known to be the tile's. -/
theorem ld_tile0 (X4 : Vec Ideal S3x128x128 .f32) {off : Fin 3 → ℕ} (e : off = ![0, 0, 0]) (hin : ∀ a, off a + (![1, 128, 128] : Fin 3 → ℕ) a ≤ S3x128x128.size a) :
    (View.ld X4 (Rect.unit off ![1, 128, 128] hin) : Vec Ideal S1x128x128 .f32) = tile0 X4 := by subst e; rfl
theorem ld_tile1 (X4 : Vec Ideal S3x128x128 .f32) {off : Fin 3 → ℕ} (e : off = ![1, 0, 0]) (hin : ∀ a, off a + (![1, 128, 128] : Fin 3 → ℕ) a ≤ S3x128x128.size a) :
    (View.ld X4 (Rect.unit off ![1, 128, 128] hin) : Vec Ideal S1x128x128 .f32) = tile1 X4 := by subst e; rfl
theorem ld_tile2 (X4 : Vec Ideal S3x128x128 .f32) {off : Fin 3 → ℕ} (e : off = ![2, 0, 0]) (hin : ∀ a, off a + (![1, 128, 128] : Fin 3 → ℕ) a ≤ S3x128x128.size a) :
    (View.ld X4 (Rect.unit off ![1, 128, 128] hin) : Vec Ideal S1x128x128 .f32) = tile2 X4 := by subst e; rfl

section Strip

variable (w : Widths W m) (n : Reach W) (hm : W = 64 * m) (hW : 0 < m) (hW' : W ≤ 2048) (M : FVec Ideal (rows W) .f32 → FVec Ideal (rows W) .f32) (X0 : Vec Ideal S1x256x512 .bf16)
  (X1 : Vec Ideal S1x2048x512 .bf16) (X2 : Vec Ideal S1x256x2048 .bf16) (X3 : Vec Ideal S1x256x256 .f32)
  (mask : ℕ → EReal) (q : Fin 128) (h : Fin 4) (d : Fin 64)
  (hM : ∀ s (r : Fin W), M s (ix2 r q) = (s (ix2 r q) + mask r : EReal)) (S v : ℕ → EReal)

include hm hW hM in
/-- Strip 0 at query `q` and column `d` of head `h`: the quotient of the two sums, times the gate. -/
theorem strip0_apply (hS : ∀ k : Fin W, (∑ c : Fin 128, (X1 (ix3 0 ⟨k, by omega⟩ ⟨128 * h + c, by omega⟩) : EReal) * X0 (ix3 0 ⟨q, by omega⟩ ⟨128 * h + c, by omega⟩)) + mask k = S k)
    (hv : ∀ k : Fin W, (X2 (ix3 0 ⟨64 * h + d, by omega⟩ ⟨k, by omega⟩) : EReal) = v k) :
    ∃ μ : EReal, (∀ k, k < W → S k ≤ μ) ∧ (∃ k, k < W ∧ S k = μ) ∧
      strip0 w n M X0 X1 X2 X3 (ix3 0 q ⟨64 * h + d, by omega⟩)
        = Ideal.div (∑ k : Fin W, v k * Ideal.exp2 (S k - μ)) (∑ k : Fin W, Ideal.exp2 (S k - μ)) * silu (X3 (ix3 0 ⟨q, by omega⟩ ⟨64 * h + d, by omega⟩)) := by
  match h with
  | ⟨0, _⟩ =>
    have e := block_apply0 w fixed hm hW M (View.ld X0 (Rect.unit ![0, 0, 0] ![1, 128, 128] inb_S1x256x512_S1x128x128_0_0_0)) (View.ld X0 (Rect.unit ![0, 0, 128] ![1, 128, 128] inb_S1x256x512_S1x128x128_0_0_128))
      (View.ld X0 (Rect.unit ![0, 0, 256] ![1, 128, 128] inb_S1x256x512_S1x128x128_0_0_256)) (View.ld X0 (Rect.unit ![0, 0, 384] ![1, 128, 128] inb_S1x256x512_S1x128x128_0_0_384))
      (View.ld X1 (Rect.unit ![0, 0, 0] ![1, W, 256] n.k0)) (View.ld X1 (Rect.unit ![0, 0, 256] ![1, W, 256] n.k1))
      (View.ld X2 (Rect.unit ![0, 0, 0] ![1, 128, W] n.v0)) (View.ld X2 (Rect.unit ![0, 128, 0] ![1, 128, W] n.v1))
      (View.ld X3 (Rect.unit ![0, 0, 0] ![1, 128, 256] inb_S1x256x256_S1x128x256_0_0_0)) mask q d hM S v
      (fun k => by
        rw [← hS]
        refine congrArg (· + mask k) (Finset.sum_congr rfl fun c _ => ?_)
        pointwise) (fun k => by
        rw [← hv]
        pointwise)
    obtain ⟨μ, h1, h2, h3⟩ := e
    refine ⟨μ, h1, h2, ?_⟩
    unfold strip0
    simp only [Nat.mul_zero, Nat.zero_add]
    refine h3.trans (congrArg₂ (fun a b : EReal => a * b) rfl (congrArg silu ?_))
    pointwise
  | ⟨1, _⟩ =>
    have e := block_apply1 w fixed hm hW M (View.ld X0 (Rect.unit ![0, 0, 0] ![1, 128, 128] inb_S1x256x512_S1x128x128_0_0_0)) (View.ld X0 (Rect.unit ![0, 0, 128] ![1, 128, 128] inb_S1x256x512_S1x128x128_0_0_128))
      (View.ld X0 (Rect.unit ![0, 0, 256] ![1, 128, 128] inb_S1x256x512_S1x128x128_0_0_256)) (View.ld X0 (Rect.unit ![0, 0, 384] ![1, 128, 128] inb_S1x256x512_S1x128x128_0_0_384))
      (View.ld X1 (Rect.unit ![0, 0, 0] ![1, W, 256] n.k0)) (View.ld X1 (Rect.unit ![0, 0, 256] ![1, W, 256] n.k1))
      (View.ld X2 (Rect.unit ![0, 0, 0] ![1, 128, W] n.v0)) (View.ld X2 (Rect.unit ![0, 128, 0] ![1, 128, W] n.v1))
      (View.ld X3 (Rect.unit ![0, 0, 0] ![1, 128, 256] inb_S1x256x256_S1x128x256_0_0_0)) mask q d hM S v
      (fun k => by
        rw [← hS]
        refine congrArg (· + mask k) (Finset.sum_congr rfl fun c _ => ?_)
        pointwise) (fun k => by
        rw [← hv]
        pointwise)
    obtain ⟨μ, h1, h2, h3⟩ := e
    refine ⟨μ, h1, h2, ?_⟩
    unfold strip0
    refine h3.trans (congrArg₂ (fun a b : EReal => a * b) rfl (congrArg silu ?_))
    pointwise
  | ⟨2, _⟩ =>
    have e := block_apply2 w fixed hm hW M (View.ld X0 (Rect.unit ![0, 0, 0] ![1, 128, 128] inb_S1x256x512_S1x128x128_0_0_0)) (View.ld X0 (Rect.unit ![0, 0, 128] ![1, 128, 128] inb_S1x256x512_S1x128x128_0_0_128))
      (View.ld X0 (Rect.unit ![0, 0, 256] ![1, 128, 128] inb_S1x256x512_S1x128x128_0_0_256)) (View.ld X0 (Rect.unit ![0, 0, 384] ![1, 128, 128] inb_S1x256x512_S1x128x128_0_0_384))
      (View.ld X1 (Rect.unit ![0, 0, 0] ![1, W, 256] n.k0)) (View.ld X1 (Rect.unit ![0, 0, 256] ![1, W, 256] n.k1))
      (View.ld X2 (Rect.unit ![0, 0, 0] ![1, 128, W] n.v0)) (View.ld X2 (Rect.unit ![0, 128, 0] ![1, 128, W] n.v1))
      (View.ld X3 (Rect.unit ![0, 0, 0] ![1, 128, 256] inb_S1x256x256_S1x128x256_0_0_0)) mask q d hM S v
      (fun k => by
        rw [← hS]
        refine congrArg (· + mask k) (Finset.sum_congr rfl fun c _ => ?_)
        pointwise) (fun k => by
        rw [← hv]
        pointwise)
    obtain ⟨μ, h1, h2, h3⟩ := e
    refine ⟨μ, h1, h2, ?_⟩
    unfold strip0
    refine h3.trans (congrArg₂ (fun a b : EReal => a * b) rfl (congrArg silu ?_))
    pointwise
  | ⟨3, _⟩ =>
    have e := block_apply3 w fixed hm hW M (View.ld X0 (Rect.unit ![0, 0, 0] ![1, 128, 128] inb_S1x256x512_S1x128x128_0_0_0)) (View.ld X0 (Rect.unit ![0, 0, 128] ![1, 128, 128] inb_S1x256x512_S1x128x128_0_0_128))
      (View.ld X0 (Rect.unit ![0, 0, 256] ![1, 128, 128] inb_S1x256x512_S1x128x128_0_0_256)) (View.ld X0 (Rect.unit ![0, 0, 384] ![1, 128, 128] inb_S1x256x512_S1x128x128_0_0_384))
      (View.ld X1 (Rect.unit ![0, 0, 0] ![1, W, 256] n.k0)) (View.ld X1 (Rect.unit ![0, 0, 256] ![1, W, 256] n.k1))
      (View.ld X2 (Rect.unit ![0, 0, 0] ![1, 128, W] n.v0)) (View.ld X2 (Rect.unit ![0, 128, 0] ![1, 128, W] n.v1))
      (View.ld X3 (Rect.unit ![0, 0, 0] ![1, 128, 256] inb_S1x256x256_S1x128x256_0_0_0)) mask q d hM S v
      (fun k => by
        rw [← hS]
        refine congrArg (· + mask k) (Finset.sum_congr rfl fun c _ => ?_)
        pointwise <;> simp only [← Nat.add_assoc, Nat.reduceAdd]) (fun k => by
        rw [← hv]
        pointwise <;> simp only [← Nat.add_assoc, Nat.reduceAdd])
    obtain ⟨μ, h1, h2, h3⟩ := e
    refine ⟨μ, h1, h2, ?_⟩
    unfold strip0
    refine h3.trans (congrArg₂ (fun a b : EReal => a * b) rfl (congrArg silu ?_))
    pointwise

include hm hW hM in
/-- Strip 1 at query `q` and column `d` of head `h`: the quotient of the two sums, times the gate. -/
theorem strip1_apply (hS : ∀ k : Fin W, (∑ c : Fin 128, (X1 (ix3 0 ⟨k, by omega⟩ ⟨128 * h + c, by omega⟩) : EReal) * X0 (ix3 0 ⟨128 + q, by omega⟩ ⟨128 * h + c, by omega⟩)) + mask k = S k)
    (hv : ∀ k : Fin W, (X2 (ix3 0 ⟨64 * h + d, by omega⟩ ⟨k, by omega⟩) : EReal) = v k) :
    ∃ μ : EReal, (∀ k, k < W → S k ≤ μ) ∧ (∃ k, k < W ∧ S k = μ) ∧
      strip1 w n M X0 X1 X2 X3 (ix3 0 q ⟨64 * h + d, by omega⟩)
        = Ideal.div (∑ k : Fin W, v k * Ideal.exp2 (S k - μ)) (∑ k : Fin W, Ideal.exp2 (S k - μ)) * silu (X3 (ix3 0 ⟨128 + q, by omega⟩ ⟨64 * h + d, by omega⟩)) := by
  match h with
  | ⟨0, _⟩ =>
    have e := block_apply0 w fixed hm hW M (View.ld X0 (Rect.unit ![0, 128, 0] ![1, 128, 128] inb_S1x256x512_S1x128x128_0_128_0)) (View.ld X0 (Rect.unit ![0, 128, 128] ![1, 128, 128] inb_S1x256x512_S1x128x128_0_128_128))
      (View.ld X0 (Rect.unit ![0, 128, 256] ![1, 128, 128] inb_S1x256x512_S1x128x128_0_128_256)) (View.ld X0 (Rect.unit ![0, 128, 384] ![1, 128, 128] inb_S1x256x512_S1x128x128_0_128_384))
      (View.ld X1 (Rect.unit ![0, 0, 0] ![1, W, 256] n.k0)) (View.ld X1 (Rect.unit ![0, 0, 256] ![1, W, 256] n.k1))
      (View.ld X2 (Rect.unit ![0, 0, 0] ![1, 128, W] n.v0)) (View.ld X2 (Rect.unit ![0, 128, 0] ![1, 128, W] n.v1))
      (View.ld X3 (Rect.unit ![0, 128, 0] ![1, 128, 256] inb_S1x256x256_S1x128x256_0_128_0)) mask q d hM S v
      (fun k => by
        rw [← hS]
        refine congrArg (· + mask k) (Finset.sum_congr rfl fun c _ => ?_)
        pointwise) (fun k => by
        rw [← hv]
        pointwise)
    obtain ⟨μ, h1, h2, h3⟩ := e
    refine ⟨μ, h1, h2, ?_⟩
    unfold strip1
    simp only [Nat.mul_zero, Nat.zero_add]
    refine h3.trans (congrArg₂ (fun a b : EReal => a * b) rfl (congrArg silu ?_))
    pointwise
  | ⟨1, _⟩ =>
    have e := block_apply1 w fixed hm hW M (View.ld X0 (Rect.unit ![0, 128, 0] ![1, 128, 128] inb_S1x256x512_S1x128x128_0_128_0)) (View.ld X0 (Rect.unit ![0, 128, 128] ![1, 128, 128] inb_S1x256x512_S1x128x128_0_128_128))
      (View.ld X0 (Rect.unit ![0, 128, 256] ![1, 128, 128] inb_S1x256x512_S1x128x128_0_128_256)) (View.ld X0 (Rect.unit ![0, 128, 384] ![1, 128, 128] inb_S1x256x512_S1x128x128_0_128_384))
      (View.ld X1 (Rect.unit ![0, 0, 0] ![1, W, 256] n.k0)) (View.ld X1 (Rect.unit ![0, 0, 256] ![1, W, 256] n.k1))
      (View.ld X2 (Rect.unit ![0, 0, 0] ![1, 128, W] n.v0)) (View.ld X2 (Rect.unit ![0, 128, 0] ![1, 128, W] n.v1))
      (View.ld X3 (Rect.unit ![0, 128, 0] ![1, 128, 256] inb_S1x256x256_S1x128x256_0_128_0)) mask q d hM S v
      (fun k => by
        rw [← hS]
        refine congrArg (· + mask k) (Finset.sum_congr rfl fun c _ => ?_)
        pointwise) (fun k => by
        rw [← hv]
        pointwise)
    obtain ⟨μ, h1, h2, h3⟩ := e
    refine ⟨μ, h1, h2, ?_⟩
    unfold strip1
    refine h3.trans (congrArg₂ (fun a b : EReal => a * b) rfl (congrArg silu ?_))
    pointwise
  | ⟨2, _⟩ =>
    have e := block_apply2 w fixed hm hW M (View.ld X0 (Rect.unit ![0, 128, 0] ![1, 128, 128] inb_S1x256x512_S1x128x128_0_128_0)) (View.ld X0 (Rect.unit ![0, 128, 128] ![1, 128, 128] inb_S1x256x512_S1x128x128_0_128_128))
      (View.ld X0 (Rect.unit ![0, 128, 256] ![1, 128, 128] inb_S1x256x512_S1x128x128_0_128_256)) (View.ld X0 (Rect.unit ![0, 128, 384] ![1, 128, 128] inb_S1x256x512_S1x128x128_0_128_384))
      (View.ld X1 (Rect.unit ![0, 0, 0] ![1, W, 256] n.k0)) (View.ld X1 (Rect.unit ![0, 0, 256] ![1, W, 256] n.k1))
      (View.ld X2 (Rect.unit ![0, 0, 0] ![1, 128, W] n.v0)) (View.ld X2 (Rect.unit ![0, 128, 0] ![1, 128, W] n.v1))
      (View.ld X3 (Rect.unit ![0, 128, 0] ![1, 128, 256] inb_S1x256x256_S1x128x256_0_128_0)) mask q d hM S v
      (fun k => by
        rw [← hS]
        refine congrArg (· + mask k) (Finset.sum_congr rfl fun c _ => ?_)
        pointwise) (fun k => by
        rw [← hv]
        pointwise)
    obtain ⟨μ, h1, h2, h3⟩ := e
    refine ⟨μ, h1, h2, ?_⟩
    unfold strip1
    refine h3.trans (congrArg₂ (fun a b : EReal => a * b) rfl (congrArg silu ?_))
    pointwise
  | ⟨3, _⟩ =>
    have e := block_apply3 w fixed hm hW M (View.ld X0 (Rect.unit ![0, 128, 0] ![1, 128, 128] inb_S1x256x512_S1x128x128_0_128_0)) (View.ld X0 (Rect.unit ![0, 128, 128] ![1, 128, 128] inb_S1x256x512_S1x128x128_0_128_128))
      (View.ld X0 (Rect.unit ![0, 128, 256] ![1, 128, 128] inb_S1x256x512_S1x128x128_0_128_256)) (View.ld X0 (Rect.unit ![0, 128, 384] ![1, 128, 128] inb_S1x256x512_S1x128x128_0_128_384))
      (View.ld X1 (Rect.unit ![0, 0, 0] ![1, W, 256] n.k0)) (View.ld X1 (Rect.unit ![0, 0, 256] ![1, W, 256] n.k1))
      (View.ld X2 (Rect.unit ![0, 0, 0] ![1, 128, W] n.v0)) (View.ld X2 (Rect.unit ![0, 128, 0] ![1, 128, W] n.v1))
      (View.ld X3 (Rect.unit ![0, 128, 0] ![1, 128, 256] inb_S1x256x256_S1x128x256_0_128_0)) mask q d hM S v
      (fun k => by
        rw [← hS]
        refine congrArg (· + mask k) (Finset.sum_congr rfl fun c _ => ?_)
        pointwise <;> simp only [← Nat.add_assoc, Nat.reduceAdd]) (fun k => by
        rw [← hv]
        pointwise <;> simp only [← Nat.add_assoc, Nat.reduceAdd])
    obtain ⟨μ, h1, h2, h3⟩ := e
    refine ⟨μ, h1, h2, ?_⟩
    unfold strip1
    refine h3.trans (congrArg₂ (fun a b : EReal => a * b) rfl (congrArg silu ?_))
    pointwise

end Strip

end Cert.Attn
-- ==== Proof.Cases.lean ====
/-
What each grid point leaves in its output block, at each of the eight widths: the two strips of `Point`.
-/
module

public import proofs.«01_k».proof.Proof.Gen.KernelIdeal.Value
public import proofs.«01_k».proof.Proof.Point

set_option maxRecDepth 16384

@[expose] public section

namespace Cert.Attn

open Idealize.ShloMosaic Cert.KernelIdeal Cert.KernelIdeal.Gen Idealize.SL.Sem

variable (m : (ℓ : Loc nD τ sig) → Buf (Elt Ideal) ℓ)

theorem offA_a : ∀ t : Fin cfg0.N, t.val % 8 = 0 → k0_off1 (grid0.coords t) 0#32 0#32 = ![1, 0, 0] := by decide +kernel
theorem offA_b : ∀ t : Fin cfg0.N, t.val % 8 = 0 → k0_off1 (grid0.coords t) 0#32 1#32 = ![0, 0, 0] := by decide +kernel
theorem offA_c : ∀ t : Fin cfg0.N, t.val % 8 = 0 → k0_off1 (grid0.coords t) 1#32 0#32 = ![2, 0, 0] := by decide +kernel
theorem offA_d : ∀ t : Fin cfg0.N, t.val % 8 = 0 → k0_off1 (grid0.coords t) 1#32 1#32 = ![1, 0, 0] := by decide +kernel

/-- A point of width 256: its two strips. -/
theorem out_A (c : Dev nD) (t : Fin cfg0.N) (ht : t.val % 8 = 0) (y : S1x256x256.Idx) :
    outsAt0 m c t.val t.isLt y = stack (strip0 widths256 reach256 (fun s => addf s (tail fixed (tile1 (iblk m c 4 t)) (tile0 (iblk m c 4 t)))) (iblk m c 0 t) (iblk m c 1 t) (iblk m c 2 t) (iblk m c 3 t))
      (strip1 widths256 reach256 (fun s => addf s (tail fixed (tile2 (iblk m c 4 t)) (tile1 (iblk m c 4 t)))) (iblk m c 0 t) (iblk m c 1 t) (iblk m c 2 t) (iblk m c 3 t)) y := by
  have h0 : t.val % 8 = 0 := by omega
  have h1 : ¬ t.val % 8 = 1 := by omega
  have h2 : ¬ t.val % 8 = 2 := by omega
  have h3 : ¬ t.val % 8 = 3 := by omega
  have h4 : ¬ t.val % 8 = 4 := by omega
  have h5 : ¬ t.val % 8 = 5 := by omega
  have h6 : ¬ t.val % 8 = 6 := by omega
  have h7 : ¬ t.val % 8 = 7 := by omega
  rw [outsAt0_A m c t h0 h1 h2 h3 h4 h5 h6 h7]
  frame_out
  simp only [ld_tile0 _ (offA_b t ht), ld_tile1 _ (offA_a t ht), ld_tile1 _ (offA_d t ht), ld_tile2 _ (offA_c t ht)]
  rfl

theorem offB_a : ∀ t : Fin cfg0.N, t.val % 8 = 1 → k0_off2 (grid0.coords t) 0#32 2#32 = ![1, 0, 0] := by decide +kernel
theorem offB_b : ∀ t : Fin cfg0.N, t.val % 8 = 1 → k0_off2 (grid0.coords t) 0#32 3#32 = ![0, 0, 0] := by decide +kernel
theorem offB_c : ∀ t : Fin cfg0.N, t.val % 8 = 1 → k0_off2 (grid0.coords t) 1#32 2#32 = ![2, 0, 0] := by decide +kernel
theorem offB_d : ∀ t : Fin cfg0.N, t.val % 8 = 1 → k0_off2 (grid0.coords t) 1#32 3#32 = ![1, 0, 0] := by decide +kernel

/-- A point of width 512: its two strips. -/
theorem out_B (c : Dev nD) (t : Fin cfg0.N) (ht : t.val % 8 = 1) (y : S1x256x256.Idx) :
    outsAt0 m c t.val t.isLt y = stack (strip0 widths512 reach512 (fun s => addTail heads512 s (tail fixed (tile1 (iblk m c 4 t)) (tile0 (iblk m c 4 t)))) (iblk m c 0 t) (iblk m c 1 t) (iblk m c 2 t) (iblk m c 3 t))
      (strip1 widths512 reach512 (fun s => addTail heads512 s (tail fixed (tile2 (iblk m c 4 t)) (tile1 (iblk m c 4 t)))) (iblk m c 0 t) (iblk m c 1 t) (iblk m c 2 t) (iblk m c 3 t)) y := by
  have h0 : ¬ t.val % 8 = 0 := by omega
  have h1 : t.val % 8 = 1 := by omega
  have h2 : ¬ t.val % 8 = 2 := by omega
  have h3 : ¬ t.val % 8 = 3 := by omega
  have h4 : ¬ t.val % 8 = 4 := by omega
  have h5 : ¬ t.val % 8 = 5 := by omega
  have h6 : ¬ t.val % 8 = 6 := by omega
  have h7 : ¬ t.val % 8 = 7 := by omega
  rw [outsAt0_B m c t h0 h1 h2 h3 h4 h5 h6 h7]
  frame_out
  simp only [ld_tile0 _ (offB_b t ht), ld_tile1 _ (offB_a t ht), ld_tile1 _ (offB_d t ht), ld_tile2 _ (offB_c t ht)]
  rfl

theorem offC_a : ∀ t : Fin cfg0.N, t.val % 8 = 2 → k0_off3 (grid0.coords t) 0#32 4#32 = ![1, 0, 0] := by decide +kernel
theorem offC_b : ∀ t : Fin cfg0.N, t.val % 8 = 2 → k0_off3 (grid0.coords t) 0#32 5#32 = ![0, 0, 0] := by decide +kernel
theorem offC_c : ∀ t : Fin cfg0.N, t.val % 8 = 2 → k0_off3 (grid0.coords t) 1#32 4#32 = ![2, 0, 0] := by decide +kernel
theorem offC_d : ∀ t : Fin cfg0.N, t.val % 8 = 2 → k0_off3 (grid0.coords t) 1#32 5#32 = ![1, 0, 0] := by decide +kernel

/-- A point of width 768: its two strips. -/
theorem out_C (c : Dev nD) (t : Fin cfg0.N) (ht : t.val % 8 = 2) (y : S1x256x256.Idx) :
    outsAt0 m c t.val t.isLt y = stack (strip0 widths768 reach768 (fun s => addTail heads768 s (tail fixed (tile1 (iblk m c 4 t)) (tile0 (iblk m c 4 t)))) (iblk m c 0 t) (iblk m c 1 t) (iblk m c 2 t) (iblk m c 3 t))
      (strip1 widths768 reach768 (fun s => addTail heads768 s (tail fixed (tile2 (iblk m c 4 t)) (tile1 (iblk m c 4 t)))) (iblk m c 0 t) (iblk m c 1 t) (iblk m c 2 t) (iblk m c 3 t)) y := by
  have h0 : ¬ t.val % 8 = 0 := by omega
  have h1 : ¬ t.val % 8 = 1 := by omega
  have h2 : t.val % 8 = 2 := by omega
  have h3 : ¬ t.val % 8 = 3 := by omega
  have h4 : ¬ t.val % 8 = 4 := by omega
  have h5 : ¬ t.val % 8 = 5 := by omega
  have h6 : ¬ t.val % 8 = 6 := by omega
  have h7 : ¬ t.val % 8 = 7 := by omega
  rw [outsAt0_C m c t h0 h1 h2 h3 h4 h5 h6 h7]
  frame_out
  simp only [ld_tile0 _ (offC_b t ht), ld_tile1 _ (offC_a t ht), ld_tile1 _ (offC_d t ht), ld_tile2 _ (offC_c t ht)]
  rfl

theorem offD_a : ∀ t : Fin cfg0.N, t.val % 8 = 3 → k0_off4 (grid0.coords t) 0#32 6#32 = ![1, 0, 0] := by decide +kernel
theorem offD_b : ∀ t : Fin cfg0.N, t.val % 8 = 3 → k0_off4 (grid0.coords t) 0#32 7#32 = ![0, 0, 0] := by decide +kernel
theorem offD_c : ∀ t : Fin cfg0.N, t.val % 8 = 3 → k0_off4 (grid0.coords t) 1#32 6#32 = ![2, 0, 0] := by decide +kernel
theorem offD_d : ∀ t : Fin cfg0.N, t.val % 8 = 3 → k0_off4 (grid0.coords t) 1#32 7#32 = ![1, 0, 0] := by decide +kernel

/-- A point of width 1024: its two strips. -/
theorem out_D (c : Dev nD) (t : Fin cfg0.N) (ht : t.val % 8 = 3) (y : S1x256x256.Idx) :
    outsAt0 m c t.val t.isLt y = stack (strip0 widths1024 reach1024 (fun s => addTail heads1024 s (tail fixed (tile1 (iblk m c 4 t)) (tile0 (iblk m c 4 t)))) (iblk m c 0 t) (iblk m c 1 t) (iblk m c 2 t) (iblk m c 3 t))
      (strip1 widths1024 reach1024 (fun s => addTail heads1024 s (tail fixed (tile2 (iblk m c 4 t)) (tile1 (iblk m c 4 t)))) (iblk m c 0 t) (iblk m c 1 t) (iblk m c 2 t) (iblk m c 3 t)) y := by
  have h0 : ¬ t.val % 8 = 0 := by omega
  have h1 : ¬ t.val % 8 = 1 := by omega
  have h2 : ¬ t.val % 8 = 2 := by omega
  have h3 : t.val % 8 = 3 := by omega
  have h4 : ¬ t.val % 8 = 4 := by omega
  have h5 : ¬ t.val % 8 = 5 := by omega
  have h6 : ¬ t.val % 8 = 6 := by omega
  have h7 : ¬ t.val % 8 = 7 := by omega
  rw [outsAt0_D m c t h0 h1 h2 h3 h4 h5 h6 h7]
  frame_out
  simp only [ld_tile0 _ (offD_b t ht), ld_tile1 _ (offD_a t ht), ld_tile1 _ (offD_d t ht), ld_tile2 _ (offD_c t ht)]
  rfl

theorem offE_a : ∀ t : Fin cfg0.N, t.val % 8 = 4 → k0_off5 (grid0.coords t) 0#32 8#32 = ![1, 0, 0] := by decide +kernel
theorem offE_b : ∀ t : Fin cfg0.N, t.val % 8 = 4 → k0_off5 (grid0.coords t) 0#32 9#32 = ![0, 0, 0] := by decide +kernel
theorem offE_c : ∀ t : Fin cfg0.N, t.val % 8 = 4 → k0_off5 (grid0.coords t) 1#32 8#32 = ![2, 0, 0] := by decide +kernel
theorem offE_d : ∀ t : Fin cfg0.N, t.val % 8 = 4 → k0_off5 (grid0.coords t) 1#32 9#32 = ![1, 0, 0] := by decide +kernel

/-- A point of width 1280: its two strips. -/
theorem out_E (c : Dev nD) (t : Fin cfg0.N) (ht : t.val % 8 = 4) (y : S1x256x256.Idx) :
    outsAt0 m c t.val t.isLt y = stack (strip0 widths1280 reach1280 (fun s => addTail heads1280 s (tail fixed (tile1 (iblk m c 4 t)) (tile0 (iblk m c 4 t)))) (iblk m c 0 t) (iblk m c 1 t) (iblk m c 2 t) (iblk m c 3 t))
      (strip1 widths1280 reach1280 (fun s => addTail heads1280 s (tail fixed (tile2 (iblk m c 4 t)) (tile1 (iblk m c 4 t)))) (iblk m c 0 t) (iblk m c 1 t) (iblk m c 2 t) (iblk m c 3 t)) y := by
  have h0 : ¬ t.val % 8 = 0 := by omega
  have h1 : ¬ t.val % 8 = 1 := by omega
  have h2 : ¬ t.val % 8 = 2 := by omega
  have h3 : ¬ t.val % 8 = 3 := by omega
  have h4 : t.val % 8 = 4 := by omega
  have h5 : ¬ t.val % 8 = 5 := by omega
  have h6 : ¬ t.val % 8 = 6 := by omega
  have h7 : ¬ t.val % 8 = 7 := by omega
  rw [outsAt0_E m c t h0 h1 h2 h3 h4 h5 h6 h7]
  frame_out
  simp only [ld_tile0 _ (offE_b t ht), ld_tile1 _ (offE_a t ht), ld_tile1 _ (offE_d t ht), ld_tile2 _ (offE_c t ht)]
  rfl

theorem offF_a : ∀ t : Fin cfg0.N, t.val % 8 = 5 → k0_off6 (grid0.coords t) 0#32 10#32 = ![1, 0, 0] := by decide +kernel
theorem offF_b : ∀ t : Fin cfg0.N, t.val % 8 = 5 → k0_off6 (grid0.coords t) 0#32 11#32 = ![0, 0, 0] := by decide +kernel
theorem offF_c : ∀ t : Fin cfg0.N, t.val % 8 = 5 → k0_off6 (grid0.coords t) 1#32 10#32 = ![2, 0, 0] := by decide +kernel
theorem offF_d : ∀ t : Fin cfg0.N, t.val % 8 = 5 → k0_off6 (grid0.coords t) 1#32 11#32 = ![1, 0, 0] := by decide +kernel

/-- A point of width 1536: its two strips. -/
theorem out_F (c : Dev nD) (t : Fin cfg0.N) (ht : t.val % 8 = 5) (y : S1x256x256.Idx) :
    outsAt0 m c t.val t.isLt y = stack (strip0 widths1536 reach1536 (fun s => addTail heads1536 s (tail fixed (tile1 (iblk m c 4 t)) (tile0 (iblk m c 4 t)))) (iblk m c 0 t) (iblk m c 1 t) (iblk m c 2 t) (iblk m c 3 t))
      (strip1 widths1536 reach1536 (fun s => addTail heads1536 s (tail fixed (tile2 (iblk m c 4 t)) (tile1 (iblk m c 4 t)))) (iblk m c 0 t) (iblk m c 1 t) (iblk m c 2 t) (iblk m c 3 t)) y := by
  have h0 : ¬ t.val % 8 = 0 := by omega
  have h1 : ¬ t.val % 8 = 1 := by omega
  have h2 : ¬ t.val % 8 = 2 := by omega
  have h3 : ¬ t.val % 8 = 3 := by omega
  have h4 : ¬ t.val % 8 = 4 := by omega
  have h5 : t.val % 8 = 5 := by omega
  have h6 : ¬ t.val % 8 = 6 := by omega
  have h7 : ¬ t.val % 8 = 7 := by omega
  rw [outsAt0_F m c t h0 h1 h2 h3 h4 h5 h6 h7]
  frame_out
  simp only [ld_tile0 _ (offF_b t ht), ld_tile1 _ (offF_a t ht), ld_tile1 _ (offF_d t ht), ld_tile2 _ (offF_c t ht)]
  rfl

theorem offG_a : ∀ t : Fin cfg0.N, t.val % 8 = 6 → k0_off7 (grid0.coords t) 0#32 12#32 = ![1, 0, 0] := by decide +kernel
theorem offG_b : ∀ t : Fin cfg0.N, t.val % 8 = 6 → k0_off7 (grid0.coords t) 0#32 13#32 = ![0, 0, 0] := by decide +kernel
theorem offG_c : ∀ t : Fin cfg0.N, t.val % 8 = 6 → k0_off7 (grid0.coords t) 1#32 12#32 = ![2, 0, 0] := by decide +kernel
theorem offG_d : ∀ t : Fin cfg0.N, t.val % 8 = 6 → k0_off7 (grid0.coords t) 1#32 13#32 = ![1, 0, 0] := by decide +kernel

/-- A point of width 1792: its two strips. -/
theorem out_G (c : Dev nD) (t : Fin cfg0.N) (ht : t.val % 8 = 6) (y : S1x256x256.Idx) :
    outsAt0 m c t.val t.isLt y = stack (strip0 widths1792 reach1792 (fun s => addTail heads1792 s (tail fixed (tile1 (iblk m c 4 t)) (tile0 (iblk m c 4 t)))) (iblk m c 0 t) (iblk m c 1 t) (iblk m c 2 t) (iblk m c 3 t))
      (strip1 widths1792 reach1792 (fun s => addTail heads1792 s (tail fixed (tile2 (iblk m c 4 t)) (tile1 (iblk m c 4 t)))) (iblk m c 0 t) (iblk m c 1 t) (iblk m c 2 t) (iblk m c 3 t)) y := by
  have h0 : ¬ t.val % 8 = 0 := by omega
  have h1 : ¬ t.val % 8 = 1 := by omega
  have h2 : ¬ t.val % 8 = 2 := by omega
  have h3 : ¬ t.val % 8 = 3 := by omega
  have h4 : ¬ t.val % 8 = 4 := by omega
  have h5 : ¬ t.val % 8 = 5 := by omega
  have h6 : t.val % 8 = 6 := by omega
  have h7 : ¬ t.val % 8 = 7 := by omega
  rw [outsAt0_G m c t h0 h1 h2 h3 h4 h5 h6 h7]
  frame_out
  simp only [ld_tile0 _ (offG_b t ht), ld_tile1 _ (offG_a t ht), ld_tile1 _ (offG_d t ht), ld_tile2 _ (offG_c t ht)]
  rfl

theorem offH_a : ∀ t : Fin cfg0.N, t.val % 8 = 7 → k0_off8 (grid0.coords t) 0#32 14#32 = ![1, 0, 0] := by decide +kernel
theorem offH_b : ∀ t : Fin cfg0.N, t.val % 8 = 7 → k0_off8 (grid0.coords t) 0#32 15#32 = ![0, 0, 0] := by decide +kernel
theorem offH_c : ∀ t : Fin cfg0.N, t.val % 8 = 7 → k0_off8 (grid0.coords t) 1#32 14#32 = ![2, 0, 0] := by decide +kernel
theorem offH_d : ∀ t : Fin cfg0.N, t.val % 8 = 7 → k0_off8 (grid0.coords t) 1#32 15#32 = ![1, 0, 0] := by decide +kernel

/-- A point of width 2048: its two strips. -/
theorem out_H (c : Dev nD) (t : Fin cfg0.N) (ht : t.val % 8 = 7) (y : S1x256x256.Idx) :
    outsAt0 m c t.val t.isLt y = stack (strip0 widths2048 reach2048 (fun s => addTail heads2048 s (tail fixed (tile1 (iblk m c 4 t)) (tile0 (iblk m c 4 t)))) (iblk m c 0 t) (iblk m c 1 t) (iblk m c 2 t) (iblk m c 3 t))
      (strip1 widths2048 reach2048 (fun s => addTail heads2048 s (tail fixed (tile2 (iblk m c 4 t)) (tile1 (iblk m c 4 t)))) (iblk m c 0 t) (iblk m c 1 t) (iblk m c 2 t) (iblk m c 3 t)) y := by
  have h0 : ¬ t.val % 8 = 0 := by omega
  have h1 : ¬ t.val % 8 = 1 := by omega
  have h2 : ¬ t.val % 8 = 2 := by omega
  have h3 : ¬ t.val % 8 = 3 := by omega
  have h4 : ¬ t.val % 8 = 4 := by omega
  have h5 : ¬ t.val % 8 = 5 := by omega
  have h6 : ¬ t.val % 8 = 6 := by omega
  have h7 : t.val % 8 = 7 := by omega
  rw [outsAt0_H m c t h0 h1 h2 h3 h4 h5 h6 h7]
  frame_out
  simp only [ld_tile0 _ (offH_b t ht), ld_tile1 _ (offH_a t ht), ld_tile1 _ (offH_d t ht), ld_tile2 _ (offH_c t ht)]
  rfl

end Cert.Attn
-- ==== Proof.Softmax.lean ====
/-
Attention with a causal mask, over the extended reals: the value obtained from base-2 exponentials,
from the first `W` keys only, and divided once at the end, is the softmax-weighted sum over all keys.
-/
module

public import Idealize.ShloMosaic.PureOps.Ideal

@[expose] public section

namespace Cert.Attn

open Idealize.ShloMosaic

/-- A non-negative real distributes over a finite sum of extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The sum of real numbers, read in the extended reals. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by a real number that is not zero is multiplying by its inverse. -/
theorem div_coe (x : EReal) {c : ℝ} (hc : c ≠ 0) : Ideal.div x (c : EReal) = x * ((c⁻¹ : ℝ) : EReal) := by
  unfold Ideal.div
  rw [if_neg (by exact_mod_cast hc), EReal.coe_inv]

/-- The score of key `k` in base 2: the real score times `1 / log 2`, masked by adding `-∞` past the query `r`. -/
noncomputable def score2 (a : ℕ → ℝ) (r k : ℕ) : EReal :=
  ((a k * (Real.log 2)⁻¹ : ℝ) : EReal) + (if k ≤ r then (0 : EReal) else ⊥)

/-- The score of key `k`: the real score, replaced by `-∞` past the query `r`. -/
noncomputable def score (a : ℕ → ℝ) (r k : ℕ) : EReal := if k ≤ r then (a k : EReal) else ⊥

theorem score2_of_le {a : ℕ → ℝ} {r k : ℕ} (h : k ≤ r) : score2 a r k = ((a k * (Real.log 2)⁻¹ : ℝ) : EReal) := by
  rw [score2, if_pos h, add_zero]

theorem score2_of_lt {a : ℕ → ℝ} {r k : ℕ} (h : ¬ k ≤ r) : score2 a r k = ⊥ := by
  rw [score2, if_neg h, EReal.add_bot]

/-- A greatest value among the first `n` of a family whose members are real up to `r` and `-∞` past it is real. -/
theorem real_of_greatest {n r : ℕ} (hr : r < n) (s : ℕ → EReal) (b : ℕ → ℝ) {M : EReal}
    (hle : ∀ k, k ≤ r → s k = (b k : EReal)) (hgt : ∀ k, ¬ k ≤ r → s k = ⊥)
    (hM : ∀ k, k < n → s k ≤ M) (hM' : ∃ k, k < n ∧ s k = M) : ∃ μ : ℝ, M = (μ : EReal) := by
  obtain ⟨k, -, hk⟩ := hM'
  by_cases h : k ≤ r
  · exact ⟨b k, by rw [← hk, hle k h]⟩
  · have h0 := hM r hr
    rw [← hk, hgt k h, hle r le_rfl] at h0
    exact absurd h0 (by simp)

/-- The base-2 exponential of the masked base-2 score less a real `μ`. -/
theorem exp2_score2 (a : ℕ → ℝ) (r k : ℕ) (μ : ℝ) :
    Ideal.exp2 (score2 a r k - (μ : EReal))
      = ((if k ≤ r then Real.exp (a k - μ * Real.log 2) else 0 : ℝ) : EReal) := by
  by_cases h : k ≤ r
  · rw [score2_of_le h, if_pos h, ← EReal.coe_sub, Ideal.exp2_coe]
    have h2 : (0 : ℝ) < Real.log 2 := Real.log_pos (by norm_num)
    have e : Real.rpow 2 (a k * (Real.log 2)⁻¹ - μ) = Real.exp (a k - μ * Real.log 2) := by
      show (2 : ℝ) ^ (a k * (Real.log 2)⁻¹ - μ) = _
      rw [Real.rpow_def_of_pos (by norm_num)]
      congr 1
      field_simp
    rw [e]
  · rw [score2_of_lt h, if_neg h, EReal.bot_sub]
    simp

/-- The exponential of the masked score less a real `ν`. -/
theorem exp_score (a : ℕ → ℝ) (r k : ℕ) (ν : ℝ) :
    Ideal.exp (score a r k - (ν : EReal)) = ((if k ≤ r then Real.exp (a k - ν) else 0 : ℝ) : EReal) := by
  by_cases h : k ≤ r
  · rw [score, if_pos h, if_pos h, ← EReal.coe_sub]; rfl
  · rw [score, if_neg h, if_neg h, EReal.bot_sub]; simp

/-- A sum over the first `n` keys is a sum over a range of numbers. -/
theorem sum_fin {M : Type} [AddCommMonoid M] (n : ℕ) (f : ℕ → M) : ∑ k : Fin n, f k = ∑ k ∈ Finset.range n, f k :=
  Fin.sum_univ_eq_sum_range f n

/-- Terms that vanish from `W` on can be added to a sum over the first `W`. -/
theorem sum_extend {M : Type} [AddCommMonoid M] {W N : ℕ} (h : W ≤ N) (f : ℕ → M) (h0 : ∀ k, W ≤ k → f k = 0) :
    ∑ k : Fin W, f k = ∑ k : Fin N, f k := by
  rw [sum_fin, sum_fin]
  refine Finset.sum_subset (Finset.range_mono h) fun k _ hk => h0 k ?_
  simpa using hk

/-- The equation of the two ways to attend: base-2 exponentials of the scores of the first `W` keys, summed with the
    values and divided by their sum, against the softmax over all `N` keys summed with the values. `r` is the query. -/
theorem attend_eq {N W r : ℕ} (hr : r < W) (hW : W ≤ N) (a : ℕ → ℝ) (v : ℕ → EReal) {M m : EReal}
    (hM : ∀ k, k < W → score2 a r k ≤ M) (hM' : ∃ k, k < W ∧ score2 a r k = M)
    (hm : ∀ k, k < N → score a r k ≤ m) (hm' : ∃ k, k < N ∧ score a r k = m) :
    Ideal.div (∑ k : Fin W, v k * Ideal.exp2 (score2 a r k - M)) (∑ k : Fin W, Ideal.exp2 (score2 a r k - M))
      = ∑ k : Fin N, v k * Ideal.div (Ideal.exp (score a r k - m)) (∑ k : Fin N, Ideal.exp (score a r k - m)) := by
  obtain ⟨μ, rfl⟩ := real_of_greatest hr (score2 a r) _ (fun k h => score2_of_le h) (fun k h => score2_of_lt h) hM hM'
  obtain ⟨ν, rfl⟩ := real_of_greatest (lt_of_lt_of_le hr hW) (score a r) a (fun k h => by rw [score, if_pos h])
    (fun k h => by rw [score, if_neg h]) hm hm'
  set e : ℕ → ℝ := fun k => if k ≤ r then Real.exp (a k - μ * Real.log 2) else 0 with he
  set e' : ℕ → ℝ := fun k => if k ≤ r then Real.exp (a k - ν) else 0 with he'
  have h1 : ∀ k, Ideal.exp2 (score2 a r k - (μ : EReal)) = (e k : EReal) := fun k => exp2_score2 a r k μ
  have h2 : ∀ k, Ideal.exp (score a r k - (ν : EReal)) = (e' k : EReal) := fun k => exp_score a r k ν
  simp only [h1, h2]
  rw [← coe_sum, ← coe_sum]
  have hz : ∀ k, W ≤ k → e k = 0 := fun k hk => by rw [he]; exact if_neg (by omega)
  rw [sum_extend hW e hz]
  set t : ℝ := Real.exp (ν - μ * Real.log 2) with ht
  have hee : ∀ k, e k = t * e' k := fun k => by
    simp only [he, he', ht]
    split_ifs
    · rw [← Real.exp_add]; congr 1; ring
    · simp
  have hL' : 0 < ∑ k : Fin N, e' k := by
    refine Finset.sum_pos' (fun k _ => ?_) ⟨⟨r, lt_of_lt_of_le hr hW⟩, Finset.mem_univ _, ?_⟩
    · simp only [he']; split_ifs; exacts [(Real.exp_pos _).le, le_rfl]
    · simp only [he', le_refl, if_true]; exact Real.exp_pos _
  have hL : ∑ k : Fin N, e k = t * ∑ k : Fin N, e' k := by
    rw [Finset.mul_sum]; exact Finset.sum_congr rfl fun k _ => hee k
  have ht0 : 0 < t := Real.exp_pos _
  have hL0 : 0 < ∑ k : Fin N, e k := by rw [hL]; exact mul_pos ht0 hL'
  rw [div_coe _ hL0.ne', sum_mul_coe _ _ (inv_nonneg.2 hL0.le)]
  rw [sum_extend hW (fun k => v k * (e k : EReal) * _) fun k hk => by rw [hz k hk]; simp]
  refine Finset.sum_congr rfl fun k _ => ?_
  rw [div_coe _ hL'.ne', mul_assoc, ← EReal.coe_mul, ← EReal.coe_mul]
  congr 2
  rw [hL, hee]
  field_simp

end Cert.Attn
-- ==== Proof.Host.lean ====
/-
What the kernel is given: the packed queries, the packed keys, the transposed values and the mask tiles, as functions of
the arguments, each read at an index.
-/
module

public import proofs.«01_k».proof.Proof.Gen.KernelIdeal.Value
public import Idealize.ShloMosaic.Lib.Claim
public import Idealize.ShloMosaic.Lib.Pointwise
public import Idealize.ShloMosaic.Lib.Pipeline.ValueKit
public import Idealize.ShloMosaic.Lib.WordCmp
public import proofs.«01_k».proof.Proof.Softmax

set_option maxRecDepth 16384

@[expose] public section

namespace Cert.Attn

open Idealize.ShloMosaic Cert.KernelIdeal Cert.KernelIdeal.Gen Idealize.SL.Sem

variable (m : (ℓ : Loc nD τ sig) → Buf (Elt Ideal) ℓ)

/-- The factor of the queries, `1 / (√96 · log 2)`. -/
noncomputable def scale : FVec Ideal S_ .f32 :=
  Host.divf (constant S_ .f32 0x3F800000#32)
    (mulf (Host.sqrt (constant S_ .f32 0x42C00000#32)) (Host.log (constant S_ .f32 0x40000000#32)))

/-- The 32 zero lanes of every head. -/
noncomputable def zeros : FVec Ideal S8x2048x4x32 .f32 :=
  broadcastInDim S8x2048x4x32 ![] bcast_S_S8x2048x4x32 (constant (F := Ideal) S_ .f32 0x00000000#32)

/-- The packed queries: 64 lanes, 32 lanes and 32 zeros per head, times the factor. -/
noncomputable def packQ (qn : FVec Ideal S8x2048x4x64 .f32) (qr : FVec Ideal S8x2048x4x32 .f32) : FVec Ideal S8x2048x512 .bf16 :=
  truncf .bf16 (mulf (shapeCast S8x2048x512
      (concatenate S8x2048x4x128 3 [⟨S8x2048x4x64, qn⟩, ⟨S8x2048x4x32, qr⟩, ⟨S8x2048x4x32, zeros⟩]
        concatenates_S8x2048x4x64_S8x2048x4x32_S8x2048x4x32_S8x2048x4x128_d3) shapeCasts_S8x2048x4x128_S8x2048x512)
    (broadcastInDim S8x2048x512 ![] bcast_S_S8x2048x512 scale)) bitsLt_bf16_f32

/-- The packed keys: 64 lanes of the head, 32 lanes shared by the heads, and 32 zeros. -/
noncomputable def packK (kn : FVec Ideal S8x2048x4x64 .f32) (kr : FVec Ideal S8x2048x32 .f32) : FVec Ideal S8x2048x512 .bf16 :=
  truncf .bf16 (shapeCast S8x2048x512
      (concatenate S8x2048x4x128 3 [⟨S8x2048x4x64, kn⟩,
          ⟨S8x2048x4x32, broadcastInDim S8x2048x4x32 ![0, 1, 2, 3] bcast_S8x2048x1x32_S8x2048x4x32_0_1_2_3
            (broadcastInDim S8x2048x1x32 ![0, 1, 3] bcast_S8x2048x32_S8x2048x1x32_0_1_3 kr)⟩, ⟨S8x2048x4x32, zeros⟩]
        concatenates_S8x2048x4x64_S8x2048x4x32_S8x2048x4x32_S8x2048x4x128_d3) shapeCasts_S8x2048x4x128_S8x2048x512) bitsLt_bf16_f32

/-- The values, transposed. -/
noncomputable def packV (v : FVec Ideal S8x2048x4x64 .f32) : FVec Ideal S8x256x2048 .bf16 :=
  truncf .bf16 (transpose S8x256x2048 [0, 2, 1] (shapeCast S8x2048x256 v shapeCasts_S8x2048x4x64_S8x2048x256)
    transposes_S8x2048x256_S8x256x2048_0_2_1) bitsLt_bf16_f32

/-- The triangular tile: 0 where the key's row is at most the query's column, `-∞` elsewhere. -/
noncomputable def triangle : FVec Ideal S128x128 .f32 :=
  select (cmpi .sle
      (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0))))
    (broadcastInDim S128x128 ![] bcast_S_S128x128 (constant (F := Ideal) S_ .f32 0x00000000#32))
    (broadcastInDim S128x128 ![] bcast_S_S128x128 (constant (F := Ideal) S_ .f32 0xFF800000#32))

/-- The three mask tiles: all `-∞`, the triangle, all 0. -/
noncomputable def masks : FVec Ideal S3x128x128 .f32 :=
  concatenate S3x128x128 0
    [⟨S1x128x128, broadcastInDim S1x128x128 ![1, 2] bcast_S128x128_S1x128x128_1_2
        (broadcastInDim S128x128 ![] bcast_S_S128x128 (constant (F := Ideal) S_ .f32 0xFF800000#32))⟩,
      ⟨S1x128x128, broadcastInDim S1x128x128 ![1, 2] bcast_S128x128_S1x128x128_1_2 triangle⟩,
      ⟨S1x128x128, broadcastInDim S1x128x128 ![1, 2] bcast_S128x128_S1x128x128_1_2
        (broadcastInDim S128x128 ![] bcast_S_S128x128 (constant (F := Ideal) S_ .f32 0x00000000#32))⟩]
    concatenates_S1x128x128_S1x128x128_S1x128x128_S3x128x128_d0

/-- The kernel's first operand is the packed queries. -/
theorem v9_eq (c : Dev nD) : V m c main_v9 = packQ (m ((c.tc : Thread nD τ).loc main_arg0)) (m ((c.tc : Thread nD τ).loc main_arg1)) := by
  unfold V
  simp only [hostOps0, hostOps0_1, hostOps0_2, List.flatten_cons, List.flatten_nil, List.cons_append, List.nil_append, List.append_nil]
  after_results
  rfl

/-- The second is the packed keys. -/
theorem v14_eq (c : Dev nD) : V m c main_v14 = packK (m ((c.tc : Thread nD τ).loc main_arg2)) (m ((c.tc : Thread nD τ).loc main_arg3)) := by
  unfold V
  simp only [hostOps0, hostOps0_1, hostOps0_2, List.flatten_cons, List.flatten_nil, List.cons_append, List.nil_append, List.append_nil]
  after_results
  rfl

/-- The third is the transposed values. -/
theorem v17_eq (c : Dev nD) : V m c main_v17 = packV (m ((c.tc : Thread nD τ).loc main_arg4)) := by
  unfold V
  simp only [hostOps0, hostOps0_1, hostOps0_2, List.flatten_cons, List.flatten_nil, List.cons_append, List.nil_append, List.append_nil]
  after_results
  rfl

/-- The fifth is the mask tiles. -/
theorem v33_eq (c : Dev nD) : V m c main_v33 = masks := by
  unfold V
  simp only [hostOps0, hostOps0_1, hostOps0_2, List.flatten_cons, List.flatten_nil, List.cons_append, List.nil_append, List.append_nil,
    StableHlo.TRef.unary, StableHlo.TRef.ternary, StableHlo.TRef.of]
  after_results
  rfl

/-! ## The operands at an index -/

/-- 96.0 and 2.0 are the numbers they spell. -/
theorem bits96 : Ideal.ofBits .f32 0x42C00000#32 = ((96 : ℝ) : EReal) := by
  simp [Ideal.ofBits, Ideal.ieee, -EReal.coe_mul]; norm_num
theorem bits2 : Ideal.ofBits .f32 0x40000000#32 = ((2 : ℝ) : EReal) := by
  simp [Ideal.ofBits, Ideal.ieee, -EReal.coe_mul]; norm_num

/-- The pattern of `-∞`. -/
theorem bits_bot : Ideal.ofBits .f32 0xFF800000#32 = ⊥ := by
  simp [Ideal.ofBits, Ideal.ieee]

/-- The factor is the real number it spells. -/
theorem scale_eq (j : S_.Idx) : scale j = (((Real.sqrt 96)⁻¹ * (Real.log 2)⁻¹ : ℝ) : EReal) := by
  show Ideal.div (Ideal.ofBits .f32 0x3F800000#32) (Ideal.sqrt (Ideal.ofBits .f32 0x42C00000#32) * Ideal.log (Ideal.ofBits .f32 0x40000000#32)) = _
  rw [Ideal.ofBits_one_f32, bits96, bits2, Ideal.sqrt_coe, Ideal.log_coe, if_neg (by norm_num), if_neg (by norm_num), ← EReal.coe_mul,
    div_coe _ (mul_ne_zero (Real.sqrt_ne_zero'.2 (by norm_num)) (Real.log_pos (by norm_num)).ne'), one_mul, mul_inv]

theorem merge128_apply (x : FVec Ideal S8x2048x4x128 .f32) (b : Fin 8) (r : Fin 2048) (h : Fin 4) (j : Fin 128) :
    shapeCast S8x2048x512 x shapeCasts_S8x2048x4x128_S8x2048x512 (ix3 b r ⟨128 * h + j, by omega⟩) = x (ix4 b r h j) := by
  pointwise

theorem lanes_apply (x : FVec Ideal S8x2048x4x64 .f32) (y z : FVec Ideal S8x2048x4x32 .f32) (b : Fin 8) (r : Fin 2048) (h : Fin 4) (j : Fin 128) :
    concatenate S8x2048x4x128 3 [⟨S8x2048x4x64, x⟩, ⟨S8x2048x4x32, y⟩, ⟨S8x2048x4x32, z⟩]
        concatenates_S8x2048x4x64_S8x2048x4x32_S8x2048x4x32_S8x2048x4x128_d3 (ix4 b r h j)
      = if h1 : j.val < 64 then x (ix4 b r h ⟨j, h1⟩)
        else if h2 : j.val - 64 < 32 then y (ix4 b r h ⟨j - 64, h2⟩) else z (ix4 b r h ⟨j - 64 - 32, by omega⟩) := by
  pointwise

theorem zeros_apply (i : S8x2048x4x32.Idx) : zeros i = 0 := Ideal.ofBits_zero_f32

theorem shared_apply (kr : FVec Ideal S8x2048x32 .f32) (b : Fin 8) (r : Fin 2048) (h : Fin 4) (j : Fin 32) :
    broadcastInDim S8x2048x4x32 ![0, 1, 2, 3] bcast_S8x2048x1x32_S8x2048x4x32_0_1_2_3
      (broadcastInDim S8x2048x1x32 ![0, 1, 3] bcast_S8x2048x32_S8x2048x1x32_0_1_3 kr) (ix4 b r h j) = kr (ix3 b r j) := by
  pointwise

/-- A packed query lane. -/
theorem packQ_apply (qn : FVec Ideal S8x2048x4x64 .f32) (qr : FVec Ideal S8x2048x4x32 .f32) (b : Fin 8) (r : Fin 2048) (h : Fin 4) (j : Fin 128) :
    packQ qn qr (ix3 b r ⟨128 * h + j, by omega⟩)
      = ((if h1 : j.val < 64 then qn (ix4 b r h ⟨j, h1⟩)
        else if h2 : j.val - 64 < 32 then qr (ix4 b r h ⟨j - 64, h2⟩) else (0 : EReal)) * (((Real.sqrt 96)⁻¹ * (Real.log 2)⁻¹ : ℝ) : EReal) : EReal) := by
  unfold packQ
  rw [truncf_apply, mulf_apply, merge128_apply, lanes_apply]
  refine congrArg₂ (fun a b : EReal => a * b) ?_ (scale_eq _)
  simp only [zeros_apply]

/-- A packed key lane. -/
theorem packK_apply (kn : FVec Ideal S8x2048x4x64 .f32) (kr : FVec Ideal S8x2048x32 .f32) (b : Fin 8) (r : Fin 2048) (h : Fin 4) (j : Fin 128) :
    packK kn kr (ix3 b r ⟨128 * h + j, by omega⟩)
      = (if h1 : j.val < 64 then kn (ix4 b r h ⟨j, h1⟩)
        else if h2 : j.val - 64 < 32 then kr (ix3 b r ⟨j - 64, h2⟩) else (0 : EReal) : EReal) := by
  unfold packK
  rw [truncf_apply, merge128_apply, lanes_apply]
  simp only [zeros_apply]
  split_ifs
  · rfl
  · exact shared_apply kr b r h _
  · rfl

/-- A transposed value. -/
theorem packV_apply (v : FVec Ideal S8x2048x4x64 .f32) (b : Fin 8) (k : Fin 2048) (h : Fin 4) (d : Fin 64) :
    packV v (ix3 b ⟨64 * h + d, by omega⟩ k) = v (ix4 b k h d) := by
  pointwise [packV]

/-- The triangle at an index. -/
theorem triangle_apply (k q : Fin 128) : triangle (ix2 k q) = (if k.val ≤ q.val then (0 : EReal) else ⊥ : EReal) := by
  pointwise [triangle]
  rw [bits_bot]
  word_cmp

theorem masks0 (k q : Fin 128) : masks (ix3 0 k q) = (⊥ : EReal) := by
  pointwise [masks]
  exact bits_bot
theorem masks1 (k q : Fin 128) : masks (ix3 1 k q) = (if k.val ≤ q.val then (0 : EReal) else ⊥ : EReal) := by
  rw [← triangle_apply]
  pointwise [masks]
theorem masks2 (k q : Fin 128) : masks (ix3 2 k q) = (0 : EReal) := by
  pointwise [masks]

end Cert.Attn
-- ==== Proof.Score.lean ====
/-
The score of a query and a key as a real number, and the packed dot product of 128 lanes that computes it.
-/
module

public import proofs.«01_k».proof.Proof.Softmax
public import Idealize.ShloMosaic.Lib.Pointwise

set_option maxRecDepth 16384

@[expose] public section

namespace Cert.Attn

open Idealize.ShloMosaic

/-- Every element is a real number. -/
def Finite {s : Shape} (x : s.Idx → EReal) : Prop := ∀ i, x i = ((x i).toReal : EReal)

/-- The dot product of a query's and a key's 64 lanes and of their other 32 lanes, over `√96`. -/
noncomputable def lanesScore (x y : Fin 64 → EReal) (x' y' : Fin 32 → EReal) : ℝ :=
  (∑ c, (x c).toReal * (y c).toReal + ∑ c, (x' c).toReal * (y' c).toReal) * (Real.sqrt 96)⁻¹

/-- The score of query `r` and key `k` of a head. -/
noncomputable def keyScore (qn : FVec Ideal ⟨4, ![8, 2048, 4, 64]⟩ .f32) (qr : FVec Ideal ⟨4, ![8, 2048, 4, 32]⟩ .f32)
    (kn : FVec Ideal ⟨4, ![8, 2048, 4, 64]⟩ .f32) (kr : FVec Ideal ⟨3, ![8, 2048, 32]⟩ .f32)
    (b : Fin 8) (h : Fin 4) (r : Fin 2048) (k : ℕ) : ℝ :=
  if hk : k < 2048 then lanesScore (fun c => qn (ix4 b r h c)) (fun c => kn (ix4 b ⟨k, hk⟩ h c)) (fun c => qr (ix4 b r h c))
    (fun c => kr (ix3 b ⟨k, hk⟩ c)) else 0

/-- A head's value of key `k`. -/
noncomputable def keyValue (v : FVec Ideal ⟨4, ![8, 2048, 4, 64]⟩ .f32) (b : Fin 8) (h : Fin 4) (d : Fin 64) (k : ℕ) : EReal :=
  if hk : k < 2048 then v (ix4 b ⟨k, hk⟩ h d) else 0

/-- A dot product of real lanes. -/
theorem dot_real {n : ℕ} (x y : Fin n → EReal) (hx : ∀ c, x c = ((x c).toReal : EReal)) (hy : ∀ c, y c = ((y c).toReal : EReal)) :
    ∑ c, x c * y c = ((∑ c, (x c).toReal * (y c).toReal : ℝ) : EReal) := by
  rw [coe_sum]
  refine Finset.sum_congr rfl fun c _ => ?_
  rw [EReal.coe_mul, ← hx, ← hy]

/-- A sum over 128 lanes: 64, 32, and 32 that vanish. -/
theorem sum_lanes (F : Fin 128 → ℝ) (f : Fin 64 → ℝ) (g : Fin 32 → ℝ) (hf : ∀ c : Fin 64, F ⟨c, by omega⟩ = f c)
    (hg : ∀ c : Fin 32, F ⟨64 + c, by omega⟩ = g c) (h0 : ∀ c : Fin 32, F ⟨96 + c, by omega⟩ = 0) :
    ∑ c, F c = ∑ c, f c + ∑ c, g c := by
  have e1 : ∑ c : Fin 128, F c = ∑ c : Fin (64 + 64), F (Fin.cast rfl c) := rfl
  rw [e1, Fin.sum_univ_add]
  have e2 : ∑ c : Fin 64, F (Fin.cast rfl (Fin.natAdd 64 c)) = ∑ c : Fin (32 + 32), F (Fin.cast rfl (Fin.natAdd 64 (Fin.cast rfl c))) := rfl
  rw [e2, Fin.sum_univ_add]
  rw [← add_assoc]
  have e3 : ∑ c : Fin 32, F (Fin.cast rfl (Fin.natAdd 64 (Fin.cast rfl (Fin.natAdd 32 c)))) = 0 := Finset.sum_eq_zero fun c _ => by
    rw [← h0 c]; congr 1; ext; simp; omega
  rw [e3, add_zero]
  refine congrArg₂ (· + ·) (Finset.sum_congr rfl fun c _ => hf c) (Finset.sum_congr rfl fun c _ => hg c)

/-- The dot product of a packed key and a packed, scaled query is the score over `log 2`. -/
theorem packed_dot (x y : Fin 64 → EReal) (x' y' : Fin 32 → EReal) (hx : ∀ c, x c = ((x c).toReal : EReal)) (hy : ∀ c, y c = ((y c).toReal : EReal))
    (hx' : ∀ c, x' c = ((x' c).toReal : EReal)) (hy' : ∀ c, y' c = ((y' c).toReal : EReal)) :
    (∑ j : Fin 128, (if h1 : j.val < 64 then y ⟨j, h1⟩ else if h2 : j.val - 64 < 32 then y' ⟨j - 64, h2⟩ else 0)
        * ((if h1 : j.val < 64 then x ⟨j, h1⟩ else if h2 : j.val - 64 < 32 then x' ⟨j - 64, h2⟩ else 0)
          * (((Real.sqrt 96)⁻¹ * (Real.log 2)⁻¹ : ℝ) : EReal)) : EReal)
      = ((lanesScore x y x' y' * (Real.log 2)⁻¹ : ℝ) : EReal) := by
  obtain ⟨s, hs⟩ : ∃ s : ℝ, s = (Real.sqrt 96)⁻¹ * (Real.log 2)⁻¹ := ⟨_, rfl⟩
  rw [← hs]
  have e : ∀ j : Fin 128, (if h1 : j.val < 64 then y ⟨j, h1⟩ else if h2 : j.val - 64 < 32 then y' ⟨j - 64, h2⟩ else 0)
        * ((if h1 : j.val < 64 then x ⟨j, h1⟩ else if h2 : j.val - 64 < 32 then x' ⟨j - 64, h2⟩ else 0) * (s : EReal))
      = (((if h1 : j.val < 64 then (x ⟨j, h1⟩).toReal * (y ⟨j, h1⟩).toReal * s else if h2 : j.val - 64 < 32 then (x' ⟨j - 64, h2⟩).toReal * (y' ⟨j - 64, h2⟩).toReal * s else 0 : ℝ)) : EReal) := by
    intro j
    split_ifs with h1 h2
    · rw [EReal.coe_mul, EReal.coe_mul, ← hx, ← hy, ← mul_assoc, mul_comm (y _)]
    · rw [EReal.coe_mul, EReal.coe_mul, ← hx', ← hy', ← mul_assoc, mul_comm (y' _)]
    · simp
  rw [Finset.sum_congr rfl fun j _ => e j, ← coe_sum]
  rw [sum_lanes _ (fun c => (x c).toReal * (y c).toReal * s) (fun c => (x' c).toReal * (y' c).toReal * s) (fun c => by simp) (fun c => by simp)
    (fun c => by rw [dif_neg (by show ¬ 96 + c.val < 64; omega), dif_neg (by show ¬ 96 + c.val - 64 < 32; omega)])]
  rw [← Finset.sum_mul, ← Finset.sum_mul, ← add_mul, lanesScore, hs, mul_assoc]

/-- What the softmax over all keys gives at a query `r` and column `d` of head `h`, with `ν` the greatest score. -/
noncomputable def attended (qn : FVec Ideal ⟨4, ![8, 2048, 4, 64]⟩ .f32) (qr : FVec Ideal ⟨4, ![8, 2048, 4, 32]⟩ .f32) (kn : FVec Ideal ⟨4, ![8, 2048, 4, 64]⟩ .f32)
    (kr : FVec Ideal ⟨3, ![8, 2048, 32]⟩ .f32) (v : FVec Ideal ⟨4, ![8, 2048, 4, 64]⟩ .f32) (b : Fin 8) (r : Fin 2048) (h : Fin 4) (d : Fin 64) (ν : EReal) : EReal :=
  ∑ k : Fin 2048, keyValue v b h d k * Ideal.div (Ideal.exp (score (keyScore qn qr kn kr b h r) r k - ν))
    (∑ k : Fin 2048, Ideal.exp (score (keyScore qn qr kn kr b h r) r k - ν))

end Cert.Attn
-- ==== Proof.Strip.lean ====
/-
One strip of a grid point against the softmax over all keys: the mask of the last 256 keys, the packed scores, and the
equation of `attend_eq`.
-/
module

public import proofs.«01_k».proof.Proof.Point
public import proofs.«01_k».proof.Proof.Host
public import proofs.«01_k».proof.Proof.Score

set_option maxRecDepth 16384

@[expose] public section

namespace Cert.Attn

open Idealize.ShloMosaic Cert.KernelIdeal Cert.KernelIdeal.Gen

/-! ## The mask of the last 256 keys -/

theorem tile0_apply (X4 : Vec Ideal S3x128x128 .f32) (k q : Fin 128) : tile0 X4 (ix3 0 k q) = X4 (ix3 0 k q) := by
  unfold tile0
  pointwise
theorem tile1_apply (X4 : Vec Ideal S3x128x128 .f32) (k q : Fin 128) : tile1 X4 (ix3 0 k q) = X4 (ix3 1 k q) := by
  unfold tile1
  pointwise
theorem tile2_apply (X4 : Vec Ideal S3x128x128 .f32) (k q : Fin 128) : tile2 X4 (ix3 0 k q) = X4 (ix3 2 k q) := by
  unfold tile2
  pointwise

/-- Strip 0: key `r` of the last 256 is seen by query `q` when `r ≤ q`. -/
theorem tail_strip0 (X4 : Vec Ideal S3x128x128 .f32) (hX : ∀ n k q, X4 (ix3 n k q) = masks (ix3 n k q)) (r : Fin 256) (q : Fin 128) :
    tail fixed (tile1 X4) (tile0 X4) (ix2 r q) = (if r.val ≤ q.val then (0 : EReal) else ⊥ : EReal) := by
  rw [tail_apply]
  by_cases h : r.val < 128
  · rw [dif_pos h, tile1_apply, hX, masks1]
  · rw [dif_neg h, tile0_apply, hX, masks0, if_neg (by omega)]

/-- Strip 1: key `r` of the last 256 is seen by query `128 + q` when `r ≤ 128 + q`. -/
theorem tail_strip1 (X4 : Vec Ideal S3x128x128 .f32) (hX : ∀ n k q, X4 (ix3 n k q) = masks (ix3 n k q)) (r : Fin 256) (q : Fin 128) :
    tail fixed (tile2 X4) (tile1 X4) (ix2 r q) = (if r.val ≤ 128 + q.val then (0 : EReal) else ⊥ : EReal) := by
  rw [tail_apply]
  by_cases h : r.val < 128
  · rw [dif_pos h, tile2_apply, hX, masks2, if_pos (by omega)]
  · rw [dif_neg h, tile1_apply, hX, masks1]
    exact if_congr (by show r.val - 128 ≤ q.val ↔ _; omega) rfl rfl

/-- Adding a mask to the last 256 rows masks all of them. -/
theorem addTail_mask {W H : ℕ} (h : Heads W H) (hW : W = H + 256) (t : FVec Ideal S256x128 .f32) (e : ℕ) (q : Fin 128)
    (ht : ∀ r : Fin 256, t (ix2 r q) = (if r.val ≤ e then (0 : EReal) else ⊥ : EReal)) (s : FVec Ideal (rows W) .f32) (r : Fin W) :
    addTail h s t (ix2 r q) = (s (ix2 r q) + (if r.val ≤ H + e then (0 : EReal) else ⊥) : EReal) := by
  rw [addTail_apply h hW]
  by_cases h1 : r.val < H
  · rw [dif_pos h1, if_pos (by omega)]
  · rw [dif_neg h1, ht]
    exact congrArg (fun y : EReal => (s (ix2 r q) + y : EReal)) (if_congr (by show r.val - H ≤ e ↔ _; omega) rfl rfl)

/-- Adding a mask to all 256 rows, where there are no more. -/
theorem add_mask (t : FVec Ideal S256x128 .f32) (e : ℕ) (q : Fin 128)
    (ht : ∀ r : Fin 256, t (ix2 r q) = (if r.val ≤ e then (0 : EReal) else ⊥ : EReal)) (s : FVec Ideal (rows 256) .f32) (r : Fin 256) :
    addf s t (ix2 r q) = (s (ix2 r q) + (if r.val ≤ e then (0 : EReal) else ⊥) : EReal) :=
  congrArg (fun y : EReal => (s (ix2 r q) + y : EReal)) (ht r)

/-! ## A strip -/

section

variable (qn : FVec Ideal S8x2048x4x64 .f32) (qr : FVec Ideal S8x2048x4x32 .f32) (kn : FVec Ideal S8x2048x4x64 .f32)
  (kr : FVec Ideal S8x2048x32 .f32) (v : FVec Ideal S8x2048x4x64 .f32) (hqn : Finite qn) (hqr : Finite qr) (hkn : Finite kn) (hkr : Finite kr)

include hqn hqr hkn hkr in
/-- A packed score is the real score over `log 2`. -/
theorem packed_score (b : Fin 8) (r k : Fin 2048) (h : Fin 4) :
    (∑ c : Fin 128, (packK kn kr (ix3 b k ⟨128 * h + c, by omega⟩) : EReal) * packQ qn qr (ix3 b r ⟨128 * h + c, by omega⟩))
      = ((keyScore qn qr kn kr b h r k * (Real.log 2)⁻¹ : ℝ) : EReal) := by
  rw [keyScore, dif_pos k.isLt, ← packed_dot _ _ _ _ (fun c => hqn _) (fun c => hkn _) (fun c => hqr _) (fun c => hkr _)]
  refine Finset.sum_congr rfl fun c _ => ?_
  rw [packK_apply, packQ_apply]

variable {W m : ℕ} (w : Widths W m) (n : Reach W) (hm : W = 64 * m) (hW : 0 < m) (hW' : W ≤ 2048) (M : FVec Ideal (rows W) .f32 → FVec Ideal (rows W) .f32)
  (X0 : Vec Ideal S1x256x512 .bf16) (X1 : Vec Ideal S1x2048x512 .bf16) (X2 : Vec Ideal S1x256x2048 .bf16) (X3 : Vec Ideal S1x256x256 .f32)
  (q : Fin 128) (h : Fin 4) (d : Fin 64) (b : Fin 8) (r : Fin 2048) (hr : r.val < W)
  (hM : ∀ s (k : Fin W), M s (ix2 k q) = (s (ix2 k q) + (if k.val ≤ r.val then (0 : EReal) else ⊥) : EReal))
  (hX1 : ∀ k j, (X1 (ix3 0 k j) : EReal) = packK kn kr (ix3 b k j)) (hX2 : ∀ j k, (X2 (ix3 0 j k) : EReal) = packV v (ix3 b j k))
  (ν : EReal) (hν : ∀ k, k < 2048 → score (keyScore qn qr kn kr b h r) r k ≤ ν) (hν' : ∃ k, k < 2048 ∧ score (keyScore qn qr kn kr b h r) r k = ν)

include hqn hqr hkn hkr hm hW hW' hr hM hX1 hX2 hν hν' in
theorem strip0_eq (hX0 : ∀ j, (X0 (ix3 0 ⟨q, by omega⟩ j) : EReal) = packQ qn qr (ix3 b r j)) :
    strip0 w n M X0 X1 X2 X3 (ix3 0 q ⟨64 * h + d, by omega⟩)
      = attended qn qr kn kr v b r h d ν * silu (X3 (ix3 0 ⟨q, by omega⟩ ⟨64 * h + d, by omega⟩)) := by
  obtain ⟨μ, h1, h2, e⟩ := strip0_apply w n hm hW hW' M X0 X1 X2 X3 (fun k => if k ≤ r.val then (0 : EReal) else ⊥) q h d hM
    (score2 (keyScore qn qr kn kr b h r) r) (keyValue v b h d)
    (fun k => by
      rw [score2, ← packed_score qn qr kn kr hqn hqr hkn hkr b r ⟨k, by omega⟩ h]
      exact congrArg (fun y : EReal => y + (if k.val ≤ r.val then (0 : EReal) else ⊥)) (Finset.sum_congr rfl fun c _ => by rw [hX1, hX0]))
    (fun k => by rw [hX2, packV_apply, keyValue, dif_pos (by omega)])
  rw [e, attend_eq hr hW' _ _ h1 h2 hν hν']
  rfl

include hqn hqr hkn hkr hm hW hW' hr hM hX1 hX2 hν hν' in
theorem strip1_eq (hX0 : ∀ j, (X0 (ix3 0 ⟨128 + q, by omega⟩ j) : EReal) = packQ qn qr (ix3 b r j)) :
    strip1 w n M X0 X1 X2 X3 (ix3 0 q ⟨64 * h + d, by omega⟩)
      = attended qn qr kn kr v b r h d ν * silu (X3 (ix3 0 ⟨128 + q, by omega⟩ ⟨64 * h + d, by omega⟩)) := by
  obtain ⟨μ, h1, h2, e⟩ := strip1_apply w n hm hW hW' M X0 X1 X2 X3 (fun k => if k ≤ r.val then (0 : EReal) else ⊥) q h d hM
    (score2 (keyScore qn qr kn kr b h r) r) (keyValue v b h d)
    (fun k => by
      rw [score2, ← packed_score qn qr kn kr hqn hqr hkn hkr b r ⟨k, by omega⟩ h]
      exact congrArg (fun y : EReal => y + (if k.val ≤ r.val then (0 : EReal) else ⊥)) (Finset.sum_congr rfl fun c _ => by rw [hX1, hX0]))
    (fun k => by rw [hX2, packV_apply, keyValue, dif_pos (by omega)])
  rw [e, attend_eq hr hW' _ _ h1 h2 hν hν']
  rfl

end

end Cert.Attn
-- ==== Proof.Reads.lean ====
/-
Where the blocks of a grid point lie: point `t` has batch `t / 8` and the 256 rows from `256 * (t % 8)`.
-/
module

public import proofs.«01_k».proof.Proof.Gen.KernelIdeal.Value
public import proofs.«01_k».proof.Proof.Host
public import Idealize.ShloMosaic.Lib.Pipeline.ValueKit

set_option maxRecDepth 16384

@[expose] public section

namespace Cert.Attn

open Idealize.ShloMosaic Cert.KernelIdeal Cert.KernelIdeal.Gen Idealize.SL.Sem

variable (m : (ℓ : Loc nD τ sig) → Buf (Elt Ideal) ℓ)

/-- There are 64 points. -/
theorem lt64 (t : Fin cfg0.N) : t.val < 64 := by
  have h : cfg0.N = 64 := by decide +kernel
  exact h ▸ t.isLt

/-- The block index of each window at a point. -/
theorem index0 : ∀ t : Fin cfg0.N, win0_0.index t 0 = t.val / 8 ∧ win0_0.index t 1 = t.val % 8 ∧ win0_0.index t 2 = 0 :=
  (by decide +kernel : ∀ t : Fin grid0.N, _)
theorem index1 : ∀ t : Fin cfg0.N, win0_1.index t 0 = t.val / 8 ∧ win0_1.index t 1 = 0 ∧ win0_1.index t 2 = 0 :=
  (by decide +kernel : ∀ t : Fin grid0.N, _)
theorem index2 : ∀ t : Fin cfg0.N, win0_2.index t 0 = t.val / 8 ∧ win0_2.index t 1 = 0 ∧ win0_2.index t 2 = 0 :=
  (by decide +kernel : ∀ t : Fin grid0.N, _)
theorem index3 : ∀ t : Fin cfg0.N, win0_3.index t 0 = t.val / 8 ∧ win0_3.index t 1 = t.val % 8 ∧ win0_3.index t 2 = 1 :=
  (by decide +kernel : ∀ t : Fin grid0.N, _)
theorem index4 : ∀ t : Fin cfg0.N, win0_4.index t 0 = 0 ∧ win0_4.index t 1 = 0 ∧ win0_4.index t 2 = 0 :=
  (by decide +kernel : ∀ t : Fin grid0.N, _)
theorem index5 : ∀ t : Fin cfg0.N, win0_5.index t 0 = t.val / 8 ∧ win0_5.index t 1 = t.val % 8 ∧ win0_5.index t 2 = 0 :=
  (by decide +kernel : ∀ t : Fin grid0.N, _)

section

variable (c : Dev nD) (t : Fin cfg0.N) (b : Fin 8) (hb : t.val / 8 = b.val)

include hb

/-- The block of queries. -/
theorem read0 (a : Fin 256) (r : Fin 2048) (hr : r.val = 256 * (t.val % 8) + a.val) (j : Fin 512) :
    iblk m c 0 t (ix3 0 a j) = packQ (m ((c.tc : Thread nD τ).loc main_arg0)) (m ((c.tc : Thread nD τ).loc main_arg1)) (ix3 b r j) := by
  rw [← v9_eq]
  have := index0 t
  blk_ext [iblk]

/-- The block of keys. -/
theorem read1 (k : Fin 2048) (j : Fin 512) :
    iblk m c 1 t (ix3 0 k j) = packK (m ((c.tc : Thread nD τ).loc main_arg2)) (m ((c.tc : Thread nD τ).loc main_arg3)) (ix3 b k j) := by
  rw [← v14_eq]
  have := index1 t
  blk_ext [iblk]

/-- The block of transposed values. -/
theorem read2 (j : Fin 256) (k : Fin 2048) :
    iblk m c 2 t (ix3 0 j k) = packV (m ((c.tc : Thread nD τ).loc main_arg4)) (ix3 b j k) := by
  rw [← v17_eq]
  have := index2 t
  blk_ext [iblk]

/-- The block of gates. -/
theorem read3 (a : Fin 256) (r : Fin 2048) (hr : r.val = 256 * (t.val % 8) + a.val) (j : Fin 256) :
    iblk m c 3 t (ix3 0 a j) = m ((c.tc : Thread nD τ).loc main_arg5) (ix3 b r ⟨256 + j, by omega⟩) := by
  have := index3 t
  have e : V m c main_arg5 = m ((c.tc : Thread nD τ).loc main_arg5) := rfl
  rw [← e]
  blk_ext [iblk]

end

/-- The mask tiles are one block. -/
theorem read4 (c : Dev nD) (t : Fin cfg0.N) (n : Fin 3) (k q : Fin 128) : iblk m c 4 t (ix3 n k q) = masks (ix3 n k q) := by
  rw [← v33_eq m c]
  have := index4 t
  blk_ext [iblk]

end Cert.Attn
-- ==== Proof.Final.lean ====
/-
The result array against the reference: what each grid point leaves in its output block, at each of the eight widths, is
the reference's result there, and the blocks cover the array.
-/
module

public import proofs.«01_k».proof.Proof.Cases
public import proofs.«01_k».proof.Proof.Strip
public import proofs.«01_k».proof.Proof.Reads

set_option maxRecDepth 16384

@[expose] public section

namespace Cert.Attn

open Idealize.ShloMosaic Cert.KernelIdeal Cert.KernelIdeal.Gen Idealize.SL.Sem

variable (m : (ℓ : Loc nD τ sig) → Buf (Elt Ideal) ℓ) (c : Dev nD)
variable (qn : FVec Ideal S8x2048x4x64 .f32) (qr : FVec Ideal S8x2048x4x32 .f32) (kn : FVec Ideal S8x2048x4x64 .f32)
  (kr : FVec Ideal S8x2048x32 .f32) (v : FVec Ideal S8x2048x4x64 .f32) (g : FVec Ideal S8x2048x2304 .f32)
  (hqn : Finite qn) (hqr : Finite qr) (hkn : Finite kn) (hkr : Finite kr)
  (e0 : m ((c.tc : Thread nD τ).loc main_arg0) = qn) (e1 : m ((c.tc : Thread nD τ).loc main_arg1) = qr)
  (e2 : m ((c.tc : Thread nD τ).loc main_arg2) = kn) (e3 : m ((c.tc : Thread nD τ).loc main_arg3) = kr)
  (e4 : m ((c.tc : Thread nD τ).loc main_arg4) = v) (e5 : m ((c.tc : Thread nD τ).loc main_arg5) = g)

/-- `R` at query `r` and column `d` of head `h` is the gated attention, at a greatest score. -/
def Attends (R : FVec Ideal S8x2048x256 .bf16) : Prop :=
  ∀ (b : Fin 8) (r : Fin 2048) (h : Fin 4) (d : Fin 64),
    ∃ ν : EReal, (∀ k, k < 2048 → score (keyScore qn qr kn kr b h r) r k ≤ ν) ∧ (∃ k, k < 2048 ∧ score (keyScore qn qr kn kr b h r) r k = ν) ∧
      R (ix3 b r ⟨64 * h + d, by omega⟩) = (attended qn qr kn kr v b r h d ν * silu (g (ix3 b r ⟨256 + (64 * h + d), by omega⟩)) : EReal)

variable (R : FVec Ideal S8x2048x256 .bf16) (hR : Attends qn qr kn kr v g R)

section

variable {W w : ℕ} (ws : Widths W w) (n : Reach W) (hm : W = 64 * w) (hW : 0 < w) (hW' : W ≤ 2048) (M : FVec Ideal (rows W) .f32 → FVec Ideal (rows W) .f32)
  (t : Fin cfg0.N) (b : Fin 8) (hb : t.val / 8 = b.val) (q : Fin 128) (r : Fin 2048) (hr : r.val < W)
  (hM : ∀ s (k : Fin W), M s (ix2 k q) = (s (ix2 k q) + (if k.val ≤ r.val then (0 : EReal) else ⊥) : EReal)) (h : Fin 4) (d : Fin 64)

include hqn hqr hkn hkr e0 e1 e2 e3 e4 e5 hR hm hW hW' hb hr hM

/-- Strip 0 of a point. -/
theorem strip0_point (er : r.val = 256 * (t.val % 8) + q.val) :
    strip0 ws n M (iblk m c 0 t) (iblk m c 1 t) (iblk m c 2 t) (iblk m c 3 t) (ix3 0 q ⟨64 * h + d, by omega⟩) = R (ix3 b r ⟨64 * h + d, by omega⟩) := by
  obtain ⟨ν, h1, h2, e⟩ := hR b r h d
  rw [e, strip0_eq qn qr kn kr v hqn hqr hkn hkr ws n hm hW hW' M _ _ _ _ q h d b r hr hM
    (fun k j => (read1 m c t b hb k j).trans (by rw [e2, e3])) (fun j k => (read2 m c t b hb j k).trans (by rw [e4])) ν h1 h2
    (fun j => (read0 m c t b hb ⟨q, by omega⟩ r er j).trans (by rw [e0, e1])),
    read3 m c t b hb ⟨q, by omega⟩ r er ⟨64 * h + d, by omega⟩, e5]

/-- Strip 1 of a point. -/
theorem strip1_point (er : r.val = 256 * (t.val % 8) + (128 + q.val)) :
    strip1 ws n M (iblk m c 0 t) (iblk m c 1 t) (iblk m c 2 t) (iblk m c 3 t) (ix3 0 q ⟨64 * h + d, by omega⟩) = R (ix3 b r ⟨64 * h + d, by omega⟩) := by
  obtain ⟨ν, h1, h2, e⟩ := hR b r h d
  rw [e, strip1_eq qn qr kn kr v hqn hqr hkn hkr ws n hm hW hW' M _ _ _ _ q h d b r hr hM
    (fun k j => (read1 m c t b hb k j).trans (by rw [e2, e3])) (fun j k => (read2 m c t b hb j k).trans (by rw [e4])) ν h1 h2
    (fun j => (read0 m c t b hb ⟨128 + q, by omega⟩ r er j).trans (by rw [e0, e1])),
    read3 m c t b hb ⟨128 + q, by omega⟩ r er ⟨64 * h + d, by omega⟩, e5]

end

section

variable (t : Fin cfg0.N) (b : Fin 8) (hb : t.val / 8 = b.val) (a : Fin 256) (r : Fin 2048) (er : r.val = 256 * (t.val % 8) + a.val) (h : Fin 4) (d : Fin 64)

include hqn hqr hkn hkr e0 e1 e2 e3 e4 e5 hR hb er

/-- A point of width 256. -/
theorem point_A (ht : t.val % 8 = 0) :
    outsAt0 m c t.val t.isLt (ix3 0 a ⟨64 * h + d, by omega⟩) = R (ix3 b r ⟨64 * h + d, by omega⟩) := by
  rw [out_A m c t ht]
  by_cases ha : a.val < 128
  · obtain ⟨q, rfl⟩ : ∃ q : Fin 128, a = ⟨q, Nat.lt_of_lt_of_le q.isLt (by norm_num)⟩ := ⟨⟨a, ha⟩, rfl⟩
    rw [stack_apply0]
    have er : r.val = 256 * (t.val % 8) + q.val := er
    exact strip0_point m c qn qr kn kr v g hqn hqr hkn hkr e0 e1 e2 e3 e4 e5 R hR widths256 reach256 (by norm_num) (by norm_num) (by norm_num) _ t b hb q r (by omega)
      (fun s k => by
      refine (add_mask _ q.val q (tail_strip0 _ (read4 m c t) · q) s k).trans ?_
      rw [show r.val = q.val by omega]) h d er
  · obtain ⟨q, rfl⟩ : ∃ q : Fin 128, a = ⟨128 + q, Nat.add_lt_add_left q.isLt 128⟩ := ⟨⟨a - 128, by omega⟩, Fin.ext (by show a.val = 128 + (a.val - 128); omega)⟩
    rw [stack_apply1]
    have er : r.val = 256 * (t.val % 8) + (128 + q.val) := er
    exact strip1_point m c qn qr kn kr v g hqn hqr hkn hkr e0 e1 e2 e3 e4 e5 R hR widths256 reach256 (by norm_num) (by norm_num) (by norm_num) _ t b hb q r (by omega)
      (fun s k => by
      refine (add_mask _ (128 + q.val) q (tail_strip1 _ (read4 m c t) · q) s k).trans ?_
      rw [show r.val = 128 + q.val by omega]) h d er

/-- A point of width 512. -/
theorem point_B (ht : t.val % 8 = 1) :
    outsAt0 m c t.val t.isLt (ix3 0 a ⟨64 * h + d, by omega⟩) = R (ix3 b r ⟨64 * h + d, by omega⟩) := by
  rw [out_B m c t ht]
  by_cases ha : a.val < 128
  · obtain ⟨q, rfl⟩ : ∃ q : Fin 128, a = ⟨q, Nat.lt_of_lt_of_le q.isLt (by norm_num)⟩ := ⟨⟨a, ha⟩, rfl⟩
    rw [stack_apply0]
    have er : r.val = 256 * (t.val % 8) + q.val := er
    exact strip0_point m c qn qr kn kr v g hqn hqr hkn hkr e0 e1 e2 e3 e4 e5 R hR widths512 reach512 (by norm_num) (by norm_num) (by norm_num) _ t b hb q r (by omega)
      (fun s k => by
      refine (addTail_mask heads512 (by norm_num) _ q.val q (tail_strip0 _ (read4 m c t) · q) s k).trans ?_
      rw [show r.val = 256 + q.val by omega]) h d er
  · obtain ⟨q, rfl⟩ : ∃ q : Fin 128, a = ⟨128 + q, Nat.add_lt_add_left q.isLt 128⟩ := ⟨⟨a - 128, by omega⟩, Fin.ext (by show a.val = 128 + (a.val - 128); omega)⟩
    rw [stack_apply1]
    have er : r.val = 256 * (t.val % 8) + (128 + q.val) := er
    exact strip1_point m c qn qr kn kr v g hqn hqr hkn hkr e0 e1 e2 e3 e4 e5 R hR widths512 reach512 (by norm_num) (by norm_num) (by norm_num) _ t b hb q r (by omega)
      (fun s k => by
      refine (addTail_mask heads512 (by norm_num) _ (128 + q.val) q (tail_strip1 _ (read4 m c t) · q) s k).trans ?_
      rw [show r.val = 256 + (128 + q.val) by omega]) h d er

/-- A point of width 768. -/
theorem point_C (ht : t.val % 8 = 2) :
    outsAt0 m c t.val t.isLt (ix3 0 a ⟨64 * h + d, by omega⟩) = R (ix3 b r ⟨64 * h + d, by omega⟩) := by
  rw [out_C m c t ht]
  by_cases ha : a.val < 128
  · obtain ⟨q, rfl⟩ : ∃ q : Fin 128, a = ⟨q, Nat.lt_of_lt_of_le q.isLt (by norm_num)⟩ := ⟨⟨a, ha⟩, rfl⟩
    rw [stack_apply0]
    have er : r.val = 256 * (t.val % 8) + q.val := er
    exact strip0_point m c qn qr kn kr v g hqn hqr hkn hkr e0 e1 e2 e3 e4 e5 R hR widths768 reach768 (by norm_num) (by norm_num) (by norm_num) _ t b hb q r (by omega)
      (fun s k => by
      refine (addTail_mask heads768 (by norm_num) _ q.val q (tail_strip0 _ (read4 m c t) · q) s k).trans ?_
      rw [show r.val = 512 + q.val by omega]) h d er
  · obtain ⟨q, rfl⟩ : ∃ q : Fin 128, a = ⟨128 + q, Nat.add_lt_add_left q.isLt 128⟩ := ⟨⟨a - 128, by omega⟩, Fin.ext (by show a.val = 128 + (a.val - 128); omega)⟩
    rw [stack_apply1]
    have er : r.val = 256 * (t.val % 8) + (128 + q.val) := er
    exact strip1_point m c qn qr kn kr v g hqn hqr hkn hkr e0 e1 e2 e3 e4 e5 R hR widths768 reach768 (by norm_num) (by norm_num) (by norm_num) _ t b hb q r (by omega)
      (fun s k => by
      refine (addTail_mask heads768 (by norm_num) _ (128 + q.val) q (tail_strip1 _ (read4 m c t) · q) s k).trans ?_
      rw [show r.val = 512 + (128 + q.val) by omega]) h d er

/-- A point of width 1024. -/
theorem point_D (ht : t.val % 8 = 3) :
    outsAt0 m c t.val t.isLt (ix3 0 a ⟨64 * h + d, by omega⟩) = R (ix3 b r ⟨64 * h + d, by omega⟩) := by
  rw [out_D m c t ht]
  by_cases ha : a.val < 128
  · obtain ⟨q, rfl⟩ : ∃ q : Fin 128, a = ⟨q, Nat.lt_of_lt_of_le q.isLt (by norm_num)⟩ := ⟨⟨a, ha⟩, rfl⟩
    rw [stack_apply0]
    have er : r.val = 256 * (t.val % 8) + q.val := er
    exact strip0_point m c qn qr kn kr v g hqn hqr hkn hkr e0 e1 e2 e3 e4 e5 R hR widths1024 reach1024 (by norm_num) (by norm_num) (by norm_num) _ t b hb q r (by omega)
      (fun s k => by
      refine (addTail_mask heads1024 (by norm_num) _ q.val q (tail_strip0 _ (read4 m c t) · q) s k).trans ?_
      rw [show r.val = 768 + q.val by omega]) h d er
  · obtain ⟨q, rfl⟩ : ∃ q : Fin 128, a = ⟨128 + q, Nat.add_lt_add_left q.isLt 128⟩ := ⟨⟨a - 128, by omega⟩, Fin.ext (by show a.val = 128 + (a.val - 128); omega)⟩
    rw [stack_apply1]
    have er : r.val = 256 * (t.val % 8) + (128 + q.val) := er
    exact strip1_point m c qn qr kn kr v g hqn hqr hkn hkr e0 e1 e2 e3 e4 e5 R hR widths1024 reach1024 (by norm_num) (by norm_num) (by norm_num) _ t b hb q r (by omega)
      (fun s k => by
      refine (addTail_mask heads1024 (by norm_num) _ (128 + q.val) q (tail_strip1 _ (read4 m c t) · q) s k).trans ?_
      rw [show r.val = 768 + (128 + q.val) by omega]) h d er

/-- A point of width 1280. -/
theorem point_E (ht : t.val % 8 = 4) :
    outsAt0 m c t.val t.isLt (ix3 0 a ⟨64 * h + d, by omega⟩) = R (ix3 b r ⟨64 * h + d, by omega⟩) := by
  rw [out_E m c t ht]
  by_cases ha : a.val < 128
  · obtain ⟨q, rfl⟩ : ∃ q : Fin 128, a = ⟨q, Nat.lt_of_lt_of_le q.isLt (by norm_num)⟩ := ⟨⟨a, ha⟩, rfl⟩
    rw [stack_apply0]
    have er : r.val = 256 * (t.val % 8) + q.val := er
    exact strip0_point m c qn qr kn kr v g hqn hqr hkn hkr e0 e1 e2 e3 e4 e5 R hR widths1280 reach1280 (by norm_num) (by norm_num) (by norm_num) _ t b hb q r (by omega)
      (fun s k => by
      refine (addTail_mask heads1280 (by norm_num) _ q.val q (tail_strip0 _ (read4 m c t) · q) s k).trans ?_
      rw [show r.val = 1024 + q.val by omega]) h d er
  · obtain ⟨q, rfl⟩ : ∃ q : Fin 128, a = ⟨128 + q, Nat.add_lt_add_left q.isLt 128⟩ := ⟨⟨a - 128, by omega⟩, Fin.ext (by show a.val = 128 + (a.val - 128); omega)⟩
    rw [stack_apply1]
    have er : r.val = 256 * (t.val % 8) + (128 + q.val) := er
    exact strip1_point m c qn qr kn kr v g hqn hqr hkn hkr e0 e1 e2 e3 e4 e5 R hR widths1280 reach1280 (by norm_num) (by norm_num) (by norm_num) _ t b hb q r (by omega)
      (fun s k => by
      refine (addTail_mask heads1280 (by norm_num) _ (128 + q.val) q (tail_strip1 _ (read4 m c t) · q) s k).trans ?_
      rw [show r.val = 1024 + (128 + q.val) by omega]) h d er

/-- A point of width 1536. -/
theorem point_F (ht : t.val % 8 = 5) :
    outsAt0 m c t.val t.isLt (ix3 0 a ⟨64 * h + d, by omega⟩) = R (ix3 b r ⟨64 * h + d, by omega⟩) := by
  rw [out_F m c t ht]
  by_cases ha : a.val < 128
  · obtain ⟨q, rfl⟩ : ∃ q : Fin 128, a = ⟨q, Nat.lt_of_lt_of_le q.isLt (by norm_num)⟩ := ⟨⟨a, ha⟩, rfl⟩
    rw [stack_apply0]
    have er : r.val = 256 * (t.val % 8) + q.val := er
    exact strip0_point m c qn qr kn kr v g hqn hqr hkn hkr e0 e1 e2 e3 e4 e5 R hR widths1536 reach1536 (by norm_num) (by norm_num) (by norm_num) _ t b hb q r (by omega)
      (fun s k => by
      refine (addTail_mask heads1536 (by norm_num) _ q.val q (tail_strip0 _ (read4 m c t) · q) s k).trans ?_
      rw [show r.val = 1280 + q.val by omega]) h d er
  · obtain ⟨q, rfl⟩ : ∃ q : Fin 128, a = ⟨128 + q, Nat.add_lt_add_left q.isLt 128⟩ := ⟨⟨a - 128, by omega⟩, Fin.ext (by show a.val = 128 + (a.val - 128); omega)⟩
    rw [stack_apply1]
    have er : r.val = 256 * (t.val % 8) + (128 + q.val) := er
    exact strip1_point m c qn qr kn kr v g hqn hqr hkn hkr e0 e1 e2 e3 e4 e5 R hR widths1536 reach1536 (by norm_num) (by norm_num) (by norm_num) _ t b hb q r (by omega)
      (fun s k => by
      refine (addTail_mask heads1536 (by norm_num) _ (128 + q.val) q (tail_strip1 _ (read4 m c t) · q) s k).trans ?_
      rw [show r.val = 1280 + (128 + q.val) by omega]) h d er

/-- A point of width 1792. -/
theorem point_G (ht : t.val % 8 = 6) :
    outsAt0 m c t.val t.isLt (ix3 0 a ⟨64 * h + d, by omega⟩) = R (ix3 b r ⟨64 * h + d, by omega⟩) := by
  rw [out_G m c t ht]
  by_cases ha : a.val < 128
  · obtain ⟨q, rfl⟩ : ∃ q : Fin 128, a = ⟨q, Nat.lt_of_lt_of_le q.isLt (by norm_num)⟩ := ⟨⟨a, ha⟩, rfl⟩
    rw [stack_apply0]
    have er : r.val = 256 * (t.val % 8) + q.val := er
    exact strip0_point m c qn qr kn kr v g hqn hqr hkn hkr e0 e1 e2 e3 e4 e5 R hR widths1792 reach1792 (by norm_num) (by norm_num) (by norm_num) _ t b hb q r (by omega)
      (fun s k => by
      refine (addTail_mask heads1792 (by norm_num) _ q.val q (tail_strip0 _ (read4 m c t) · q) s k).trans ?_
      rw [show r.val = 1536 + q.val by omega]) h d er
  · obtain ⟨q, rfl⟩ : ∃ q : Fin 128, a = ⟨128 + q, Nat.add_lt_add_left q.isLt 128⟩ := ⟨⟨a - 128, by omega⟩, Fin.ext (by show a.val = 128 + (a.val - 128); omega)⟩
    rw [stack_apply1]
    have er : r.val = 256 * (t.val % 8) + (128 + q.val) := er
    exact strip1_point m c qn qr kn kr v g hqn hqr hkn hkr e0 e1 e2 e3 e4 e5 R hR widths1792 reach1792 (by norm_num) (by norm_num) (by norm_num) _ t b hb q r (by omega)
      (fun s k => by
      refine (addTail_mask heads1792 (by norm_num) _ (128 + q.val) q (tail_strip1 _ (read4 m c t) · q) s k).trans ?_
      rw [show r.val = 1536 + (128 + q.val) by omega]) h d er

/-- A point of width 2048. -/
theorem point_H (ht : t.val % 8 = 7) :
    outsAt0 m c t.val t.isLt (ix3 0 a ⟨64 * h + d, by omega⟩) = R (ix3 b r ⟨64 * h + d, by omega⟩) := by
  rw [out_H m c t ht]
  by_cases ha : a.val < 128
  · obtain ⟨q, rfl⟩ : ∃ q : Fin 128, a = ⟨q, Nat.lt_of_lt_of_le q.isLt (by norm_num)⟩ := ⟨⟨a, ha⟩, rfl⟩
    rw [stack_apply0]
    have er : r.val = 256 * (t.val % 8) + q.val := er
    exact strip0_point m c qn qr kn kr v g hqn hqr hkn hkr e0 e1 e2 e3 e4 e5 R hR widths2048 reach2048 (by norm_num) (by norm_num) (by norm_num) _ t b hb q r (by omega)
      (fun s k => by
      refine (addTail_mask heads2048 (by norm_num) _ q.val q (tail_strip0 _ (read4 m c t) · q) s k).trans ?_
      rw [show r.val = 1792 + q.val by omega]) h d er
  · obtain ⟨q, rfl⟩ : ∃ q : Fin 128, a = ⟨128 + q, Nat.add_lt_add_left q.isLt 128⟩ := ⟨⟨a - 128, by omega⟩, Fin.ext (by show a.val = 128 + (a.val - 128); omega)⟩
    rw [stack_apply1]
    have er : r.val = 256 * (t.val % 8) + (128 + q.val) := er
    exact strip1_point m c qn qr kn kr v g hqn hqr hkn hkr e0 e1 e2 e3 e4 e5 R hR widths2048 reach2048 (by norm_num) (by norm_num) (by norm_num) _ t b hb q r (by omega)
      (fun s k => by
      refine (addTail_mask heads2048 (by norm_num) _ (128 + q.val) q (tail_strip1 _ (read4 m c t) · q) s k).trans ?_
      rw [show r.val = 1792 + (128 + q.val) by omega]) h d er

/-- Any point. -/
theorem point_apply :
    outsAt0 m c t.val t.isLt (ix3 0 a ⟨64 * h + d, by omega⟩) = R (ix3 b r ⟨64 * h + d, by omega⟩) := by
  have : t.val % 8 < 8 := Nat.mod_lt _ (by norm_num)
  obtain ht | ht | ht | ht | ht | ht | ht | ht : t.val % 8 = 0 ∨ t.val % 8 = 1 ∨ t.val % 8 = 2 ∨ t.val % 8 = 3 ∨ t.val % 8 = 4 ∨ t.val % 8 = 5 ∨ t.val % 8 = 6 ∨ t.val % 8 = 7 := by omega
  · exact point_A m c qn qr kn kr v g hqn hqr hkn hkr e0 e1 e2 e3 e4 e5 R hR t b hb a r er h d ht
  · exact point_B m c qn qr kn kr v g hqn hqr hkn hkr e0 e1 e2 e3 e4 e5 R hR t b hb a r er h d ht
  · exact point_C m c qn qr kn kr v g hqn hqr hkn hkr e0 e1 e2 e3 e4 e5 R hR t b hb a r er h d ht
  · exact point_D m c qn qr kn kr v g hqn hqr hkn hkr e0 e1 e2 e3 e4 e5 R hR t b hb a r er h d ht
  · exact point_E m c qn qr kn kr v g hqn hqr hkn hkr e0 e1 e2 e3 e4 e5 R hR t b hb a r er h d ht
  · exact point_F m c qn qr kn kr v g hqn hqr hkn hkr e0 e1 e2 e3 e4 e5 R hR t b hb a r er h d ht
  · exact point_G m c qn qr kn kr v g hqn hqr hkn hkr e0 e1 e2 e3 e4 e5 R hR t b hb a r er h d ht
  · exact point_H m c qn qr kn kr v g hqn hqr hkn hkr e0 e1 e2 e3 e4 e5 R hR t b hb a r er h d ht

end

theorem column_lt (h : Fin 4) (d : Fin 64) : 64 * h.val + d.val < 256 := by omega

include hqn hqr hkn hkr e0 e1 e2 e3 e4 e5 hR in
/-- The result array after the run. -/
theorem final : (dats m 0 c).arrAt 5 cfg0.N = R := by
  refine (dats m 0 c).arrAt_eq_of_covers 5 _ (by decide +kernel) fun t hf y => ?_
  blk_simp
  rw [after0_5]
  have hi := index5 t
  have ht := lt64 t
  obtain ⟨a, j, rfl⟩ : ∃ a j : Fin 256, y = ix3 0 a j := ⟨y 1, y 2, by blk_ext⟩
  have e : (win0_5.blk t).view.emb (ix3 0 a j) = (ix3 ⟨t.val / 8, by omega⟩ ⟨256 * (t.val % 8) + a, by omega⟩ j : S8x2048x256.Idx) := by
    blk_ext
  obtain ⟨h, d, rfl⟩ : ∃ (h : Fin 4) (d : Fin 64), j = ⟨64 * h + d, column_lt h d⟩ :=
    ⟨⟨j.val / 64, by omega⟩, ⟨j.val % 64, by omega⟩, Fin.ext (by show j.val = 64 * (j.val / 64) + j.val % 64; omega)⟩
  rw [e]
  exact point_apply m c qn qr kn kr v g hqn hqr hkn hkr e0 e1 e2 e3 e4 e5 R hR t ⟨t.val / 8, by omega⟩ rfl a _ rfl h d

end Cert.Attn
-- ==== Proof.Ref.lean ====
/-
The reference's attention at an index: the softmax over all keys of the masked scores, summed with the values, times the
gate.
-/
module

public import proofs.«01_k».proof.Proof.Gen.ReferenceIdeal.Run
public import Idealize.ShloMosaic.Lib.Pointwise
public import Idealize.ShloMosaic.Lib.WordCmp
public import proofs.«01_k».proof.Proof.Score
public import proofs.«01_k».proof.Proof.Host
public import proofs.«01_k».proof.Proof.Block

set_option maxRecDepth 16384

@[expose] public section

namespace Cert.AttnRef

open Idealize.ShloMosaic Cert.ReferenceIdeal Cert.ReferenceIdeal.Gen Idealize.SL.Sem

/-- Where the key is at most the query. -/
noncomputable def causal : IVec S8x4x2048x2048 1 :=
  broadcastInDim S8x4x2048x2048 ![2, 3] bcast_S2048x2048_S8x4x2048x2048_2_3 (cmpi .sle
    (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0))))

/-- The scores before the mask. -/
noncomputable def dots (qn : FVec Ideal S8x2048x4x64 .f32) (qr : FVec Ideal S8x2048x4x32 .f32) (kn : FVec Ideal S8x2048x4x64 .f32) (kr : FVec Ideal S8x2048x32 .f32) :
    FVec Ideal S8x4x2048x2048 .f32 :=
  mulf (addf (Host.dotGeneral dot_S8x2048x4x64_S8x2048x4x64_S8x4x2048x2048_3_3_1_1_02_02 none qn kn)
      (transpose S8x4x2048x2048 [0, 3, 2, 1] (Host.dotGeneral dot_S8x2048x32_S8x2048x4x32_S8x2048x2048x4_2_3_1_12_0_0 none kr qr) transposes_S8x2048x2048x4_S8x4x2048x2048_0_3_2_1))
    (broadcastInDim S8x4x2048x2048 ![] bcast_S_S8x4x2048x2048 (Host.divf (constant S_ .f32 0x3F800000#32) (Host.sqrt (constant S_ .f32 0x42C00000#32))))

/-- The masked scores. -/
noncomputable def scores (x : FVec Ideal S8x4x2048x2048 .f32) : FVec Ideal S8x4x2048x2048 .f32 :=
  select causal x (broadcastInDim S8x4x2048x2048 ![] bcast_S_S8x4x2048x2048 (id (constant (F := Ideal) S_ .f32 0xFF800000#32)))

/-- The greatest score of each query. -/
noncomputable def top (x : FVec Ideal S8x4x2048x2048 .f32) : FVec Ideal S8x4x2048 .f32 :=
  maximumf (broadcastInDim S8x4x2048 ![] bcast_S_S8x4x2048 (constant (F := Ideal) S_ .f32 0xFF800000#32))
    (Host.reduce FloatOps.maximumf x (constant (F := Ideal) S_ .f32 0xFF800000#32) reducesTo_S8x4x2048x2048_S8x4x2048_d3 h_S_)

/-- The exponentials of the scores less the greatest. -/
noncomputable def expo (x : FVec Ideal S8x4x2048x2048 .f32) : FVec Ideal S8x4x2048x2048 .f32 :=
  Host.exp (subf x (broadcastInDim S8x4x2048x2048 ![0, 1, 2, 3] bcast_S8x4x2048x1_S8x4x2048x2048_0_1_2_3 (broadcastInDim S8x4x2048x1 ![0, 1, 2] bcast_S8x4x2048_S8x4x2048x1_0_1_2 (top x))))

/-- The exponentials over their sum. -/
noncomputable def weights (x : FVec Ideal S8x4x2048x2048 .f32) : FVec Ideal S8x4x2048x2048 .f32 :=
  Host.divf x (broadcastInDim S8x4x2048x2048 ![0, 1, 2, 3] bcast_S8x4x2048x1_S8x4x2048x2048_0_1_2_3 (broadcastInDim S8x4x2048x1 ![0, 1, 2] bcast_S8x4x2048_S8x4x2048x1_0_1_2
    (Host.reduceAdd x (constant (F := Ideal) S_ .f32 0x00000000#32) reducesTo_S8x4x2048x2048_S8x4x2048_d3 h_S_)))

/-- The values summed with the weights, heads side by side. -/
noncomputable def mixed (v : FVec Ideal S8x2048x4x64 .f32) (p : FVec Ideal S8x4x2048x2048 .f32) : FVec Ideal S8x2048x256 .f32 :=
  shapeCast S8x2048x256 (transpose S8x2048x4x64 [0, 3, 1, 2] (Host.dotGeneral dot_S8x2048x4x64_S8x4x2048x2048_S8x4x64x2048_1_3_3_2_02_01 none v p) transposes_S8x4x64x2048_S8x2048x4x64_0_3_1_2) shapeCasts_S8x2048x4x64_S8x2048x256

/-- The gate. -/
noncomputable def gate (g : FVec Ideal S8x2048x2304 .f32) : FVec Ideal S8x2048x256 .f32 :=
  mulf (extractStridedSlice S8x2048x256 ![0, 0, 256] g slices_S8x2048x2304_S8x2048x256_0_0_256)
    (Host.divf (broadcastInDim S8x2048x256 ![] bcast_S_S8x2048x256 (constant (F := Ideal) S_ .f32 0x3F800000#32))
      (addf (broadcastInDim S8x2048x256 ![] bcast_S_S8x2048x256 (constant (F := Ideal) S_ .f32 0x3F800000#32)) (Host.exp (Host.negf (extractStridedSlice S8x2048x256 ![0, 0, 256] g slices_S8x2048x2304_S8x2048x256_0_0_256)))))

/-- The reference's result, in these steps. -/
theorem result_eq (m : (ℓ : Loc nD τ sig) → Buf (Elt Ideal) ℓ) (c : Dev nD) :
    Value.res_out0 m c = truncf .bf16 (mulf (mixed (m ((c.tc : Thread nD τ).loc main_arg4)) (weights (expo (scores (dots (m ((c.tc : Thread nD τ).loc main_arg0))
      (m ((c.tc : Thread nD τ).loc main_arg1)) (m ((c.tc : Thread nD τ).loc main_arg2)) (m ((c.tc : Thread nD τ).loc main_arg3))))))) (gate (m ((c.tc : Thread nD τ).loc main_arg5)))) bitsLt_bf16_f32 := by
  unfold Value.res_out0 Value.res_main_v32
  delta mixed weights expo
  delta scores top gate dots causal
  with_reducible congr 60
  rfl

theorem dots_apply (qn : FVec Ideal S8x2048x4x64 .f32) (qr : FVec Ideal S8x2048x4x32 .f32) (kn : FVec Ideal S8x2048x4x64 .f32) (kr : FVec Ideal S8x2048x32 .f32)
    (b : Fin 8) (h : Fin 4) (r k : Fin 2048) : dots qn qr kn kr (ix4 b h r k)
      = ((∑ c : Fin 64, qn (ix4 b r h c) * kn (ix4 b k h c) + ∑ c : Fin 32, kr (ix3 b k c) * qr (ix4 b r h c)) * Ideal.div 1 (Ideal.sqrt (Ideal.ofBits .f32 0x42C00000#32)) : EReal) := by
  pointwise [dots]

theorem scores_apply (x : FVec Ideal S8x4x2048x2048 .f32) (b : Fin 8) (h : Fin 4) (r k : Fin 2048) :
    scores x (ix4 b h r k) = (if k.val ≤ r.val then x (ix4 b h r k) else Ideal.ofBits .f32 0xFF800000#32 : EReal) := by
  show Scalar.select (IntOp.cmpi .sle (BitVec.ofNat 32 k.val) (BitVec.ofNat 32 r.val)) (x (ix4 b h r k)) (Ideal.ofBits .f32 0xFF800000#32) = _
  word_cmp

theorem reduce_apply (x : FVec Ideal S8x4x2048x2048 .f32) (b : Fin 8) (h : Fin 4) (r : Fin 2048) :
    Host.reduce FloatOps.maximumf x (constant (F := Ideal) S_ .f32 0xFF800000#32) reducesTo_S8x4x2048x2048_S8x4x2048_d3 h_S_ (ix3 b h r)
      = (Finset.univ.fold max (Ideal.ofBits .f32 0xFF800000#32) fun k : Fin 2048 => x (ix4 b h r k) : EReal) := by
  pointwise

theorem top_apply (x : FVec Ideal S8x4x2048x2048 .f32) (b : Fin 8) (h : Fin 4) (r : Fin 2048) :
    top x (ix3 b h r) = (max (Ideal.ofBits .f32 0xFF800000#32) (Finset.univ.fold max (Ideal.ofBits .f32 0xFF800000#32) fun k : Fin 2048 => x (ix4 b h r k)) : EReal) := by
  unfold top
  rw [maximumf_apply]
  generalize hz : Host.reduce FloatOps.maximumf x (constant (F := Ideal) S_ .f32 0xFF800000#32) reducesTo_S8x4x2048x2048_S8x4x2048_d3 h_S_ (ix3 b h r) = z
  rw [reduce_apply] at hz
  rw [hz]
  rfl

theorem expo_apply (x : FVec Ideal S8x4x2048x2048 .f32) (b : Fin 8) (h : Fin 4) (r k : Fin 2048) :
    expo x (ix4 b h r k) = Ideal.exp (x (ix4 b h r k) - top x (ix3 b h r)) := by
  pointwise [expo]

theorem weights_apply (x : FVec Ideal S8x4x2048x2048 .f32) (b : Fin 8) (h : Fin 4) (r k : Fin 2048) :
    weights x (ix4 b h r k) = Ideal.div (x (ix4 b h r k)) (∑ l : Fin 2048, x (ix4 b h r l) : EReal) := by
  pointwise [weights]

theorem mixed_apply (v : FVec Ideal S8x2048x4x64 .f32) (p : FVec Ideal S8x4x2048x2048 .f32) (b : Fin 8) (r : Fin 2048) (h : Fin 4) (d : Fin 64) :
    mixed v p (ix3 b r ⟨64 * h + d, by omega⟩) = (∑ k : Fin 2048, v (ix4 b k h d) * p (ix4 b h r k) : EReal) := by
  pointwise [mixed]

theorem gate_apply (g : FVec Ideal S8x2048x2304 .f32) (b : Fin 8) (r : Fin 2048) (j : Fin 256) :
    gate g (ix3 b r j) = (g (ix3 b r ⟨256 + j, by omega⟩) * Ideal.div 1 (1 + Ideal.exp (-g (ix3 b r ⟨256 + j, by omega⟩))) : EReal) := by
  pointwise [gate]

/-- The score of a query and a key, masked. -/
theorem scores_eq (qn : FVec Ideal S8x2048x4x64 .f32) (qr : FVec Ideal S8x2048x4x32 .f32) (kn : FVec Ideal S8x2048x4x64 .f32) (kr : FVec Ideal S8x2048x32 .f32)
    (hqn : Attn.Finite qn) (hqr : Attn.Finite qr) (hkn : Attn.Finite kn) (hkr : Attn.Finite kr) (b : Fin 8) (h : Fin 4) (r k : Fin 2048) :
    scores (dots qn qr kn kr) (ix4 b h r k) = Attn.score (Attn.keyScore qn qr kn kr b h r) r k := by
  rw [scores_apply, Attn.score]
  by_cases hk : k.val ≤ r.val
  · rw [if_pos hk, if_pos hk, dots_apply, Attn.keyScore, dif_pos k.isLt, Attn.lanesScore, Attn.bits96, Ideal.sqrt_coe, if_neg (by norm_num),
      Attn.div_coe _ (Real.sqrt_ne_zero'.2 (by norm_num)), one_mul, EReal.coe_mul, EReal.coe_add,
      Attn.dot_real _ _ (fun c => hqn _) (fun c => hkn _), Attn.dot_real _ _ (fun c => hkr _) (fun c => hqr _)]
    have e : (∑ c : Fin 32, EReal.toReal (kr (ix3 b k c) : EReal) * EReal.toReal (qr (ix4 b r h c) : EReal))
        = ∑ c : Fin 32, EReal.toReal (qr (ix4 b r h c) : EReal) * EReal.toReal (kr (ix3 b k c) : EReal) := Finset.sum_congr rfl fun c _ => mul_comm _ _
    rw [e]
  · rw [if_neg hk, if_neg hk, Attn.bits_bot]

/-- The greatest score, as `top` takes it, is one of the scores and at least each. -/
theorem top_greatest (x : FVec Ideal S8x4x2048x2048 .f32) (b : Fin 8) (h : Fin 4) (r : Fin 2048) :
    Attn.Greatest (fun k : Fin 2048 => (x (ix4 b h r k) : EReal)) (top x (ix3 b h r)) := by
  have e := top_apply x b h r
  have g := Attn.greatest_fold (n := 2048) (by norm_num) (fun k : Fin 2048 => (x (ix4 b h r k) : EReal)) Attn.bits_bot
  rw [Attn.bits_bot, max_eq_right bot_le] at e
  rw [Attn.bits_bot] at g
  rw [e]
  exact g

/-- The reference at query `r` and column `d` of head `h`. -/
theorem result_apply (m : (ℓ : Loc nD τ sig) → Buf (Elt Ideal) ℓ) (c : Dev nD) (qn : FVec Ideal S8x2048x4x64 .f32) (qr : FVec Ideal S8x2048x4x32 .f32)
    (kn : FVec Ideal S8x2048x4x64 .f32) (kr : FVec Ideal S8x2048x32 .f32) (v : FVec Ideal S8x2048x4x64 .f32) (g : FVec Ideal S8x2048x2304 .f32)
    (e0 : m ((c.tc : Thread nD τ).loc main_arg0) = qn) (e1 : m ((c.tc : Thread nD τ).loc main_arg1) = qr) (e2 : m ((c.tc : Thread nD τ).loc main_arg2) = kn)
    (e3 : m ((c.tc : Thread nD τ).loc main_arg3) = kr) (e4 : m ((c.tc : Thread nD τ).loc main_arg4) = v) (e5 : m ((c.tc : Thread nD τ).loc main_arg5) = g)
    (hqn : Attn.Finite qn) (hqr : Attn.Finite qr) (hkn : Attn.Finite kn) (hkr : Attn.Finite kr) (b : Fin 8) (r : Fin 2048) (h : Fin 4) (d : Fin 64) :
    ∃ ν : EReal, (∀ k, k < 2048 → Attn.score (Attn.keyScore qn qr kn kr b h r) r k ≤ ν) ∧ (∃ k, k < 2048 ∧ Attn.score (Attn.keyScore qn qr kn kr b h r) r k = ν) ∧
      Value.res_out0 m c (ix3 b r ⟨64 * h + d, by omega⟩)
        = (Attn.attended qn qr kn kr v b r h d ν * Attn.silu (g (ix3 b r ⟨256 + (64 * h + d), by omega⟩)) : EReal) := by
  rw [result_eq, e0, e1, e2, e3, e4, e5]
  have hg := top_greatest (scores (dots qn qr kn kr)) b h r
  have hs := fun k => scores_eq qn qr kn kr hqn hqr hkn hkr b h r k
  obtain ⟨g1, k, g2⟩ := hg
  refine ⟨top (scores (dots qn qr kn kr)) (ix3 b h r), fun k hk => ?_, ⟨k, k.isLt, ?_⟩, ?_⟩
  · rw [← hs ⟨k, hk⟩]; exact g1 ⟨k, hk⟩
  · rw [← hs k]; exact g2
  · rw [truncf_apply, mulf_apply, mixed_apply, gate_apply]
    refine congrArg₂ (fun a b : EReal => a * b) ?_ ?_
    · rw [Attn.attended]
      refine Finset.sum_congr rfl fun l _ => ?_
      rw [weights_apply]
      simp only [expo_apply, hs]
      rw [Attn.keyValue, dif_pos l.isLt]
    · rw [Attn.silu, sub_eq_add_neg, zero_add]

end Cert.AttnRef
-- ==== Proof.Pre.lean ====
/-
The precondition: the queries and the keys are finite.
-/
module

public import proofs.«01_k».proof.Defs
public import proofs.«01_k».proof.Proof.Score
public import proofs.«01_k».proof.Proof.Gen.ReferenceIdeal
public import Idealize.ShloMosaic.Lib.ReduceAll

set_option maxRecDepth 16384

@[expose] public section

namespace Cert.AttnPre

open Idealize.ShloMosaic Cert.Pre_finite_scores

/-- The side conditions of the precondition's operations. -/
theorem facts : Cert.Pre_finite_scores.Facts where
  bcast_S_S8x2048x4x64 := by decide
  reducesTo_S8x2048x4x64_S_d0_1_2_3 := by decide
  h_S_ := by decide
  bcast_S_S8x2048x4x32 := by decide
  reducesTo_S8x2048x4x32_S_d0_1_2_3 := by decide
  bcast_S_S8x2048x32 := by decide
  reducesTo_S8x2048x32_S_d0_1_2 := by decide

/-- The pattern of `∞`. -/
theorem bits_top : Ideal.ofBits .f32 0x7F800000#32 = ⊤ := by
  simp [Ideal.ofBits, Ideal.ieee]

/-- An element whose absolute value is below `∞` is a real number. -/
theorem real_of_lt (x : EReal) (h : max x (-x) < ⊤) : x = (x.toReal : EReal) := by
  refine (EReal.coe_toReal ?_ ?_).symm
  · rintro rfl
    exact absurd h (by simp)
  · rintro rfl
    exact absurd h (by simp)

/-- An array whose every element compares below `∞` in absolute value is finite. -/
theorem finite_of_reduce {s : Shape} (x : FVec Ideal s .f32) (hb : S_.BroadcastsInDim s (![] : Fin 0 → Fin s.rank)) {d : List (Fin s.rank)} (h : s.ReducesTo d S_) (hu : 0 < S_.numel)
    (e : Host.reduce IntOp.andi (cmpf .olt (Host.absf x) (broadcastInDim s ![] hb (constant (F := Ideal) S_ .f32 0x7F800000#32))) (constantI S_ 1 1#1) h hu (fun k => k.elim0) = 1#1) :
    Attn.Finite x := by
  intro i
  haveI : Subsingleton S_.Idx := ⟨fun a b => funext fun k => k.elim0⟩
  have e := Host.reduce_andi_all _ _ h hu _ e i
  have e' : BitVec.ofBool (decide (max (x i : EReal) (-(x i : EReal)) < Ideal.ofBits .f32 0x7F800000#32)) = 1#1 := e
  rw [bits_top] at e'
  refine real_of_lt _ ?_
  by_contra hn
  rw [decide_eq_false hn] at e'
  exact absurd e' (by decide)

/-- Where the precondition holds, the queries and the keys are finite. -/
theorem finite [Cert.Pre_finite_scores.Facts] (a0 : FVec Ideal S8x2048x4x64 .f32) (a1 : FVec Ideal S8x2048x4x32 .f32) (a2 : FVec Ideal S8x2048x4x64 .f32) (a3 : FVec Ideal S8x2048x32 .f32)
    (a4 : FVec Ideal S8x2048x4x64 .f32) (a5 : FVec Ideal S8x2048x2304 .f32) (e : fn (F := Ideal) a0 a1 a2 a3 a4 a5 = fun _ => 1#1) :
    Attn.Finite a0 ∧ Attn.Finite a1 ∧ Attn.Finite a2 ∧ Attn.Finite a3 := by
  have e := congrFun e (fun k => k.elim0)
  simp only [fn, fn_part1, andi] at e
  obtain ⟨e, e3⟩ := IntOp.andi_eq_one.1 e
  obtain ⟨e, e2⟩ := IntOp.andi_eq_one.1 e
  obtain ⟨e0, e1⟩ := IntOp.andi_eq_one.1 e
  exact ⟨finite_of_reduce _ _ _ _ e0, finite_of_reduce _ _ _ _ e1, finite_of_reduce _ _ _ _ e2, finite_of_reduce _ _ _ _ e3⟩

end Cert.AttnPre
-- ==== Proof.OutProj.lean ====
/-
The output projection: the four branches side by side, times the weights, scaled to mean square one, times the norm's
weights, added to the layer's input. What a block computes, what the reference computes, and that the blocks make up the
reference's array.
-/
module

public import proofs.«01_k».proof.Proof.Gen.Kernel2Ideal.Value
public import proofs.«01_k».proof.Proof.Gen.Reference2Ideal.Run
public import Idealize.ShloMosaic.Lib.Pointwise
public import Idealize.ShloMosaic.Lib.Claim
public import Idealize.ShloMosaic.Lib.Pipeline.ValueKit

set_option maxRecDepth 16384

@[expose] public section

namespace Cert.OutProj

open Idealize.ShloMosaic Idealize.SL.Sem

/-- The factor that makes a row's mean square one, as both programs compute it. -/
noncomputable def unit (f : Fin 1024 → EReal) : EReal :=
  Ideal.rsqrt (Ideal.div (∑ l, f l * f l) (Ideal.ofBits .f32 0x44800000#32) + Ideal.ofBits .f32 0x358637BD#32)

/-- A row of the four branches side by side. -/
noncomputable def row (f0 f1 f2 f3 : Fin 256 → EReal) (k : Fin 1024) : EReal :=
  if h0 : k.val < 256 then f0 ⟨k, h0⟩ else if h1 : k.val - 256 < 256 then f1 ⟨k - 256, h1⟩
    else if h2 : k.val - 256 - 256 < 256 then f2 ⟨k - 256 - 256, h2⟩ else f3 ⟨k - 256 - 256 - 256, by omega⟩

/-! ## A block of the kernel -/

section

open Cert.Kernel2Ideal Cert.Kernel2Ideal.Gen

/-- The four blocks side by side. -/
noncomputable def wide (v0 v2 v4 v6 : Vec Ideal S1x1024x256 .bf16) : FVec Ideal S1024x1024 .bf16 :=
  concatenate S1024x1024 1 [⟨S1024x256, shapeCast S1024x256 v0 shapeCasts_S1x1024x256_S1024x256⟩, ⟨S1024x256, shapeCast S1024x256 v2 shapeCasts_S1x1024x256_S1024x256⟩,
    ⟨S1024x256, shapeCast S1024x256 v4 shapeCasts_S1x1024x256_S1024x256⟩, ⟨S1024x256, shapeCast S1024x256 v6 shapeCasts_S1x1024x256_S1024x256⟩]
    concatenates_S1024x256_S1024x256_S1024x256_S1024x256_S1024x1024_d1

/-- Their product with the weights. -/
noncomputable def product (x : FVec Ideal S1024x1024 .bf16) (w : Vec Ideal S1x1024x1024 .bf16) : FVec Ideal S1024x1024 .f32 :=
  matmul dot_S1024x1024_S1024x1024_S1024x1024_1_0_0_1_n_n none x (shapeCast S1024x1024 w shapeCasts_S1x1024x1024_S1024x1024 : FVec Ideal S1024x1024 .bf16) (constant S1024x1024 .f32 0x00000000#32)

/-- The factor of each row. -/
noncomputable def factor (y : FVec Ideal S1024x1024 .f32) : FVec Ideal S1024x1 .f32 :=
  rsqrt (addf (divf (shapeCast S1024x1 (multiReduction .add [1] S1024 (mulf y y) 0x00000000#32 reduces_S1024x1024_S1024 (.inl rfl) rfl) shapeCasts_S1024_S1024x1)
      (broadcast S1024x1 (Scalar.ofBits .f32 0x44800000#32)))
    (broadcast S1024x1 (Scalar.ofBits .f32 0x358637BD#32)))

/-- The rows normed, weighed and added to the input. -/
noncomputable def normed (y : FVec Ideal S1024x1024 .f32) (h : Vec Ideal S1x1024x1024 .f32) (g : Vec Ideal S1x1024 .f32) : FVec Ideal S1024x1024 .f32 :=
  addf (shapeCast S1024x1024 h shapeCasts_S1x1024x1024_S1024x1024)
    (mulf (mulf y (broadcastTo S1024x1024 (factor y) broadcasts_S1024x1_S1024x1024))
      (broadcastTo S1024x1024 (shapeCast S1x1024 g shapeCasts_S1x1024_S1x1024) broadcasts_S1x1024_S1024x1024))

theorem pay_eq (v0 v2 v4 v6 : Vec Ideal S1x1024x256 .bf16) (w : Vec Ideal S1x1024x1024 .bf16) (h : Vec Ideal S1x1024x1024 .f32) (g : Vec Ideal S1x1024 .f32) :
    k0_pay2 v0 v2 v4 v6 w h g = normed (product (wide v0 v2 v4 v6) w) h g := by
  unfold k0_pay2 normed factor product wide
  rfl

theorem wide_apply (v0 v2 v4 v6 : Vec Ideal S1x1024x256 .bf16) (a k : Fin 1024) :
    wide v0 v2 v4 v6 (ix2 a k) = row (fun l => v0 (ix3 0 a l)) (fun l => v2 (ix3 0 a l)) (fun l => v4 (ix3 0 a l)) (fun l => v6 (ix3 0 a l)) k := by
  pointwise [wide, row]

theorem product_apply (x : FVec Ideal S1024x1024 .bf16) (w : Vec Ideal S1x1024x1024 .bf16) (a j : Fin 1024) :
    product x w (ix2 a j) = (∑ k : Fin 1024, x (ix2 a k) * w (ix3 0 k j) : EReal) := by
  pointwise [product]

theorem factor_apply (y : FVec Ideal S1024x1024 .f32) (a : Fin 1024) : factor y (ix2 a 0) = unit fun l => y (ix2 a l) := by
  pointwise [factor, unit]

theorem normed_apply (y : FVec Ideal S1024x1024 .f32) (h : Vec Ideal S1x1024x1024 .f32) (g : Vec Ideal S1x1024 .f32) (a j : Fin 1024) :
    normed y h g (ix2 a j) = (h (ix3 0 a j) + y (ix2 a j) * factor y (ix2 a 0) * g (ix2 0 j) : EReal) := by
  pointwise [normed]

end

/-! ## The reference -/

section

open Cert.Reference2Ideal Cert.Reference2Ideal.Gen

/-- The four branches side by side. -/
noncomputable def wide' (v0 v2 v4 v6 : FVec Ideal S8x2048x256 .bf16) : FVec Ideal S8x2048x1024 .f32 :=
  extf .f32 (concatenate S8x2048x1024 2 [⟨S8x2048x256, v0⟩, ⟨S8x2048x256, v2⟩, ⟨S8x2048x256, v4⟩, ⟨S8x2048x256, v6⟩]
    concatenates_S8x2048x256_S8x2048x256_S8x2048x256_S8x2048x256_S8x2048x1024_d2) bitsLt_bf16_f32

/-- Their product with the weights of the last layer. -/
noncomputable def product' (x : FVec Ideal S8x2048x1024 .f32) (w : FVec Ideal S2x1024x1024 .f32) : FVec Ideal S8x2048x1024 .f32 :=
  Host.dotGeneral dot_S8x2048x1024_S1024x1024_S8x2048x1024_2_0_01_1_n_n none x
    (shapeCast S1024x1024 (extractStridedSlice S1x1024x1024 ![1, 0, 0] w slices_S2x1024x1024_S1x1024x1024_1_0_0) shapeCasts_S1x1024x1024_S1024x1024)

/-- The factor of each row. -/
noncomputable def factor' (y : FVec Ideal S8x2048x1024 .f32) : FVec Ideal S8x2048x1 .f32 :=
  Host.rsqrt (addf (Host.divf (broadcastInDim S8x2048x1 ![0, 1] bcast_S8x2048_S8x2048x1_0_1
        (Host.reduceAdd (mulf y y) (constant S_ .f32 0x00000000#32) reducesTo_S8x2048x1024_S8x2048_d2 h_S_))
      (broadcastInDim S8x2048x1 ![] bcast_S_S8x2048x1 (constant S_ .f32 0x44800000#32)))
    (broadcastInDim S8x2048x1 ![] bcast_S_S8x2048x1 (constant S_ .f32 0x358637BD#32)))

/-- The rows normed, weighed and added to the input. -/
noncomputable def normed' (y h : FVec Ideal S8x2048x1024 .f32) (g : FVec Ideal S2x1024 .f32) : FVec Ideal S8x2048x1024 .f32 :=
  addf h (mulf (mulf y (broadcastInDim S8x2048x1024 ![0, 1, 2] bcast_S8x2048x1_S8x2048x1024_0_1_2 (factor' y)))
    (broadcastInDim S8x2048x1024 ![0, 1, 2] bcast_S1x1x1024_S8x2048x1024_0_1_2 (broadcastInDim S1x1x1024 ![2] bcast_S1024_S1x1x1024_2
      (shapeCast S1024 (extractStridedSlice S1x1024 ![1, 0] g slices_S2x1024_S1x1024_1_0) shapeCasts_S1x1024_S1024))))

theorem wide'_apply (v0 v2 v4 v6 : FVec Ideal S8x2048x256 .bf16) (b : Fin 8) (r : Fin 2048) (k : Fin 1024) :
    wide' v0 v2 v4 v6 (ix3 b r k) = row (fun l => v0 (ix3 b r l)) (fun l => v2 (ix3 b r l)) (fun l => v4 (ix3 b r l)) (fun l => v6 (ix3 b r l)) k := by
  pointwise [wide', row]

theorem product'_apply (x : FVec Ideal S8x2048x1024 .f32) (w : FVec Ideal S2x1024x1024 .f32) (b : Fin 8) (r : Fin 2048) (j : Fin 1024) :
    product' x w (ix3 b r j) = (∑ k : Fin 1024, x (ix3 b r k) * w (ix3 1 k j) : EReal) := by
  pointwise [product']

theorem factor'_apply (y : FVec Ideal S8x2048x1024 .f32) (b : Fin 8) (r : Fin 2048) : factor' y (ix3 b r 0) = unit fun l => y (ix3 b r l) := by
  pointwise [factor', unit]

theorem normed'_apply (y h : FVec Ideal S8x2048x1024 .f32) (g : FVec Ideal S2x1024 .f32) (b : Fin 8) (r : Fin 2048) (j : Fin 1024) :
    normed' y h g (ix3 b r j) = (h (ix3 b r j) + y (ix3 b r j) * factor' y (ix3 b r 0) * g (ix2 1 j) : EReal) := by
  pointwise [normed']

end

/-! ## The operands and the blocks -/

section

open Cert.Kernel2Ideal Cert.Kernel2Ideal.Gen

variable (m : (ℓ : Loc nD τ sig) → Buf (Elt Ideal) ℓ)

/-- The weights the kernel is given. -/
noncomputable def weights (w : FVec Ideal S2x1024x1024 .f32) : FVec Ideal S2x1024x1024 .bf16 := truncf .bf16 w bitsLt_bf16_f32

/-- The norm's weights the kernel is given. -/
noncomputable def gains (g : FVec Ideal S2x1024 .f32) : FVec Ideal S1x1024 .f32 :=
  broadcastInDim S1x1024 ![1] bcast_S1024_S1x1024_1 (shapeCast S1024 (extractStridedSlice S1x1024 ![1, 0] g slices_S2x1024_S1x1024_1_0) shapeCasts_S1x1024_S1024)

theorem gains_apply (g : FVec Ideal S2x1024 .f32) (j : Fin 1024) : gains g (ix2 0 j) = g (ix2 1 j) := by
  pointwise [gains]

theorem weights_eq (c : Dev nD) : V m c main_v0 = weights (m ((c.tc : Thread nD τ).loc main_arg4)) := by
  unfold V
  simp only [hostOps0]
  after_results
  rfl

theorem gains_eq (c : Dev nD) : V m c main_v3 = gains (m ((c.tc : Thread nD τ).loc main_arg6)) := by
  unfold V
  simp only [hostOps0]
  after_results
  rfl

/-- There are 16 points. -/
theorem lt16 (t : Fin cfg0.N) : t.val < 16 := by
  have h : cfg0.N = 16 := by decide +kernel
  exact h ▸ t.isLt

/-- The block index of each window at a point. -/
theorem index0 : ∀ t : Fin cfg0.N, win0_0.index t 0 = t.val / 2 ∧ win0_0.index t 1 = t.val % 2 ∧ win0_0.index t 2 = 0 :=
  (by decide +kernel : ∀ t : Fin grid0.N, _)
theorem index1 : ∀ t : Fin cfg0.N, win0_1.index t 0 = t.val / 2 ∧ win0_1.index t 1 = t.val % 2 ∧ win0_1.index t 2 = 0 :=
  (by decide +kernel : ∀ t : Fin grid0.N, _)
theorem index2 : ∀ t : Fin cfg0.N, win0_2.index t 0 = t.val / 2 ∧ win0_2.index t 1 = t.val % 2 ∧ win0_2.index t 2 = 0 :=
  (by decide +kernel : ∀ t : Fin grid0.N, _)
theorem index3 : ∀ t : Fin cfg0.N, win0_3.index t 0 = t.val / 2 ∧ win0_3.index t 1 = t.val % 2 ∧ win0_3.index t 2 = 0 :=
  (by decide +kernel : ∀ t : Fin grid0.N, _)
theorem index4 : ∀ t : Fin cfg0.N, win0_4.index t 0 = 1 ∧ win0_4.index t 1 = 0 ∧ win0_4.index t 2 = 0 :=
  (by decide +kernel : ∀ t : Fin grid0.N, _)
theorem index5 : ∀ t : Fin cfg0.N, win0_5.index t 0 = t.val / 2 ∧ win0_5.index t 1 = t.val % 2 ∧ win0_5.index t 2 = 0 :=
  (by decide +kernel : ∀ t : Fin grid0.N, _)
theorem index6 : ∀ t : Fin cfg0.N, win0_6.index t 0 = 0 ∧ win0_6.index t 1 = 0 :=
  (by decide +kernel : ∀ t : Fin grid0.N, _)
theorem index7 : ∀ t : Fin cfg0.N, win0_7.index t 0 = t.val / 2 ∧ win0_7.index t 1 = t.val % 2 ∧ win0_7.index t 2 = 0 :=
  (by decide +kernel : ∀ t : Fin grid0.N, _)

section

variable (c : Dev nD) (t : Fin cfg0.N) (b : Fin 8) (hb : t.val / 2 = b.val) (a : Fin 1024) (r : Fin 2048) (hr : r.val = 1024 * (t.val % 2) + a.val)

include hb hr

/-- The blocks of the four branches. -/
theorem read0 (j : Fin 256) : iblk m c 0 t (ix3 0 a j) = m ((c.tc : Thread nD τ).loc main_arg0) (ix3 b r j) := by
  have := index0 t
  have e : V m c main_arg0 = m ((c.tc : Thread nD τ).loc main_arg0) := rfl
  rw [← e]
  blk_ext [iblk]
theorem read1 (j : Fin 256) : iblk m c 1 t (ix3 0 a j) = m ((c.tc : Thread nD τ).loc main_arg1) (ix3 b r j) := by
  have := index1 t
  have e : V m c main_arg1 = m ((c.tc : Thread nD τ).loc main_arg1) := rfl
  rw [← e]
  blk_ext [iblk]
theorem read2 (j : Fin 256) : iblk m c 2 t (ix3 0 a j) = m ((c.tc : Thread nD τ).loc main_arg2) (ix3 b r j) := by
  have := index2 t
  have e : V m c main_arg2 = m ((c.tc : Thread nD τ).loc main_arg2) := rfl
  rw [← e]
  blk_ext [iblk]
theorem read3 (j : Fin 256) : iblk m c 3 t (ix3 0 a j) = m ((c.tc : Thread nD τ).loc main_arg3) (ix3 b r j) := by
  have := index3 t
  have e : V m c main_arg3 = m ((c.tc : Thread nD τ).loc main_arg3) := rfl
  rw [← e]
  blk_ext [iblk]

/-- The block of the layer's input. -/
theorem read5 (j : Fin 1024) : iblk m c 5 t (ix3 0 a j) = m ((c.tc : Thread nD τ).loc main_arg5) (ix3 b r j) := by
  have := index5 t
  have e : V m c main_arg5 = m ((c.tc : Thread nD τ).loc main_arg5) := rfl
  rw [← e]
  blk_ext [iblk]

end

/-- The weights of the last layer are one block. -/
theorem read4 (c : Dev nD) (t : Fin cfg0.N) (k j : Fin 1024) : iblk m c 4 t (ix3 0 k j) = m ((c.tc : Thread nD τ).loc main_arg4) (ix3 1 k j) := by
  have e : weights (m ((c.tc : Thread nD τ).loc main_arg4)) (ix3 1 k j) = m ((c.tc : Thread nD τ).loc main_arg4) (ix3 1 k j) := rfl
  rw [← e, ← weights_eq]
  have := index4 t
  blk_ext [iblk]

/-- The norm's weights are one block. -/
theorem read6 (c : Dev nD) (t : Fin cfg0.N) (j : Fin 1024) : iblk m c 6 t (ix2 0 j) = m ((c.tc : Thread nD τ).loc main_arg6) (ix2 1 j) := by
  rw [← gains_apply (m ((c.tc : Thread nD τ).loc main_arg6)), ← gains_eq]
  have := index6 t
  blk_ext [iblk]

/-- A load of a whole block is the block. -/
theorem ld0 (X : Vec Ideal S1x1024x256 .bf16) : View.ld X r0_0 = X := View.ld_unit_lit _ X (by decide)
theorem ld1 {e : EltTy} (X : Vec Ideal S1x1024x1024 e) : View.ld X r0_1 = X := View.ld_unit_lit _ X (by decide)
theorem ld2 (X : Vec Ideal S1x1024 .f32) : View.ld X r0_2 = X := View.ld_unit_lit _ X (by decide)

/-- A point's output block at an index. -/
theorem out_apply (X0 X1 X2 X3 : Vec Ideal S1x1024x256 .bf16) (X4 : Vec Ideal S1x1024x1024 .bf16) (X5 : Vec Ideal S1x1024x1024 .f32) (X6 : Vec Ideal S1x1024 .f32) (a j : Fin 1024) :
    out0_7 X0 X1 X2 X3 X4 X5 X6 (ix3 0 a j) = normed (product (wide X0 X1 X2 X3) X4) X5 X6 (ix2 a j) := by
  rw [← pay_eq, out0_7, Cert.Kernel2Ideal.Value.canon7_eq, ld0, ld0, ld0, ld0, ld1, ld1, ld2]
  exact congrArg (k0_pay2 X0 X1 X2 X3 X4 X5 X6) (funext fun i => match i with | ⟨0, _⟩ => rfl | ⟨1, _⟩ => rfl)

/-- The result array is the reference's array of the arguments. -/
theorem final (c : Dev nD) (v0 v2 v4 v6 : FVec Ideal S8x2048x256 .bf16) (w : FVec Ideal S2x1024x1024 .f32) (h : FVec Ideal S8x2048x1024 .f32) (g : FVec Ideal S2x1024 .f32)
    (e0 : m ((c.tc : Thread nD τ).loc main_arg0) = v0) (e1 : m ((c.tc : Thread nD τ).loc main_arg1) = v2) (e2 : m ((c.tc : Thread nD τ).loc main_arg2) = v4)
    (e3 : m ((c.tc : Thread nD τ).loc main_arg3) = v6) (e4 : m ((c.tc : Thread nD τ).loc main_arg4) = w) (e5 : m ((c.tc : Thread nD τ).loc main_arg5) = h)
    (e6 : m ((c.tc : Thread nD τ).loc main_arg6) = g) :
    (dats m 0 c).arrAt 7 cfg0.N = normed' (product' (wide' v0 v2 v4 v6) w) h g := by
  refine (dats m 0 c).arrAt_eq_of_covers 7 _ (by decide +kernel) fun t hf y => ?_
  blk_simp
  rw [after0_7]
  have hi := index7 t
  have ht := lt16 t
  obtain ⟨a, j, rfl⟩ : ∃ a j : Fin 1024, y = ix3 0 a j := ⟨y 1, y 2, by blk_ext⟩
  have e : (win0_7.blk t).view.emb (ix3 0 a j) = (ix3 ⟨t.val / 2, by omega⟩ ⟨1024 * (t.val % 2) + a, by omega⟩ j : S8x2048x1024.Idx) := by
    blk_ext
  rw [e]
  generalize hb : (⟨t.val / 2, by omega⟩ : Fin 8) = b
  generalize hr : (⟨1024 * (t.val % 2) + a, by omega⟩ : Fin 2048) = r
  have hb' : t.val / 2 = b.val := by rw [← hb]
  have hr' : r.val = 1024 * (t.val % 2) + a.val := by rw [← hr]
  have ey : ∀ l : Fin 1024, product (wide (iblk m c 0 t) (iblk m c 1 t) (iblk m c 2 t) (iblk m c 3 t)) (iblk m c 4 t) (ix2 a l)
      = product' (wide' v0 v2 v4 v6) w (ix3 b r l) := fun l => by
    rw [product_apply, product'_apply]
    refine Finset.sum_congr rfl fun k _ => ?_
    rw [wide_apply, wide'_apply, read4 m c t, e4]
    simp only [read0 m c t b hb' a r hr', read1 m c t b hb' a r hr', read2 m c t b hb' a r hr', read3 m c t b hb' a r hr', e0, e1, e2, e3]
  refine (out_apply _ _ _ _ _ _ _ a j).trans ?_
  rw [normed_apply, normed'_apply, factor_apply, factor'_apply, read5 m c t b hb' a r hr', read6 m c t, e5, e6]
  simp only [ey]

end

end Cert.OutProj
-- ==== Proof.OutClaim.lean ====
/-
The two statements on the output projection that Proof.lean cites: the reference's frame and that the results are equal.
-/
module

public import proofs.«01_k».proof.Defs
public import proofs.«01_k».proof.Proof.OutProj
public import Idealize.ShloMosaic.Adequacy
public import Idealize.ShloMosaic.Init

set_option maxRecDepth 16384

@[expose] public section

namespace Cert.OutProj

open Idealize.ShloMosaic Idealize.SL.Sem

/-- The reference terminates with its arguments unchanged and, as it declares no semaphore, every counter at zero. -/
theorem frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0) :=
  (θ_run Cert.Reference2Ideal.defs _ _).mono (fun r h => ⟨fun c => (h c).2, Idealize.ShloMosaic.sem_eq_zero_of_no_sems (by decide) r.2⟩)
    (Cert.Reference2Ideal.Value.run (F := Ideal) m g)

/-- The two results of the output projection are equal. -/
theorem equal [Cert.Kernel2Ideal.Facts] [Cert.Reference2Ideal.Facts] : Cert.algebraic_Kernel2Ideal_Reference2Ideal := by
  intro m g m' g' _ ha
  refine ⟨fun c => (Cert.Kernel2Ideal.Gen.dats m 0 c).arrAt 7 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run m' g')
  obtain ⟨h0, h1, h2, h3, h4, h5, h6⟩ := ha c
  exact (final m c _ _ _ _ _ _ _ h0.symm h1.symm h2.symm h3.symm h4.symm h5.symm h6.symm).symm

end Cert.OutProj
-- ==== Proof.InHost.lean ====
/-
The weights of the input projection as the kernel is given them: the columns of one layer's weights put in the order in
which the kernel cuts its product, one segment multiplied by a factor.
-/
module

public import proofs.«01_k».proof.Proof.Gen.Kernel3Ideal.Frame
public import Idealize.ShloMosaic.Lib.Pointwise
public import Idealize.ShloMosaic.Lib.Claim
public import Idealize.ShloMosaic.Lib.Pipeline.ValueKit

set_option maxRecDepth 16384

@[expose] public section

namespace Cert.InProj

open Idealize.ShloMosaic Idealize.SL.Sem
open Cert.Kernel3Ideal Cert.Kernel3Ideal.Gen

/-- The factor of the second mixer's queries. -/
noncomputable def scale : FVec Ideal S_ .f32 :=
  Host.divf (constant S_ .f32 0x3F800000#32) (mulf (Host.sqrt (constant S_ .f32 0x42800000#32)) (Host.log (constant S_ .f32 0x40000000#32)))

section

variable (w : FVec Ideal S2x1024x3976 .f32)

/-- The columns the first mixer's latents are made of, with their rotated copies and the padding. -/
noncomputable def left : FVec Ideal S2x1024x640 .f32 :=
  concatenate S2x1024x640 2 [⟨S2x1024x192, extractStridedSlice S2x1024x192 ![0, 0, 0] w slices_S2x1024x3976_S2x1024x192_0_0_0⟩,
    ⟨S2x1024x64, broadcastInDim S2x1024x64 ![] bcast_S_S2x1024x64 (constant S_ .f32 0x00000000#32)⟩,
    ⟨S2x1024x128, extractStridedSlice S2x1024x128 ![0, 0, 192] w slices_S2x1024x3976_S2x1024x128_0_0_192⟩,
    ⟨S2x1024x64, broadcastInDim S2x1024x64 ![] bcast_S_S2x1024x64 (constant S_ .f32 0x00000000#32)⟩,
    ⟨S2x1024x32, extractStridedSlice S2x1024x32 ![0, 0, 320] w slices_S2x1024x3976_S2x1024x32_0_0_320⟩,
    ⟨S2x1024x96, broadcastInDim S2x1024x96 ![] bcast_S_S2x1024x96 (constant S_ .f32 0x00000000#32)⟩,
    ⟨S2x1024x16, Host.negf (extractStridedSlice S2x1024x16 ![0, 0, 16] (extractStridedSlice S2x1024x32 ![0, 0, 320] w slices_S2x1024x3976_S2x1024x32_0_0_320) slices_S2x1024x32_S2x1024x16_0_0_16)⟩,
    ⟨S2x1024x16, extractStridedSlice S2x1024x16 ![0, 0, 0] (extractStridedSlice S2x1024x32 ![0, 0, 320] w slices_S2x1024x3976_S2x1024x32_0_0_320) slices_S2x1024x32_S2x1024x16_0_0_0⟩,
    ⟨S2x1024x32, broadcastInDim S2x1024x32 ![] bcast_S_S2x1024x32 (constant S_ .f32 0x00000000#32)⟩]
    concatenates_S2x1024x192_S2x1024x64_S2x1024x128_S2x1024x64_S2x1024x32_S2x1024x96_S2x1024x16_S2x1024x16_S2x1024x32_S2x1024x640_d2

/-- The columns of the single precision outputs. -/
noncomputable def mid : FVec Ideal S2x1024x2176 .f32 :=
  concatenate S2x1024x2176 2 [⟨S2x1024x8, extractStridedSlice S2x1024x8 ![0, 0, 2688] w slices_S2x1024x3976_S2x1024x8_0_0_2688⟩,
    ⟨S2x1024x120, broadcastInDim S2x1024x120 ![] bcast_S_S2x1024x120 (constant S_ .f32 0x00000000#32)⟩,
    ⟨S2x1024x256, extractStridedSlice S2x1024x256 ![0, 0, 352] w slices_S2x1024x3976_S2x1024x256_0_0_352⟩,
    ⟨S2x1024x256, extractStridedSlice S2x1024x256 ![0, 0, 1376] w slices_S2x1024x3976_S2x1024x256_0_0_1376⟩,
    ⟨S2x1024x256, extractStridedSlice S2x1024x256 ![0, 0, 1632] w slices_S2x1024x3976_S2x1024x256_0_0_1632⟩,
    ⟨S2x1024x256, extractStridedSlice S2x1024x256 ![0, 0, 2144] w slices_S2x1024x3976_S2x1024x256_0_0_2144⟩,
    ⟨S2x1024x256, extractStridedSlice S2x1024x256 ![0, 0, 2696] w slices_S2x1024x3976_S2x1024x256_0_0_2696⟩,
    ⟨S2x1024x256, extractStridedSlice S2x1024x256 ![0, 0, 2952] w slices_S2x1024x3976_S2x1024x256_0_0_2952⟩,
    ⟨S2x1024x256, extractStridedSlice S2x1024x256 ![0, 0, 3464] w slices_S2x1024x3976_S2x1024x256_0_0_3464⟩,
    ⟨S2x1024x256, extractStridedSlice S2x1024x256 ![0, 0, 3720] w slices_S2x1024x3976_S2x1024x256_0_0_3720⟩]
    concatenates_S2x1024x8_S2x1024x120_S2x1024x256_S2x1024x256_S2x1024x256_S2x1024x256_S2x1024x256_S2x1024x256_S2x1024x256_S2x1024x256_S2x1024x2176_d2

/-- The columns of the half precision outputs. -/
noncomputable def right : FVec Ideal S2x1024x896 .f32 :=
  concatenate S2x1024x896 2 [⟨S2x1024x256, extractStridedSlice S2x1024x256 ![0, 0, 1888] w slices_S2x1024x3976_S2x1024x256_0_0_1888⟩,
    ⟨S2x1024x256, extractStridedSlice S2x1024x256 ![0, 0, 2400] w slices_S2x1024x3976_S2x1024x256_0_0_2400⟩,
    ⟨S2x1024x256, extractStridedSlice S2x1024x256 ![0, 0, 3208] w slices_S2x1024x3976_S2x1024x256_0_0_3208⟩,
    ⟨S2x1024x32, extractStridedSlice S2x1024x32 ![0, 0, 2656] w slices_S2x1024x3976_S2x1024x32_0_0_2656⟩,
    ⟨S2x1024x32, extractStridedSlice S2x1024x32 ![0, 0, 2656] w slices_S2x1024x3976_S2x1024x32_0_0_2656⟩,
    ⟨S2x1024x32, extractStridedSlice S2x1024x32 ![0, 0, 2656] w slices_S2x1024x3976_S2x1024x32_0_0_2656⟩,
    ⟨S2x1024x32, extractStridedSlice S2x1024x32 ![0, 0, 2656] w slices_S2x1024x3976_S2x1024x32_0_0_2656⟩]
    concatenates_S2x1024x256_S2x1024x256_S2x1024x256_S2x1024x32_S2x1024x32_S2x1024x32_S2x1024x32_S2x1024x896_d2

/-- The columns of the second mixer, its queries multiplied by the factor. -/
noncomputable def slabs : FVec Ideal S2x1024x768 .f32 :=
  concatenate S2x1024x768 2 [⟨S2x1024x256, mulf (extractStridedSlice S2x1024x256 ![0, 0, 608] w slices_S2x1024x3976_S2x1024x256_0_0_608) (broadcastInDim S2x1024x256 ![] bcast_S_S2x1024x256 scale)⟩,
    ⟨S2x1024x256, extractStridedSlice S2x1024x256 ![0, 0, 864] w slices_S2x1024x3976_S2x1024x256_0_0_864⟩,
    ⟨S2x1024x256, extractStridedSlice S2x1024x256 ![0, 0, 1120] w slices_S2x1024x3976_S2x1024x256_0_0_1120⟩]
    concatenates_S2x1024x256_S2x1024x256_S2x1024x256_S2x1024x768_d2

/-- The four side by side. -/
noncomputable def arranged : FVec Ideal S2x1024x4480 .bf16 :=
  truncf .bf16 (concatenate S2x1024x4480 2 [⟨S2x1024x640, left w⟩, ⟨S2x1024x2176, mid w⟩, ⟨S2x1024x896, right w⟩, ⟨S2x1024x768, slabs w⟩]
    concatenates_S2x1024x640_S2x1024x2176_S2x1024x896_S2x1024x768_S2x1024x4480_d2) bitsLt_bf16_f32

/-! ## The parts side by side -/

theorem arranged_mid (k : Fin 1024) (j : Fin 2176) : arranged w (ix3 0 k ⟨640 + j, by omega⟩) = mid w (ix3 0 k j) := by
  unfold arranged
  generalize left w = L
  generalize mid w = M
  generalize right w = R
  generalize slabs w = S
  pointwise

theorem arranged_right (k : Fin 1024) (j : Fin 896) : arranged w (ix3 0 k ⟨2816 + j, by omega⟩) = right w (ix3 0 k j) := by
  unfold arranged
  generalize left w = L
  generalize mid w = M
  generalize right w = R
  generalize slabs w = S
  pointwise
  all_goals
    repeat first | rw [dif_pos (by omega)] | rw [dif_neg (by omega)]
    exact congrArg (fun l => R (ix3 0 k l)) (Fin.ext (by dsimp only; omega))

theorem arranged_slabs (k : Fin 1024) (j : Fin 768) : arranged w (ix3 0 k ⟨3712 + j, by omega⟩) = slabs w (ix3 0 k j) := by
  unfold arranged
  generalize left w = L
  generalize mid w = M
  generalize right w = R
  generalize slabs w = S
  pointwise
  all_goals
    repeat first | rw [dif_pos (by omega)] | rw [dif_neg (by omega)]
    exact congrArg (fun l => S (ix3 0 k l)) (Fin.ext (by dsimp only; omega))

/-! ## The segments -/

theorem c_wi (k : Fin 1024) (j : Fin 8) : arranged w (ix3 0 k ⟨640 + j, by omega⟩) = w (ix3 0 k ⟨2688 + j, by omega⟩) := by
  refine Eq.trans ?_ ((arranged_mid w k ⟨0 + j, by omega⟩).trans ?_)
  · exact congrArg (fun l => arranged w (ix3 0 k l)) (Fin.ext (by show 640 + j.val = 640 + (0 + j.val); omega))
  · pointwise [mid]
    all_goals
      repeat first | rw [dif_pos (by omega)] | rw [dif_neg (by omega)]
      exact congrArg (fun l => w (ix3 0 k l)) (Fin.ext (by dsimp only; omega))

theorem a_g (k : Fin 1024) (j : Fin 256) : arranged w (ix3 0 k ⟨768 + j, by omega⟩) = w (ix3 0 k ⟨352 + j, by omega⟩) := by
  refine Eq.trans ?_ ((arranged_mid w k ⟨128 + j, by omega⟩).trans ?_)
  · exact congrArg (fun l => arranged w (ix3 0 k l)) (Fin.ext (by show 768 + j.val = 640 + (128 + j.val); omega))
  · pointwise [mid]
    all_goals
      repeat first | rw [dif_pos (by omega)] | rw [dif_neg (by omega)]
      exact congrArg (fun l => w (ix3 0 k l)) (Fin.ext (by dsimp only; omega))

theorem b_g (k : Fin 1024) (j : Fin 256) : arranged w (ix3 0 k ⟨1024 + j, by omega⟩) = w (ix3 0 k ⟨1376 + j, by omega⟩) := by
  refine Eq.trans ?_ ((arranged_mid w k ⟨384 + j, by omega⟩).trans ?_)
  · exact congrArg (fun l => arranged w (ix3 0 k l)) (Fin.ext (by show 1024 + j.val = 640 + (384 + j.val); omega))
  · pointwise [mid]
    all_goals
      repeat first | rw [dif_pos (by omega)] | rw [dif_neg (by omega)]
      exact congrArg (fun l => w (ix3 0 k l)) (Fin.ext (by dsimp only; omega))

theorem c_q (k : Fin 1024) (j : Fin 256) : arranged w (ix3 0 k ⟨1280 + j, by omega⟩) = w (ix3 0 k ⟨1632 + j, by omega⟩) := by
  refine Eq.trans ?_ ((arranged_mid w k ⟨640 + j, by omega⟩).trans ?_)
  · exact congrArg (fun l => arranged w (ix3 0 k l)) (Fin.ext (by show 1280 + j.val = 640 + (640 + j.val); omega))
  · pointwise [mid]
    all_goals
      repeat first | rw [dif_pos (by omega)] | rw [dif_neg (by omega)]
      exact congrArg (fun l => w (ix3 0 k l)) (Fin.ext (by dsimp only; omega))

theorem c_v (k : Fin 1024) (j : Fin 256) : arranged w (ix3 0 k ⟨1536 + j, by omega⟩) = w (ix3 0 k ⟨2144 + j, by omega⟩) := by
  refine Eq.trans ?_ ((arranged_mid w k ⟨896 + j, by omega⟩).trans ?_)
  · exact congrArg (fun l => arranged w (ix3 0 k l)) (Fin.ext (by show 1536 + j.val = 640 + (896 + j.val); omega))
  · pointwise [mid]
    all_goals
      repeat first | rw [dif_pos (by omega)] | rw [dif_neg (by omega)]
      exact congrArg (fun l => w (ix3 0 k l)) (Fin.ext (by dsimp only; omega))

theorem c_g (k : Fin 1024) (j : Fin 256) : arranged w (ix3 0 k ⟨1792 + j, by omega⟩) = w (ix3 0 k ⟨2696 + j, by omega⟩) := by
  refine Eq.trans ?_ ((arranged_mid w k ⟨1152 + j, by omega⟩).trans ?_)
  · exact congrArg (fun l => arranged w (ix3 0 k l)) (Fin.ext (by show 1792 + j.val = 640 + (1152 + j.val); omega))
  · pointwise [mid]
    all_goals
      repeat first | rw [dif_pos (by omega)] | rw [dif_neg (by omega)]
      exact congrArg (fun l => w (ix3 0 k l)) (Fin.ext (by dsimp only; omega))

theorem d_q (k : Fin 1024) (j : Fin 256) : arranged w (ix3 0 k ⟨2048 + j, by omega⟩) = w (ix3 0 k ⟨2952 + j, by omega⟩) := by
  refine Eq.trans ?_ ((arranged_mid w k ⟨1408 + j, by omega⟩).trans ?_)
  · exact congrArg (fun l => arranged w (ix3 0 k l)) (Fin.ext (by show 2048 + j.val = 640 + (1408 + j.val); omega))
  · pointwise [mid]
    all_goals
      repeat first | rw [dif_pos (by omega)] | rw [dif_neg (by omega)]
      exact congrArg (fun l => w (ix3 0 k l)) (Fin.ext (by dsimp only; omega))

theorem d_v (k : Fin 1024) (j : Fin 256) : arranged w (ix3 0 k ⟨2304 + j, by omega⟩) = w (ix3 0 k ⟨3464 + j, by omega⟩) := by
  refine Eq.trans ?_ ((arranged_mid w k ⟨1664 + j, by omega⟩).trans ?_)
  · exact congrArg (fun l => arranged w (ix3 0 k l)) (Fin.ext (by show 2304 + j.val = 640 + (1664 + j.val); omega))
  · pointwise [mid]
    all_goals
      repeat first | rw [dif_pos (by omega)] | rw [dif_neg (by omega)]
      exact congrArg (fun l => w (ix3 0 k l)) (Fin.ext (by dsimp only; omega))

theorem d_g (k : Fin 1024) (j : Fin 256) : arranged w (ix3 0 k ⟨2560 + j, by omega⟩) = w (ix3 0 k ⟨3720 + j, by omega⟩) := by
  refine Eq.trans ?_ ((arranged_mid w k ⟨1920 + j, by omega⟩).trans ?_)
  · exact congrArg (fun l => arranged w (ix3 0 k l)) (Fin.ext (by show 2560 + j.val = 640 + (1920 + j.val); omega))
  · pointwise [mid]
    all_goals
      repeat first | rw [dif_pos (by omega)] | rw [dif_neg (by omega)]
      exact congrArg (fun l => w (ix3 0 k l)) (Fin.ext (by dsimp only; omega))

theorem c_k (k : Fin 1024) (j : Fin 256) : arranged w (ix3 0 k ⟨2816 + j, by omega⟩) = w (ix3 0 k ⟨1888 + j, by omega⟩) := by
  refine Eq.trans ?_ ((arranged_right w k ⟨0 + j, by omega⟩).trans ?_)
  · exact congrArg (fun l => arranged w (ix3 0 k l)) (Fin.ext (by show 2816 + j.val = 2816 + (0 + j.val); omega))
  · pointwise [right]
    all_goals
      repeat first | rw [dif_pos (by omega)] | rw [dif_neg (by omega)]
      exact congrArg (fun l => w (ix3 0 k l)) (Fin.ext (by dsimp only; omega))

theorem c_qi (k : Fin 1024) (j : Fin 256) : arranged w (ix3 0 k ⟨3072 + j, by omega⟩) = w (ix3 0 k ⟨2400 + j, by omega⟩) := by
  refine Eq.trans ?_ ((arranged_right w k ⟨256 + j, by omega⟩).trans ?_)
  · exact congrArg (fun l => arranged w (ix3 0 k l)) (Fin.ext (by show 3072 + j.val = 2816 + (256 + j.val); omega))
  · pointwise [right]
    all_goals
      repeat first | rw [dif_pos (by omega)] | rw [dif_neg (by omega)]
      exact congrArg (fun l => w (ix3 0 k l)) (Fin.ext (by dsimp only; omega))

theorem d_k (k : Fin 1024) (j : Fin 256) : arranged w (ix3 0 k ⟨3328 + j, by omega⟩) = w (ix3 0 k ⟨3208 + j, by omega⟩) := by
  refine Eq.trans ?_ ((arranged_right w k ⟨512 + j, by omega⟩).trans ?_)
  · exact congrArg (fun l => arranged w (ix3 0 k l)) (Fin.ext (by show 3328 + j.val = 2816 + (512 + j.val); omega))
  · pointwise [right]
    all_goals
      repeat first | rw [dif_pos (by omega)] | rw [dif_neg (by omega)]
      exact congrArg (fun l => w (ix3 0 k l)) (Fin.ext (by dsimp only; omega))

theorem c_ki (k : Fin 1024) (j : Fin 32) : arranged w (ix3 0 k ⟨3584 + j, by omega⟩) = w (ix3 0 k ⟨2656 + j, by omega⟩) := by
  refine Eq.trans ?_ ((arranged_right w k ⟨768 + j, by omega⟩).trans ?_)
  · exact congrArg (fun l => arranged w (ix3 0 k l)) (Fin.ext (by show 3584 + j.val = 2816 + (768 + j.val); omega))
  · pointwise [right]
    all_goals
      repeat first | rw [dif_pos (by omega)] | rw [dif_neg (by omega)]
      exact congrArg (fun l => w (ix3 0 k l)) (Fin.ext (by dsimp only; omega))

theorem b_k (k : Fin 1024) (j : Fin 256) : arranged w (ix3 0 k ⟨3968 + j, by omega⟩) = w (ix3 0 k ⟨864 + j, by omega⟩) := by
  refine Eq.trans ?_ ((arranged_slabs w k ⟨256 + j, by omega⟩).trans ?_)
  · exact congrArg (fun l => arranged w (ix3 0 k l)) (Fin.ext (by show 3968 + j.val = 3712 + (256 + j.val); omega))
  · pointwise [slabs]
    all_goals
      repeat first | rw [dif_pos (by omega)] | rw [dif_neg (by omega)]
      exact congrArg (fun l => w (ix3 0 k l)) (Fin.ext (by dsimp only; omega))

theorem b_v (k : Fin 1024) (j : Fin 256) : arranged w (ix3 0 k ⟨4224 + j, by omega⟩) = w (ix3 0 k ⟨1120 + j, by omega⟩) := by
  refine Eq.trans ?_ ((arranged_slabs w k ⟨512 + j, by omega⟩).trans ?_)
  · exact congrArg (fun l => arranged w (ix3 0 k l)) (Fin.ext (by show 4224 + j.val = 3712 + (512 + j.val); omega))
  · pointwise [slabs]
    all_goals
      repeat first | rw [dif_pos (by omega)] | rw [dif_neg (by omega)]
      exact congrArg (fun l => w (ix3 0 k l)) (Fin.ext (by dsimp only; omega))

theorem b_q (k : Fin 1024) (j : Fin 256) : arranged w (ix3 0 k ⟨3712 + j, by omega⟩) = (w (ix3 0 k ⟨608 + j, by omega⟩) * scale ix0 : EReal) := by
  refine (arranged_slabs w k ⟨j, by omega⟩).trans ?_
  pointwise [slabs]

end

/-! ## The operands -/

/-- The norm's weights the kernel is given. -/
noncomputable def gains (g : FVec Ideal S2x1024 .f32) : FVec Ideal S1x1024 .f32 :=
  broadcastInDim S1x1024 ![1] bcast_S1024_S1x1024_1 (shapeCast S1024 (extractStridedSlice S1x1024 ![0, 0] g slices_S2x1024_S1x1024_0_0) shapeCasts_S1x1024_S1024)

theorem gains_apply (g : FVec Ideal S2x1024 .f32) (j : Fin 1024) : gains g (ix2 0 j) = g (ix2 0 j) := by
  pointwise [gains]

variable (m : (ℓ : Loc nD τ sig) → Buf (Elt Ideal) ℓ)

set_option maxHeartbeats 4000000 in
theorem gains_eq (c : Dev nD) : V m c main_v104 = gains (m ((c.tc : Thread nD τ).loc main_arg2)) := by
  unfold V V0
  simp only [hostOps0, List.flatten_cons, List.flatten_nil, List.cons_append, List.nil_append, List.append_nil]
  after_results
  rfl

set_option maxHeartbeats 4000000 in
theorem arranged_eq (c : Dev nD) : V m c main_v61 = arranged (m ((c.tc : Thread nD τ).loc main_arg1)) := by
  unfold V V0
  simp only [hostOps0, List.flatten_cons, List.flatten_nil, List.cons_append, List.nil_append, List.append_nil]
  after_results
  rfl

end Cert.InProj
-- ==== Proof.InProj.lean ====
/-
The input projection: a row scaled to mean square one, times the norm's weights, times the weights. What a block computes,
the arrays the blocks make up, and what the reference computes.
-/
module

public import proofs.«01_k».proof.Proof.InHost
public import proofs.«01_k».proof.Proof.OutProj
public import proofs.«01_k».proof.Proof.Gen.Reference3Ideal.Run

set_option maxRecDepth 16384

@[expose] public section

namespace Cert.InProj

open Idealize.ShloMosaic Idealize.SL.Sem
open Cert.OutProj (unit)

/-- An element of the product: a row, normed and weighed, times a column. -/
noncomputable def element (x g w : Fin 1024 → EReal) : EReal := ∑ k, x k * unit x * g k * w k

/-- A column times a real number that is not negative gives the element times that number. -/
theorem element_mul (x g w : Fin 1024 → EReal) (s : ℝ) (hs : 0 ≤ s) : element x g (fun k => w k * (s : EReal)) = element x g w * (s : EReal) := by
  have h : ∀ S : Finset (Fin 1024), (∑ k ∈ S, x k * unit x * g k * (w k * (s : EReal))) = (∑ k ∈ S, x k * unit x * g k * w k) * (s : EReal) := fun S => by
    induction S using Finset.induction_on with
    | empty => simp
    | insert a S ha ih =>
      rw [Finset.sum_insert ha, Finset.sum_insert ha, ih, EReal.right_distrib_of_nonneg_of_ne_top (EReal.coe_nonneg.2 hs) (EReal.coe_ne_top s), mul_assoc _ (w a) (s : EReal)]
  exact h Finset.univ

/-! ## A block of the kernel -/

section

open Cert.Kernel3Ideal Cert.Kernel3Ideal.Gen

/-- The factor of each row. -/
noncomputable def factor (y : FVec Ideal S512x1024 .f32) : FVec Ideal S512x1 .f32 :=
  rsqrt (addf (divf (shapeCast S512x1 (multiReduction .add [1] S512 (mulf y y) 0x00000000#32 reduces_S512x1024_S512 (.inl rfl) rfl) shapeCasts_S512_S512x1)
      (broadcast S512x1 (Scalar.ofBits .f32 0x44800000#32)))
    (broadcast S512x1 (Scalar.ofBits .f32 0x358637BD#32)))

/-- The rows normed and weighed. -/
noncomputable def normed (y : FVec Ideal S512x1024 .f32) (g : Vec Ideal S1x1024 .f32) : FVec Ideal S512x1024 .bf16 :=
  truncf .bf16 (mulf (mulf y (broadcastTo S512x1024 (factor y) broadcasts_S512x1_S512x1024))
    (broadcastTo S512x1024 (shapeCast S1x1024 g shapeCasts_S1x1024_S1x1024) broadcasts_S1x1024_S512x1024)) bitsLt_bf16_f32

/-- Their product with the weights. -/
noncomputable def product (x : FVec Ideal S512x1024 .bf16) (w : Vec Ideal S1x1024x4480 .bf16) : FVec Ideal S512x4480 .f32 :=
  matmul dot_S512x1024_S1024x4480_S512x4480_1_0_0_1_n_n none x (shapeCast S1024x4480 w shapeCasts_S1x1024x4480_S1024x4480 : FVec Ideal S1024x4480 .bf16)
    (constant S512x4480 .f32 0x00000000#32)

theorem pay_eq (x : Vec Ideal S1x512x1024 .f32) (g : Vec Ideal S1x1024 .f32) (w : Vec Ideal S1x1024x4480 .bf16) :
    k0_pay4 x g w = product (normed (shapeCast S512x1024 x shapeCasts_S1x512x1024_S512x1024) g) w := by
  unfold k0_pay4 product normed factor
  rfl

theorem factor_apply (y : FVec Ideal S512x1024 .f32) (a : Fin 512) : factor y (ix2 a 0) = unit fun l => y (ix2 a l) := by
  pointwise [factor, unit]

theorem normed_apply (y : FVec Ideal S512x1024 .f32) (g : Vec Ideal S1x1024 .f32) (a : Fin 512) (k : Fin 1024) :
    normed y g (ix2 a k) = (y (ix2 a k) * factor y (ix2 a 0) * g (ix2 0 k) : EReal) := by
  pointwise [normed]

theorem product_apply (x : FVec Ideal S512x1024 .bf16) (w : Vec Ideal S1x1024x4480 .bf16) (a : Fin 512) (j : Fin 4480) :
    product x w (ix2 a j) = (∑ k : Fin 1024, x (ix2 a k) * w (ix3 0 k j) : EReal) := by
  pointwise [product]

theorem merge_apply (x : Vec Ideal S1x512x1024 .f32) (a : Fin 512) (k : Fin 1024) :
    shapeCast S512x1024 x shapeCasts_S1x512x1024_S512x1024 (ix2 a k) = x (ix3 0 a k) := by
  pointwise

/-- The product of a block at an index. -/
theorem pay_apply (x : Vec Ideal S1x512x1024 .f32) (g : Vec Ideal S1x1024 .f32) (w : Vec Ideal S1x1024x4480 .bf16) (a : Fin 512) (j : Fin 4480) :
    k0_pay4 x g w (ix2 a j) = element (fun k => x (ix3 0 a k)) (fun k => g (ix2 0 k)) (fun k => w (ix3 0 k j)) := by
  rw [pay_eq, product_apply]
  unfold element
  refine Finset.sum_congr rfl fun k _ => ?_
  rw [normed_apply, factor_apply]
  have hm : ∀ l : Fin 1024, shapeCast S512x1024 x shapeCasts_S1x512x1024_S512x1024 (ix2 a l) = x (ix3 0 a l) := merge_apply x a
  generalize shapeCast S512x1024 x shapeCasts_S1x512x1024_S512x1024 = y at hm ⊢
  have hu : (fun l : Fin 1024 => y (ix2 a l)) = fun l => x (ix3 0 a l) := funext hm
  exact congrArg (· * w (ix3 0 k j)) (congrArg (· * g (ix2 0 k)) (congr (congrArg HMul.hMul (hm k)) (congrArg unit hu)))

/-- A load of a whole block is the block. -/
theorem ld0 (X : Vec Ideal S1x512x1024 .f32) : View.ld X r0_0 = X := View.ld_unit_lit _ X (by decide)
theorem ld1 (X : Vec Ideal S1x1024 .f32) : View.ld X r0_1 = X := View.ld_unit_lit _ X (by decide)
theorem ld2 (X : Vec Ideal S1x1024x4480 .bf16) : View.ld X r0_2 = X := View.ld_unit_lit _ X (by decide)

theorem pay5_apply (x : Vec Ideal S1x512x1024 .f32) (g : Vec Ideal S1x1024 .f32) (w : Vec Ideal S1x1024x4480 .bf16) (a : Fin 512) (j : Fin 2304) :
    k0_pay5 x g w (ix3 0 a j) = k0_pay4 x g w (ix2 a ⟨512 + j, by omega⟩) := by
  unfold k0_pay5
  generalize k0_pay4 x g w = z
  pointwise

theorem pay6_apply (x : Vec Ideal S1x512x1024 .f32) (g : Vec Ideal S1x1024 .f32) (w : Vec Ideal S1x1024x4480 .bf16) (a : Fin 512) (j : Fin 896) :
    k0_pay6 x g w (ix3 0 a j) = (k0_pay4 x g w (ix2 a ⟨2816 + j, by omega⟩) : EReal) := by
  unfold k0_pay6
  generalize k0_pay4 x g w = z
  pointwise

theorem pay7_apply (x : Vec Ideal S1x512x1024 .f32) (g : Vec Ideal S1x1024 .f32) (w : Vec Ideal S1x1024x4480 .bf16) (a : Fin 512) (j : Fin 128) :
    k0_pay7 x g w (ix4 0 0 a j) = k0_pay4 x g w (ix2 a ⟨3712 + j, by omega⟩) := by
  unfold k0_pay7
  generalize k0_pay4 x g w = z
  pointwise

theorem pay8_apply (z : FVec Ideal S512x4480 .f32) (a : Fin 512) (j : Fin 128) : k0_pay8 z (ix4 0 0 a j) = z (ix2 a ⟨3840 + j, by omega⟩) := by
  unfold k0_pay8
  pointwise
theorem pay9_apply (z : FVec Ideal S512x4480 .f32) (a : Fin 512) (j : Fin 128) : k0_pay9 z (ix4 0 0 a j) = z (ix2 a ⟨3968 + j, by omega⟩) := by
  unfold k0_pay9
  pointwise
theorem pay10_apply (z : FVec Ideal S512x4480 .f32) (a : Fin 512) (j : Fin 128) : k0_pay10 z (ix4 0 0 a j) = z (ix2 a ⟨4096 + j, by omega⟩) := by
  unfold k0_pay10
  pointwise
theorem pay11_apply (z : FVec Ideal S512x4480 .f32) (a : Fin 512) (j : Fin 128) : k0_pay11 z (ix4 0 0 a j) = z (ix2 a ⟨4224 + j, by omega⟩) := by
  unfold k0_pay11
  pointwise
theorem pay12_apply (z : FVec Ideal S512x4480 .f32) (a : Fin 512) (j : Fin 128) : k0_pay12 z (ix4 0 0 a j) = z (ix2 a ⟨4352 + j, by omega⟩) := by
  unfold k0_pay12
  pointwise

end

end Cert.InProj
-- ==== Proof.InFinal.lean ====
/-
The arrays the blocks of the input projection make up.
-/
module

public import proofs.«01_k».proof.Proof.InProj

set_option maxRecDepth 16384

@[expose] public section

namespace Cert.InProj

open Idealize.ShloMosaic Idealize.SL.Sem
open Cert.Kernel3Ideal Cert.Kernel3Ideal.Gen

/-! ## The output blocks at an index -/

section

variable (X0 : Vec Ideal S1x512x1024 .f32) (X1 : Vec Ideal S1x1024 .f32) (X2 : Vec Ideal S1x1024x4480 .bf16) (X3 X4 : Vec Ideal S512x128 .f32) (X5 : Vec Ideal S1x256 .f32)
  (X6 : Vec Ideal S1x128 .f32) (X7 X8 : Vec Ideal S256x512 .bf16) (X9 : Vec Ideal S128x512 .bf16) (X10 : Vec Ideal S256x128 .bf16)

theorem out11_apply (a : Fin 512) (j : Fin 2304) : out0_11 X0 X1 X2 X3 X4 X5 X6 X7 X8 X9 X10 (ix3 0 a j)
    = element (fun k => X0 (ix3 0 a k)) (fun k => X1 (ix2 0 k)) (fun k => X2 (ix3 0 k ⟨512 + j, by omega⟩)) := by
  have e : out0_11 X0 X1 X2 X3 X4 X5 X6 X7 X8 X9 X10 = k0_pay5 X0 X1 X2 := by
    rw [out0_11, ld0, ld1, ld2]
    exact View.canon_cons_unit_lit _ _ _ (by decide)
  rw [e, pay5_apply, pay_apply]

theorem out12_apply (a : Fin 512) (j : Fin 896) : out0_12 X0 X1 X2 X3 X4 X5 X6 X7 X8 X9 X10 (ix3 0 a j)
    = element (fun k => X0 (ix3 0 a k)) (fun k => X1 (ix2 0 k)) (fun k => X2 (ix3 0 k ⟨2816 + j, by omega⟩)) := by
  have e : out0_12 X0 X1 X2 X3 X4 X5 X6 X7 X8 X9 X10 = k0_pay6 X0 X1 X2 := by
    rw [out0_12, ld0, ld1, ld2]
    exact View.canon_cons_unit_lit _ _ _ (by decide)
  rw [e]
  exact (pay6_apply X0 X1 X2 a j).trans (pay_apply X0 X1 X2 a _)

theorem out13_apply (s : Fin 6) (a : Fin 512) (j : Fin 128) : out0_13 X0 X1 X2 X3 X4 X5 X6 X7 X8 X9 X10 (ix4 0 s a j)
    = element (fun k => X0 (ix3 0 a k)) (fun k => X1 (ix2 0 k)) (fun k => X2 (ix3 0 k ⟨3712 + 128 * s + j, by omega⟩)) := by
  have hz : ∀ q : Fin 4480, q.val = 3712 + 128 * s.val + j.val → k0_pay4 X0 X1 X2 (ix2 a q)
      = element (fun k => X0 (ix3 0 a k)) (fun k => X1 (ix2 0 k)) (fun k => X2 (ix3 0 k ⟨3712 + 128 * s + j, by omega⟩)) := fun q hq => by
    exact (pay_apply X0 X1 X2 a q).trans (congrArg (element _ _) (funext fun k => congrArg (fun l => X2 (ix3 0 k l)) (Fin.ext hq)))
  revert hz
  generalize element (fun k => X0 (ix3 0 a k)) (fun k => X1 (ix2 0 k)) (fun k => X2 (ix3 0 k ⟨3712 + 128 * s + j, by omega⟩)) = v
  intro hz
  unfold out0_13 k0_pay22
  rw [ld0, ld1, ld2]
  canon_tiles x h
  all_goals
    have h2' : a.val = (x 2).val := h2
    have h3' : j.val = (x 3).val := h3
    obtain rfl : x = (ix4 0 0 a j : S1x1x512x128.Idx) := funext fun i => Fin.ext (match i with
      | ⟨0, _⟩ => Nat.lt_one_iff.1 x0_lt | ⟨1, _⟩ => Nat.lt_one_iff.1 x1_lt | ⟨2, _⟩ => h2'.symm | ⟨3, _⟩ => h3'.symm)
  · exact (pay12_apply _ a j).trans (hz _ (by have : s.val = 5 + 0 := h1; dsimp only; omega))
  · exact (pay11_apply _ a j).trans (hz _ (by have : s.val = 4 + 0 := h1; dsimp only; omega))
  · exact (pay10_apply _ a j).trans (hz _ (by have : s.val = 3 + 0 := h1; dsimp only; omega))
  · exact (pay9_apply _ a j).trans (hz _ (by have : s.val = 2 + 0 := h1; dsimp only; omega))
  · exact (pay8_apply _ a j).trans (hz _ (by have : s.val = 1 + 0 := h1; dsimp only; omega))
  · exact (pay7_apply X0 X1 X2 a j).trans (hz _ (by have : s.val = 0 := h1; dsimp only; omega))

end

/-! ## The operands' blocks -/

variable (m : (ℓ : Loc nD τ sig) → Buf (Elt Ideal) ℓ)

/-- There are 32 points. -/
theorem lt32 (t : Fin cfg0.N) : t.val < 32 := by
  have h : cfg0.N = 32 := by decide +kernel
  exact h ▸ t.isLt

/-- The block index of each window at a point. -/
theorem index0 : ∀ t : Fin cfg0.N, win0_0.index t 0 = t.val / 4 ∧ win0_0.index t 1 = t.val % 4 ∧ win0_0.index t 2 = 0 :=
  (by decide +kernel : ∀ t : Fin grid0.N, _)
theorem index1 : ∀ t : Fin cfg0.N, win0_1.index t 0 = 0 ∧ win0_1.index t 1 = 0 :=
  (by decide +kernel : ∀ t : Fin grid0.N, _)
theorem index2 : ∀ t : Fin cfg0.N, win0_2.index t 0 = 0 ∧ win0_2.index t 1 = 0 ∧ win0_2.index t 2 = 0 :=
  (by decide +kernel : ∀ t : Fin grid0.N, _)
theorem index11 : ∀ t : Fin cfg0.N, win0_11.index t 0 = t.val / 4 ∧ win0_11.index t 1 = t.val % 4 ∧ win0_11.index t 2 = 0 :=
  (by decide +kernel : ∀ t : Fin grid0.N, _)
theorem index12 : ∀ t : Fin cfg0.N, win0_12.index t 0 = t.val / 4 ∧ win0_12.index t 1 = t.val % 4 ∧ win0_12.index t 2 = 0 :=
  (by decide +kernel : ∀ t : Fin grid0.N, _)
theorem index13 : ∀ t : Fin cfg0.N, win0_13.index t 0 = t.val / 4 ∧ win0_13.index t 1 = 0 ∧ win0_13.index t 2 = t.val % 4 ∧ win0_13.index t 3 = 0 :=
  (by decide +kernel : ∀ t : Fin grid0.N, _)

/-- The block of the layer's input. -/
theorem read0 (c : Dev nD) (t : Fin cfg0.N) (b : Fin 8) (hb : t.val / 4 = b.val) (a : Fin 512) (r : Fin 2048) (hr : r.val = 512 * (t.val % 4) + a.val) (k : Fin 1024) :
    iblk m c 0 t (ix3 0 a k) = m ((c.tc : Thread nD τ).loc main_arg0) (ix3 b r k) := by
  have := index0 t
  rw [← V_main_arg0 m c]
  blk_ext [iblk]

/-- The norm's weights are one block. -/
theorem read1 (c : Dev nD) (t : Fin cfg0.N) (k : Fin 1024) : iblk m c 1 t (ix2 0 k) = m ((c.tc : Thread nD τ).loc main_arg2) (ix2 0 k) := by
  rw [← gains_apply (m ((c.tc : Thread nD τ).loc main_arg2)), ← gains_eq]
  have := index1 t
  blk_ext [iblk]

/-- The weights of the first layer are one block. -/
theorem read2 (c : Dev nD) (t : Fin cfg0.N) (k : Fin 1024) (j : Fin 4480) : iblk m c 2 t (ix3 0 k j) = arranged (m ((c.tc : Thread nD τ).loc main_arg1)) (ix3 0 k j) := by
  rw [← arranged_eq]
  have := index2 t
  blk_ext [iblk]

/-! ## The arrays -/

/-- An element of the whole product. -/
noncomputable def whole (x : FVec Ideal S8x2048x1024 .f32) (w : FVec Ideal S2x1024x3976 .f32) (g : FVec Ideal S2x1024 .f32) (b : Fin 8) (r : Fin 2048) (j : Fin 4480) : EReal :=
  element (fun k => x (ix3 b r k)) (fun k => g (ix2 0 k)) (fun k => arranged w (ix3 0 k j))

/-- The single precision columns. -/
noncomputable def out32 (x : FVec Ideal S8x2048x1024 .f32) (w : FVec Ideal S2x1024x3976 .f32) (g : FVec Ideal S2x1024 .f32) : FVec Ideal S8x2048x2304 .f32 :=
  fun i => whole x w g (i 0) (i 1) ⟨512 + (i 2).val, by have h : (i 2).val < 2304 := (i 2).isLt; omega⟩

/-- The half precision columns. -/
noncomputable def out16 (x : FVec Ideal S8x2048x1024 .f32) (w : FVec Ideal S2x1024x3976 .f32) (g : FVec Ideal S2x1024 .f32) : FVec Ideal S8x2048x896 .bf16 :=
  fun i => whole x w g (i 0) (i 1) ⟨2816 + (i 2).val, by have h : (i 2).val < 896 := (i 2).isLt; omega⟩

/-- The second mixer's columns, in six slabs. -/
noncomputable def outB (x : FVec Ideal S8x2048x1024 .f32) (w : FVec Ideal S2x1024x3976 .f32) (g : FVec Ideal S2x1024 .f32) : FVec Ideal S8x6x2048x128 .f32 :=
  fun i => whole x w g (i 0) (i 2) ⟨3712 + 128 * (i 1).val + (i 3).val, by
    have h : (i 1).val < 6 := (i 1).isLt; have h' : (i 3).val < 128 := (i 3).isLt; omega⟩

section

variable (c : Dev nD) (x : FVec Ideal S8x2048x1024 .f32) (w : FVec Ideal S2x1024x3976 .f32) (g : FVec Ideal S2x1024 .f32)
  (e0 : m ((c.tc : Thread nD τ).loc main_arg0) = x) (e1 : m ((c.tc : Thread nD τ).loc main_arg1) = w) (e2 : m ((c.tc : Thread nD τ).loc main_arg2) = g)

include e0 e1 e2

/-- An element of a point's product is one of the whole product. -/
theorem point (t : Fin cfg0.N) (b : Fin 8) (hb : t.val / 4 = b.val) (a : Fin 512) (r : Fin 2048) (hr : r.val = 512 * (t.val % 4) + a.val) (j : Fin 4480) :
    element (fun k => iblk m c 0 t (ix3 0 a k)) (fun k => iblk m c 1 t (ix2 0 k)) (fun k => iblk m c 2 t (ix3 0 k j)) = whole x w g b r j := by
  unfold whole
  have h0 : (fun k : Fin 1024 => iblk m c 0 t (ix3 0 a k)) = fun k => x (ix3 b r k) := funext fun k => (read0 m c t b hb a r hr k).trans (congrFun e0 _)
  have h1 : (fun k : Fin 1024 => iblk m c 1 t (ix2 0 k)) = fun k => g (ix2 0 k) := funext fun k => (read1 m c t k).trans (congrFun e2 _)
  have h2 : (fun k : Fin 1024 => iblk m c 2 t (ix3 0 k j)) = fun k => arranged w (ix3 0 k j) := funext fun k => (read2 m c t k j).trans (by rw [e1])
  exact congr (congr (congrArg element h0) h1) h2

theorem final11 : (dats m 0 c).arrAt 11 cfg0.N = out32 x w g := by
  refine (dats m 0 c).arrAt_eq_of_covers 11 _ (by decide +kernel) fun t hf y => ?_
  blk_simp
  rw [after0_11]
  have hi := index11 t
  have ht := lt32 t
  obtain ⟨a, j, rfl⟩ : ∃ (a : Fin 512) (j : Fin 2304), y = ix3 0 a j := ⟨y 1, y 2, by blk_ext⟩
  have e : (win0_11.blk t).view.emb (ix3 0 a j) = (ix3 ⟨t.val / 4, by omega⟩ ⟨512 * (t.val % 4) + a, by omega⟩ j : S8x2048x2304.Idx) := by
    blk_ext
  rw [e]
  refine (out11_apply _ _ _ _ _ _ _ _ _ _ _ a j).trans ?_
  exact point m c x w g e0 e1 e2 t _ rfl a _ rfl _

theorem final12 : (dats m 0 c).arrAt 12 cfg0.N = out16 x w g := by
  refine (dats m 0 c).arrAt_eq_of_covers 12 _ (by decide +kernel) fun t hf y => ?_
  blk_simp
  rw [after0_12]
  have hi := index12 t
  have ht := lt32 t
  obtain ⟨a, j, rfl⟩ : ∃ (a : Fin 512) (j : Fin 896), y = ix3 0 a j := ⟨y 1, y 2, by blk_ext⟩
  have e : (win0_12.blk t).view.emb (ix3 0 a j) = (ix3 ⟨t.val / 4, by omega⟩ ⟨512 * (t.val % 4) + a, by omega⟩ j : S8x2048x896.Idx) := by
    blk_ext
  rw [e]
  refine (out12_apply _ _ _ _ _ _ _ _ _ _ _ a j).trans ?_
  exact point m c x w g e0 e1 e2 t _ rfl a _ rfl _

theorem final13 : (dats m 0 c).arrAt 13 cfg0.N = outB x w g := by
  refine (dats m 0 c).arrAt_eq_of_covers 13 _ (by decide +kernel) fun t hf y => ?_
  blk_simp
  rw [after0_13]
  have hi := index13 t
  have ht := lt32 t
  obtain ⟨s, a, j, rfl⟩ : ∃ (s : Fin 6) (a : Fin 512) (j : Fin 128), y = ix4 0 s a j := ⟨y 1, y 2, y 3, by blk_ext⟩
  have e : (win0_13.blk t).view.emb (ix4 0 s a j) = (ix4 ⟨t.val / 4, by omega⟩ s ⟨512 * (t.val % 4) + a, by omega⟩ j : S8x6x2048x128.Idx) := by
    blk_ext
  rw [e]
  refine (out13_apply _ _ _ _ _ _ _ _ _ _ _ s a j).trans ?_
  exact point m c x w g e0 e1 e2 t _ rfl a _ rfl _

end

end Cert.InProj
-- ==== Proof.InRef.lean ====
/-
What the reference computes of the input projection, and that each of its segments is a segment of the kernel's arrays.
-/
module

public import proofs.«01_k».proof.Proof.InFinal
public import proofs.«01_k».proof.Proof.Softmax

set_option maxRecDepth 16384

@[expose] public section

namespace Cert.InProj

open Idealize.ShloMosaic Idealize.SL.Sem
open Cert.OutProj (unit)

section

open Cert.Reference3Ideal Cert.Reference3Ideal.Gen

/-- The factor of each row. -/
noncomputable def factor' (x : FVec Ideal S8x2048x1024 .f32) : FVec Ideal S8x2048x1 .f32 :=
  Host.rsqrt (addf (Host.divf (broadcastInDim S8x2048x1 ![0, 1] bcast_S8x2048_S8x2048x1_0_1
        (Host.reduceAdd (mulf x x) (constant S_ .f32 0x00000000#32) reducesTo_S8x2048x1024_S8x2048_d2 h_S_))
      (broadcastInDim S8x2048x1 ![] bcast_S_S8x2048x1 (constant S_ .f32 0x44800000#32)))
    (broadcastInDim S8x2048x1 ![] bcast_S_S8x2048x1 (constant S_ .f32 0x358637BD#32)))

/-- The rows normed and weighed. -/
noncomputable def normed' (x : FVec Ideal S8x2048x1024 .f32) (g : FVec Ideal S2x1024 .f32) : FVec Ideal S8x2048x1024 .f32 :=
  mulf (mulf x (broadcastInDim S8x2048x1024 ![0, 1, 2] bcast_S8x2048x1_S8x2048x1024_0_1_2 (factor' x)))
    (broadcastInDim S8x2048x1024 ![0, 1, 2] bcast_S1x1x1024_S8x2048x1024_0_1_2 (broadcastInDim S1x1x1024 ![2] bcast_S1024_S1x1x1024_2
      (shapeCast S1024 (extractStridedSlice S1x1024 ![0, 0] g slices_S2x1024_S1x1024_0_0) shapeCasts_S1x1024_S1024)))

/-- Their product with the weights of the first layer. -/
noncomputable def product' (y : FVec Ideal S8x2048x1024 .f32) (w : FVec Ideal S2x1024x3976 .f32) : FVec Ideal S8x2048x3976 .f32 :=
  Host.dotGeneral dot_S8x2048x1024_S1024x3976_S8x2048x3976_2_0_01_1_n_n none y
    (shapeCast S1024x3976 (extractStridedSlice S1x1024x3976 ![0, 0, 0] w slices_S2x1024x3976_S1x1024x3976_0_0_0) shapeCasts_S1x1024x3976_S1024x3976)

/-- The whole projection. -/
noncomputable def proj (x : FVec Ideal S8x2048x1024 .f32) (w : FVec Ideal S2x1024x3976 .f32) (g : FVec Ideal S2x1024 .f32) : FVec Ideal S8x2048x3976 .f32 :=
  product' (normed' x g) w

/-- The columns times the scale of the second mixer. -/
noncomputable def scaled (y : FVec Ideal S8x2048x256 .f32) : FVec Ideal S8x2048x256 .f32 :=
  mulf y (broadcastInDim S8x2048x256 ![] bcast_S_S8x2048x256
    (Host.divf (constant S_ .f32 0x3F800000#32) (mulf (Host.sqrt (constant S_ .f32 0x42800000#32)) (Host.log (constant S_ .f32 0x40000000#32)))))

theorem factor'_apply (x : FVec Ideal S8x2048x1024 .f32) (b : Fin 8) (r : Fin 2048) : factor' x (ix3 b r 0) = unit fun l => x (ix3 b r l) := by
  pointwise [factor', unit]

theorem normed'_apply (x : FVec Ideal S8x2048x1024 .f32) (g : FVec Ideal S2x1024 .f32) (b : Fin 8) (r : Fin 2048) (k : Fin 1024) :
    normed' x g (ix3 b r k) = (x (ix3 b r k) * factor' x (ix3 b r 0) * g (ix2 0 k) : EReal) := by
  pointwise [normed']

theorem product'_apply (y : FVec Ideal S8x2048x1024 .f32) (w : FVec Ideal S2x1024x3976 .f32) (b : Fin 8) (r : Fin 2048) (j : Fin 3976) :
    product' y w (ix3 b r j) = (∑ k : Fin 1024, y (ix3 b r k) * w (ix3 0 k j) : EReal) := by
  pointwise [product']

/-- The projection at an index. -/
theorem proj_apply (x : FVec Ideal S8x2048x1024 .f32) (w : FVec Ideal S2x1024x3976 .f32) (g : FVec Ideal S2x1024 .f32) (b : Fin 8) (r : Fin 2048) (j : Fin 3976) :
    proj x w g (ix3 b r j) = element (fun k => x (ix3 b r k)) (fun k => g (ix2 0 k)) (fun k => w (ix3 0 k j)) := by
  unfold proj element
  rw [product'_apply]
  exact Finset.sum_congr rfl fun k _ => by rw [normed'_apply, factor'_apply]

theorem scaled_apply (y : FVec Ideal S8x2048x256 .f32) (b : Fin 8) (r : Fin 2048) (j : Fin 256) :
    scaled y (ix3 b r j) = (y (ix3 b r j) * scale ix0 : EReal) := by
  pointwise [scaled, scale]

end

/-! ## The scale -/

theorem bits64 : Ideal.ofBits .f32 0x42800000#32 = ((64 : ℝ) : EReal) := by
  simp [Ideal.ofBits, Ideal.ieee, -EReal.coe_mul]; norm_num

theorem bits2 : Ideal.ofBits .f32 0x40000000#32 = ((2 : ℝ) : EReal) := by
  simp [Ideal.ofBits, Ideal.ieee, -EReal.coe_mul]; norm_num

theorem scale_real : ∃ s : ℝ, 0 ≤ s ∧ scale ix0 = (s : EReal) := by
  refine ⟨(Real.sqrt 64 * Real.log 2)⁻¹, inv_nonneg.2 (mul_nonneg (Real.sqrt_nonneg _) (Real.log_nonneg (by norm_num))), ?_⟩
  show Ideal.div (Ideal.ofBits .f32 0x3F800000#32) (Ideal.sqrt (Ideal.ofBits .f32 0x42800000#32) * Ideal.log (Ideal.ofBits .f32 0x40000000#32)) = _
  have hd : Real.sqrt 64 * Real.log 2 ≠ 0 := mul_ne_zero (Real.sqrt_ne_zero'.2 (by norm_num)) (Real.log_pos (by norm_num)).ne'
  rw [Ideal.ofBits_one_f32, bits64, bits2, Ideal.sqrt_coe, Ideal.log_coe, if_neg (by norm_num), if_neg (by norm_num), ← EReal.coe_mul]
  rw [Cert.Attn.div_coe _ hd, one_mul]

/-! ## The segments -/

section

open Cert.Kernel3Ideal Cert.Kernel3Ideal.Gen

variable (x : FVec Ideal S8x2048x1024 .f32) (w : FVec Ideal S2x1024x3976 .f32) (g : FVec Ideal S2x1024 .f32)

/-- Columns of the whole are columns of the projection where the arranged weights are those of the weights. -/
theorem whole_eq (b : Fin 8) (r : Fin 2048) (j : Fin 4480) (q : Fin 3976) (h : ∀ k : Fin 1024, arranged w (ix3 0 k j) = w (ix3 0 k q)) :
    whole x w g b r j = proj x w g (ix3 b r q) := by
  rw [proj_apply]
  exact congrArg (element _ _) (funext h)

/-- A segment of the single precision columns. -/
theorem seg32 {n o s : ℕ} (ho : o + n ≤ 2304) (hs : s + n ≤ 3976) (hA : S8x2048x2304.Slices ![0, 0, o] ⟨3, ![8, 2048, n]⟩) (hB : Cert.Reference3Ideal.S8x2048x3976.Slices ![0, 0, s] ⟨3, ![8, 2048, n]⟩)
    (hw : ∀ (k : Fin 1024) (j : Fin n), arranged w (ix3 0 k ⟨512 + o + j, by omega⟩) = w (ix3 0 k ⟨s + j, by omega⟩)) :
    (extractStridedSlice ⟨3, ![8, 2048, n]⟩ ![0, 0, s] (proj x w g) hB : FVec Ideal ⟨3, ![8, 2048, n]⟩ .f32) = extractStridedSlice ⟨3, ![8, 2048, n]⟩ ![0, 0, o] (out32 x w g) hA := by
  funext i
  have hi : (i 2).val < n := (i 2).isLt
  have hb : (i 0).val < 8 := (i 0).isLt
  have hr : (i 1).val < 2048 := (i 1).isLt
  have e := whole_eq x w g ⟨(i 0).val, hb⟩ ⟨(i 1).val, hr⟩ ⟨512 + o + (i 2).val, by omega⟩ ⟨s + (i 2).val, by omega⟩ fun k => hw k ⟨(i 2).val, hi⟩
  refine Eq.trans ?_ (e.symm.trans ?_)
  · exact congrArg (proj x w g) (funext fun a => match a with
      | ⟨0, _⟩ => Fin.ext (Nat.zero_add _)
      | ⟨1, _⟩ => Fin.ext (Nat.zero_add _)
      | ⟨2, _⟩ => rfl)
  · have h0 : (⟨(i 0).val, hb⟩ : Fin 8) = ⟨0 + (i 0).val, by omega⟩ := Fin.ext (Nat.zero_add _).symm
    have h1 : (⟨(i 1).val, hr⟩ : Fin 2048) = ⟨0 + (i 1).val, by omega⟩ := Fin.ext (Nat.zero_add _).symm
    have h2 : (⟨512 + o + (i 2).val, by omega⟩ : Fin 4480) = ⟨512 + (o + (i 2).val), by omega⟩ := Fin.ext (Nat.add_assoc _ _ _)
    rw [h0, h1, h2]
    rfl

/-- A segment of the half precision columns. -/
theorem seg16 {n o s : ℕ} (ho : o + n ≤ 896) (hs : s + n ≤ 3976) (hA : S8x2048x896.Slices ![0, 0, o] ⟨3, ![8, 2048, n]⟩) (hB : Cert.Reference3Ideal.S8x2048x3976.Slices ![0, 0, s] ⟨3, ![8, 2048, n]⟩)
    (hw : ∀ (k : Fin 1024) (j : Fin n), arranged w (ix3 0 k ⟨2816 + o + j, by omega⟩) = w (ix3 0 k ⟨s + j, by omega⟩)) :
    (extractStridedSlice ⟨3, ![8, 2048, n]⟩ ![0, 0, s] (proj x w g) hB : FVec Ideal ⟨3, ![8, 2048, n]⟩ .f32)
      = extf .f32 (extractStridedSlice ⟨3, ![8, 2048, n]⟩ ![0, 0, o] (out16 x w g) hA : FVec Ideal ⟨3, ![8, 2048, n]⟩ .bf16) bitsLt_bf16_f32 := by
  funext i
  have hi : (i 2).val < n := (i 2).isLt
  have hb : (i 0).val < 8 := (i 0).isLt
  have hr : (i 1).val < 2048 := (i 1).isLt
  have e := whole_eq x w g ⟨(i 0).val, hb⟩ ⟨(i 1).val, hr⟩ ⟨2816 + o + (i 2).val, by omega⟩ ⟨s + (i 2).val, by omega⟩ fun k => hw k ⟨(i 2).val, hi⟩
  refine Eq.trans ?_ (e.symm.trans ?_)
  · exact congrArg (proj x w g) (funext fun a => match a with
      | ⟨0, _⟩ => Fin.ext (Nat.zero_add _)
      | ⟨1, _⟩ => Fin.ext (Nat.zero_add _)
      | ⟨2, _⟩ => rfl)
  · have h0 : (⟨(i 0).val, hb⟩ : Fin 8) = ⟨0 + (i 0).val, by omega⟩ := Fin.ext (Nat.zero_add _).symm
    have h1 : (⟨(i 1).val, hr⟩ : Fin 2048) = ⟨0 + (i 1).val, by omega⟩ := Fin.ext (Nat.zero_add _).symm
    have h2 : (⟨2816 + o + (i 2).val, by omega⟩ : Fin 4480) = ⟨2816 + (o + (i 2).val), by omega⟩ := Fin.ext (Nat.add_assoc _ _ _)
    rw [h0, h1, h2]
    rfl

/-- The six slabs side by side. -/
noncomputable def flat (y : FVec Ideal S8x6x2048x128 .f32) : FVec Ideal S8x2048x768 .f32 :=
  shapeCast S8x2048x768 (transpose S8x2048x6x128 [0, 2, 1, 3] y transposes_S8x6x2048x128_S8x2048x6x128_0_2_1_3) shapeCasts_S8x2048x6x128_S8x2048x768

theorem flat_apply (y : FVec Ideal S8x6x2048x128 .f32) (b : Fin 8) (r : Fin 2048) (q : Fin 768) :
    flat y (ix3 b r q) = y (ix4 b ⟨q.val / 128, by omega⟩ r ⟨q.val % 128, by omega⟩) := by
  pointwise [flat]

theorem flat_eq (b : Fin 8) (r : Fin 2048) (q : Fin 768) : flat (outB x w g) (ix3 b r q) = whole x w g b r ⟨3712 + q.val, by omega⟩ := by
  rw [flat_apply]
  exact congrArg (whole x w g b r) (Fin.ext (by show 3712 + 128 * (q.val / 128) + q.val % 128 = 3712 + q.val; omega))

/-- A segment of the second mixer's columns. -/
theorem segB {n o s : ℕ} (ho : o + n ≤ 768) (hs : s + n ≤ 3976) (hA : S8x2048x768.Slices ![0, 0, o] ⟨3, ![8, 2048, n]⟩) (hB : Cert.Reference3Ideal.S8x2048x3976.Slices ![0, 0, s] ⟨3, ![8, 2048, n]⟩)
    (hw : ∀ (k : Fin 1024) (j : Fin n), arranged w (ix3 0 k ⟨3712 + o + j, by omega⟩) = w (ix3 0 k ⟨s + j, by omega⟩)) :
    (extractStridedSlice ⟨3, ![8, 2048, n]⟩ ![0, 0, s] (proj x w g) hB : FVec Ideal ⟨3, ![8, 2048, n]⟩ .f32) = extractStridedSlice ⟨3, ![8, 2048, n]⟩ ![0, 0, o] (flat (outB x w g)) hA := by
  funext i
  have hi : (i 2).val < n := (i 2).isLt
  have hb : (i 0).val < 8 := (i 0).isLt
  have hr : (i 1).val < 2048 := (i 1).isLt
  have e := whole_eq x w g ⟨(i 0).val, hb⟩ ⟨(i 1).val, hr⟩ ⟨3712 + o + (i 2).val, by omega⟩ ⟨s + (i 2).val, by omega⟩ fun k => hw k ⟨(i 2).val, hi⟩
  refine Eq.trans ?_ (e.symm.trans (Eq.trans ?_ ((flat_eq x w g ⟨(i 0).val, hb⟩ ⟨(i 1).val, hr⟩ ⟨o + (i 2).val, by omega⟩).symm.trans ?_)))
  · exact congrArg (proj x w g) (funext fun a => match a with
      | ⟨0, _⟩ => Fin.ext (Nat.zero_add _)
      | ⟨1, _⟩ => Fin.ext (Nat.zero_add _)
      | ⟨2, _⟩ => rfl)
  · exact congrArg (whole x w g _ _) (Fin.ext (Nat.add_assoc _ _ _))
  · exact congrArg (flat (outB x w g)) (funext fun a => match a with
      | ⟨0, _⟩ => Fin.ext (Nat.zero_add _).symm
      | ⟨1, _⟩ => Fin.ext (Nat.zero_add _).symm
      | ⟨2, _⟩ => rfl)

/-- The second mixer's first segment, its weights scaled by the kernel and its product by the reference. -/
theorem segS (hA : S8x2048x768.Slices ![0, 0, 0] S8x2048x256) (hB : Cert.Reference3Ideal.S8x2048x3976.Slices ![0, 0, 608] S8x2048x256) :
    (scaled (extractStridedSlice S8x2048x256 ![0, 0, 608] (proj x w g) hB)) = extractStridedSlice S8x2048x256 ![0, 0, 0] (flat (outB x w g)) hA := by
  obtain ⟨s, hs, es⟩ := scale_real
  have hk : ∀ (b : Fin 8) (r : Fin 2048) (j : Fin 256), (proj x w g (ix3 b r ⟨608 + j, by omega⟩) * scale ix0 : EReal) = flat (outB x w g) (ix3 b r ⟨j, by omega⟩) := fun b r j => by
    rw [flat_eq, proj_apply, es, ← element_mul _ _ _ s hs]
    exact congrArg (element _ _) (funext fun k => ((b_q w k j).trans (by rw [es])).symm)
  have hz : ∀ (b : Fin 8) (r : Fin 2048) (j : Fin 256), scaled (extractStridedSlice S8x2048x256 ![0, 0, 608] (proj x w g) hB) (ix3 b r j) = extractStridedSlice S8x2048x256 ![0, 0, 0] (flat (outB x w g)) hA (ix3 b r j) := fun b r j => by
    rw [scaled_apply]
    refine Eq.trans ?_ ((hk b r j).trans ?_)
    · exact congrArg (fun z : EReal => z * scale ix0) (congrArg (proj x w g) (funext fun a => match a with
        | ⟨0, _⟩ => Fin.ext (Nat.zero_add _)
        | ⟨1, _⟩ => Fin.ext (Nat.zero_add _)
        | ⟨2, _⟩ => rfl))
    · exact congrArg (flat (outB x w g)) (funext fun a => match a with
        | ⟨0, _⟩ => Fin.ext (Nat.zero_add _).symm
        | ⟨1, _⟩ => Fin.ext (Nat.zero_add _).symm
        | ⟨2, _⟩ => Fin.ext (Nat.zero_add _).symm)
  funext i
  rw [show i = ix3 (i 0) (i 1) (i 2) from funext fun a => match a with
    | ⟨0, _⟩ => rfl
    | ⟨1, _⟩ => rfl
    | ⟨2, _⟩ => rfl]
  exact hz (i 0) (i 1) (i 2)

end

end Cert.InProj
-- ==== Proof.InTail.lean ====
/-
The results of the input projection, taken out of the arrays the blocks make up.
-/
module

public import proofs.«01_k».proof.Proof.InRef

set_option maxRecDepth 16384

@[expose] public section

namespace Cert.InProj

open Idealize.ShloMosaic Idealize.SL.Sem
open Cert.Kernel3Ideal Cert.Kernel3Ideal.Gen

section

variable (W : Valuation τ sig (Elt Ideal))

set_option maxHeartbeats 4000000 in
theorem taken_a_g : StableHlo.after (List.flatten [hostOps1]) W (Proc.devRef .tc main_v108)
    = (extractStridedSlice S8x2048x256 ![0, 0, 256] (W (Proc.devRef .tc main_v105_0) : FVec Ideal S8x2048x2304 .f32) slices_S8x2048x2304_S8x2048x256_0_0_256 : FVec Ideal S8x2048x256 .f32) := by
  simp only [hostOps1, List.flatten_cons, List.flatten_nil, List.append_nil]
  after_results

set_option maxHeartbeats 4000000 in
theorem taken_b_q : StableHlo.after (List.flatten [hostOps1]) W (Proc.devRef .tc main_v109)
    = (extractStridedSlice S8x2048x256 ![0, 0, 0] (flat (W (Proc.devRef .tc main_v105_2) : FVec Ideal S8x6x2048x128 .f32)) slices_S8x2048x768_S8x2048x256_0_0_0 : FVec Ideal S8x2048x256 .f32) := by
  simp only [hostOps1, List.flatten_cons, List.flatten_nil, List.append_nil]
  after_results
  rfl

set_option maxHeartbeats 4000000 in
theorem taken_b_k : StableHlo.after (List.flatten [hostOps1]) W (Proc.devRef .tc main_v110)
    = (extractStridedSlice S8x2048x256 ![0, 0, 256] (flat (W (Proc.devRef .tc main_v105_2) : FVec Ideal S8x6x2048x128 .f32)) slices_S8x2048x768_S8x2048x256_0_0_256 : FVec Ideal S8x2048x256 .f32) := by
  simp only [hostOps1, List.flatten_cons, List.flatten_nil, List.append_nil]
  after_results
  rfl

set_option maxHeartbeats 4000000 in
theorem taken_b_v : StableHlo.after (List.flatten [hostOps1]) W (Proc.devRef .tc main_v111)
    = (extractStridedSlice S8x2048x256 ![0, 0, 512] (flat (W (Proc.devRef .tc main_v105_2) : FVec Ideal S8x6x2048x128 .f32)) slices_S8x2048x768_S8x2048x256_0_0_512 : FVec Ideal S8x2048x256 .f32) := by
  simp only [hostOps1, List.flatten_cons, List.flatten_nil, List.append_nil]
  after_results
  rfl

set_option maxHeartbeats 4000000 in
theorem taken_b_g : StableHlo.after (List.flatten [hostOps1]) W (Proc.devRef .tc main_v112)
    = (extractStridedSlice S8x2048x256 ![0, 0, 512] (W (Proc.devRef .tc main_v105_0) : FVec Ideal S8x2048x2304 .f32) slices_S8x2048x2304_S8x2048x256_0_0_512 : FVec Ideal S8x2048x256 .f32) := by
  simp only [hostOps1, List.flatten_cons, List.flatten_nil, List.append_nil]
  after_results

set_option maxHeartbeats 4000000 in
theorem taken_c_q : StableHlo.after (List.flatten [hostOps1]) W (Proc.devRef .tc main_v113)
    = (extractStridedSlice S8x2048x256 ![0, 0, 768] (W (Proc.devRef .tc main_v105_0) : FVec Ideal S8x2048x2304 .f32) slices_S8x2048x2304_S8x2048x256_0_0_768 : FVec Ideal S8x2048x256 .f32) := by
  simp only [hostOps1, List.flatten_cons, List.flatten_nil, List.append_nil]
  after_results

set_option maxHeartbeats 4000000 in
theorem taken_c_k : StableHlo.after (List.flatten [hostOps1]) W (Proc.devRef .tc main_v115)
    = (extf .f32 (extractStridedSlice S8x2048x256 ![0, 0, 0] (W (Proc.devRef .tc main_v105_1) : FVec Ideal S8x2048x896 .bf16) slices_S8x2048x896_S8x2048x256_0_0_0 : FVec Ideal S8x2048x256 .bf16) bitsLt_bf16_f32 : FVec Ideal S8x2048x256 .f32) := by
  simp only [hostOps1, List.flatten_cons, List.flatten_nil, List.append_nil]
  after_results

set_option maxHeartbeats 4000000 in
theorem taken_c_v : StableHlo.after (List.flatten [hostOps1]) W (Proc.devRef .tc main_v116)
    = (extractStridedSlice S8x2048x256 ![0, 0, 1024] (W (Proc.devRef .tc main_v105_0) : FVec Ideal S8x2048x2304 .f32) slices_S8x2048x2304_S8x2048x256_0_0_1024 : FVec Ideal S8x2048x256 .f32) := by
  simp only [hostOps1, List.flatten_cons, List.flatten_nil, List.append_nil]
  after_results

set_option maxHeartbeats 4000000 in
theorem taken_c_qi : StableHlo.after (List.flatten [hostOps1]) W (Proc.devRef .tc main_v118)
    = (extf .f32 (extractStridedSlice S8x2048x256 ![0, 0, 256] (W (Proc.devRef .tc main_v105_1) : FVec Ideal S8x2048x896 .bf16) slices_S8x2048x896_S8x2048x256_0_0_256 : FVec Ideal S8x2048x256 .bf16) bitsLt_bf16_f32 : FVec Ideal S8x2048x256 .f32) := by
  simp only [hostOps1, List.flatten_cons, List.flatten_nil, List.append_nil]
  after_results

set_option maxHeartbeats 4000000 in
theorem taken_c_ki : StableHlo.after (List.flatten [hostOps1]) W (Proc.devRef .tc main_v120)
    = (extf .f32 (extractStridedSlice S8x2048x32 ![0, 0, 768] (W (Proc.devRef .tc main_v105_1) : FVec Ideal S8x2048x896 .bf16) slices_S8x2048x896_S8x2048x32_0_0_768 : FVec Ideal S8x2048x32 .bf16) bitsLt_bf16_f32 : FVec Ideal S8x2048x32 .f32) := by
  simp only [hostOps1, List.flatten_cons, List.flatten_nil, List.append_nil]
  after_results

set_option maxHeartbeats 4000000 in
theorem taken_c_wi : StableHlo.after (List.flatten [hostOps1]) W (Proc.devRef .tc main_v121)
    = (extractStridedSlice S8x2048x8 ![0, 0, 128] (W (Proc.devRef .tc main_v105_0) : FVec Ideal S8x2048x2304 .f32) slices_S8x2048x2304_S8x2048x8_0_0_128 : FVec Ideal S8x2048x8 .f32) := by
  simp only [hostOps1, List.flatten_cons, List.flatten_nil, List.append_nil]
  after_results

set_option maxHeartbeats 4000000 in
theorem taken_c_g : StableHlo.after (List.flatten [hostOps1]) W (Proc.devRef .tc main_v122)
    = (extractStridedSlice S8x2048x256 ![0, 0, 1280] (W (Proc.devRef .tc main_v105_0) : FVec Ideal S8x2048x2304 .f32) slices_S8x2048x2304_S8x2048x256_0_0_1280 : FVec Ideal S8x2048x256 .f32) := by
  simp only [hostOps1, List.flatten_cons, List.flatten_nil, List.append_nil]
  after_results

set_option maxHeartbeats 4000000 in
theorem taken_d_q : StableHlo.after (List.flatten [hostOps1]) W (Proc.devRef .tc main_v123)
    = (extractStridedSlice S8x2048x256 ![0, 0, 1536] (W (Proc.devRef .tc main_v105_0) : FVec Ideal S8x2048x2304 .f32) slices_S8x2048x2304_S8x2048x256_0_0_1536 : FVec Ideal S8x2048x256 .f32) := by
  simp only [hostOps1, List.flatten_cons, List.flatten_nil, List.append_nil]
  after_results

set_option maxHeartbeats 4000000 in
theorem taken_d_k : StableHlo.after (List.flatten [hostOps1]) W (Proc.devRef .tc main_v125)
    = (extf .f32 (extractStridedSlice S8x2048x256 ![0, 0, 512] (W (Proc.devRef .tc main_v105_1) : FVec Ideal S8x2048x896 .bf16) slices_S8x2048x896_S8x2048x256_0_0_512 : FVec Ideal S8x2048x256 .bf16) bitsLt_bf16_f32 : FVec Ideal S8x2048x256 .f32) := by
  simp only [hostOps1, List.flatten_cons, List.flatten_nil, List.append_nil]
  after_results

set_option maxHeartbeats 4000000 in
theorem taken_d_v : StableHlo.after (List.flatten [hostOps1]) W (Proc.devRef .tc main_v126)
    = (extractStridedSlice S8x2048x256 ![0, 0, 1792] (W (Proc.devRef .tc main_v105_0) : FVec Ideal S8x2048x2304 .f32) slices_S8x2048x2304_S8x2048x256_0_0_1792 : FVec Ideal S8x2048x256 .f32) := by
  simp only [hostOps1, List.flatten_cons, List.flatten_nil, List.append_nil]
  after_results

set_option maxHeartbeats 4000000 in
theorem taken_d_g : StableHlo.after (List.flatten [hostOps1]) W (Proc.devRef .tc main_v127)
    = (extractStridedSlice S8x2048x256 ![0, 0, 2048] (W (Proc.devRef .tc main_v105_0) : FVec Ideal S8x2048x2304 .f32) slices_S8x2048x2304_S8x2048x256_0_0_2048 : FVec Ideal S8x2048x256 .f32) := by
  simp only [hostOps1, List.flatten_cons, List.flatten_nil, List.append_nil]
  after_results

end

section

variable (x : FVec Ideal S8x2048x1024 .f32) (w : FVec Ideal S2x1024x3976 .f32) (g : FVec Ideal S2x1024 .f32)

/-- A result: 256 columns from 256 of one of the arrays. -/
noncomputable def result_a_g : FVec Ideal S8x2048x256 .f32 := extractStridedSlice S8x2048x256 ![0, 0, 256] (out32 x w g) slices_S8x2048x2304_S8x2048x256_0_0_256

theorem same_a_g (hB : Cert.Reference3Ideal.S8x2048x3976.Slices ![0, 0, 352] Cert.Reference3Ideal.S8x2048x256) : (extractStridedSlice Cert.Reference3Ideal.S8x2048x256 ![0, 0, 352] (proj x w g) hB) = result_a_g x w g :=
  seg32 x w g (by omega) (by omega) _ hB (a_g w)

/-- A result: 256 columns from 0 of one of the arrays. -/
noncomputable def result_b_q : FVec Ideal S8x2048x256 .f32 := extractStridedSlice S8x2048x256 ![0, 0, 0] (flat (outB x w g)) slices_S8x2048x768_S8x2048x256_0_0_0

theorem same_b_q (hB : Cert.Reference3Ideal.S8x2048x3976.Slices ![0, 0, 608] Cert.Reference3Ideal.S8x2048x256) : scaled (extractStridedSlice Cert.Reference3Ideal.S8x2048x256 ![0, 0, 608] (proj x w g) hB) = result_b_q x w g :=
  segS x w g _ hB

/-- A result: 256 columns from 256 of one of the arrays. -/
noncomputable def result_b_k : FVec Ideal S8x2048x256 .f32 := extractStridedSlice S8x2048x256 ![0, 0, 256] (flat (outB x w g)) slices_S8x2048x768_S8x2048x256_0_0_256

theorem same_b_k (hB : Cert.Reference3Ideal.S8x2048x3976.Slices ![0, 0, 864] Cert.Reference3Ideal.S8x2048x256) : (extractStridedSlice Cert.Reference3Ideal.S8x2048x256 ![0, 0, 864] (proj x w g) hB) = result_b_k x w g :=
  segB x w g (by omega) (by omega) _ hB (b_k w)

/-- A result: 256 columns from 512 of one of the arrays. -/
noncomputable def result_b_v : FVec Ideal S8x2048x256 .f32 := extractStridedSlice S8x2048x256 ![0, 0, 512] (flat (outB x w g)) slices_S8x2048x768_S8x2048x256_0_0_512

theorem same_b_v (hB : Cert.Reference3Ideal.S8x2048x3976.Slices ![0, 0, 1120] Cert.Reference3Ideal.S8x2048x256) : (extractStridedSlice Cert.Reference3Ideal.S8x2048x256 ![0, 0, 1120] (proj x w g) hB) = result_b_v x w g :=
  segB x w g (by omega) (by omega) _ hB (b_v w)

/-- A result: 256 columns from 512 of one of the arrays. -/
noncomputable def result_b_g : FVec Ideal S8x2048x256 .f32 := extractStridedSlice S8x2048x256 ![0, 0, 512] (out32 x w g) slices_S8x2048x2304_S8x2048x256_0_0_512

theorem same_b_g (hB : Cert.Reference3Ideal.S8x2048x3976.Slices ![0, 0, 1376] Cert.Reference3Ideal.S8x2048x256) : (extractStridedSlice Cert.Reference3Ideal.S8x2048x256 ![0, 0, 1376] (proj x w g) hB) = result_b_g x w g :=
  seg32 x w g (by omega) (by omega) _ hB (b_g w)

/-- A result: 256 columns from 768 of one of the arrays. -/
noncomputable def result_c_q : FVec Ideal S8x2048x256 .f32 := extractStridedSlice S8x2048x256 ![0, 0, 768] (out32 x w g) slices_S8x2048x2304_S8x2048x256_0_0_768

theorem same_c_q (hB : Cert.Reference3Ideal.S8x2048x3976.Slices ![0, 0, 1632] Cert.Reference3Ideal.S8x2048x256) : (extractStridedSlice Cert.Reference3Ideal.S8x2048x256 ![0, 0, 1632] (proj x w g) hB) = result_c_q x w g :=
  seg32 x w g (by omega) (by omega) _ hB (c_q w)

/-- A result: 256 columns from 0 of one of the arrays. -/
noncomputable def result_c_k : FVec Ideal S8x2048x256 .f32 := extf .f32 (extractStridedSlice S8x2048x256 ![0, 0, 0] (out16 x w g) slices_S8x2048x896_S8x2048x256_0_0_0 : FVec Ideal S8x2048x256 .bf16) bitsLt_bf16_f32

theorem same_c_k (hB : Cert.Reference3Ideal.S8x2048x3976.Slices ![0, 0, 1888] Cert.Reference3Ideal.S8x2048x256) : (extractStridedSlice Cert.Reference3Ideal.S8x2048x256 ![0, 0, 1888] (proj x w g) hB) = result_c_k x w g :=
  seg16 x w g (by omega) (by omega) _ hB (c_k w)

/-- A result: 256 columns from 1024 of one of the arrays. -/
noncomputable def result_c_v : FVec Ideal S8x2048x256 .f32 := extractStridedSlice S8x2048x256 ![0, 0, 1024] (out32 x w g) slices_S8x2048x2304_S8x2048x256_0_0_1024

theorem same_c_v (hB : Cert.Reference3Ideal.S8x2048x3976.Slices ![0, 0, 2144] Cert.Reference3Ideal.S8x2048x256) : (extractStridedSlice Cert.Reference3Ideal.S8x2048x256 ![0, 0, 2144] (proj x w g) hB) = result_c_v x w g :=
  seg32 x w g (by omega) (by omega) _ hB (c_v w)

/-- A result: 256 columns from 256 of one of the arrays. -/
noncomputable def result_c_qi : FVec Ideal S8x2048x256 .f32 := extf .f32 (extractStridedSlice S8x2048x256 ![0, 0, 256] (out16 x w g) slices_S8x2048x896_S8x2048x256_0_0_256 : FVec Ideal S8x2048x256 .bf16) bitsLt_bf16_f32

theorem same_c_qi (hB : Cert.Reference3Ideal.S8x2048x3976.Slices ![0, 0, 2400] Cert.Reference3Ideal.S8x2048x256) : (extractStridedSlice Cert.Reference3Ideal.S8x2048x256 ![0, 0, 2400] (proj x w g) hB) = result_c_qi x w g :=
  seg16 x w g (by omega) (by omega) _ hB (c_qi w)

/-- A result: 32 columns from 768 of one of the arrays. -/
noncomputable def result_c_ki : FVec Ideal S8x2048x32 .f32 := extf .f32 (extractStridedSlice S8x2048x32 ![0, 0, 768] (out16 x w g) slices_S8x2048x896_S8x2048x32_0_0_768 : FVec Ideal S8x2048x32 .bf16) bitsLt_bf16_f32

theorem same_c_ki (hB : Cert.Reference3Ideal.S8x2048x3976.Slices ![0, 0, 2656] Cert.Reference3Ideal.S8x2048x32) : (extractStridedSlice Cert.Reference3Ideal.S8x2048x32 ![0, 0, 2656] (proj x w g) hB) = result_c_ki x w g :=
  seg16 x w g (by omega) (by omega) _ hB (c_ki w)

/-- A result: 8 columns from 128 of one of the arrays. -/
noncomputable def result_c_wi : FVec Ideal S8x2048x8 .f32 := extractStridedSlice S8x2048x8 ![0, 0, 128] (out32 x w g) slices_S8x2048x2304_S8x2048x8_0_0_128

theorem same_c_wi (hB : Cert.Reference3Ideal.S8x2048x3976.Slices ![0, 0, 2688] Cert.Reference3Ideal.S8x2048x8) : (extractStridedSlice Cert.Reference3Ideal.S8x2048x8 ![0, 0, 2688] (proj x w g) hB) = result_c_wi x w g :=
  seg32 x w g (by omega) (by omega) _ hB (c_wi w)

/-- A result: 256 columns from 1280 of one of the arrays. -/
noncomputable def result_c_g : FVec Ideal S8x2048x256 .f32 := extractStridedSlice S8x2048x256 ![0, 0, 1280] (out32 x w g) slices_S8x2048x2304_S8x2048x256_0_0_1280

theorem same_c_g (hB : Cert.Reference3Ideal.S8x2048x3976.Slices ![0, 0, 2696] Cert.Reference3Ideal.S8x2048x256) : (extractStridedSlice Cert.Reference3Ideal.S8x2048x256 ![0, 0, 2696] (proj x w g) hB) = result_c_g x w g :=
  seg32 x w g (by omega) (by omega) _ hB (c_g w)

/-- A result: 256 columns from 1536 of one of the arrays. -/
noncomputable def result_d_q : FVec Ideal S8x2048x256 .f32 := extractStridedSlice S8x2048x256 ![0, 0, 1536] (out32 x w g) slices_S8x2048x2304_S8x2048x256_0_0_1536

theorem same_d_q (hB : Cert.Reference3Ideal.S8x2048x3976.Slices ![0, 0, 2952] Cert.Reference3Ideal.S8x2048x256) : (extractStridedSlice Cert.Reference3Ideal.S8x2048x256 ![0, 0, 2952] (proj x w g) hB) = result_d_q x w g :=
  seg32 x w g (by omega) (by omega) _ hB (d_q w)

/-- A result: 256 columns from 512 of one of the arrays. -/
noncomputable def result_d_k : FVec Ideal S8x2048x256 .f32 := extf .f32 (extractStridedSlice S8x2048x256 ![0, 0, 512] (out16 x w g) slices_S8x2048x896_S8x2048x256_0_0_512 : FVec Ideal S8x2048x256 .bf16) bitsLt_bf16_f32

theorem same_d_k (hB : Cert.Reference3Ideal.S8x2048x3976.Slices ![0, 0, 3208] Cert.Reference3Ideal.S8x2048x256) : (extractStridedSlice Cert.Reference3Ideal.S8x2048x256 ![0, 0, 3208] (proj x w g) hB) = result_d_k x w g :=
  seg16 x w g (by omega) (by omega) _ hB (d_k w)

/-- A result: 256 columns from 1792 of one of the arrays. -/
noncomputable def result_d_v : FVec Ideal S8x2048x256 .f32 := extractStridedSlice S8x2048x256 ![0, 0, 1792] (out32 x w g) slices_S8x2048x2304_S8x2048x256_0_0_1792

theorem same_d_v (hB : Cert.Reference3Ideal.S8x2048x3976.Slices ![0, 0, 3464] Cert.Reference3Ideal.S8x2048x256) : (extractStridedSlice Cert.Reference3Ideal.S8x2048x256 ![0, 0, 3464] (proj x w g) hB) = result_d_v x w g :=
  seg32 x w g (by omega) (by omega) _ hB (d_v w)

/-- A result: 256 columns from 2048 of one of the arrays. -/
noncomputable def result_d_g : FVec Ideal S8x2048x256 .f32 := extractStridedSlice S8x2048x256 ![0, 0, 2048] (out32 x w g) slices_S8x2048x2304_S8x2048x256_0_0_2048

theorem same_d_g (hB : Cert.Reference3Ideal.S8x2048x3976.Slices ![0, 0, 3720] Cert.Reference3Ideal.S8x2048x256) : (extractStridedSlice Cert.Reference3Ideal.S8x2048x256 ![0, 0, 3720] (proj x w g) hB) = result_d_g x w g :=
  seg32 x w g (by omega) (by omega) _ hB (d_g w)

end

section

variable (m : (ℓ : Loc nD τ sig) → Buf (Elt Ideal) ℓ) (c : Dev nD)
  (x : FVec Ideal S8x2048x1024 .f32) (w : FVec Ideal S2x1024x3976 .f32) (g : FVec Ideal S2x1024 .f32)

theorem distinct : Function.Injective (Pipeline.arrRef cfg0.spec) := by decide +kernel

/-- The arrays after the blocks. -/
noncomputable def arrays : Valuation τ sig (Elt Ideal) :=
  Pipeline.withArrays cfg0.spec c (V0 m c) fun w => (dats m 0 c).arrAt w cfg0.N

variable (e0 : m ((c.tc : Thread nD τ).loc main_arg0) = x) (e1 : m ((c.tc : Thread nD τ).loc main_arg1) = w) (e2 : m ((c.tc : Thread nD τ).loc main_arg2) = g)
include e0 e1 e2

theorem arrays11 : (arrays m c (Proc.devRef .tc main_v105_0) : FVec Ideal S8x2048x2304 .f32) = out32 x w g :=
  (Pipeline.withArrays_arr cfg0.spec distinct c (V0 m c) (fun w => (dats m 0 c).arrAt w cfg0.N) 11).trans (final11 m c x w g e0 e1 e2)

theorem arrays12 : (arrays m c (Proc.devRef .tc main_v105_1) : FVec Ideal S8x2048x896 .bf16) = out16 x w g :=
  (Pipeline.withArrays_arr cfg0.spec distinct c (V0 m c) (fun w => (dats m 0 c).arrAt w cfg0.N) 12).trans (final12 m c x w g e0 e1 e2)

theorem arrays13 : (arrays m c (Proc.devRef .tc main_v105_2) : FVec Ideal S8x6x2048x128 .f32) = outB x w g :=
  (Pipeline.withArrays_arr cfg0.spec distinct c (V0 m c) (fun w => (dats m 0 c).arrAt w cfg0.N) 13).trans (final13 m c x w g e0 e1 e2)

theorem kernel_a_g : Pipeline.afterTail₀ cfgs (dats m) 0 (V0 m) [hostOps1] c main_v108 = result_a_g x w g := by
  refine (taken_a_g (arrays m c)).trans ?_
  rw [arrays11 m c x w g e0 e1 e2, result_a_g]

theorem kernel_b_q : Pipeline.afterTail₀ cfgs (dats m) 0 (V0 m) [hostOps1] c main_v109 = result_b_q x w g := by
  refine (taken_b_q (arrays m c)).trans ?_
  rw [arrays13 m c x w g e0 e1 e2, result_b_q]

theorem kernel_b_k : Pipeline.afterTail₀ cfgs (dats m) 0 (V0 m) [hostOps1] c main_v110 = result_b_k x w g := by
  refine (taken_b_k (arrays m c)).trans ?_
  rw [arrays13 m c x w g e0 e1 e2, result_b_k]

theorem kernel_b_v : Pipeline.afterTail₀ cfgs (dats m) 0 (V0 m) [hostOps1] c main_v111 = result_b_v x w g := by
  refine (taken_b_v (arrays m c)).trans ?_
  rw [arrays13 m c x w g e0 e1 e2, result_b_v]

theorem kernel_b_g : Pipeline.afterTail₀ cfgs (dats m) 0 (V0 m) [hostOps1] c main_v112 = result_b_g x w g := by
  refine (taken_b_g (arrays m c)).trans ?_
  rw [arrays11 m c x w g e0 e1 e2, result_b_g]

theorem kernel_c_q : Pipeline.afterTail₀ cfgs (dats m) 0 (V0 m) [hostOps1] c main_v113 = result_c_q x w g := by
  refine (taken_c_q (arrays m c)).trans ?_
  rw [arrays11 m c x w g e0 e1 e2, result_c_q]

theorem kernel_c_k : Pipeline.afterTail₀ cfgs (dats m) 0 (V0 m) [hostOps1] c main_v115 = result_c_k x w g := by
  refine (taken_c_k (arrays m c)).trans ?_
  rw [arrays12 m c x w g e0 e1 e2, result_c_k]

theorem kernel_c_v : Pipeline.afterTail₀ cfgs (dats m) 0 (V0 m) [hostOps1] c main_v116 = result_c_v x w g := by
  refine (taken_c_v (arrays m c)).trans ?_
  rw [arrays11 m c x w g e0 e1 e2, result_c_v]

theorem kernel_c_qi : Pipeline.afterTail₀ cfgs (dats m) 0 (V0 m) [hostOps1] c main_v118 = result_c_qi x w g := by
  refine (taken_c_qi (arrays m c)).trans ?_
  rw [arrays12 m c x w g e0 e1 e2, result_c_qi]

theorem kernel_c_ki : Pipeline.afterTail₀ cfgs (dats m) 0 (V0 m) [hostOps1] c main_v120 = result_c_ki x w g := by
  refine (taken_c_ki (arrays m c)).trans ?_
  rw [arrays12 m c x w g e0 e1 e2, result_c_ki]

theorem kernel_c_wi : Pipeline.afterTail₀ cfgs (dats m) 0 (V0 m) [hostOps1] c main_v121 = result_c_wi x w g := by
  refine (taken_c_wi (arrays m c)).trans ?_
  rw [arrays11 m c x w g e0 e1 e2, result_c_wi]

theorem kernel_c_g : Pipeline.afterTail₀ cfgs (dats m) 0 (V0 m) [hostOps1] c main_v122 = result_c_g x w g := by
  refine (taken_c_g (arrays m c)).trans ?_
  rw [arrays11 m c x w g e0 e1 e2, result_c_g]

theorem kernel_d_q : Pipeline.afterTail₀ cfgs (dats m) 0 (V0 m) [hostOps1] c main_v123 = result_d_q x w g := by
  refine (taken_d_q (arrays m c)).trans ?_
  rw [arrays11 m c x w g e0 e1 e2, result_d_q]

theorem kernel_d_k : Pipeline.afterTail₀ cfgs (dats m) 0 (V0 m) [hostOps1] c main_v125 = result_d_k x w g := by
  refine (taken_d_k (arrays m c)).trans ?_
  rw [arrays12 m c x w g e0 e1 e2, result_d_k]

theorem kernel_d_v : Pipeline.afterTail₀ cfgs (dats m) 0 (V0 m) [hostOps1] c main_v126 = result_d_v x w g := by
  refine (taken_d_v (arrays m c)).trans ?_
  rw [arrays11 m c x w g e0 e1 e2, result_d_v]

theorem kernel_d_g : Pipeline.afterTail₀ cfgs (dats m) 0 (V0 m) [hostOps1] c main_v127 = result_d_g x w g := by
  refine (taken_d_g (arrays m c)).trans ?_
  rw [arrays11 m c x w g e0 e1 e2, result_d_g]

end

end Cert.InProj
-- ==== Proof.InClaim.lean ====
/-
The two statements on the input projection that Proof.lean cites: the reference's frame and that the results are equal.
-/
module

public import proofs.«01_k».proof.Defs
public import proofs.«01_k».proof.Proof.InTail
public import Idealize.ShloMosaic.Adequacy
public import Idealize.ShloMosaic.Init

set_option maxRecDepth 16384

@[expose] public section

namespace Cert.InProj

open Idealize.ShloMosaic Idealize.SL.Sem

/-- The reference terminates with its arguments unchanged and, as it declares no semaphore, every counter at zero. -/
theorem frame (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0) :=
  (θ_run Cert.Reference3Ideal.defs _ _).mono (fun r h => ⟨fun c => (h c).2.2.2.2.2.2.2.2.2.2.2.2.2.2.2.2, Idealize.ShloMosaic.sem_eq_zero_of_no_sems (by decide) r.2⟩)
    (Cert.Reference3Ideal.Value.run (F := Ideal) m g)

/-- The kernel of the input projection ends with its results and its arguments unchanged. -/
theorem kernel_run (m : (ℓ : Loc Cert.Kernel3Ideal.nD Cert.Kernel3Ideal.τ Cert.Kernel3Ideal.sig) → Buf (Elt Ideal) ℓ) (g : Dev Cert.Kernel3Ideal.nD → PrngReg) :
    θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
      r.2.mem ((c.tc : Thread Cert.Kernel3Ideal.nD Cert.Kernel3Ideal.τ).loc Cert.Kernel3Ideal.main_v108) = result_a_g (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v109) = result_b_q (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v110) = result_b_k (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v111) = result_b_v (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v112) = result_b_g (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v113) = result_c_q (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v115) = result_c_k (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v116) = result_c_v (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v118) = result_c_qi (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v120) = result_c_ki (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v121) = result_c_wi (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v122) = result_c_g (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v123) = result_d_q (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v125) = result_d_k (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v126) = result_d_v (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v127) = result_d_g (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)) :=
  (θ_run Cert.Kernel3Ideal.defs _ _).mono (fun _ h c => ⟨
      ((h c).2 Cert.Kernel3Ideal.main_v108 (Pipeline.mem_restRefs_of Cert.Kernel3Ideal.main_v108 (by decide) (by decide))).trans (kernel_a_g m c _ _ _ rfl rfl rfl),
      ((h c).2 Cert.Kernel3Ideal.main_v109 (Pipeline.mem_restRefs_of Cert.Kernel3Ideal.main_v109 (by decide) (by decide))).trans (kernel_b_q m c _ _ _ rfl rfl rfl),
      ((h c).2 Cert.Kernel3Ideal.main_v110 (Pipeline.mem_restRefs_of Cert.Kernel3Ideal.main_v110 (by decide) (by decide))).trans (kernel_b_k m c _ _ _ rfl rfl rfl),
      ((h c).2 Cert.Kernel3Ideal.main_v111 (Pipeline.mem_restRefs_of Cert.Kernel3Ideal.main_v111 (by decide) (by decide))).trans (kernel_b_v m c _ _ _ rfl rfl rfl),
      ((h c).2 Cert.Kernel3Ideal.main_v112 (Pipeline.mem_restRefs_of Cert.Kernel3Ideal.main_v112 (by decide) (by decide))).trans (kernel_b_g m c _ _ _ rfl rfl rfl),
      ((h c).2 Cert.Kernel3Ideal.main_v113 (Pipeline.mem_restRefs_of Cert.Kernel3Ideal.main_v113 (by decide) (by decide))).trans (kernel_c_q m c _ _ _ rfl rfl rfl),
      ((h c).2 Cert.Kernel3Ideal.main_v115 (Pipeline.mem_restRefs_of Cert.Kernel3Ideal.main_v115 (by decide) (by decide))).trans (kernel_c_k m c _ _ _ rfl rfl rfl),
      ((h c).2 Cert.Kernel3Ideal.main_v116 (Pipeline.mem_restRefs_of Cert.Kernel3Ideal.main_v116 (by decide) (by decide))).trans (kernel_c_v m c _ _ _ rfl rfl rfl),
      ((h c).2 Cert.Kernel3Ideal.main_v118 (Pipeline.mem_restRefs_of Cert.Kernel3Ideal.main_v118 (by decide) (by decide))).trans (kernel_c_qi m c _ _ _ rfl rfl rfl),
      ((h c).2 Cert.Kernel3Ideal.main_v120 (Pipeline.mem_restRefs_of Cert.Kernel3Ideal.main_v120 (by decide) (by decide))).trans (kernel_c_ki m c _ _ _ rfl rfl rfl),
      ((h c).2 Cert.Kernel3Ideal.main_v121 (Pipeline.mem_restRefs_of Cert.Kernel3Ideal.main_v121 (by decide) (by decide))).trans (kernel_c_wi m c _ _ _ rfl rfl rfl),
      ((h c).2 Cert.Kernel3Ideal.main_v122 (Pipeline.mem_restRefs_of Cert.Kernel3Ideal.main_v122 (by decide) (by decide))).trans (kernel_c_g m c _ _ _ rfl rfl rfl),
      ((h c).2 Cert.Kernel3Ideal.main_v123 (Pipeline.mem_restRefs_of Cert.Kernel3Ideal.main_v123 (by decide) (by decide))).trans (kernel_d_q m c _ _ _ rfl rfl rfl),
      ((h c).2 Cert.Kernel3Ideal.main_v125 (Pipeline.mem_restRefs_of Cert.Kernel3Ideal.main_v125 (by decide) (by decide))).trans (kernel_d_k m c _ _ _ rfl rfl rfl),
      ((h c).2 Cert.Kernel3Ideal.main_v126 (Pipeline.mem_restRefs_of Cert.Kernel3Ideal.main_v126 (by decide) (by decide))).trans (kernel_d_v m c _ _ _ rfl rfl rfl),
      ((h c).2 Cert.Kernel3Ideal.main_v127 (Pipeline.mem_restRefs_of Cert.Kernel3Ideal.main_v127 (by decide) (by decide))).trans (kernel_d_g m c _ _ _ rfl rfl rfl),
      ((h c).1 0).trans (((Cert.Kernel3Ideal.Gen.dats m 0 c).arrAt_in 0 rfl _).trans ((Cert.Kernel3Ideal.Gen.A_eq m c 0).trans (Cert.Kernel3Ideal.Gen.V_main_arg0 m c))),
      ((h c).2 Cert.Kernel3Ideal.main_arg1 (Pipeline.mem_restRefs_of Cert.Kernel3Ideal.main_arg1 (by decide) (by decide))).trans (Cert.Kernel3Ideal.Gen.W_main_arg1 m (Cert.Kernel3Ideal.Gen.dats m) c),
      ((h c).2 Cert.Kernel3Ideal.main_arg2 (Pipeline.mem_restRefs_of Cert.Kernel3Ideal.main_arg2 (by decide) (by decide))).trans (Cert.Kernel3Ideal.Gen.W_main_arg2 m (Cert.Kernel3Ideal.Gen.dats m) c),
      ((h c).2 Cert.Kernel3Ideal.main_arg3 (Pipeline.mem_restRefs_of Cert.Kernel3Ideal.main_arg3 (by decide) (by decide))).trans (Cert.Kernel3Ideal.Gen.W_main_arg3 m (Cert.Kernel3Ideal.Gen.dats m) c),
      ((h c).2 Cert.Kernel3Ideal.main_arg4 (Pipeline.mem_restRefs_of Cert.Kernel3Ideal.main_arg4 (by decide) (by decide))).trans (Cert.Kernel3Ideal.Gen.W_main_arg4 m (Cert.Kernel3Ideal.Gen.dats m) c),
      ((h c).2 Cert.Kernel3Ideal.main_arg5 (Pipeline.mem_restRefs_of Cert.Kernel3Ideal.main_arg5 (by decide) (by decide))).trans (Cert.Kernel3Ideal.Gen.W_main_arg5 m (Cert.Kernel3Ideal.Gen.dats m) c),
      ((h c).2 Cert.Kernel3Ideal.main_arg6 (Pipeline.mem_restRefs_of Cert.Kernel3Ideal.main_arg6 (by decide) (by decide))).trans (Cert.Kernel3Ideal.Gen.W_main_arg6 m (Cert.Kernel3Ideal.Gen.dats m) c)⟩) (Cert.Kernel3Ideal.Gen.run_main m g)

/-- A function of equal arrays. -/
theorem at_equal {α β γ δ : Type} (f : α → β → γ → δ) {a a' : α} {b b' : β} {c c' : γ} (ha : a = a') (hb : b = b') (hc : c = c') : f a b c = f a' b' c' := by
  rw [ha, hb, hc]

/-- The results of the input projection are equal. -/
theorem equal [Cert.Kernel3Ideal.Facts] [Cert.Reference3Ideal.Facts] : Cert.algebraic_Kernel3Ideal_Reference3Ideal := by
  intro m g m' g' _ ha
  refine ⟨fun c => result_a_g (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => result_b_q (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => result_b_k (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => result_b_v (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => result_b_g (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => result_c_q (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => result_c_k (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => result_c_v (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => result_c_qi (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => result_c_ki (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => result_c_wi (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => result_c_g (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => result_d_q (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => result_d_k (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => result_d_v (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => result_d_g (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), kernel_run m g, ?_⟩
  refine (θ_run Cert.Reference3Ideal.defs _ _).mono (fun r h c => ?_) (Cert.Reference3Ideal.Value.run m' g')
  obtain ⟨h0, h1, h2, h3, h4, h5, h6⟩ := ha c
  obtain ⟨r0, r1, r2, r3, r4, r5, r6, r7, r8, r9, r10, r11, r12, r13, r14, r15, hr⟩ := h c
  exact ⟨r0.trans ((same_a_g _ _ _ _).trans (at_equal result_a_g h0 h1 h2)),
    r1.trans ((same_b_q _ _ _ _).trans (at_equal result_b_q h0 h1 h2)),
    r2.trans ((same_b_k _ _ _ _).trans (at_equal result_b_k h0 h1 h2)),
    r3.trans ((same_b_v _ _ _ _).trans (at_equal result_b_v h0 h1 h2)),
    r4.trans ((same_b_g _ _ _ _).trans (at_equal result_b_g h0 h1 h2)),
    r5.trans ((same_c_q _ _ _ _).trans (at_equal result_c_q h0 h1 h2)),
    r6.trans ((same_c_k _ _ _ _).trans (at_equal result_c_k h0 h1 h2)),
    r7.trans ((same_c_v _ _ _ _).trans (at_equal result_c_v h0 h1 h2)),
    r8.trans ((same_c_qi _ _ _ _).trans (at_equal result_c_qi h0 h1 h2)),
    r9.trans ((same_c_ki _ _ _ _).trans (at_equal result_c_ki h0 h1 h2)),
    r10.trans ((same_c_wi _ _ _ _).trans (at_equal result_c_wi h0 h1 h2)),
    r11.trans ((same_c_g _ _ _ _).trans (at_equal result_c_g h0 h1 h2)),
    r12.trans ((same_d_q _ _ _ _).trans (at_equal result_d_q h0 h1 h2)),
    r13.trans ((same_d_k _ _ _ _).trans (at_equal result_d_k h0 h1 h2)),
    r14.trans ((same_d_v _ _ _ _).trans (at_equal result_d_v h0 h1 h2)),
    r15.trans ((same_d_g _ _ _ _).trans (at_equal result_d_g h0 h1 h2)), hr⟩

end Cert.InProj
-- ==== Proof.MlaHost.lean ====
/-
What the input projection is given besides its input: the columns of the first mixer's latents, the tables of the rotation and
the weights of the two up-projections with their rotated copies and the padding.
-/
module

public import proofs.«01_k».proof.Proof.Gen.Kernel4Ideal.Frame
public import proofs.«01_k».proof.Proof.InRef

set_option maxRecDepth 16384

@[expose] public section

namespace Cert.Latents

open Idealize.ShloMosaic Idealize.SL.Sem
open Cert.InProj (arranged left mid right slabs)
open Cert.Kernel4Ideal Cert.Kernel4Ideal.Gen

/-! ## The columns of the latents -/

section

variable (w : FVec Ideal S2x1024x3976 .f32)

theorem arranged_left (k : Fin 1024) (j : Fin 640) : arranged w (ix3 0 k ⟨j, by omega⟩) = left w (ix3 0 k j) := by
  unfold arranged
  generalize left w = L
  generalize mid w = M
  generalize right w = R
  generalize slabs w = S
  pointwise

theorem c_q (k : Fin 1024) (j : Fin 192) : arranged w (ix3 0 k ⟨j, by omega⟩) = w (ix3 0 k ⟨j, by omega⟩) := by
  refine (arranged_left w k ⟨j, by omega⟩).trans ?_
  pointwise [left]
  all_goals
    repeat first | rw [dif_pos (by omega)] | rw [dif_neg (by omega)]
    first | done | exact congrArg (fun l => w (ix3 0 k l)) (Fin.ext (by dsimp only; omega))

theorem c_pad (k : Fin 1024) (j : Fin 64) : arranged w (ix3 0 k ⟨192 + j, by omega⟩) = (0 : EReal) := by
  refine (arranged_left w k ⟨192 + j, by omega⟩).trans ?_
  pointwise [left]
  all_goals
    repeat first | rw [dif_pos (by omega)] | rw [dif_neg (by omega)]
    first | done | exact Ideal.ofBits_zero_f32

theorem c_kv (k : Fin 1024) (j : Fin 128) : arranged w (ix3 0 k ⟨256 + j, by omega⟩) = w (ix3 0 k ⟨192 + j, by omega⟩) := by
  refine (arranged_left w k ⟨256 + j, by omega⟩).trans ?_
  pointwise [left]
  all_goals
    repeat first | rw [dif_pos (by omega)] | rw [dif_neg (by omega)]
    first | done | exact congrArg (fun l => w (ix3 0 k l)) (Fin.ext (by dsimp only; omega))

theorem c_gap (k : Fin 1024) (j : Fin 64) : arranged w (ix3 0 k ⟨384 + j, by omega⟩) = (0 : EReal) := by
  refine (arranged_left w k ⟨384 + j, by omega⟩).trans ?_
  pointwise [left]
  all_goals
    repeat first | rw [dif_pos (by omega)] | rw [dif_neg (by omega)]
    first | done | exact Ideal.ofBits_zero_f32

theorem c_kr (k : Fin 1024) (j : Fin 32) : arranged w (ix3 0 k ⟨448 + j, by omega⟩) = w (ix3 0 k ⟨320 + j, by omega⟩) := by
  refine (arranged_left w k ⟨448 + j, by omega⟩).trans ?_
  pointwise [left]
  all_goals
    repeat first | rw [dif_pos (by omega)] | rw [dif_neg (by omega)]
    first | done | exact congrArg (fun l => w (ix3 0 k l)) (Fin.ext (by dsimp only; omega))

theorem c_neg (k : Fin 1024) (j : Fin 16) : arranged w (ix3 0 k ⟨576 + j, by omega⟩) = (-(w (ix3 0 k ⟨336 + j, by omega⟩)) : EReal) := by
  refine (arranged_left w k ⟨576 + j, by omega⟩).trans ?_
  pointwise [left]
  all_goals
    repeat first | rw [dif_pos (by omega)] | rw [dif_neg (by omega)]
    first | done | exact congrArg (fun l => (-(w (ix3 0 k l)) : EReal)) (Fin.ext (by dsimp only; omega))

theorem c_swap (k : Fin 1024) (j : Fin 16) : arranged w (ix3 0 k ⟨592 + j, by omega⟩) = w (ix3 0 k ⟨320 + j, by omega⟩) := by
  refine (arranged_left w k ⟨592 + j, by omega⟩).trans ?_
  pointwise [left]
  all_goals
    repeat first | rw [dif_pos (by omega)] | rw [dif_neg (by omega)]
    first | done | exact congrArg (fun l => w (ix3 0 k l)) (Fin.ext (by dsimp only; omega))

end

/-! ## The tables -/

/-- The angle of each position and pair. -/
noncomputable def angle : FVec Ideal S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x461C4000#32))
        (Host.divf (Host.negf (addf (broadcastInDim S16 ![] bcast_S_S16 (constant S_ .f32 0x00000000#32))
          (mulf (broadcastInDim S16 ![] bcast_S_S16 (constant S_ .f32 0x40000000#32)) (sitofp .f32 (iotaInDim S16 32 0)))))
          (broadcastInDim S16 ![] bcast_S_S16 (constant S_ .f32 0x42000000#32))))))

/-- The cosines and sines of the angles. -/
noncomputable def cosines : FVec Ideal S2048x16 .f32 := Host.cos angle
noncomputable def sines : FVec Ideal S2048x16 .f32 := Host.sin angle

/-- A table over the lanes: a number for the lanes that are not rotated, the table twice, zeros. -/
noncomputable def table (s : BitVec 32) (y : FVec Ideal S2048x16 .f32) : FVec Ideal S2048x128 .f32 :=
  concatenate S2048x128 1 [⟨S2048x64, broadcastInDim S2048x64 ![] bcast_S_S2048x64 (constant S_ .f32 s)⟩, ⟨S2048x16, y⟩, ⟨S2048x16, y⟩,
    ⟨S2048x32, broadcastInDim S2048x32 ![] bcast_S_S2048x32 (constant S_ .f32 0x00000000#32)⟩]
    concatenates_S2048x64_S2048x16_S2048x16_S2048x32_S2048x128_d1

section

variable (s : BitVec 32) (y : FVec Ideal S2048x16 .f32) (r : Fin 2048)

theorem table_still (j : Fin 64) : table s y (ix2 r ⟨j, by omega⟩) = Ideal.ofBits .f32 s := by
  pointwise [table]
  all_goals
    repeat first | rw [dif_pos (by omega)] | rw [dif_neg (by omega)]
    first | done | rfl

theorem table_low (i : Fin 16) : table s y (ix2 r ⟨64 + i, by omega⟩) = y (ix2 r i) := by
  pointwise [table]
  all_goals
    repeat first | rw [dif_pos (by omega)] | rw [dif_neg (by omega)]
    first | done | exact congrArg (fun l => y (ix2 r l)) (Fin.ext (by dsimp only; omega))

theorem table_high (i : Fin 16) : table s y (ix2 r ⟨80 + i, by omega⟩) = y (ix2 r i) := by
  pointwise [table]
  all_goals
    repeat first | rw [dif_pos (by omega)] | rw [dif_neg (by omega)]
    first | done | exact congrArg (fun l => y (ix2 r l)) (Fin.ext (by dsimp only; omega))

end

/-! ## The weights of the queries -/

section

variable (w : FVec Ideal S2x192x384 .f32)

/-- The weights of the first layer, by head. -/
noncomputable def heads : FVec Ideal S192x4x96 .f32 :=
  shapeCast S192x4x96 (shapeCast S192x384 (extractStridedSlice S1x192x384 ![0, 0, 0] w slices_S2x192x384_S1x192x384_0_0_0) shapeCasts_S1x192x384_S192x384) shapeCasts_S192x384_S192x4x96

/-- The lanes that are rotated. -/
noncomputable def turned : FVec Ideal S192x4x32 .f32 := extractStridedSlice S192x4x32 ![0, 0, 64] (heads w) slices_S192x4x96_S192x4x32_0_0_64

/-- The zeros that fill a head's lanes. -/
noncomputable def blank : FVec Ideal S192x4x32 .f32 := broadcastInDim S192x4x32 ![] bcast_S_S192x4x32 (constant S_ .f32 0x00000000#32)

/-- Rows of zeros below, and the heads side by side. -/
noncomputable def padded (y : FVec Ideal S192x4x128 .f32) : FVec Ideal S256x512 .bf16 :=
  truncf .bf16 (concatenate S256x512 0 [⟨S192x512, shapeCast S192x512 y shapeCasts_S192x4x128_S192x512⟩,
    ⟨S64x512, broadcastInDim S64x512 ![] bcast_S_S64x512 (constant S_ .f32 0x00000000#32)⟩] concatenates_S192x512_S64x512_S256x512_d0) bitsLt_bf16_f32

/-- The lanes as they are. -/
noncomputable def straight : FVec Ideal S192x4x128 .f32 :=
  concatenate S192x4x128 2 [⟨S192x4x64, extractStridedSlice S192x4x64 ![0, 0, 0] (heads w) slices_S192x4x96_S192x4x64_0_0_0⟩, ⟨S192x4x32, turned w⟩, ⟨S192x4x32, blank⟩]
    concatenates_S192x4x64_S192x4x32_S192x4x32_S192x4x128_d2

/-- The rotated lanes exchanged in halves, one half negated. -/
noncomputable def crossed : FVec Ideal S192x4x128 .f32 :=
  concatenate S192x4x128 2 [⟨S192x4x64, broadcastInDim S192x4x64 ![] bcast_S_S192x4x64 (constant S_ .f32 0x00000000#32)⟩,
    ⟨S192x4x32, concatenate S192x4x32 2 [⟨S192x4x16, Host.negf (extractStridedSlice S192x4x16 ![0, 0, 16] (turned w) slices_S192x4x32_S192x4x16_0_0_16)⟩,
      ⟨S192x4x16, extractStridedSlice S192x4x16 ![0, 0, 0] (turned w) slices_S192x4x32_S192x4x16_0_0_0⟩] concatenates_S192x4x16_S192x4x16_S192x4x32_d2⟩, ⟨S192x4x32, blank⟩]
    concatenates_S192x4x64_S192x4x32_S192x4x32_S192x4x128_d2

theorem heads_apply (k : Fin 192) (h : Fin 4) (l : Fin 96) : heads w (ix3 k h l) = w (ix3 0 k ⟨96 * h + l, by omega⟩) := by
  pointwise [heads]
  exact congrArg (fun l => w (ix3 0 k l)) (Fin.ext (by dsimp only; omega))

theorem padded_apply (y : FVec Ideal S192x4x128 .f32) (k : Fin 192) (h : Fin 4) (l : Fin 128) : padded y (ix2 ⟨k, by omega⟩ ⟨128 * h + l, by omega⟩) = (y (ix3 k h l) : EReal) := by
  pointwise [padded]

theorem padded_zero (y : FVec Ideal S192x4x128 .f32) (k : Fin 256) (hk : ¬ k.val < 192) (j : Fin 512) : padded y (ix2 k j) = (0 : EReal) := by
  pointwise [padded]
  all_goals
    repeat first | rw [dif_pos (by omega)] | rw [dif_neg (by omega)]
    first | done | exact Ideal.ofBits_zero_f32

theorem straight_still (k : Fin 192) (h : Fin 4) (l : Fin 64) : straight w (ix3 k h ⟨l, by omega⟩) = w (ix3 0 k ⟨96 * h + l, by omega⟩) := by
  refine Eq.trans ?_ (heads_apply w k h ⟨l, by omega⟩)
  unfold straight turned
  generalize heads w = y
  pointwise

theorem straight_turned (k : Fin 192) (h : Fin 4) (l : Fin 32) : straight w (ix3 k h ⟨64 + l, by omega⟩) = w (ix3 0 k ⟨96 * h + (64 + l), by omega⟩) := by
  refine Eq.trans ?_ (heads_apply w k h ⟨64 + l, by omega⟩)
  unfold straight turned
  generalize heads w = y
  pointwise
  all_goals
    repeat first | rw [dif_pos (by omega)] | rw [dif_neg (by omega)]
    first | done | exact congrArg (fun l => y (ix3 k h l)) (Fin.ext (by dsimp only; omega))

theorem crossed_still (k : Fin 192) (h : Fin 4) (l : Fin 64) : crossed w (ix3 k h ⟨l, by omega⟩) = (0 : EReal) := by
  unfold crossed turned
  generalize heads w = y
  pointwise
  all_goals
    repeat first | rw [dif_pos (by omega)] | rw [dif_neg (by omega)]
    first | done | exact Ideal.ofBits_zero_f32

theorem crossed_low (k : Fin 192) (h : Fin 4) (i : Fin 16) : crossed w (ix3 k h ⟨64 + i, by omega⟩) = (-(w (ix3 0 k ⟨96 * h + (80 + i), by omega⟩)) : EReal) := by
  refine Eq.trans ?_ (congrArg (fun e : EReal => -e) (heads_apply w k h ⟨80 + i, by omega⟩))
  unfold crossed turned
  generalize heads w = y
  pointwise
  all_goals
    repeat first | rw [dif_pos (by omega)] | rw [dif_neg (by omega)]
    first | done | exact congrArg (fun l => (-(y (ix3 k h l)) : EReal)) (Fin.ext (by dsimp only; omega))

theorem crossed_high (k : Fin 192) (h : Fin 4) (i : Fin 16) : crossed w (ix3 k h ⟨80 + i, by omega⟩) = w (ix3 0 k ⟨96 * h + (64 + i), by omega⟩) := by
  refine Eq.trans ?_ (heads_apply w k h ⟨64 + i, by omega⟩)
  unfold crossed turned
  generalize heads w = y
  pointwise
  all_goals
    repeat first | rw [dif_pos (by omega)] | rw [dif_neg (by omega)]
    first | done | exact congrArg (fun l => y (ix3 k h l)) (Fin.ext (by dsimp only; omega))

end

/-! ## The weights of the keys and values -/

section

variable (w : FVec Ideal S2x128x512 .f32)

/-- The weights of the first layer, by head. -/
noncomputable def pairs : FVec Ideal S128x4x128 .f32 :=
  shapeCast S128x4x128 (shapeCast S128x512 (extractStridedSlice S1x128x512 ![0, 0, 0] w slices_S2x128x512_S1x128x512_0_0_0) shapeCasts_S1x128x512_S128x512) shapeCasts_S128x512_S128x4x128

/-- The keys' half of each head, zeros in the other. -/
noncomputable def keyed : FVec Ideal S128x512 .bf16 :=
  truncf .bf16 (shapeCast S128x512 (concatenate S128x4x128 2 [⟨S128x4x64, extractStridedSlice S128x4x64 ![0, 0, 0] (pairs w) slices_S128x4x128_S128x4x64_0_0_0⟩,
    ⟨S128x4x64, broadcastInDim S128x4x64 ![] bcast_S_S128x4x64 (constant S_ .f32 0x00000000#32)⟩] concatenates_S128x4x64_S128x4x64_S128x4x128_d2) shapeCasts_S128x4x128_S128x512) bitsLt_bf16_f32

/-- The values' half of each head, transposed. -/
noncomputable def valued : FVec Ideal S256x128 .bf16 :=
  truncf .bf16 (transpose S256x128 [1, 0] (shapeCast S128x256 (extractStridedSlice S128x4x64 ![0, 0, 64] (pairs w) slices_S128x4x128_S128x4x64_0_0_64) shapeCasts_S128x4x64_S128x256)
    transposes_S128x256_S256x128_1_0) bitsLt_bf16_f32

theorem pairs_apply (k : Fin 128) (h : Fin 4) (l : Fin 128) : pairs w (ix3 k h l) = w (ix3 0 k ⟨128 * h + l, by omega⟩) := by
  pointwise [pairs]
  exact congrArg (fun l => w (ix3 0 k l)) (Fin.ext (by dsimp only; omega))

theorem keyed_still (k : Fin 128) (h : Fin 4) (l : Fin 64) : keyed w (ix2 k ⟨128 * h + l, by omega⟩) = (w (ix3 0 k ⟨128 * h + l, by omega⟩) : EReal) := by
  refine Eq.trans ?_ (pairs_apply w k h ⟨l, by omega⟩)
  unfold keyed
  generalize pairs w = y
  pointwise
  rw [dif_pos (by omega)]
  exact congrArg (fun l => y (ix3 k h l)) (Fin.ext (by dsimp only; omega))

theorem keyed_zero (k : Fin 128) (h : Fin 4) (l : Fin 64) : keyed w (ix2 k ⟨128 * h + (64 + l), by omega⟩) = (0 : EReal) := by
  unfold keyed
  generalize pairs w = y
  pointwise
  all_goals
    repeat first | rw [dif_pos (by omega)] | rw [dif_neg (by omega)]
    first | done | exact Ideal.ofBits_zero_f32

theorem valued_apply (h : Fin 4) (d : Fin 64) (k : Fin 128) : valued w (ix2 ⟨64 * h + d, by omega⟩ k) = (w (ix3 0 k ⟨128 * h + (64 + d), by omega⟩) : EReal) := by
  refine Eq.trans ?_ (pairs_apply w k h ⟨64 + d, by omega⟩)
  unfold valued
  generalize pairs w = y
  pointwise

end

/-! ## The norms' weights -/

/-- The weights of the queries' norm, ones in the padding. -/
noncomputable def gainQ (g : FVec Ideal S2x192 .f32) : FVec Ideal S1x256 .f32 :=
  broadcastInDim S1x256 ![1] bcast_S256_S1x256_1 (concatenate S256 0 [⟨S192, shapeCast S192 (extractStridedSlice S1x192 ![0, 0] g slices_S2x192_S1x192_0_0) shapeCasts_S1x192_S192⟩,
    ⟨S64, broadcastInDim S64 ![] bcast_S_S64 (constant S_ .f32 0x3F800000#32)⟩] concatenates_S192_S64_S256_d0)

/-- The weights of the keys' and values' norm. -/
noncomputable def gainK (g : FVec Ideal S2x128 .f32) : FVec Ideal S1x128 .f32 :=
  broadcastInDim S1x128 ![1] bcast_S128_S1x128_1 (shapeCast S128 (extractStridedSlice S1x128 ![0, 0] g slices_S2x128_S1x128_0_0) shapeCasts_S1x128_S128)

theorem gainQ_apply (g : FVec Ideal S2x192 .f32) (k : Fin 192) : gainQ g (ix2 0 ⟨k, by omega⟩) = g (ix2 0 k) := by
  pointwise [gainQ]

theorem gainK_apply (g : FVec Ideal S2x128 .f32) (k : Fin 128) : gainK g (ix2 0 k) = g (ix2 0 k) := by
  pointwise [gainK]

end Cert.Latents
-- ==== Proof.MlaProj.lean ====
/-
The queries, keys and values a block of the input projection computes.
-/
module

public import proofs.«01_k».proof.Proof.MlaHost

set_option maxRecDepth 16384

@[expose] public section

namespace Cert.Latents

open Idealize.ShloMosaic Idealize.SL.Sem
open Cert.InProj (element)
open Cert.Kernel4Ideal Cert.Kernel4Ideal.Gen

/-! ## At an index -/

/-- The reciprocal of the number of the queries' latents, and the factor of the queries. -/
noncomputable def share : EReal := ((1 / 192 : ℝ) : EReal)
noncomputable def factorQ : EReal := (((Real.sqrt 96)⁻¹ * (Real.log 2)⁻¹ : ℝ) : EReal)

theorem share_eq : Named.named (F := Ideal) Cert.Kernel4Ideal.κ "inv_q_lora" (φ := .f32) 0x3BAAAAAB#32 = share :=
  IdealRules.named_const.ideal_named_scalar _ _ _ _ rfl

theorem factorQ_eq : Named.named (F := Ideal) Cert.Kernel4Ideal.κ "q_scale" (φ := .f32) 0x3E16C740#32 = factorQ :=
  IdealRules.named_const.ideal_named_scalar _ _ _ _ rfl

/-- The factor of a row of the queries' latents, padded. -/
noncomputable def unitP (p : Fin 256 → EReal) : EReal := Ideal.rsqrt ((∑ l, p l * p l) * share + Ideal.ofBits .f32 0x358637BD#32)

/-- The factor of a row of the keys' and values' latents. -/
noncomputable def unitK (p : Fin 128 → EReal) : EReal := Ideal.rsqrt (Ideal.div (∑ l, p l * p l) (Ideal.ofBits .f32 0x43000000#32) + Ideal.ofBits .f32 0x358637BD#32)

/-- An element of the padded queries' up-projection. -/
noncomputable def upP (p g u : Fin 256 → EReal) : EReal := ∑ k, p k * unitP p * g k * u k

/-- An element of the keys' and values' up-projection. -/
noncomputable def upK (p g u : Fin 128 → EReal) : EReal := ∑ k, p k * unitK p * g k * u k

/-! ## The queries -/

noncomputable def latentQ (z : FVec Ideal S512x256 .f32) (s : FVec Ideal S512x1 .f32) (g : Vec Ideal S1x256 .f32) : FVec Ideal S512x256 .bf16 :=
  truncf .bf16 (mulf (mulf z (broadcastTo S512x256 (rsqrt (addf (mulf s (broadcast S512x1 (Named.named Cert.Kernel4Ideal.κ "inv_q_lora" 0x3BAAAAAB#32)))
      (broadcast S512x1 (Scalar.ofBits .f32 0x358637BD#32)))) broadcasts_S512x1_S512x256))
    (broadcastTo S512x256 (shapeCast S1x256 g shapeCasts_S1x256_S1x256) broadcasts_S1x256_S512x256)) bitsLt_bf16_f32

noncomputable def dotQ (y : FVec Ideal S512x256 .bf16) (u : Vec Ideal S256x512 .bf16) : FVec Ideal S512x512 .f32 :=
  matmul dot_S512x256_S256x512_S512x512_1_0_0_1_n_n none y (shapeCast S256x512 u shapeCasts_S256x512_S256x512 : FVec Ideal S256x512 .bf16) (constant S512x512 .f32 0x00000000#32)

noncomputable def joinQ (a b co si : FVec Ideal S512x512 .f32) : FVec Ideal S1x512x512 .bf16 :=
  shapeCast S1x512x512 (truncf .bf16 (mulf (addf (mulf a co) (mulf b si)) (broadcast S512x512 (Named.named Cert.Kernel4Ideal.κ "q_scale" 0x3E16C740#32))) bitsLt_bf16_f32)
    shapeCasts_S512x512_S1x512x512

theorem pay19_eq (co si : FVec Ideal S512x512 .f32) (z : FVec Ideal S512x256 .f32) (s : FVec Ideal S512x1 .f32) (g : Vec Ideal S1x256 .f32) (u v : Vec Ideal S256x512 .bf16) :
    k0_pay19 co si z s g u v = joinQ (dotQ (latentQ z s g) u) (dotQ (latentQ z s g) v) co si := by
  unfold k0_pay19 joinQ dotQ latentQ
  rfl

theorem latentQ_apply (z : FVec Ideal S512x256 .f32) (s : FVec Ideal S512x1 .f32) (g : Vec Ideal S1x256 .f32) (a : Fin 512) (k : Fin 256) :
    latentQ z s g (ix2 a k) = (z (ix2 a k) * Ideal.rsqrt (s (ix2 a 0) * share + Ideal.ofBits .f32 0x358637BD#32) * g (ix2 0 k) : EReal) := by
  rw [← share_eq]
  pointwise [latentQ]

theorem dotQ_apply (y : FVec Ideal S512x256 .bf16) (u : Vec Ideal S256x512 .bf16) (a : Fin 512) (j : Fin 512) :
    dotQ y u (ix2 a j) = (∑ k : Fin 256, y (ix2 a k) * u (ix2 k j) : EReal) := by
  pointwise [dotQ]

theorem joinQ_apply (a b co si : FVec Ideal S512x512 .f32) (r j : Fin 512) :
    joinQ a b co si (ix3 0 r j) = ((a (ix2 r j) * co (ix2 r j) + b (ix2 r j) * si (ix2 r j)) * factorQ : EReal) := by
  rw [← factorQ_eq]
  pointwise [joinQ]

theorem pay15_apply (x : Vec Ideal S512x128 .f32) (a : Fin 512) (h : Fin 4) (l : Fin 128) : k0_pay15 x (ix2 a ⟨128 * h + l, by omega⟩) = x (ix2 a l) := by
  have e : k0_pay13 x = x := by
    unfold k0_pay13
    funext i
    pointwise
  unfold k0_pay15
  rw [e]
  obtain ⟨h, hh⟩ := h
  interval_cases h <;> pointwise
  all_goals
    repeat first | rw [dif_pos (by omega)] | rw [dif_neg (by omega)]
    exact congrArg (fun l => x (ix2 a l)) (Fin.ext (by dsimp only; omega))

theorem pay17_apply (z : FVec Ideal S512x4480 .f32) (a : Fin 512) (k : Fin 256) : k0_pay17 z (ix2 a k) = z (ix2 a ⟨k, by omega⟩) := by
  pointwise [k0_pay17]

theorem pay18_apply (z : FVec Ideal S512x4480 .f32) (a : Fin 512) : k0_pay18 z (ix2 a 0) = (∑ k : Fin 256, z (ix2 a ⟨k, by omega⟩) * z (ix2 a ⟨k, by omega⟩) : EReal) := by
  pointwise [k0_pay18, k0_pay17]

/-- The queries of a block. -/
theorem query_apply (x3 x4 : Vec Ideal S512x128 .f32) (z : FVec Ideal S512x4480 .f32) (g : Vec Ideal S1x256 .f32) (u v : Vec Ideal S256x512 .bf16) (a : Fin 512) (h : Fin 4) (l : Fin 128) :
    k0_pay19 (k0_pay15 x3) (k0_pay16 x4) (k0_pay17 z) (k0_pay18 z) g u v (ix3 0 a ⟨128 * h + l, by omega⟩)
      = ((upP (fun k => z (ix2 a ⟨k, by omega⟩)) (fun k => g (ix2 0 k)) (fun k => u (ix2 k ⟨128 * h + l, by omega⟩)) * x3 (ix2 a l)
        + upP (fun k => z (ix2 a ⟨k, by omega⟩)) (fun k => g (ix2 0 k)) (fun k => v (ix2 k ⟨128 * h + l, by omega⟩)) * x4 (ix2 a l)) * factorQ : EReal) := by
  have hd : ∀ u : Vec Ideal S256x512 .bf16, dotQ (latentQ (k0_pay17 z) (k0_pay18 z) g) u (ix2 a ⟨128 * h + l, by omega⟩)
      = upP (fun k => z (ix2 a ⟨k, by omega⟩)) (fun k => g (ix2 0 k)) (fun k => u (ix2 k ⟨128 * h + l, by omega⟩)) := fun u => by
    rw [dotQ_apply]
    unfold upP unitP
    refine Finset.sum_congr rfl fun k _ => ?_
    rw [latentQ_apply, pay17_apply, pay18_apply]
  have h16 : k0_pay16 x4 (ix2 a ⟨128 * h + l, by omega⟩) = x4 (ix2 a l) := pay15_apply x4 a h l
  rw [pay19_eq, joinQ_apply, hd, hd, pay15_apply, h16]

/-! ## The keys and the values -/

noncomputable def factorRow (y : FVec Ideal S512x128 .f32) : FVec Ideal S512x1 .f32 :=
  rsqrt (addf (divf (shapeCast S512x1 (multiReduction .add [1] S512 (mulf y y) 0x00000000#32 reduces_S512x128_S512 (.inl rfl) rfl) shapeCasts_S512_S512x1)
    (broadcast S512x1 (Scalar.ofBits .f32 0x43000000#32))) (broadcast S512x1 (Scalar.ofBits .f32 0x358637BD#32)))

noncomputable def latentK (y : FVec Ideal S512x128 .f32) (g : FVec Ideal S1x128 .f32) : FVec Ideal S512x128 .bf16 :=
  truncf .bf16 (mulf (mulf y (broadcastTo S512x128 (factorRow y) broadcasts_S512x1_S512x128)) (broadcastTo S512x128 g broadcasts_S1x128_S512x128)) bitsLt_bf16_f32

noncomputable def keyRows (z : FVec Ideal S512x4480 .f32) : FVec Ideal S512x128 .f32 := extractStridedSlice S512x128 ![0, 256] z slices_S512x4480_o0_256_S512x128

theorem pay1_eq (z : FVec Ideal S512x4480 .f32) (g : FVec Ideal S1x128 .f32) : k0_pay1 (k0_pay20 z) g = latentK (keyRows z) g := by
  unfold k0_pay1 k0_pay20 latentK factorRow keyRows
  rfl

theorem pay21_eq (g : Vec Ideal S1x128 .f32) : k0_pay21 g = g := by
  unfold k0_pay21
  funext i
  pointwise

theorem factorRow_apply (y : FVec Ideal S512x128 .f32) (a : Fin 512) : factorRow y (ix2 a 0) = unitK fun l => y (ix2 a l) := by
  pointwise [factorRow, unitK]

theorem latentK_apply (y : FVec Ideal S512x128 .f32) (g : FVec Ideal S1x128 .f32) (a : Fin 512) (k : Fin 128) :
    latentK y g (ix2 a k) = (y (ix2 a k) * factorRow y (ix2 a 0) * g (ix2 0 k) : EReal) := by
  pointwise [latentK]

theorem keyRows_apply (z : FVec Ideal S512x4480 .f32) (a : Fin 512) (k : Fin 128) : keyRows z (ix2 a k) = z (ix2 a ⟨256 + k, by omega⟩) := by
  pointwise [keyRows]

/-- The rows of the keys' and values' latents, normed and weighed. -/
theorem pay1_apply (z : FVec Ideal S512x4480 .f32) (g : Vec Ideal S1x128 .f32) (a : Fin 512) (k : Fin 128) :
    k0_pay1 (k0_pay20 z) (k0_pay21 g) (ix2 a k) = (z (ix2 a ⟨256 + k, by omega⟩) * unitK (fun l => z (ix2 a ⟨256 + l, by omega⟩)) * g (ix2 0 k) : EReal) := by
  rw [pay21_eq, pay1_eq, latentK_apply, factorRow_apply, keyRows_apply]
  simp only [keyRows_apply]

/-- The shared part of the keys. -/
noncomputable def sharedK (z : FVec Ideal S512x4480 .f32) (co si : FVec Ideal S512x128 .f32) : FVec Ideal S512x128 .f32 :=
  addf (mulf (extractStridedSlice S512x128 ![0, 384] z slices_S512x4480_o0_384_S512x128) co) (mulf (extractStridedSlice S512x128 ![0, 512] z slices_S512x4480_o0_512_S512x128) si)

noncomputable def joinK (y : FVec Ideal S512x128 .bf16) (u : Vec Ideal S128x512 .bf16) (t : FVec Ideal S512x128 .f32) : FVec Ideal S1x512x512 .bf16 :=
  shapeCast S1x512x512 (truncf .bf16 (addf
    (matmul dot_S512x128_S128x512_S512x512_1_0_0_1_n_n none y (shapeCast S128x512 u shapeCasts_S128x512_S128x512 : FVec Ideal S128x512 .bf16) (constant S512x512 .f32 0x00000000#32))
    (concatenate S512x512 1 [⟨S512x128, t⟩, ⟨S512x128, t⟩, ⟨S512x128, t⟩, ⟨S512x128, t⟩] concatenates_S512x128_S512x128_S512x128_S512x128_S512x512_d1)) bitsLt_bf16_f32)
    shapeCasts_S512x512_S1x512x512

theorem pay2_eq (z : FVec Ideal S512x4480 .f32) (co si : FVec Ideal S512x128 .f32) (y : FVec Ideal S512x128 .f32) (g : FVec Ideal S1x128 .f32) (u : Vec Ideal S128x512 .bf16) :
    k0_pay2 z co si y g u = joinK (k0_pay1 y g) u (sharedK z co si) := by
  unfold k0_pay2 joinK sharedK
  rfl

theorem sharedK_apply (z : FVec Ideal S512x4480 .f32) (co si : FVec Ideal S512x128 .f32) (a : Fin 512) (l : Fin 128) :
    sharedK z co si (ix2 a l) = (z (ix2 a ⟨384 + l, by omega⟩) * co (ix2 a l) + z (ix2 a ⟨512 + l, by omega⟩) * si (ix2 a l) : EReal) := by
  pointwise [sharedK]

theorem joinK_apply (y : FVec Ideal S512x128 .bf16) (u : Vec Ideal S128x512 .bf16) (t : FVec Ideal S512x128 .f32) (a : Fin 512) (h : Fin 4) (l : Fin 128) :
    joinK y u t (ix3 0 a ⟨128 * h + l, by omega⟩) = ((∑ k : Fin 128, y (ix2 a k) * u (ix2 k ⟨128 * h + l, by omega⟩)) + t (ix2 a l) : EReal) := by
  obtain ⟨h, hh⟩ := h
  interval_cases h <;> pointwise [joinK]
  all_goals
    repeat first | rw [dif_pos (by omega)] | rw [dif_neg (by omega)]
    exact congrArg (fun l => (_ + t (ix2 a l) : EReal)) (Fin.ext (by dsimp only; omega))

/-- The keys of a block. -/
theorem key_apply (x3 x4 : Vec Ideal S512x128 .f32) (z : FVec Ideal S512x4480 .f32) (g : Vec Ideal S1x128 .f32) (u : Vec Ideal S128x512 .bf16) (a : Fin 512) (h : Fin 4) (l : Fin 128) :
    k0_pay2 z (k0_pay13 x3) (k0_pay14 x4) (k0_pay20 z) (k0_pay21 g) u (ix3 0 a ⟨128 * h + l, by omega⟩)
      = (upK (fun k => z (ix2 a ⟨256 + k, by omega⟩)) (fun k => g (ix2 0 k)) (fun k => u (ix2 k ⟨128 * h + l, by omega⟩))
        + (z (ix2 a ⟨384 + l, by omega⟩) * x3 (ix2 a l) + z (ix2 a ⟨512 + l, by omega⟩) * x4 (ix2 a l)) : EReal) := by
  have e3 : k0_pay13 x3 = x3 := by
    unfold k0_pay13
    funext i
    pointwise
  have e4 : k0_pay14 x4 = x4 := by
    unfold k0_pay14
    funext i
    pointwise
  rw [pay2_eq, joinK_apply, sharedK_apply, e3, e4]
  unfold upK
  refine congrArg (· + _) (Finset.sum_congr rfl fun k _ => ?_)
  rw [pay1_apply]

noncomputable def joinV (y : FVec Ideal S512x128 .bf16) (u : Vec Ideal S256x128 .bf16) : FVec Ideal S1x256x512 .bf16 :=
  shapeCast S1x256x512 (truncf .bf16
    (matmul dot_S256x128_S512x128_S256x512_1_1_0_0_n_n none (shapeCast S256x128 u shapeCasts_S256x128_S256x128 : FVec Ideal S256x128 .bf16) y (constant S256x512 .f32 0x00000000#32)) bitsLt_bf16_f32)
    shapeCasts_S256x512_S1x256x512

theorem joinV_apply (y : FVec Ideal S512x128 .bf16) (u : Vec Ideal S256x128 .bf16) (j : Fin 256) (a : Fin 512) :
    joinV y u (ix3 0 j a) = (∑ k : Fin 128, u (ix2 j k) * y (ix2 a k) : EReal) := by
  pointwise [joinV]

/-- The values of a block. -/
theorem value_apply (z : FVec Ideal S512x4480 .f32) (g : Vec Ideal S1x128 .f32) (u : Vec Ideal S256x128 .bf16) (j : Fin 256) (a : Fin 512) :
    k0_pay3 (k0_pay20 z) (k0_pay21 g) u (ix3 0 j a) = upK (fun k => z (ix2 a ⟨256 + k, by omega⟩)) (fun k => g (ix2 0 k)) (fun k => u (ix2 j k)) := by
  have e : k0_pay3 (k0_pay20 z) (k0_pay21 g) u = joinV (k0_pay1 (k0_pay20 z) (k0_pay21 g)) u := by
    unfold k0_pay3 joinV
    rfl
  rw [e, joinV_apply]
  unfold upK
  refine Finset.sum_congr rfl fun k _ => ?_
  rw [pay1_apply]
  exact mul_comm _ _

/-! ## The product the three are cut from -/

/-- The product of a block at an index. -/
theorem pay_apply (x : Vec Ideal S1x512x1024 .f32) (g : Vec Ideal S1x1024 .f32) (w : Vec Ideal S1x1024x4480 .bf16) (a : Fin 512) (j : Fin 4480) :
    k0_pay4 x g w (ix2 a j) = element (fun k => x (ix3 0 a k)) (fun k => g (ix2 0 k)) (fun k => w (ix3 0 k j)) := by
  have e : k0_pay4 x g w = Cert.Kernel3Ideal.Gen.k0_pay4 x g w := by
    unfold k0_pay4 Cert.Kernel3Ideal.Gen.k0_pay4
    rfl
  exact (congrFun e _).trans (Cert.InProj.pay_apply x g w a j)

end Cert.Latents
-- ==== Proof.MlaRead.lean ====
/-
The arrays the input projection is given, as terms of the arguments.
-/
module

public import proofs.«01_k».proof.Proof.MlaHost

set_option maxRecDepth 16384

@[expose] public section

namespace Cert.Latents

open Idealize.ShloMosaic Idealize.SL.Sem
open Cert.InProj (arranged gains)
open Cert.Kernel4Ideal Cert.Kernel4Ideal.Gen

variable (m : (ℓ : Loc nD τ sig) → Buf (Elt Ideal) ℓ) (c : Dev nD)

set_option maxHeartbeats 4000000 in
theorem gains_eq : V m c main_v104 = gains (m ((c.tc : Thread nD τ).loc main_arg2)) := by
  unfold V V0
  simp only [hostOps0, List.flatten_cons, List.flatten_nil, List.cons_append, List.nil_append, List.append_nil]
  after_results
  rfl

set_option maxHeartbeats 4000000 in
theorem arranged_eq : V m c main_v61 = arranged (m ((c.tc : Thread nD τ).loc main_arg1)) := by
  unfold V V0
  simp only [hostOps0, List.flatten_cons, List.flatten_nil, List.cons_append, List.nil_append, List.append_nil]
  after_results
  rfl

set_option maxHeartbeats 4000000 in
theorem cos_eq : V m c main_v20 = table 0x3F800000#32 cosines := by
  unfold V V0
  simp only [hostOps0, List.flatten_cons, List.flatten_nil, List.cons_append, List.nil_append, List.append_nil]
  after_results
  rfl

set_option maxHeartbeats 4000000 in
theorem sin_eq : V m c main_v22 = table 0x00000000#32 sines := by
  unfold V V0
  simp only [hostOps0, List.flatten_cons, List.flatten_nil, List.cons_append, List.nil_append, List.append_nil]
  after_results
  rfl

set_option maxHeartbeats 4000000 in
theorem gainQ_eq : V m c main_v98 = gainQ (m ((c.tc : Thread nD τ).loc main_arg3)) := by
  unfold V V0
  simp only [hostOps0, List.flatten_cons, List.flatten_nil, List.cons_append, List.nil_append, List.append_nil]
  after_results
  rfl

set_option maxHeartbeats 4000000 in
theorem gainK_eq : V m c main_v101 = gainK (m ((c.tc : Thread nD τ).loc main_arg4)) := by
  unfold V V0
  simp only [hostOps0, List.flatten_cons, List.flatten_nil, List.cons_append, List.nil_append, List.append_nil]
  after_results
  rfl

set_option maxHeartbeats 4000000 in
theorem straight_eq : V m c main_v90 = padded (straight (m ((c.tc : Thread nD τ).loc main_arg5))) := by
  unfold V V0
  simp only [hostOps0, List.flatten_cons, List.flatten_nil, List.cons_append, List.nil_append, List.append_nil]
  after_results
  rfl

set_option maxHeartbeats 4000000 in
theorem crossed_eq : V m c main_v91 = padded (crossed (m ((c.tc : Thread nD τ).loc main_arg5))) := by
  unfold V V0
  simp only [hostOps0, List.flatten_cons, List.flatten_nil, List.cons_append, List.nil_append, List.append_nil]
  after_results
  rfl

set_option maxHeartbeats 4000000 in
theorem keyed_eq : V m c main_v92 = keyed (m ((c.tc : Thread nD τ).loc main_arg6)) := by
  unfold V V0
  simp only [hostOps0, List.flatten_cons, List.flatten_nil, List.cons_append, List.nil_append, List.append_nil]
  after_results
  rfl

set_option maxHeartbeats 4000000 in
theorem valued_eq : V m c main_v93 = valued (m ((c.tc : Thread nD τ).loc main_arg6)) := by
  unfold V V0
  simp only [hostOps0, List.flatten_cons, List.flatten_nil, List.cons_append, List.nil_append, List.append_nil]
  after_results
  rfl

end Cert.Latents
-- ==== Proof.MlaFinal.lean ====
/-
The arrays of queries, keys and values the blocks of the input projection make up.
-/
module

public import proofs.«01_k».proof.Proof.MlaProj
public import proofs.«01_k».proof.Proof.MlaRead

set_option maxRecDepth 16384

@[expose] public section

namespace Cert.Latents

open Idealize.ShloMosaic Idealize.SL.Sem
open Cert.InProj (element arranged gains gains_apply whole)
open Cert.Kernel4Ideal Cert.Kernel4Ideal.Gen

/-! ## The output blocks at an index -/

section

variable (X0 : Vec Ideal S1x512x1024 .f32) (X1 : Vec Ideal S1x1024 .f32) (X2 : Vec Ideal S1x1024x4480 .bf16) (X3 X4 : Vec Ideal S512x128 .f32) (X5 : Vec Ideal S1x256 .f32)
  (X6 : Vec Ideal S1x128 .f32) (X7 X8 : Vec Ideal S256x512 .bf16) (X9 : Vec Ideal S128x512 .bf16) (X10 : Vec Ideal S256x128 .bf16)

theorem ld0 (X : Vec Ideal S1x512x1024 .f32) : View.ld X r0_0 = X := View.ld_unit_lit _ X (by decide)
theorem ld1 (X : Vec Ideal S1x1024 .f32) : View.ld X r0_1 = X := View.ld_unit_lit _ X (by decide)
theorem ld2 (X : Vec Ideal S1x1024x4480 .bf16) : View.ld X r0_2 = X := View.ld_unit_lit _ X (by decide)
theorem ld11 (X : Vec Ideal S512x128 .f32) : View.ld X r0_11 = X := View.ld_unit_lit _ X (by decide)
theorem ld12 (X : Vec Ideal S1x256 .f32) : View.ld X r0_12 = X := View.ld_unit_lit _ X (by decide)
theorem ld13 (X : Vec Ideal S256x512 .bf16) : View.ld X r0_13 = X := View.ld_unit_lit _ X (by decide)
theorem ld15 (X : Vec Ideal S1x128 .f32) : View.ld X r0_15 = X := View.ld_unit_lit _ X (by decide)
theorem ld16 (X : Vec Ideal S128x512 .bf16) : View.ld X r0_16 = X := View.ld_unit_lit _ X (by decide)
theorem ld17 (X : Vec Ideal S256x128 .bf16) : View.ld X r0_17 = X := View.ld_unit_lit _ X (by decide)

/-- A column of a block's product. -/
noncomputable def col (a : Fin 512) (j : Fin 4480) : EReal := element (fun k => X0 (ix3 0 a k)) (fun k => X1 (ix2 0 k)) (fun k => X2 (ix3 0 k j))

theorem out14_apply (a : Fin 512) (h : Fin 4) (l : Fin 128) : out0_14 X0 X1 X2 X3 X4 X5 X6 X7 X8 X9 X10 (ix3 0 a ⟨128 * h + l, by omega⟩)
    = ((upP (fun k => col X0 X1 X2 a ⟨k, by omega⟩) (fun k => X5 (ix2 0 k)) (fun k => X7 (ix2 k ⟨128 * h + l, by omega⟩)) * X3 (ix2 a l)
      + upP (fun k => col X0 X1 X2 a ⟨k, by omega⟩) (fun k => X5 (ix2 0 k)) (fun k => X8 (ix2 k ⟨128 * h + l, by omega⟩)) * X4 (ix2 a l)) * factorQ : EReal) := by
  have e : out0_14 X0 X1 X2 X3 X4 X5 X6 X7 X8 X9 X10
      = k0_pay19 (k0_pay15 X3) (k0_pay16 X4) (k0_pay17 (k0_pay4 X0 X1 X2)) (k0_pay18 (k0_pay4 X0 X1 X2)) X5 X7 X8 := by
    unfold out0_14 k0_pay22
    rw [ld0, ld1, ld2, ld11, ld11, ld12, ld13, ld13]
    exact View.canon_cons_unit_lit _ _ _ (by decide)
  rw [e, query_apply]
  simp only [pay_apply]
  rfl

theorem out15_apply (a : Fin 512) (h : Fin 4) (l : Fin 128) : out0_15 X0 X1 X2 X3 X4 X5 X6 X7 X8 X9 X10 (ix3 0 a ⟨128 * h + l, by omega⟩)
    = (upK (fun k => col X0 X1 X2 a ⟨256 + k, by omega⟩) (fun k => X6 (ix2 0 k)) (fun k => X9 (ix2 k ⟨128 * h + l, by omega⟩))
      + (col X0 X1 X2 a ⟨384 + l, by omega⟩ * X3 (ix2 a l) + col X0 X1 X2 a ⟨512 + l, by omega⟩ * X4 (ix2 a l)) : EReal) := by
  have e : out0_15 X0 X1 X2 X3 X4 X5 X6 X7 X8 X9 X10
      = k0_pay2 (k0_pay4 X0 X1 X2) (k0_pay13 X3) (k0_pay14 X4) (k0_pay20 (k0_pay4 X0 X1 X2)) (k0_pay21 X6) X9 := by
    unfold out0_15 k0_pay23 k0_pay24 k0_pay22
    rw [ld0, ld1, ld2, ld11, ld11, ld15, ld16]
    exact View.canon_cons_unit_lit _ _ _ (by decide)
  rw [e, key_apply]
  simp only [pay_apply]
  rfl

theorem out16_apply (j : Fin 256) (a : Fin 512) : out0_16 X0 X1 X2 X3 X4 X5 X6 X7 X8 X9 X10 (ix3 0 j a)
    = upK (fun k => col X0 X1 X2 a ⟨256 + k, by omega⟩) (fun k => X6 (ix2 0 k)) (fun k => X10 (ix2 j k)) := by
  have e : out0_16 X0 X1 X2 X3 X4 X5 X6 X7 X8 X9 X10 = k0_pay3 (k0_pay20 (k0_pay4 X0 X1 X2)) (k0_pay21 X6) X10 := by
    unfold out0_16 k0_pay23 k0_pay24 k0_pay22
    rw [ld0, ld1, ld2, ld15, ld17]
    exact View.canon_cons_unit_lit _ _ _ (by decide)
  rw [e, value_apply]
  simp only [pay_apply]
  rfl

end

/-! ## The operands' blocks -/

variable (m : (ℓ : Loc nD τ sig) → Buf (Elt Ideal) ℓ)

/-- There are 32 points. -/
theorem lt32 (t : Fin cfg0.N) : t.val < 32 := by
  have h : cfg0.N = 32 := by decide +kernel
  exact h ▸ t.isLt

/-- The block index of each window at a point. -/
theorem index0 : ∀ t : Fin cfg0.N, win0_0.index t 0 = t.val / 4 ∧ win0_0.index t 1 = t.val % 4 ∧ win0_0.index t 2 = 0 :=
  (by decide +kernel : ∀ t : Fin grid0.N, _)
theorem index1 : ∀ t : Fin cfg0.N, win0_1.index t 0 = 0 ∧ win0_1.index t 1 = 0 :=
  (by decide +kernel : ∀ t : Fin grid0.N, _)
theorem index2 : ∀ t : Fin cfg0.N, win0_2.index t 0 = 0 ∧ win0_2.index t 1 = 0 ∧ win0_2.index t 2 = 0 :=
  (by decide +kernel : ∀ t : Fin grid0.N, _)
theorem index3 : ∀ t : Fin cfg0.N, win0_3.index t 0 = t.val % 4 ∧ win0_3.index t 1 = 0 :=
  (by decide +kernel : ∀ t : Fin grid0.N, _)
theorem index4 : ∀ t : Fin cfg0.N, win0_4.index t 0 = t.val % 4 ∧ win0_4.index t 1 = 0 :=
  (by decide +kernel : ∀ t : Fin grid0.N, _)
theorem index5 : ∀ t : Fin cfg0.N, win0_5.index t 0 = 0 ∧ win0_5.index t 1 = 0 :=
  (by decide +kernel : ∀ t : Fin grid0.N, _)
theorem index6 : ∀ t : Fin cfg0.N, win0_6.index t 0 = 0 ∧ win0_6.index t 1 = 0 :=
  (by decide +kernel : ∀ t : Fin grid0.N, _)
theorem index7 : ∀ t : Fin cfg0.N, win0_7.index t 0 = 0 ∧ win0_7.index t 1 = 0 :=
  (by decide +kernel : ∀ t : Fin grid0.N, _)
theorem index8 : ∀ t : Fin cfg0.N, win0_8.index t 0 = 0 ∧ win0_8.index t 1 = 0 :=
  (by decide +kernel : ∀ t : Fin grid0.N, _)
theorem index9 : ∀ t : Fin cfg0.N, win0_9.index t 0 = 0 ∧ win0_9.index t 1 = 0 :=
  (by decide +kernel : ∀ t : Fin grid0.N, _)
theorem index10 : ∀ t : Fin cfg0.N, win0_10.index t 0 = 0 ∧ win0_10.index t 1 = 0 :=
  (by decide +kernel : ∀ t : Fin grid0.N, _)
theorem index14 : ∀ t : Fin cfg0.N, win0_14.index t 0 = t.val / 4 ∧ win0_14.index t 1 = t.val % 4 ∧ win0_14.index t 2 = 0 :=
  (by decide +kernel : ∀ t : Fin grid0.N, _)
theorem index15 : ∀ t : Fin cfg0.N, win0_15.index t 0 = t.val / 4 ∧ win0_15.index t 1 = t.val % 4 ∧ win0_15.index t 2 = 0 :=
  (by decide +kernel : ∀ t : Fin grid0.N, _)
theorem index16 : ∀ t : Fin cfg0.N, win0_16.index t 0 = t.val / 4 ∧ win0_16.index t 1 = 0 ∧ win0_16.index t 2 = t.val % 4 :=
  (by decide +kernel : ∀ t : Fin grid0.N, _)

section

variable (c : Dev nD) (t : Fin cfg0.N)

/-- The block of the layer's input. -/
theorem read0 (b : Fin 8) (hb : t.val / 4 = b.val) (a : Fin 512) (r : Fin 2048) (hr : r.val = 512 * (t.val % 4) + a.val) (k : Fin 1024) :
    iblk m c 0 t (ix3 0 a k) = m ((c.tc : Thread nD τ).loc main_arg0) (ix3 b r k) := by
  have := index0 t
  rw [← V_main_arg0 m c]
  blk_ext [iblk]

/-- The tables' blocks. -/
theorem read3 (a : Fin 512) (r : Fin 2048) (hr : r.val = 512 * (t.val % 4) + a.val) (l : Fin 128) :
    iblk m c 3 t (ix2 a l) = table 0x3F800000#32 cosines (ix2 r l) := by
  have := index3 t
  rw [← cos_eq m c]
  blk_ext [iblk]
theorem read4 (a : Fin 512) (r : Fin 2048) (hr : r.val = 512 * (t.val % 4) + a.val) (l : Fin 128) :
    iblk m c 4 t (ix2 a l) = table 0x00000000#32 sines (ix2 r l) := by
  have := index4 t
  rw [← sin_eq m c]
  blk_ext [iblk]

/-- The other operands are one block each. -/
theorem read1 (k : Fin 1024) : iblk m c 1 t (ix2 0 k) = m ((c.tc : Thread nD τ).loc main_arg2) (ix2 0 k) := by
  refine Eq.trans ?_ (gains_apply (m ((c.tc : Thread nD τ).loc main_arg2)) k)
  rw [← gains_eq]
  have := index1 t
  blk_ext [iblk]
theorem read2 (k : Fin 1024) (j : Fin 4480) : iblk m c 2 t (ix3 0 k j) = arranged (m ((c.tc : Thread nD τ).loc main_arg1)) (ix3 0 k j) := by
  rw [← arranged_eq]
  have := index2 t
  blk_ext [iblk]
theorem read5 (k : Fin 256) : iblk m c 5 t (ix2 0 k) = gainQ (m ((c.tc : Thread nD τ).loc main_arg3)) (ix2 0 k) := by
  rw [← gainQ_eq]
  have := index5 t
  blk_ext [iblk]
theorem read6 (k : Fin 128) : iblk m c 6 t (ix2 0 k) = gainK (m ((c.tc : Thread nD τ).loc main_arg4)) (ix2 0 k) := by
  rw [← gainK_eq]
  have := index6 t
  blk_ext [iblk]
theorem read7 (k : Fin 256) (j : Fin 512) : iblk m c 7 t (ix2 k j) = padded (straight (m ((c.tc : Thread nD τ).loc main_arg5))) (ix2 k j) := by
  rw [← straight_eq]
  have := index7 t
  blk_ext [iblk]
theorem read8 (k : Fin 256) (j : Fin 512) : iblk m c 8 t (ix2 k j) = padded (crossed (m ((c.tc : Thread nD τ).loc main_arg5))) (ix2 k j) := by
  rw [← crossed_eq]
  have := index8 t
  blk_ext [iblk]
theorem read9 (k : Fin 128) (j : Fin 512) : iblk m c 9 t (ix2 k j) = keyed (m ((c.tc : Thread nD τ).loc main_arg6)) (ix2 k j) := by
  rw [← keyed_eq]
  have := index9 t
  blk_ext [iblk]
theorem read10 (j : Fin 256) (k : Fin 128) : iblk m c 10 t (ix2 j k) = valued (m ((c.tc : Thread nD τ).loc main_arg6)) (ix2 j k) := by
  rw [← valued_eq]
  have := index10 t
  blk_ext [iblk]

end

/-! ## The arrays -/

variable (x : FVec Ideal S8x2048x1024 .f32) (w : FVec Ideal S2x1024x3976 .f32) (g : FVec Ideal S2x1024 .f32) (gq : FVec Ideal S2x192 .f32) (gk : FVec Ideal S2x128 .f32)
  (wq : FVec Ideal S2x192x384 .f32) (wk : FVec Ideal S2x128x512 .f32)

/-- A query's lane. -/
noncomputable def queryAt (b : Fin 8) (r : Fin 2048) (h : Fin 4) (l : Fin 128) : EReal :=
  (upP (fun k => whole x w g b r ⟨k, by omega⟩) (fun k => gainQ gq (ix2 0 k)) (fun k => padded (straight wq) (ix2 k ⟨128 * h + l, by omega⟩)) * table 0x3F800000#32 cosines (ix2 r l)
    + upP (fun k => whole x w g b r ⟨k, by omega⟩) (fun k => gainQ gq (ix2 0 k)) (fun k => padded (crossed wq) (ix2 k ⟨128 * h + l, by omega⟩)) * table 0x00000000#32 sines (ix2 r l)) * factorQ

/-- A key's lane. -/
noncomputable def keyAt (b : Fin 8) (r : Fin 2048) (h : Fin 4) (l : Fin 128) : EReal :=
  upK (fun k => whole x w g b r ⟨256 + k, by omega⟩) (fun k => gainK gk (ix2 0 k)) (fun k => keyed wk (ix2 k ⟨128 * h + l, by omega⟩))
    + (whole x w g b r ⟨384 + l, by omega⟩ * table 0x3F800000#32 cosines (ix2 r l) + whole x w g b r ⟨512 + l, by omega⟩ * table 0x00000000#32 sines (ix2 r l))

/-- A value's lane. -/
noncomputable def valueAt (b : Fin 8) (j : Fin 256) (r : Fin 2048) : EReal :=
  upK (fun k => whole x w g b r ⟨256 + k, by omega⟩) (fun k => gainK gk (ix2 0 k)) (fun k => valued wk (ix2 j k))

/-- The queries. -/
noncomputable def outQ : FVec Ideal S8x2048x512 .bf16 :=
  fun i => queryAt x w g gq wq (i 0) (i 1) ⟨(i 2).val / 128, by have h : (i 2).val < 512 := (i 2).isLt; omega⟩ ⟨(i 2).val % 128, by omega⟩

/-- The keys. -/
noncomputable def outK : FVec Ideal S8x2048x512 .bf16 :=
  fun i => keyAt x w g gk wk (i 0) (i 1) ⟨(i 2).val / 128, by have h : (i 2).val < 512 := (i 2).isLt; omega⟩ ⟨(i 2).val % 128, by omega⟩

/-- The values, transposed. -/
noncomputable def outV : FVec Ideal S8x256x2048 .bf16 := fun i => valueAt x w g gk wk (i 0) (i 1) (i 2)

section

variable (c : Dev nD)
  (e0 : m ((c.tc : Thread nD τ).loc main_arg0) = x) (e1 : m ((c.tc : Thread nD τ).loc main_arg1) = w) (e2 : m ((c.tc : Thread nD τ).loc main_arg2) = g)
  (e3 : m ((c.tc : Thread nD τ).loc main_arg3) = gq) (e4 : m ((c.tc : Thread nD τ).loc main_arg4) = gk)
  (e5 : m ((c.tc : Thread nD τ).loc main_arg5) = wq) (e6 : m ((c.tc : Thread nD τ).loc main_arg6) = wk)

include e0 e1 e2

/-- An element of a point's product is one of the whole product. -/
theorem point (t : Fin cfg0.N) (b : Fin 8) (hb : t.val / 4 = b.val) (a : Fin 512) (r : Fin 2048) (hr : r.val = 512 * (t.val % 4) + a.val) (j : Fin 4480) :
    col (iblk m c 0 t) (iblk m c 1 t) (iblk m c 2 t) a j = whole x w g b r j := by
  unfold col whole
  have h0 : (fun k : Fin 1024 => iblk m c 0 t (ix3 0 a k)) = fun k => x (ix3 b r k) := funext fun k => (read0 m c t b hb a r hr k).trans (congrFun e0 _)
  have h1 : (fun k : Fin 1024 => iblk m c 1 t (ix2 0 k)) = fun k => g (ix2 0 k) := funext fun k => (read1 m c t k).trans (congrFun e2 _)
  have h2 : (fun k : Fin 1024 => iblk m c 2 t (ix3 0 k j)) = fun k => arranged w (ix3 0 k j) := funext fun k => (read2 m c t k j).trans (by rw [e1])
  exact congr (congr (congrArg element h0) h1) h2

include e3 e5 in
theorem query_point (t : Fin cfg0.N) (b : Fin 8) (hb : t.val / 4 = b.val) (a : Fin 512) (r : Fin 2048) (hr : r.val = 512 * (t.val % 4) + a.val) (h : Fin 4) (l : Fin 128) :
    ((upP (fun k => col (iblk m c 0 t) (iblk m c 1 t) (iblk m c 2 t) a ⟨k, by omega⟩) (fun k => iblk m c 5 t (ix2 0 k)) (fun k => iblk m c 7 t (ix2 k ⟨128 * h + l, by omega⟩)) * iblk m c 3 t (ix2 a l)
      + upP (fun k => col (iblk m c 0 t) (iblk m c 1 t) (iblk m c 2 t) a ⟨k, by omega⟩) (fun k => iblk m c 5 t (ix2 0 k)) (fun k => iblk m c 8 t (ix2 k ⟨128 * h + l, by omega⟩)) * iblk m c 4 t (ix2 a l)) * factorQ : EReal)
      = queryAt x w g gq wq b r h l := by
  unfold queryAt
  have hp : (fun k : Fin 256 => col (iblk m c 0 t) (iblk m c 1 t) (iblk m c 2 t) a ⟨k, by omega⟩) = fun k : Fin 256 => whole x w g b r ⟨k, by omega⟩ := funext fun k => point m x w g c e0 e1 e2 t b hb a r hr _
  have h5 : (fun k : Fin 256 => iblk m c 5 t (ix2 0 k)) = fun k => gainQ gq (ix2 0 k) := funext fun k => (read5 m c t k).trans (by rw [e3])
  have h7 : ∀ j, (fun k : Fin 256 => iblk m c 7 t (ix2 k j)) = fun k => padded (straight wq) (ix2 k j) := fun j => funext fun k => (read7 m c t k j).trans (by rw [e5])
  have h8 : ∀ j, (fun k : Fin 256 => iblk m c 8 t (ix2 k j)) = fun k => padded (crossed wq) (ix2 k j) := fun j => funext fun k => (read8 m c t k j).trans (by rw [e5])
  exact congrArg (· * factorQ) (congr (congrArg HAdd.hAdd (congr (congrArg HMul.hMul (congr (congr (congrArg upP hp) h5) (h7 _))) (read3 m c t a r hr l)))
    (congr (congrArg HMul.hMul (congr (congr (congrArg upP hp) h5) (h8 _))) (read4 m c t a r hr l)))

include e4 e6 in
theorem key_point (t : Fin cfg0.N) (b : Fin 8) (hb : t.val / 4 = b.val) (a : Fin 512) (r : Fin 2048) (hr : r.val = 512 * (t.val % 4) + a.val) (h : Fin 4) (l : Fin 128) :
    (upK (fun k => col (iblk m c 0 t) (iblk m c 1 t) (iblk m c 2 t) a ⟨256 + k, by omega⟩) (fun k => iblk m c 6 t (ix2 0 k)) (fun k => iblk m c 9 t (ix2 k ⟨128 * h + l, by omega⟩))
      + (col (iblk m c 0 t) (iblk m c 1 t) (iblk m c 2 t) a ⟨384 + l, by omega⟩ * iblk m c 3 t (ix2 a l)
        + col (iblk m c 0 t) (iblk m c 1 t) (iblk m c 2 t) a ⟨512 + l, by omega⟩ * iblk m c 4 t (ix2 a l)) : EReal)
      = keyAt x w g gk wk b r h l := by
  unfold keyAt
  have hp := point m x w g c e0 e1 e2 t b hb a r hr
  have hk : (fun k : Fin 128 => col (iblk m c 0 t) (iblk m c 1 t) (iblk m c 2 t) a ⟨256 + k, by omega⟩) = fun k : Fin 128 => whole x w g b r ⟨256 + k, by omega⟩ := funext fun k => hp _
  have h6 : (fun k : Fin 128 => iblk m c 6 t (ix2 0 k)) = fun k => gainK gk (ix2 0 k) := funext fun k => (read6 m c t k).trans (by rw [e4])
  have h9 : ∀ j, (fun k : Fin 128 => iblk m c 9 t (ix2 k j)) = fun k => keyed wk (ix2 k j) := fun j => funext fun k => (read9 m c t k j).trans (by rw [e6])
  exact congr (congrArg HAdd.hAdd (congr (congr (congrArg upK hk) h6) (h9 _)))
    (congr (congrArg HAdd.hAdd (congr (congrArg HMul.hMul (hp _)) (read3 m c t a r hr l))) (congr (congrArg HMul.hMul (hp _)) (read4 m c t a r hr l)))

include e4 e6 in
theorem value_point (t : Fin cfg0.N) (b : Fin 8) (hb : t.val / 4 = b.val) (a : Fin 512) (r : Fin 2048) (hr : r.val = 512 * (t.val % 4) + a.val) (j : Fin 256) :
    upK (fun k => col (iblk m c 0 t) (iblk m c 1 t) (iblk m c 2 t) a ⟨256 + k, by omega⟩) (fun k => iblk m c 6 t (ix2 0 k)) (fun k => iblk m c 10 t (ix2 j k))
      = valueAt x w g gk wk b j r := by
  unfold valueAt
  have hk : (fun k : Fin 128 => col (iblk m c 0 t) (iblk m c 1 t) (iblk m c 2 t) a ⟨256 + k, by omega⟩) = fun k : Fin 128 => whole x w g b r ⟨256 + k, by omega⟩ := funext fun k => point m x w g c e0 e1 e2 t b hb a r hr _
  have h6 : (fun k : Fin 128 => iblk m c 6 t (ix2 0 k)) = fun k => gainK gk (ix2 0 k) := funext fun k => (read6 m c t k).trans (by rw [e4])
  have h10 : (fun k : Fin 128 => iblk m c 10 t (ix2 j k)) = fun k => valued wk (ix2 j k) := funext fun k => (read10 m c t j k).trans (by rw [e6])
  exact congr (congr (congrArg upK hk) h6) h10

include e3 e5 in
theorem final14 : (dats m 0 c).arrAt 14 cfg0.N = outQ x w g gq wq := by
  refine (dats m 0 c).arrAt_eq_of_covers 14 _ (by decide +kernel) fun t hf y => ?_
  blk_simp
  rw [after0_14]
  have hi := index14 t
  have ht := lt32 t
  obtain ⟨a, h, l, rfl⟩ : ∃ (a : Fin 512) (h : Fin 4) (l : Fin 128), y = ix3 0 a ⟨128 * h + l, by omega⟩ :=
    ⟨y 1, ⟨(y 2).val / 128, by have h : (y 2).val < 512 := (y 2).isLt; omega⟩, ⟨(y 2).val % 128, by omega⟩, by blk_ext⟩
  have e : (win0_14.blk t).view.emb (ix3 0 a ⟨128 * h + l, by omega⟩) = (ix3 ⟨t.val / 4, by omega⟩ ⟨512 * (t.val % 4) + a, by omega⟩ ⟨128 * h + l, by omega⟩ : S8x2048x512.Idx) := by
    blk_ext
  rw [e]
  refine (out14_apply _ _ _ _ _ _ _ _ _ _ _ a h l).trans ?_
  refine (query_point m x w g gq wq c e0 e1 e2 e3 e5 t ⟨t.val / 4, by omega⟩ rfl a ⟨512 * (t.val % 4) + a, by omega⟩ rfl h l).trans ?_
  exact congr (congrArg (queryAt x w g gq wq _ _) (Fin.ext (by show h.val = (128 * h.val + l.val) / 128; omega))) (Fin.ext (by show l.val = (128 * h.val + l.val) % 128; omega))

include e4 e6 in
theorem final15 : (dats m 0 c).arrAt 15 cfg0.N = outK x w g gk wk := by
  refine (dats m 0 c).arrAt_eq_of_covers 15 _ (by decide +kernel) fun t hf y => ?_
  blk_simp
  rw [after0_15]
  have hi := index15 t
  have ht := lt32 t
  obtain ⟨a, h, l, rfl⟩ : ∃ (a : Fin 512) (h : Fin 4) (l : Fin 128), y = ix3 0 a ⟨128 * h + l, by omega⟩ :=
    ⟨y 1, ⟨(y 2).val / 128, by have h : (y 2).val < 512 := (y 2).isLt; omega⟩, ⟨(y 2).val % 128, by omega⟩, by blk_ext⟩
  have e : (win0_15.blk t).view.emb (ix3 0 a ⟨128 * h + l, by omega⟩) = (ix3 ⟨t.val / 4, by omega⟩ ⟨512 * (t.val % 4) + a, by omega⟩ ⟨128 * h + l, by omega⟩ : S8x2048x512.Idx) := by
    blk_ext
  rw [e]
  refine (out15_apply _ _ _ _ _ _ _ _ _ _ _ a h l).trans ?_
  refine (key_point m x w g gk wk c e0 e1 e2 e4 e6 t ⟨t.val / 4, by omega⟩ rfl a ⟨512 * (t.val % 4) + a, by omega⟩ rfl h l).trans ?_
  exact congr (congrArg (keyAt x w g gk wk _ _) (Fin.ext (by show h.val = (128 * h.val + l.val) / 128; omega))) (Fin.ext (by show l.val = (128 * h.val + l.val) % 128; omega))

include e4 e6 in
theorem final16 : (dats m 0 c).arrAt 16 cfg0.N = outV x w g gk wk := by
  refine (dats m 0 c).arrAt_eq_of_covers 16 _ (by decide +kernel) fun t hf y => ?_
  blk_simp
  rw [after0_16]
  have hi := index16 t
  have ht := lt32 t
  obtain ⟨j, a, rfl⟩ : ∃ (j : Fin 256) (a : Fin 512), y = ix3 0 j a := ⟨y 1, y 2, by blk_ext⟩
  have e : (win0_16.blk t).view.emb (ix3 0 j a) = (ix3 ⟨t.val / 4, by omega⟩ j ⟨512 * (t.val % 4) + a, by omega⟩ : S8x256x2048.Idx) := by
    blk_ext
  rw [e]
  refine (out16_apply _ _ _ _ _ _ _ _ _ _ _ j a).trans ?_
  exact value_point m x w g gk wk c e0 e1 e2 e4 e6 t _ rfl a _ rfl j

end

end Cert.Latents
-- ==== Proof.MlaMath.lean ====
/-
What padding with zeros and negating a column change of an up-projection.
-/
module

public import proofs.«01_k».proof.Proof.MlaProj

set_option maxRecDepth 16384

@[expose] public section

namespace Cert.Latents

open Idealize.ShloMosaic Idealize.SL.Sem
open Cert.InProj (element)
open Cert.OutProj (unit)

/-! ## Real numbers -/

/-- The number is finite. -/
def IsReal (e : EReal) : Prop := ∃ r : ℝ, e = (r : EReal)

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sum {ι : Type} [Fintype ι] {f : ι → EReal} (h : ∀ i, IsReal (f i)) : IsReal (∑ i, f i) := by
  choose r hr using h
  exact ⟨∑ i, r i, (Finset.sum_congr rfl fun i _ => hr i).trans (Cert.Attn.coe_sum _ _).symm⟩

/-- A sum of squares of real numbers is a real number that is not negative. -/
theorem squares {ι : Type} [Fintype ι] {f : ι → EReal} (h : ∀ i, IsReal (f i)) : ∃ s : ℝ, 0 ≤ s ∧ (∑ i, f i * f i) = (s : EReal) := by
  choose r hr using h
  refine ⟨∑ i, r i * r i, Finset.sum_nonneg fun i _ => mul_self_nonneg _, ?_⟩
  rw [Cert.Attn.coe_sum]
  exact Finset.sum_congr rfl fun i _ => by rw [hr i, EReal.coe_mul]

/-- The sum of the negatives of real numbers is the negative of their sum. -/
theorem sum_neg {ι : Type} [Fintype ι] {f : ι → EReal} (h : ∀ i, IsReal (f i)) : (∑ i, -(f i)) = -(∑ i, f i) := by
  choose r hr using h
  have e : (∑ i, f i) = ((∑ i, r i : ℝ) : EReal) := (Finset.sum_congr rfl fun i _ => hr i).trans (Cert.Attn.coe_sum _ _).symm
  rw [e, ← EReal.coe_neg, ← Finset.sum_neg_distrib, Cert.Attn.coe_sum]
  exact Finset.sum_congr rfl fun i _ => by rw [hr i, EReal.coe_neg]

/-! ## The patterns -/

theorem bits1024 : Ideal.ofBits .f32 0x44800000#32 = ((1024 : ℝ) : EReal) := by
  simp [Ideal.ofBits, Ideal.ieee, -EReal.coe_mul]; norm_num
theorem bits192 : Ideal.ofBits .f32 0x43400000#32 = ((192 : ℝ) : EReal) := by
  simp [Ideal.ofBits, Ideal.ieee, -EReal.coe_mul]; norm_num
theorem bitsEps : Ideal.ofBits .f32 0x358637BD#32 = ((8796093 / 8796093022208 : ℝ) : EReal) := by
  simp [Ideal.ofBits, Ideal.ieee, -EReal.coe_mul]; norm_num

/-- The factor of a mean square that is real and not negative is real. -/
theorem rsqrt_real (s c : ℝ) (hs : 0 ≤ s) (hc : 0 < c) : IsReal (Ideal.rsqrt (Ideal.div (s : EReal) (c : EReal) + Ideal.ofBits .f32 0x358637BD#32)) := by
  have hp : 0 < s * c⁻¹ + 8796093 / 8796093022208 := add_pos_of_nonneg_of_pos (mul_nonneg hs (inv_nonneg.2 hc.le)) (by norm_num)
  rw [Cert.Attn.div_coe _ hc.ne', bitsEps, ← EReal.coe_mul, ← EReal.coe_add, Ideal.rsqrt_coe, if_neg (not_lt.2 hp.le), if_neg hp.ne']
  exact ⟨_, rfl⟩

/-! ## The projection -/

section

variable {x g w : Fin 1024 → EReal}

theorem unit_real (hx : ∀ k, IsReal (x k)) : IsReal (unit x) := by
  obtain ⟨s, hs, e⟩ := squares hx
  unfold unit
  rw [e, bits1024]
  exact rsqrt_real s 1024 hs (by norm_num)

theorem element_real (hx : ∀ k, IsReal (x k)) (hg : ∀ k, IsReal (g k)) (hw : ∀ k, IsReal (w k)) : IsReal (element x g w) :=
  IsReal.sum fun k => (((hx k).mul (unit_real hx)).mul (hg k)).mul (hw k)

/-- A column's negative gives the negative. -/
theorem element_neg (hx : ∀ k, IsReal (x k)) (hg : ∀ k, IsReal (g k)) (hw : ∀ k, IsReal (w k)) : element x g (fun k => -(w k)) = -(element x g w) := by
  unfold element
  rw [← sum_neg fun k => (((hx k).mul (unit_real hx)).mul (hg k)).mul (hw k)]
  exact Finset.sum_congr rfl fun k _ => mul_neg _ _

theorem element_zero : element x g (fun _ => 0) = 0 := Finset.sum_eq_zero fun k _ => mul_zero _

end

/-! ## The up-projection of the queries -/

/-- The factor of a row of the queries' latents. -/
noncomputable def unitR (p : Fin 192 → EReal) : EReal := Ideal.rsqrt (Ideal.div (∑ l, p l * p l) (Ideal.ofBits .f32 0x43400000#32) + Ideal.ofBits .f32 0x358637BD#32)

/-- An element of the queries' up-projection. -/
noncomputable def upR (p g u : Fin 192 → EReal) : EReal := ∑ k, p k * unitR p * g k * u k

/-- Terms that are zero from 192 on. -/
theorem sum_pad (f : Fin 256 → EReal) (h : ∀ k : Fin 256, ¬ k.val < 192 → f k = 0) : ∑ k, f k = ∑ k : Fin 192, f ⟨k, by omega⟩ := by
  have e : ∑ k, f k = ∑ k : Fin 192, f (Fin.castAdd 64 k) + ∑ k : Fin 64, f (Fin.natAdd 192 k) := Fin.sum_univ_add (a := 192) (b := 64) f
  have z : ∑ k : Fin 64, f (Fin.natAdd 192 k) = 0 := Finset.sum_eq_zero fun k _ => h _ (by simp)
  rw [e, z, add_zero]
  rfl

theorem unitP_eq (p : Fin 256 → EReal) (h : ∀ k : Fin 256, ¬ k.val < 192 → p k = 0) : unitP p = unitR fun k => p ⟨k, by omega⟩ := by
  unfold unitP unitR share
  rw [sum_pad (fun l => p l * p l) fun k hk => by rw [h k hk, zero_mul], bits192, Cert.Attn.div_coe _ (by norm_num), one_div]

/-- Padding with zeros changes nothing. -/
theorem upP_eq (p g u : Fin 256 → EReal) (h : ∀ k : Fin 256, ¬ k.val < 192 → p k = 0) (hu : ∀ k : Fin 256, ¬ k.val < 192 → u k = 0)
    (q e v : Fin 192 → EReal) (hq : ∀ k : Fin 192, p ⟨k, by omega⟩ = q k) (he : ∀ k : Fin 192, g ⟨k, by omega⟩ = e k) (hv : ∀ k : Fin 192, u ⟨k, by omega⟩ = v k) :
    upP p g u = upR q e v := by
  unfold upP upR
  rw [sum_pad _ fun k hk => by rw [hu k hk, mul_zero], unitP_eq p h, funext hq]
  exact Finset.sum_congr rfl fun k _ => by rw [hq, he, hv]

section

variable {p g u : Fin 192 → EReal}

theorem unitR_real (hp : ∀ k, IsReal (p k)) : IsReal (unitR p) := by
  obtain ⟨s, hs, e⟩ := squares hp
  unfold unitR
  rw [e, bits192]
  exact rsqrt_real s 192 hs (by norm_num)

/-- A column's negative gives the negative. -/
theorem upR_neg (hp : ∀ k, IsReal (p k)) (hg : ∀ k, IsReal (g k)) (hu : ∀ k, IsReal (u k)) : upR p g (fun k => -(u k)) = -(upR p g u) := by
  unfold upR
  rw [← sum_neg fun k => (((hp k).mul (unitR_real hp)).mul (hg k)).mul (hu k)]
  exact Finset.sum_congr rfl fun k _ => mul_neg _ _

theorem upR_zero : upR p g (fun _ => 0) = 0 := Finset.sum_eq_zero fun k _ => mul_zero _

end

theorem upK_zero (p g : Fin 128 → EReal) : upK p g (fun _ => 0) = 0 := Finset.sum_eq_zero fun k _ => mul_zero _

end Cert.Latents
-- ==== Proof.MlaRef.lean ====
/-
What the reference computes of the queries, the keys and the values.
-/
module

public import proofs.«01_k».proof.Proof.MlaMath
public import proofs.«01_k».proof.Proof.Gen.Reference4Ideal.Run

set_option maxRecDepth 16384

@[expose] public section

namespace Cert.Latents

open Idealize.ShloMosaic Idealize.SL.Sem
open Cert.InProj (proj)

open Cert.Reference4Ideal Cert.Reference4Ideal.Gen

section

variable (P : FVec Ideal S8x2048x3976 .f32)

/-! ## The up-projections -/

/-- The queries' latents. -/
noncomputable def rowsQ : FVec Ideal S8x2048x192 .f32 := extractStridedSlice S8x2048x192 ![0, 0, 0] P slices_S8x2048x3976_S8x2048x192_0_0_0

/-- The keys' and values' latents. -/
noncomputable def rowsK : FVec Ideal S8x2048x128 .f32 := extractStridedSlice S8x2048x128 ![0, 0, 192] P slices_S8x2048x3976_S8x2048x128_0_0_192

noncomputable def rateQ (y : FVec Ideal S8x2048x192 .f32) : FVec Ideal S8x2048x1 .f32 :=
  Host.rsqrt (addf (Host.divf (broadcastInDim S8x2048x1 ![0, 1] bcast_S8x2048_S8x2048x1_0_1
        (Host.reduceAdd (mulf y y) (constant S_ .f32 0x00000000#32) reducesTo_S8x2048x192_S8x2048_d2 h_S_))
      (broadcastInDim S8x2048x1 ![] bcast_S_S8x2048x1 (constant S_ .f32 0x43400000#32)))
    (broadcastInDim S8x2048x1 ![] bcast_S_S8x2048x1 (constant S_ .f32 0x358637BD#32)))

noncomputable def rateK (y : FVec Ideal S8x2048x128 .f32) : FVec Ideal S8x2048x1 .f32 :=
  Host.rsqrt (addf (Host.divf (broadcastInDim S8x2048x1 ![0, 1] bcast_S8x2048_S8x2048x1_0_1
        (Host.reduceAdd (mulf y y) (constant S_ .f32 0x00000000#32) reducesTo_S8x2048x128_S8x2048_d2 h_S_))
      (broadcastInDim S8x2048x1 ![] bcast_S_S8x2048x1 (constant S_ .f32 0x43000000#32)))
    (broadcastInDim S8x2048x1 ![] bcast_S_S8x2048x1 (constant S_ .f32 0x358637BD#32)))

noncomputable def normQ (y : FVec Ideal S8x2048x192 .f32) (g : FVec Ideal S2x192 .f32) : FVec Ideal S8x2048x192 .f32 :=
  mulf (mulf y (broadcastInDim S8x2048x192 ![0, 1, 2] bcast_S8x2048x1_S8x2048x192_0_1_2 (rateQ y)))
    (broadcastInDim S8x2048x192 ![0, 1, 2] bcast_S1x1x192_S8x2048x192_0_1_2 (broadcastInDim S1x1x192 ![2] bcast_S192_S1x1x192_2
      (shapeCast S192 (extractStridedSlice S1x192 ![0, 0] g slices_S2x192_S1x192_0_0) shapeCasts_S1x192_S192)))

noncomputable def normK (y : FVec Ideal S8x2048x128 .f32) (g : FVec Ideal S2x128 .f32) : FVec Ideal S8x2048x128 .f32 :=
  mulf (mulf y (broadcastInDim S8x2048x128 ![0, 1, 2] bcast_S8x2048x1_S8x2048x128_0_1_2 (rateK y)))
    (broadcastInDim S8x2048x128 ![0, 1, 2] bcast_S1x1x128_S8x2048x128_0_1_2 (broadcastInDim S1x1x128 ![2] bcast_S128_S1x1x128_2
      (shapeCast S128 (extractStridedSlice S1x128 ![0, 0] g slices_S2x128_S1x128_0_0) shapeCasts_S1x128_S128)))

noncomputable def upQ (y : FVec Ideal S8x2048x192 .f32) (w : FVec Ideal S2x192x384 .f32) : FVec Ideal S8x2048x4x96 .f32 :=
  shapeCast S8x2048x4x96 (Host.dotGeneral dot_S8x2048x192_S192x384_S8x2048x384_2_0_01_1_n_n none y
    (shapeCast S192x384 (extractStridedSlice S1x192x384 ![0, 0, 0] w slices_S2x192x384_S1x192x384_0_0_0) shapeCasts_S1x192x384_S192x384) : FVec Ideal S8x2048x384 .f32)
    shapeCasts_S8x2048x384_S8x2048x4x96

noncomputable def upKV (y : FVec Ideal S8x2048x128 .f32) (w : FVec Ideal S2x128x512 .f32) : FVec Ideal S8x2048x4x128 .f32 :=
  shapeCast S8x2048x4x128 (Host.dotGeneral dot_S8x2048x128_S128x512_S8x2048x512_2_0_01_1_n_n none y
    (shapeCast S128x512 (extractStridedSlice S1x128x512 ![0, 0, 0] w slices_S2x128x512_S1x128x512_0_0_0) shapeCasts_S1x128x512_S128x512) : FVec Ideal S8x2048x512 .f32)
    shapeCasts_S8x2048x512_S8x2048x4x128

theorem rateQ_apply (y : FVec Ideal S8x2048x192 .f32) (b : Fin 8) (r : Fin 2048) : rateQ y (ix3 b r 0) = unitR fun l => y (ix3 b r l) := by
  pointwise [rateQ, unitR]

theorem rateK_apply (y : FVec Ideal S8x2048x128 .f32) (b : Fin 8) (r : Fin 2048) : rateK y (ix3 b r 0) = unitK fun l => y (ix3 b r l) := by
  pointwise [rateK, unitK]

theorem normQ_apply (y : FVec Ideal S8x2048x192 .f32) (g : FVec Ideal S2x192 .f32) (b : Fin 8) (r : Fin 2048) (k : Fin 192) :
    normQ y g (ix3 b r k) = (y (ix3 b r k) * rateQ y (ix3 b r 0) * g (ix2 0 k) : EReal) := by
  pointwise [normQ]

theorem normK_apply (y : FVec Ideal S8x2048x128 .f32) (g : FVec Ideal S2x128 .f32) (b : Fin 8) (r : Fin 2048) (k : Fin 128) :
    normK y g (ix3 b r k) = (y (ix3 b r k) * rateK y (ix3 b r 0) * g (ix2 0 k) : EReal) := by
  pointwise [normK]

theorem upQ_apply (y : FVec Ideal S8x2048x192 .f32) (w : FVec Ideal S2x192x384 .f32) (b : Fin 8) (r : Fin 2048) (h : Fin 4) (l : Fin 96) :
    upQ y w (ix4 b r h l) = (∑ k : Fin 192, y (ix3 b r k) * w (ix3 0 k ⟨96 * h + l, by omega⟩) : EReal) := by
  have e : (⟨96 * h.val + l.val, by omega⟩ : Fin 384) = ⟨h.val * 96 + l.val, by omega⟩ := Fin.ext (by dsimp only; omega)
  rw [e]
  pointwise [upQ]

theorem upKV_apply (y : FVec Ideal S8x2048x128 .f32) (w : FVec Ideal S2x128x512 .f32) (b : Fin 8) (r : Fin 2048) (h : Fin 4) (l : Fin 128) :
    upKV y w (ix4 b r h l) = (∑ k : Fin 128, y (ix3 b r k) * w (ix3 0 k ⟨128 * h + l, by omega⟩) : EReal) := by
  have e : (⟨128 * h.val + l.val, by omega⟩ : Fin 512) = ⟨h.val * 128 + l.val, by omega⟩ := Fin.ext (by dsimp only; omega)
  rw [e]
  pointwise [upKV]

theorem rowsQ_apply (b : Fin 8) (r : Fin 2048) (k : Fin 192) : rowsQ P (ix3 b r k) = P (ix3 b r ⟨k, by omega⟩) := by
  pointwise [rowsQ]

theorem rowsK_apply (b : Fin 8) (r : Fin 2048) (k : Fin 128) : rowsK P (ix3 b r k) = P (ix3 b r ⟨192 + k, by omega⟩) := by
  pointwise [rowsK]

/-- The queries at an index. -/
theorem queries_apply (g : FVec Ideal S2x192 .f32) (w : FVec Ideal S2x192x384 .f32) (b : Fin 8) (r : Fin 2048) (h : Fin 4) (l : Fin 96) :
    upQ (normQ (rowsQ P) g) w (ix4 b r h l) = upR (fun k => P (ix3 b r ⟨k, by omega⟩)) (fun k => g (ix2 0 k)) (fun k => w (ix3 0 k ⟨96 * h + l, by omega⟩)) := by
  rw [upQ_apply]
  unfold upR
  refine Finset.sum_congr rfl fun k _ => ?_
  rw [normQ_apply, rateQ_apply, rowsQ_apply]
  simp only [rowsQ_apply]

/-- The keys and values at an index. -/
theorem keys_apply (g : FVec Ideal S2x128 .f32) (w : FVec Ideal S2x128x512 .f32) (b : Fin 8) (r : Fin 2048) (h : Fin 4) (l : Fin 128) :
    upKV (normK (rowsK P) g) w (ix4 b r h l) = upK (fun k => P (ix3 b r ⟨192 + k, by omega⟩)) (fun k => g (ix2 0 k)) (fun k => w (ix3 0 k ⟨128 * h + l, by omega⟩)) := by
  rw [upKV_apply]
  unfold upK
  refine Finset.sum_congr rfl fun k _ => ?_
  rw [normK_apply, rateK_apply, rowsK_apply]
  simp only [rowsK_apply]

/-! ## The rotation -/

/-- A table, for every batch and head. -/
noncomputable def spread4 (y : FVec Ideal S2048x16 .f32) : FVec Ideal S8x2048x4x16 .f32 :=
  broadcastInDim S8x2048x4x16 ![0, 1, 2, 3] bcast_S1x2048x1x16_S8x2048x4x16_0_1_2_3 (broadcastInDim S1x2048x1x16 ![1, 2, 3] bcast_S2048x1x16_S1x2048x1x16_1_2_3
    (broadcastInDim S2048x1x16 ![0, 2] bcast_S2048x16_S2048x1x16_0_2 y))

/-- A table, for every batch. -/
noncomputable def spread3 (y : FVec Ideal S2048x16 .f32) : FVec Ideal S8x2048x16 .f32 :=
  broadcastInDim S8x2048x16 ![0, 1, 2] bcast_S1x2048x16_S8x2048x16_0_1_2 (broadcastInDim S1x2048x16 ![1, 2] bcast_S2048x16_S1x2048x16_1_2 y)

noncomputable def rotate4 (y : FVec Ideal S8x2048x4x32 .f32) : FVec Ideal S8x2048x4x32 .f32 :=
  concatenate S8x2048x4x32 3 [
    ⟨S8x2048x4x16, subf (mulf (extractStridedSlice S8x2048x4x16 ![0, 0, 0, 0] y slices_S8x2048x4x32_S8x2048x4x16_0_0_0_0) (spread4 cosines))
      (mulf (extractStridedSlice S8x2048x4x16 ![0, 0, 0, 16] y slices_S8x2048x4x32_S8x2048x4x16_0_0_0_16) (spread4 sines))⟩,
    ⟨S8x2048x4x16, addf (mulf (extractStridedSlice S8x2048x4x16 ![0, 0, 0, 0] y slices_S8x2048x4x32_S8x2048x4x16_0_0_0_0) (spread4 sines))
      (mulf (extractStridedSlice S8x2048x4x16 ![0, 0, 0, 16] y slices_S8x2048x4x32_S8x2048x4x16_0_0_0_16) (spread4 cosines))⟩]
    concatenates_S8x2048x4x16_S8x2048x4x16_S8x2048x4x32_d3

noncomputable def rotate3 (y : FVec Ideal S8x2048x32 .f32) : FVec Ideal S8x2048x32 .f32 :=
  concatenate S8x2048x32 2 [
    ⟨S8x2048x16, subf (mulf (extractStridedSlice S8x2048x16 ![0, 0, 0] y slices_S8x2048x32_S8x2048x16_0_0_0) (spread3 cosines))
      (mulf (extractStridedSlice S8x2048x16 ![0, 0, 16] y slices_S8x2048x32_S8x2048x16_0_0_16) (spread3 sines))⟩,
    ⟨S8x2048x16, addf (mulf (extractStridedSlice S8x2048x16 ![0, 0, 0] y slices_S8x2048x32_S8x2048x16_0_0_0) (spread3 sines))
      (mulf (extractStridedSlice S8x2048x16 ![0, 0, 16] y slices_S8x2048x32_S8x2048x16_0_0_16) (spread3 cosines))⟩]
    concatenates_S8x2048x16_S8x2048x16_S8x2048x32_d2

theorem spread4_apply (y : FVec Ideal S2048x16 .f32) (b : Fin 8) (r : Fin 2048) (h : Fin 4) (i : Fin 16) : spread4 y (ix4 b r h i) = y (ix2 r i) := by
  pointwise [spread4]

theorem spread3_apply (y : FVec Ideal S2048x16 .f32) (b : Fin 8) (r : Fin 2048) (i : Fin 16) : spread3 y (ix3 b r i) = y (ix2 r i) := by
  pointwise [spread3]

theorem rotate4_low (y : FVec Ideal S8x2048x4x32 .f32) (b : Fin 8) (r : Fin 2048) (h : Fin 4) (i : Fin 16) :
    rotate4 y (ix4 b r h ⟨i, by omega⟩) = (y (ix4 b r h ⟨i, by omega⟩) * cosines (ix2 r i) - y (ix4 b r h ⟨16 + i, by omega⟩) * sines (ix2 r i) : EReal) := by
  rw [← spread4_apply cosines b r h i, ← spread4_apply sines b r h i]
  unfold rotate4
  generalize spread4 cosines = co
  generalize spread4 sines = si
  pointwise

theorem rotate4_high (y : FVec Ideal S8x2048x4x32 .f32) (b : Fin 8) (r : Fin 2048) (h : Fin 4) (i : Fin 16) :
    rotate4 y (ix4 b r h ⟨16 + i, by omega⟩) = (y (ix4 b r h ⟨i, by omega⟩) * sines (ix2 r i) + y (ix4 b r h ⟨16 + i, by omega⟩) * cosines (ix2 r i) : EReal) := by
  rw [← spread4_apply cosines b r h i, ← spread4_apply sines b r h i]
  unfold rotate4
  generalize spread4 cosines = co
  generalize spread4 sines = si
  pointwise

theorem rotate3_low (y : FVec Ideal S8x2048x32 .f32) (b : Fin 8) (r : Fin 2048) (i : Fin 16) :
    rotate3 y (ix3 b r ⟨i, by omega⟩) = (y (ix3 b r ⟨i, by omega⟩) * cosines (ix2 r i) - y (ix3 b r ⟨16 + i, by omega⟩) * sines (ix2 r i) : EReal) := by
  rw [← spread3_apply cosines b r i, ← spread3_apply sines b r i]
  unfold rotate3
  generalize spread3 cosines = co
  generalize spread3 sines = si
  pointwise

theorem rotate3_high (y : FVec Ideal S8x2048x32 .f32) (b : Fin 8) (r : Fin 2048) (i : Fin 16) :
    rotate3 y (ix3 b r ⟨16 + i, by omega⟩) = (y (ix3 b r ⟨i, by omega⟩) * sines (ix2 r i) + y (ix3 b r ⟨16 + i, by omega⟩) * cosines (ix2 r i) : EReal) := by
  rw [← spread3_apply cosines b r i, ← spread3_apply sines b r i]
  unfold rotate3
  generalize spread3 cosines = co
  generalize spread3 sines = si
  pointwise

/-! ## The results -/

/-- The factor of the queries. -/
noncomputable def scaleQ : FVec Ideal S_ .f32 :=
  Host.divf (constant S_ .f32 0x3F800000#32) (mulf (Host.sqrt (constant S_ .f32 0x42C00000#32)) (Host.log (constant S_ .f32 0x40000000#32)))

theorem scaleQ_eq (i : S_.Idx) : scaleQ i = factorQ := by
  have bits96 : Ideal.ofBits .f32 0x42C00000#32 = ((96 : ℝ) : EReal) := by
    simp [Ideal.ofBits, Ideal.ieee, -EReal.coe_mul]; norm_num
  show Ideal.div (Ideal.ofBits .f32 0x3F800000#32) (Ideal.sqrt (Ideal.ofBits .f32 0x42C00000#32) * Ideal.log (Ideal.ofBits .f32 0x40000000#32)) = _
  rw [Ideal.ofBits_one_f32, bits96, Cert.InProj.bits2, Ideal.sqrt_coe, Ideal.log_coe, if_neg (by norm_num), if_neg (by norm_num), ← EReal.coe_mul,
    Cert.Attn.div_coe _ (mul_ne_zero (Real.sqrt_ne_zero'.2 (by norm_num)) (Real.log_pos (by norm_num)).ne'), one_mul, mul_inv]
  rfl

noncomputable def ref0 (g : FVec Ideal S2x192 .f32) (w : FVec Ideal S2x192x384 .f32) : FVec Ideal S8x2048x4x64 .f32 :=
  mulf (extractStridedSlice S8x2048x4x64 ![0, 0, 0, 0] (upQ (normQ (rowsQ P) g) w) slices_S8x2048x4x96_S8x2048x4x64_0_0_0_0) (broadcastInDim S8x2048x4x64 ![] bcast_S_S8x2048x4x64 scaleQ)

noncomputable def ref1 (g : FVec Ideal S2x192 .f32) (w : FVec Ideal S2x192x384 .f32) : FVec Ideal S8x2048x4x32 .f32 :=
  mulf (rotate4 (extractStridedSlice S8x2048x4x32 ![0, 0, 0, 64] (upQ (normQ (rowsQ P) g) w) slices_S8x2048x4x96_S8x2048x4x32_0_0_0_64))
    (broadcastInDim S8x2048x4x32 ![] bcast_S_S8x2048x4x32 scaleQ)

noncomputable def ref2 (g : FVec Ideal S2x128 .f32) (w : FVec Ideal S2x128x512 .f32) : FVec Ideal S8x2048x4x64 .f32 :=
  extractStridedSlice S8x2048x4x64 ![0, 0, 0, 0] (upKV (normK (rowsK P) g) w) slices_S8x2048x4x128_S8x2048x4x64_0_0_0_0

noncomputable def ref3 : FVec Ideal S8x2048x32 .f32 := rotate3 (extractStridedSlice S8x2048x32 ![0, 0, 320] P slices_S8x2048x3976_S8x2048x32_0_0_320)

noncomputable def ref4 (g : FVec Ideal S2x128 .f32) (w : FVec Ideal S2x128x512 .f32) : FVec Ideal S8x2048x4x64 .f32 :=
  extractStridedSlice S8x2048x4x64 ![0, 0, 0, 64] (upKV (normK (rowsK P) g) w) slices_S8x2048x4x128_S8x2048x4x64_0_0_0_64

theorem times64 (y : FVec Ideal S8x2048x4x64 .f32) (b : Fin 8) (r : Fin 2048) (h : Fin 4) (l : Fin 64) :
    mulf y (broadcastInDim S8x2048x4x64 ![] bcast_S_S8x2048x4x64 scaleQ) (ix4 b r h l) = (y (ix4 b r h l) * factorQ : EReal) := by
  rw [← scaleQ_eq ix0]
  generalize scaleQ = s
  pointwise

theorem times32 (y : FVec Ideal S8x2048x4x32 .f32) (b : Fin 8) (r : Fin 2048) (h : Fin 4) (l : Fin 32) :
    mulf y (broadcastInDim S8x2048x4x32 ![] bcast_S_S8x2048x4x32 scaleQ) (ix4 b r h l) = (y (ix4 b r h l) * factorQ : EReal) := by
  rw [← scaleQ_eq ix0]
  generalize scaleQ = s
  pointwise

theorem cut64 (y : FVec Ideal S8x2048x4x96 .f32) (b : Fin 8) (r : Fin 2048) (h : Fin 4) (l : Fin 64) :
    extractStridedSlice S8x2048x4x64 ![0, 0, 0, 0] y slices_S8x2048x4x96_S8x2048x4x64_0_0_0_0 (ix4 b r h l) = y (ix4 b r h ⟨l, by omega⟩) := by
  pointwise

theorem cut32 (y : FVec Ideal S8x2048x4x96 .f32) (b : Fin 8) (r : Fin 2048) (h : Fin 4) (l : Fin 32) :
    extractStridedSlice S8x2048x4x32 ![0, 0, 0, 64] y slices_S8x2048x4x96_S8x2048x4x32_0_0_0_64 (ix4 b r h l) = y (ix4 b r h ⟨64 + l, by omega⟩) := by
  pointwise

theorem cutK (y : FVec Ideal S8x2048x4x128 .f32) (b : Fin 8) (r : Fin 2048) (h : Fin 4) (l : Fin 64) :
    extractStridedSlice S8x2048x4x64 ![0, 0, 0, 0] y slices_S8x2048x4x128_S8x2048x4x64_0_0_0_0 (ix4 b r h l) = y (ix4 b r h ⟨l, by omega⟩) := by
  pointwise

theorem cutV (y : FVec Ideal S8x2048x4x128 .f32) (b : Fin 8) (r : Fin 2048) (h : Fin 4) (l : Fin 64) :
    extractStridedSlice S8x2048x4x64 ![0, 0, 0, 64] y slices_S8x2048x4x128_S8x2048x4x64_0_0_0_64 (ix4 b r h l) = y (ix4 b r h ⟨64 + l, by omega⟩) := by
  pointwise

theorem cutR (b : Fin 8) (r : Fin 2048) (l : Fin 32) :
    extractStridedSlice S8x2048x32 ![0, 0, 320] P slices_S8x2048x3976_S8x2048x32_0_0_320 (ix3 b r l) = P (ix3 b r ⟨320 + l, by omega⟩) := by
  pointwise

end

/-! ## The program's results are these -/

section

variable (m : (ℓ : Loc nD τ sig) → Buf (Elt Ideal) ℓ) (c : Dev nD)
  (x : FVec Ideal S8x2048x1024 .f32) (w : FVec Ideal S2x1024x3976 .f32) (g : FVec Ideal S2x1024 .f32) (gq : FVec Ideal S2x192 .f32) (gk : FVec Ideal S2x128 .f32)
  (wq : FVec Ideal S2x192x384 .f32) (wk : FVec Ideal S2x128x512 .f32)
  (e0 : m ((c.tc : Thread nD τ).loc main_arg0) = x) (e1 : m ((c.tc : Thread nD τ).loc main_arg1) = w) (e2 : m ((c.tc : Thread nD τ).loc main_arg2) = g)
  (e3 : m ((c.tc : Thread nD τ).loc main_arg3) = gq) (e4 : m ((c.tc : Thread nD τ).loc main_arg4) = gk)
  (e5 : m ((c.tc : Thread nD τ).loc main_arg5) = wq) (e6 : m ((c.tc : Thread nD τ).loc main_arg6) = wk)

include e0 e1 e2

include e3 e5 in
theorem res0_eq : Value.res_out0 m c = ref0 (proj x w g) gq wq := by
  subst e0 e1 e2 e3 e5
  rfl

include e3 e5 in
theorem res1_eq : Value.res_out1 m c = ref1 (proj x w g) gq wq := by
  subst e0 e1 e2 e3 e5
  rfl

include e4 e6 in
theorem res2_eq : Value.res_out2 m c = ref2 (proj x w g) gk wk := by
  subst e0 e1 e2 e4 e6
  rfl

theorem res3_eq : Value.res_out3 m c = ref3 (proj x w g) := by
  subst e0 e1 e2
  rfl

include e4 e6 in
theorem res4_eq : Value.res_out4 m c = ref4 (proj x w g) gk wk := by
  subst e0 e1 e2 e4 e6
  rfl

end

end Cert.Latents
-- ==== Proof.MlaMatch.lean ====
/-
The kernel's lanes of the queries, the keys and the values are the reference's.
-/
module

public import proofs.«01_k».proof.Proof.MlaFinal
public import proofs.«01_k».proof.Proof.MlaRef

set_option maxRecDepth 16384

@[expose] public section

namespace Cert.Latents

open Idealize.ShloMosaic Idealize.SL.Sem
open Cert.InProj (proj whole arranged element element_mul whole_eq proj_apply)
open Cert.Kernel4Ideal Cert.Kernel4Ideal.Gen

section

variable (x : FVec Ideal S8x2048x1024 .f32) (w : FVec Ideal S2x1024x3976 .f32) (g : FVec Ideal S2x1024 .f32) (gq : FVec Ideal S2x192 .f32) (gk : FVec Ideal S2x128 .f32)
  (wq : FVec Ideal S2x192x384 .f32) (wk : FVec Ideal S2x128x512 .f32) (b : Fin 8) (r : Fin 2048)

/-! ## The latents -/

theorem latent_q (k : Fin 192) : whole x w g b r ⟨k, by omega⟩ = proj x w g (ix3 b r ⟨k, by omega⟩) :=
  whole_eq x w g b r _ _ fun i => c_q w i k

theorem latent_kv (k : Fin 128) : whole x w g b r ⟨256 + k, by omega⟩ = proj x w g (ix3 b r ⟨192 + k, by omega⟩) :=
  whole_eq x w g b r _ _ fun i => c_kv w i k

theorem latent_kr (k : Fin 32) : whole x w g b r ⟨448 + k, by omega⟩ = proj x w g (ix3 b r ⟨320 + k, by omega⟩) :=
  whole_eq x w g b r _ _ fun i => c_kr w i k

theorem latent_swap (k : Fin 16) : whole x w g b r ⟨592 + k, by omega⟩ = proj x w g (ix3 b r ⟨320 + k, by omega⟩) :=
  whole_eq x w g b r _ _ fun i => c_swap w i k

theorem latent_zero (j : Fin 4480) (h : ∀ k : Fin 1024, arranged w (ix3 0 k j) = (0 : EReal)) : whole x w g b r j = 0 :=
  (congrArg (element _ _) (funext h)).trans element_zero

theorem latent_pad (k : Fin 256) (hk : ¬ k.val < 192) : whole x w g b r ⟨k, by omega⟩ = 0 := by
  have e : (⟨k.val, by omega⟩ : Fin 4480) = ⟨192 + (k.val - 192), by omega⟩ := Fin.ext (by dsimp only; omega)
  rw [e]
  exact latent_zero x w g b r _ fun i => c_pad w i ⟨k.val - 192, by omega⟩

theorem latent_gap (k : Fin 64) : whole x w g b r ⟨384 + k, by omega⟩ = 0 :=
  latent_zero x w g b r _ fun i => c_gap w i k

section

variable (hx : ∀ i, IsReal (x i)) (hw : ∀ i, IsReal (w i)) (hg : ∀ i, IsReal (g i))
include hx hw hg

theorem latent_neg (k : Fin 16) : whole x w g b r ⟨576 + k, by omega⟩ = -(proj x w g (ix3 b r ⟨336 + k, by omega⟩)) := by
  rw [proj_apply]
  exact (congrArg (element _ _) (funext fun i => c_neg w i k)).trans (element_neg (fun _ => hx _) (fun _ => hg _) fun _ => hw _)

theorem proj_real (j : Fin 3976) : IsReal (proj x w g (ix3 b r j)) := by
  rw [proj_apply]
  exact element_real (fun _ => hx _) (fun _ => hg _) fun _ => hw _

end

/-! ## The queries -/

theorem up_padded (y : FVec Ideal S192x4x128 .f32) (h : Fin 4) (j : Fin 128) (v : Fin 192 → EReal) (hv : ∀ k : Fin 192, y (ix3 k h j) = v k) :
    upP (fun k => whole x w g b r ⟨k, by omega⟩) (fun k => gainQ gq (ix2 0 k)) (fun k => padded y (ix2 k ⟨128 * h + j, by omega⟩))
      = upR (fun k => proj x w g (ix3 b r ⟨k, by omega⟩)) (fun k => gq (ix2 0 k)) v :=
  upP_eq _ _ _ (fun k hk => latent_pad x w g b r k hk) (fun k hk => padded_zero y k hk _) _ _ _ (fun k => latent_q x w g b r k) (fun k => gainQ_apply gq k)
    fun k => (padded_apply y k h j).trans (hv k)

/-- A query before its rotation and its factor. -/
noncomputable def before (q : Fin 384) : EReal := upR (fun k => proj x w g (ix3 b r ⟨k, by omega⟩)) (fun k => gq (ix2 0 k)) (fun k => wq (ix3 0 k q))

theorem query_still (h : Fin 4) (l : Fin 64) : queryAt x w g gq wq b r h ⟨l, by omega⟩ = before x w g gq wq b r ⟨96 * h + l, by omega⟩ * factorQ := by
  unfold queryAt before
  rw [table_still, table_still, Ideal.ofBits_one_f32, Ideal.ofBits_zero_f32, mul_one, mul_zero, add_zero,
    up_padded x w g gq b r (straight wq) h ⟨l, by omega⟩ _ fun k => straight_still wq k h l]

section

variable (hx : ∀ i, IsReal (x i)) (hw : ∀ i, IsReal (w i)) (hg : ∀ i, IsReal (g i)) (hgq : ∀ i, IsReal (gq i)) (hwq : ∀ i, IsReal (wq i))
include hx hw hg hgq hwq

theorem query_low (h : Fin 4) (i : Fin 16) : queryAt x w g gq wq b r h ⟨64 + i, by omega⟩
    = (before x w g gq wq b r ⟨96 * h + (64 + i), by omega⟩ * cosines (ix2 r i) - before x w g gq wq b r ⟨96 * h + (64 + (16 + i)), by omega⟩ * sines (ix2 r i)) * factorQ := by
  unfold queryAt before
  rw [table_low, table_low,
    up_padded x w g gq b r (straight wq) h ⟨64 + i, by omega⟩ _ fun k => straight_turned wq k h ⟨i, by omega⟩,
    up_padded x w g gq b r (crossed wq) h ⟨64 + i, by omega⟩ (fun k => -(wq (ix3 0 k ⟨96 * h + (64 + (16 + i)), by omega⟩)))
      fun k => (crossed_low wq k h i).trans (congrArg (fun q => (-(wq (ix3 0 k q)) : EReal)) (Fin.ext (by dsimp only; omega))),
    upR_neg (fun _ => proj_real x w g b r hx hw hg _) (fun _ => hgq _) fun _ => hwq _, neg_mul, ← sub_eq_add_neg]

end

theorem query_high (h : Fin 4) (i : Fin 16) : queryAt x w g gq wq b r h ⟨64 + (16 + i), by omega⟩
    = (before x w g gq wq b r ⟨96 * h + (64 + i), by omega⟩ * sines (ix2 r i) + before x w g gq wq b r ⟨96 * h + (64 + (16 + i)), by omega⟩ * cosines (ix2 r i)) * factorQ := by
  have e : (⟨64 + (16 + i.val), by omega⟩ : Fin 128) = ⟨80 + i.val, by omega⟩ := Fin.ext (by dsimp only; omega)
  rw [e]
  unfold queryAt before
  rw [table_high, table_high,
    up_padded x w g gq b r (straight wq) h ⟨80 + i, by omega⟩ (fun k => wq (ix3 0 k ⟨96 * h + (64 + (16 + i)), by omega⟩))
      fun k => (congrArg (fun q => straight wq (ix3 k h q)) e.symm).trans (straight_turned wq k h ⟨16 + i, by omega⟩),
    up_padded x w g gq b r (crossed wq) h ⟨80 + i, by omega⟩ _ fun k => crossed_high wq k h i, add_comm]

/-! ## The keys and the values -/

/-- A key or a value. -/
noncomputable def pair (q : Fin 512) : EReal := upK (fun k => proj x w g (ix3 b r ⟨192 + k, by omega⟩)) (fun k => gk (ix2 0 k)) (fun k => wk (ix3 0 k q))

theorem up_pair (u : Fin 128 → EReal) : upK (fun k => whole x w g b r ⟨256 + k, by omega⟩) (fun k => gainK gk (ix2 0 k)) u
    = upK (fun k => proj x w g (ix3 b r ⟨192 + k, by omega⟩)) (fun k => gk (ix2 0 k)) u :=
  congr (congr (congrArg upK (funext fun k => latent_kv x w g b r k)) (funext fun k => gainK_apply gk k)) rfl

theorem key_still (h : Fin 4) (l : Fin 64) : keyAt x w g gk wk b r h ⟨l, by omega⟩ = pair x w g gk wk b r ⟨128 * h + l, by omega⟩ := by
  unfold keyAt pair
  rw [table_still, table_still, Ideal.ofBits_one_f32, Ideal.ofBits_zero_f32, mul_one, mul_zero, add_zero, up_pair]
  rw [show whole x w g b r ⟨384 + (⟨l.val, by omega⟩ : Fin 128).val, by omega⟩ = 0 from latent_gap x w g b r l, add_zero]
  exact congrArg (upK _ _) (funext fun k => keyed_still wk k h l)

theorem key_turned (h : Fin 4) (l : Fin 64) (e : Fin 128) (he : e.val = 64 + l.val) : keyAt x w g gk wk b r h e
    = whole x w g b r ⟨384 + e, by omega⟩ * table 0x3F800000#32 cosines (ix2 r e) + whole x w g b r ⟨512 + e, by omega⟩ * table 0x00000000#32 sines (ix2 r e) := by
  unfold keyAt
  have z : (fun k : Fin 128 => (keyed wk (ix2 k ⟨128 * h + e, by omega⟩) : EReal)) = fun _ => 0 :=
    funext fun k => (congrArg (fun q => (keyed wk (ix2 k q) : EReal)) (Fin.ext (by dsimp only; omega))).trans (keyed_zero wk k h l)
  refine (congrArg (fun s : EReal => s + _) ((congrArg (upK _ _) z).trans (upK_zero _ _))).trans (zero_add _)

section

variable (hx : ∀ i, IsReal (x i)) (hw : ∀ i, IsReal (w i)) (hg : ∀ i, IsReal (g i))
include hx hw hg

theorem key_low (h : Fin 4) (i : Fin 16) : keyAt x w g gk wk b r h ⟨64 + i, by omega⟩
    = proj x w g (ix3 b r ⟨320 + i, by omega⟩) * cosines (ix2 r i) - proj x w g (ix3 b r ⟨320 + (16 + i), by omega⟩) * sines (ix2 r i) := by
  rw [key_turned x w g gk wk b r h ⟨i, by omega⟩ ⟨64 + i, by omega⟩ rfl, table_low, table_low]
  have e1 : (⟨384 + (64 + i.val), by omega⟩ : Fin 4480) = ⟨448 + i.val, by omega⟩ := Fin.ext (by dsimp only; omega)
  have e2 : (⟨512 + (64 + i.val), by omega⟩ : Fin 4480) = ⟨576 + i.val, by omega⟩ := Fin.ext (by dsimp only; omega)
  have e3 : (⟨320 + (16 + i.val), by omega⟩ : Fin 3976) = ⟨336 + i.val, by omega⟩ := Fin.ext (by dsimp only; omega)
  rw [e1, e2, e3, latent_neg x w g b r hx hw hg i, neg_mul, ← sub_eq_add_neg]
  exact congrArg (fun s : EReal => s * _ - _) (latent_kr x w g b r ⟨i, by omega⟩)

end

theorem key_high (h : Fin 4) (i : Fin 16) : keyAt x w g gk wk b r h ⟨64 + (16 + i), by omega⟩
    = proj x w g (ix3 b r ⟨320 + i, by omega⟩) * sines (ix2 r i) + proj x w g (ix3 b r ⟨320 + (16 + i), by omega⟩) * cosines (ix2 r i) := by
  have e : (⟨64 + (16 + i.val), by omega⟩ : Fin 128) = ⟨80 + i.val, by omega⟩ := Fin.ext (by dsimp only; omega)
  rw [e, key_turned x w g gk wk b r h ⟨16 + i, by omega⟩ ⟨80 + i, by omega⟩ (by dsimp only; omega), table_high, table_high]
  have e1 : (⟨384 + (80 + i.val), by omega⟩ : Fin 4480) = ⟨448 + (16 + i.val), by omega⟩ := Fin.ext (by dsimp only; omega)
  have e2 : (⟨512 + (80 + i.val), by omega⟩ : Fin 4480) = ⟨592 + i.val, by omega⟩ := Fin.ext (by dsimp only; omega)
  rw [e1, e2, latent_swap x w g b r i, add_comm]
  exact congrArg (fun s : EReal => _ + s * _) (latent_kr x w g b r ⟨16 + i, by omega⟩)

theorem value_pair (h : Fin 4) (d : Fin 64) : valueAt x w g gk wk b ⟨64 * h + d, by omega⟩ r = pair x w g gk wk b r ⟨128 * h + (64 + d), by omega⟩ := by
  unfold valueAt pair
  rw [up_pair]
  exact congrArg (upK _ _) (funext fun k => valued_apply wk h d k)

end

/-! ## The results -/

/-- The heads side by side. -/
noncomputable def lanes (y : FVec Ideal S8x2048x512 .bf16) : FVec Ideal S8x2048x4x128 .f32 :=
  shapeCast S8x2048x4x128 (extf .f32 y bitsLt_bf16_f32 : FVec Ideal S8x2048x512 .f32) shapeCasts_S8x2048x512_S8x2048x4x128

theorem lanes_apply (y : FVec Ideal S8x2048x512 .bf16) (b : Fin 8) (r : Fin 2048) (h : Fin 4) (l : Fin 128) :
    lanes y (ix4 b r h l) = (y (ix3 b r ⟨128 * h + l, by omega⟩) : EReal) := by
  have e : (⟨128 * h.val + l.val, by omega⟩ : Fin 512) = ⟨h.val * 128 + l.val, by omega⟩ := Fin.ext (by dsimp only; omega)
  rw [e]
  pointwise [lanes]

/-- The values by rows. -/
noncomputable def rows (y : FVec Ideal S8x256x2048 .bf16) : FVec Ideal S8x2048x4x64 .f32 :=
  shapeCast S8x2048x4x64 (transpose S8x2048x256 [0, 2, 1] (extf .f32 y bitsLt_bf16_f32 : FVec Ideal S8x256x2048 .f32) transposes_S8x256x2048_S8x2048x256_0_2_1) shapeCasts_S8x2048x256_S8x2048x4x64

theorem rows_apply (y : FVec Ideal S8x256x2048 .bf16) (b : Fin 8) (r : Fin 2048) (h : Fin 4) (d : Fin 64) :
    rows y (ix4 b r h d) = (y (ix3 b ⟨64 * h + d, by omega⟩ r) : EReal) := by
  have e : (⟨64 * h.val + d.val, by omega⟩ : Fin 256) = ⟨h.val * 64 + d.val, by omega⟩ := Fin.ext (by dsimp only; omega)
  rw [e]
  pointwise [rows]

/-- The lanes without a rotation. -/
noncomputable def still (y : FVec Ideal S8x2048x4x128 .f32) : FVec Ideal S8x2048x4x64 .f32 :=
  extractStridedSlice S8x2048x4x64 ![0, 0, 0, 0] y slices_S8x2048x4x128_S8x2048x4x64_0_0_0_0

/-- The rotated lanes. -/
noncomputable def turnedQ (y : FVec Ideal S8x2048x4x128 .f32) : FVec Ideal S8x2048x4x32 .f32 :=
  extractStridedSlice S8x2048x4x32 ![0, 0, 0, 64] y slices_S8x2048x4x128_S8x2048x4x32_0_0_0_64

/-- The rotated lanes of the first head. -/
noncomputable def turnedK (y : FVec Ideal S8x2048x4x128 .f32) : FVec Ideal S8x2048x32 .f32 :=
  shapeCast S8x2048x32 (extractStridedSlice S8x2048x1x32 ![0, 0, 0, 64] y slices_S8x2048x4x128_S8x2048x1x32_0_0_0_64) shapeCasts_S8x2048x1x32_S8x2048x32

theorem still_apply (y : FVec Ideal S8x2048x4x128 .f32) (b : Fin 8) (r : Fin 2048) (h : Fin 4) (l : Fin 64) : still y (ix4 b r h l) = y (ix4 b r h ⟨l, by omega⟩) := by
  pointwise [still]

theorem turnedQ_apply (y : FVec Ideal S8x2048x4x128 .f32) (b : Fin 8) (r : Fin 2048) (h : Fin 4) (l : Fin 32) : turnedQ y (ix4 b r h l) = y (ix4 b r h ⟨64 + l, by omega⟩) := by
  pointwise [turnedQ]

theorem turnedK_apply (y : FVec Ideal S8x2048x4x128 .f32) (b : Fin 8) (r : Fin 2048) (l : Fin 32) : turnedK y (ix3 b r l) = y (ix4 b r 0 ⟨64 + l, by omega⟩) := by
  pointwise [turnedK]

section

variable (x : FVec Ideal S8x2048x1024 .f32) (w : FVec Ideal S2x1024x3976 .f32) (g : FVec Ideal S2x1024 .f32) (gq : FVec Ideal S2x192 .f32) (gk : FVec Ideal S2x128 .f32)
  (wq : FVec Ideal S2x192x384 .f32) (wk : FVec Ideal S2x128x512 .f32)

theorem outQ_apply (b : Fin 8) (r : Fin 2048) (h : Fin 4) (l : Fin 128) : outQ x w g gq wq (ix3 b r ⟨128 * h + l, by omega⟩) = queryAt x w g gq wq b r h l := by
  have e1 : (⟨(128 * h.val + l.val) / 128, by omega⟩ : Fin 4) = h := Fin.ext (by dsimp only; omega)
  have e2 : (⟨(128 * h.val + l.val) % 128, by omega⟩ : Fin 128) = l := Fin.ext (by dsimp only; omega)
  exact congr (congrArg (queryAt x w g gq wq b r) e1) e2

theorem outK_apply (b : Fin 8) (r : Fin 2048) (h : Fin 4) (l : Fin 128) : outK x w g gk wk (ix3 b r ⟨128 * h + l, by omega⟩) = keyAt x w g gk wk b r h l := by
  have e1 : (⟨(128 * h.val + l.val) / 128, by omega⟩ : Fin 4) = h := Fin.ext (by dsimp only; omega)
  have e2 : (⟨(128 * h.val + l.val) % 128, by omega⟩ : Fin 128) = l := Fin.ext (by dsimp only; omega)
  exact congr (congrArg (keyAt x w g gk wk b r) e1) e2

/-- An array's equality from its elements'. -/
theorem ext4 {n : ℕ} (y z : FVec Ideal ⟨4, ![8, 2048, 4, n]⟩ .f32) (e : ∀ (b : Fin 8) (r : Fin 2048) (h : Fin 4) (l : Fin n), y (ix4 b r h l) = z (ix4 b r h l)) : y = z := by
  funext i
  obtain ⟨b, r, h, l, rfl⟩ : ∃ (b : Fin 8) (r : Fin 2048) (h : Fin 4) (l : Fin n), i = ix4 b r h l := ⟨i 0, i 1, i 2, i 3, funext fun a => Fin.ext (match a with
    | ⟨0, _⟩ => rfl
    | ⟨1, _⟩ => rfl
    | ⟨2, _⟩ => rfl
    | ⟨3, _⟩ => rfl)⟩
  exact e b r h l

theorem ext3 {n : ℕ} (y z : FVec Ideal ⟨3, ![8, 2048, n]⟩ .f32) (e : ∀ (b : Fin 8) (r : Fin 2048) (l : Fin n), y (ix3 b r l) = z (ix3 b r l)) : y = z := by
  funext i
  obtain ⟨b, r, l, rfl⟩ : ∃ (b : Fin 8) (r : Fin 2048) (l : Fin n), i = ix3 b r l := ⟨i 0, i 1, i 2, funext fun a => Fin.ext (match a with
    | ⟨0, _⟩ => rfl
    | ⟨1, _⟩ => rfl
    | ⟨2, _⟩ => rfl)⟩
  exact e b r l

/-- A lane of the rotation is in one half or the other. -/
theorem halves (l : Fin 32) : (∃ i : Fin 16, l = ⟨i, by omega⟩) ∨ ∃ i : Fin 16, l = ⟨16 + i, by omega⟩ := by
  by_cases h : l.val < 16
  · exact .inl ⟨⟨l, h⟩, rfl⟩
  · exact .inr ⟨⟨l - 16, by omega⟩, Fin.ext (by dsimp only; omega)⟩

theorem same0 : ref0 (proj x w g) gq wq = still (lanes (outQ x w g gq wq)) := by
  refine ext4 _ _ fun b r h l => ?_
  rw [still_apply, lanes_apply]
  refine Eq.trans ?_ ((outQ_apply x w g gq wq b r h ⟨l, by omega⟩).trans (query_still x w g gq wq b r h l)).symm
  unfold ref0
  rw [times64, cut64]
  exact congrArg (fun s : EReal => s * factorQ) (queries_apply (proj x w g) gq wq b r h ⟨l, by omega⟩)

theorem same2 : ref2 (proj x w g) gk wk = still (lanes (outK x w g gk wk)) := by
  refine ext4 _ _ fun b r h l => ?_
  rw [still_apply, lanes_apply]
  refine Eq.trans ?_ ((outK_apply x w g gk wk b r h ⟨l, by omega⟩).trans (key_still x w g gk wk b r h l)).symm
  unfold ref2
  rw [cutK]
  exact keys_apply (proj x w g) gk wk b r h ⟨l, by omega⟩

theorem same4 : ref4 (proj x w g) gk wk = rows (outV x w g gk wk) := by
  refine ext4 _ _ fun b r h l => ?_
  rw [rows_apply]
  refine Eq.trans ?_ (value_pair x w g gk wk b r h l).symm
  unfold ref4
  rw [cutV]
  exact keys_apply (proj x w g) gk wk b r h ⟨64 + l, by omega⟩

variable (hx : ∀ i, IsReal (x i)) (hw : ∀ i, IsReal (w i)) (hg : ∀ i, IsReal (g i)) (hgq : ∀ i, IsReal (gq i)) (hwq : ∀ i, IsReal (wq i))

include hx hw hg in
theorem same3 : ref3 (proj x w g) = turnedK (lanes (outK x w g gk wk)) := by
  refine ext3 _ _ fun b r l => ?_
  rw [turnedK_apply, lanes_apply]
  refine Eq.trans ?_ (outK_apply x w g gk wk b r 0 ⟨64 + l, by omega⟩).symm
  unfold ref3
  rcases halves l with ⟨i, rfl⟩ | ⟨i, rfl⟩
  · rw [rotate3_low, cutR, cutR]
    exact (key_low x w g gk wk b r hx hw hg 0 i).symm
  · rw [rotate3_high, cutR, cutR]
    exact (key_high x w g gk wk b r 0 i).symm

include hx hw hg hgq hwq in
theorem same1 : ref1 (proj x w g) gq wq = turnedQ (lanes (outQ x w g gq wq)) := by
  refine ext4 _ _ fun b r h l => ?_
  rw [turnedQ_apply, lanes_apply]
  refine Eq.trans ?_ (outQ_apply x w g gq wq b r h ⟨64 + l, by omega⟩).symm
  unfold ref1
  rw [times32]
  rcases halves l with ⟨i, rfl⟩ | ⟨i, rfl⟩
  · rw [rotate4_low, cut32, cut32, queries_apply, queries_apply]
    exact (query_low x w g gq wq b r hx hw hg hgq hwq h i).symm
  · rw [rotate4_high, cut32, cut32, queries_apply, queries_apply]
    exact (query_high x w g gq wq b r h i).symm

end

end Cert.Latents
-- ==== Proof.MlaTail.lean ====
/-
The results of the queries, the keys and the values, taken out of the arrays the blocks make up.
-/
module

public import proofs.«01_k».proof.Proof.MlaMatch

set_option maxRecDepth 16384

@[expose] public section

namespace Cert.Latents

open Idealize.ShloMosaic Idealize.SL.Sem
open Cert.Kernel4Ideal Cert.Kernel4Ideal.Gen

section

variable (W : Valuation τ sig (Elt Ideal))

set_option maxHeartbeats 4000000 in
theorem taken0 : StableHlo.after (List.flatten [hostOps1]) W (Proc.devRef .tc main_v113) = still (lanes (W (Proc.devRef .tc main_v105_3) : FVec Ideal S8x2048x512 .bf16)) := by
  simp only [hostOps1, List.flatten_cons, List.flatten_nil, List.append_nil]
  after_results
  rfl

set_option maxHeartbeats 4000000 in
theorem taken1 : StableHlo.after (List.flatten [hostOps1]) W (Proc.devRef .tc main_v114) = turnedQ (lanes (W (Proc.devRef .tc main_v105_3) : FVec Ideal S8x2048x512 .bf16)) := by
  simp only [hostOps1, List.flatten_cons, List.flatten_nil, List.append_nil]
  after_results
  rfl

set_option maxHeartbeats 4000000 in
theorem taken2 : StableHlo.after (List.flatten [hostOps1]) W (Proc.devRef .tc main_v115) = still (lanes (W (Proc.devRef .tc main_v105_4) : FVec Ideal S8x2048x512 .bf16)) := by
  simp only [hostOps1, List.flatten_cons, List.flatten_nil, List.append_nil]
  after_results
  rfl

set_option maxHeartbeats 4000000 in
theorem taken3 : StableHlo.after (List.flatten [hostOps1]) W (Proc.devRef .tc main_v117) = turnedK (lanes (W (Proc.devRef .tc main_v105_4) : FVec Ideal S8x2048x512 .bf16)) := by
  simp only [hostOps1, List.flatten_cons, List.flatten_nil, List.append_nil]
  after_results
  rfl

set_option maxHeartbeats 4000000 in
theorem taken4 : StableHlo.after (List.flatten [hostOps1]) W (Proc.devRef .tc main_v112) = rows (W (Proc.devRef .tc main_v105_5) : FVec Ideal S8x256x2048 .bf16) := by
  simp only [hostOps1, List.flatten_cons, List.flatten_nil, List.append_nil]
  after_results
  rfl

end

section

variable (m : (ℓ : Loc nD τ sig) → Buf (Elt Ideal) ℓ) (c : Dev nD)
  (x : FVec Ideal S8x2048x1024 .f32) (w : FVec Ideal S2x1024x3976 .f32) (g : FVec Ideal S2x1024 .f32) (gq : FVec Ideal S2x192 .f32) (gk : FVec Ideal S2x128 .f32)
  (wq : FVec Ideal S2x192x384 .f32) (wk : FVec Ideal S2x128x512 .f32)

theorem distinct : Function.Injective (Pipeline.arrRef cfg0.spec) := by decide +kernel

/-- The arrays after the blocks. -/
noncomputable def arrays : Valuation τ sig (Elt Ideal) :=
  Pipeline.withArrays cfg0.spec c (V0 m c) fun w => (dats m 0 c).arrAt w cfg0.N

variable (e0 : m ((c.tc : Thread nD τ).loc main_arg0) = x) (e1 : m ((c.tc : Thread nD τ).loc main_arg1) = w) (e2 : m ((c.tc : Thread nD τ).loc main_arg2) = g)
  (e3 : m ((c.tc : Thread nD τ).loc main_arg3) = gq) (e4 : m ((c.tc : Thread nD τ).loc main_arg4) = gk)
  (e5 : m ((c.tc : Thread nD τ).loc main_arg5) = wq) (e6 : m ((c.tc : Thread nD τ).loc main_arg6) = wk)

include e0 e1 e2

section

include e3 e5

theorem arrays14 : (arrays m c (Proc.devRef .tc main_v105_3) : FVec Ideal S8x2048x512 .bf16) = outQ x w g gq wq :=
  (Pipeline.withArrays_arr cfg0.spec distinct c (V0 m c) (fun w => (dats m 0 c).arrAt w cfg0.N) 14).trans (final14 m x w g gq wq c e0 e1 e2 e3 e5)

theorem kernel0 : Pipeline.afterTail₀ cfgs (dats m) 0 (V0 m) [hostOps1] c main_v113 = still (lanes (outQ x w g gq wq)) := by
  refine (taken0 (arrays m c)).trans ?_
  rw [arrays14 m c x w g gq wq e0 e1 e2 e3 e5]

theorem kernel1 : Pipeline.afterTail₀ cfgs (dats m) 0 (V0 m) [hostOps1] c main_v114 = turnedQ (lanes (outQ x w g gq wq)) := by
  refine (taken1 (arrays m c)).trans ?_
  rw [arrays14 m c x w g gq wq e0 e1 e2 e3 e5]

end

section

include e4 e6

theorem arrays15 : (arrays m c (Proc.devRef .tc main_v105_4) : FVec Ideal S8x2048x512 .bf16) = outK x w g gk wk :=
  (Pipeline.withArrays_arr cfg0.spec distinct c (V0 m c) (fun w => (dats m 0 c).arrAt w cfg0.N) 15).trans (final15 m x w g gk wk c e0 e1 e2 e4 e6)

theorem arrays16 : (arrays m c (Proc.devRef .tc main_v105_5) : FVec Ideal S8x256x2048 .bf16) = outV x w g gk wk :=
  (Pipeline.withArrays_arr cfg0.spec distinct c (V0 m c) (fun w => (dats m 0 c).arrAt w cfg0.N) 16).trans (final16 m x w g gk wk c e0 e1 e2 e4 e6)

theorem kernel2 : Pipeline.afterTail₀ cfgs (dats m) 0 (V0 m) [hostOps1] c main_v115 = still (lanes (outK x w g gk wk)) := by
  refine (taken2 (arrays m c)).trans ?_
  rw [arrays15 m c x w g gk wk e0 e1 e2 e4 e6]

theorem kernel3 : Pipeline.afterTail₀ cfgs (dats m) 0 (V0 m) [hostOps1] c main_v117 = turnedK (lanes (outK x w g gk wk)) := by
  refine (taken3 (arrays m c)).trans ?_
  rw [arrays15 m c x w g gk wk e0 e1 e2 e4 e6]

theorem kernel4 : Pipeline.afterTail₀ cfgs (dats m) 0 (V0 m) [hostOps1] c main_v112 = rows (outV x w g gk wk) := by
  refine (taken4 (arrays m c)).trans ?_
  rw [arrays16 m c x w g gk wk e0 e1 e2 e4 e6]

end

end

end Cert.Latents
-- ==== Proof.MlaClaim.lean ====
/-
The two statements on the queries, the keys and the values that Proof.lean cites: the reference's frame and that the results
are equal.
-/
module

public import proofs.«01_k».proof.Defs
public import proofs.«01_k».proof.Proof.MlaTail
public import proofs.«01_k».proof.Proof.Pre
public import Idealize.ShloMosaic.Adequacy
public import Idealize.ShloMosaic.Init

set_option maxRecDepth 16384

@[expose] public section

namespace Cert.Latents

open Idealize.ShloMosaic Idealize.SL.Sem

/-- The side conditions of the precondition's operations. -/
theorem facts : Cert.Pre_finite_latents.Facts where
  bcast_S_S8x2048x1024 := by decide
  reducesTo_S8x2048x1024_S_d0_1_2 := by decide
  h_S_ := by decide
  bcast_S_S2x1024x3976 := by decide
  reducesTo_S2x1024x3976_S_d0_1_2 := by decide
  bcast_S_S2x1024 := by decide
  reducesTo_S2x1024_S_d0_1 := by decide
  bcast_S_S2x192 := by decide
  reducesTo_S2x192_S_d0_1 := by decide
  bcast_S_S2x192x384 := by decide
  reducesTo_S2x192x384_S_d0_1_2 := by decide

/-- A finite array's elements are real numbers. -/
theorem real_of_finite {s : Shape} {y : FVec Ideal s .f32} (h : Attn.Finite y) (i : s.Idx) : IsReal (y i) := ⟨_, h i⟩

section

open Cert.Pre_finite_latents

/-- Where the precondition holds, the arguments that carry the queries and the rotated keys are finite. -/
theorem finite [Cert.Pre_finite_latents.Facts] (a0 : FVec Ideal S8x2048x1024 .f32) (a1 : FVec Ideal S2x1024x3976 .f32) (a2 : FVec Ideal S2x1024 .f32) (a3 : FVec Ideal S2x192 .f32)
    (a4 : FVec Ideal S2x128 .f32) (a5 : FVec Ideal S2x192x384 .f32) (a6 : FVec Ideal S2x128x512 .f32) (e : fn (F := Ideal) a0 a1 a2 a3 a4 a5 a6 = fun _ => 1#1) :
    Attn.Finite a0 ∧ Attn.Finite a1 ∧ Attn.Finite a2 ∧ Attn.Finite a3 ∧ Attn.Finite a5 := by
  have e := congrFun e (fun k => k.elim0)
  simp only [fn, fn_part1, andi] at e
  obtain ⟨e, e5⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨AttnPre.finite_of_reduce _ _ _ _ e0, AttnPre.finite_of_reduce _ _ _ _ e1, AttnPre.finite_of_reduce _ _ _ _ e2, AttnPre.finite_of_reduce _ _ _ _ e3, AttnPre.finite_of_reduce _ _ _ _ e5⟩

end

/-- The reference terminates with its arguments unchanged and, as it declares no semaphore, every counter at zero. -/
theorem frame (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0) :=
  (θ_run Cert.Reference4Ideal.defs _ _).mono (fun r h => ⟨fun c => (h c).2.2.2.2.2, Idealize.ShloMosaic.sem_eq_zero_of_no_sems (by decide) r.2⟩)
    (Cert.Reference4Ideal.Value.run (F := Ideal) m g)

/-- The kernel ends with its results and its arguments unchanged. -/
theorem kernel_run (m : (ℓ : Loc Cert.Kernel4Ideal.nD Cert.Kernel4Ideal.τ Cert.Kernel4Ideal.sig) → Buf (Elt Ideal) ℓ) (g : Dev Cert.Kernel4Ideal.nD → PrngReg) :
    θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
      r.2.mem ((c.tc : Thread Cert.Kernel4Ideal.nD Cert.Kernel4Ideal.τ).loc Cert.Kernel4Ideal.main_v113) = still (lanes (outQ (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg5))))
      ∧ r.2.mem ((c.tc : Thread Cert.Kernel4Ideal.nD Cert.Kernel4Ideal.τ).loc Cert.Kernel4Ideal.main_v114) = turnedQ (lanes (outQ (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg5))))
      ∧ r.2.mem ((c.tc : Thread Cert.Kernel4Ideal.nD Cert.Kernel4Ideal.τ).loc Cert.Kernel4Ideal.main_v115) = still (lanes (outK (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg6))))
      ∧ r.2.mem ((c.tc : Thread Cert.Kernel4Ideal.nD Cert.Kernel4Ideal.τ).loc Cert.Kernel4Ideal.main_v117) = turnedK (lanes (outK (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg6))))
      ∧ r.2.mem ((c.tc : Thread Cert.Kernel4Ideal.nD Cert.Kernel4Ideal.τ).loc Cert.Kernel4Ideal.main_v112) = rows (outV (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg6)))
      ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)) :=
  (θ_run Cert.Kernel4Ideal.defs _ _).mono (fun _ h c => ⟨
      ((h c).2 Cert.Kernel4Ideal.main_v113 (Pipeline.mem_restRefs_of Cert.Kernel4Ideal.main_v113 (by decide) (by decide))).trans (kernel0 m c _ _ _ _ _ rfl rfl rfl rfl rfl),
      ((h c).2 Cert.Kernel4Ideal.main_v114 (Pipeline.mem_restRefs_of Cert.Kernel4Ideal.main_v114 (by decide) (by decide))).trans (kernel1 m c _ _ _ _ _ rfl rfl rfl rfl rfl),
      ((h c).2 Cert.Kernel4Ideal.main_v115 (Pipeline.mem_restRefs_of Cert.Kernel4Ideal.main_v115 (by decide) (by decide))).trans (kernel2 m c _ _ _ _ _ rfl rfl rfl rfl rfl),
      ((h c).2 Cert.Kernel4Ideal.main_v117 (Pipeline.mem_restRefs_of Cert.Kernel4Ideal.main_v117 (by decide) (by decide))).trans (kernel3 m c _ _ _ _ _ rfl rfl rfl rfl rfl),
      ((h c).2 Cert.Kernel4Ideal.main_v112 (Pipeline.mem_restRefs_of Cert.Kernel4Ideal.main_v112 (by decide) (by decide))).trans (kernel4 m c _ _ _ _ _ rfl rfl rfl rfl rfl),
      ((h c).1 0).trans (((Cert.Kernel4Ideal.Gen.dats m 0 c).arrAt_in 0 rfl _).trans ((Cert.Kernel4Ideal.Gen.A_eq m c 0).trans (Cert.Kernel4Ideal.Gen.V_main_arg0 m c))),
      ((h c).2 Cert.Kernel4Ideal.main_arg1 (Pipeline.mem_restRefs_of Cert.Kernel4Ideal.main_arg1 (by decide) (by decide))).trans (Cert.Kernel4Ideal.Gen.W_main_arg1 m (Cert.Kernel4Ideal.Gen.dats m) c),
      ((h c).2 Cert.Kernel4Ideal.main_arg2 (Pipeline.mem_restRefs_of Cert.Kernel4Ideal.main_arg2 (by decide) (by decide))).trans (Cert.Kernel4Ideal.Gen.W_main_arg2 m (Cert.Kernel4Ideal.Gen.dats m) c),
      ((h c).2 Cert.Kernel4Ideal.main_arg3 (Pipeline.mem_restRefs_of Cert.Kernel4Ideal.main_arg3 (by decide) (by decide))).trans (Cert.Kernel4Ideal.Gen.W_main_arg3 m (Cert.Kernel4Ideal.Gen.dats m) c),
      ((h c).2 Cert.Kernel4Ideal.main_arg4 (Pipeline.mem_restRefs_of Cert.Kernel4Ideal.main_arg4 (by decide) (by decide))).trans (Cert.Kernel4Ideal.Gen.W_main_arg4 m (Cert.Kernel4Ideal.Gen.dats m) c),
      ((h c).2 Cert.Kernel4Ideal.main_arg5 (Pipeline.mem_restRefs_of Cert.Kernel4Ideal.main_arg5 (by decide) (by decide))).trans (Cert.Kernel4Ideal.Gen.W_main_arg5 m (Cert.Kernel4Ideal.Gen.dats m) c),
      ((h c).2 Cert.Kernel4Ideal.main_arg6 (Pipeline.mem_restRefs_of Cert.Kernel4Ideal.main_arg6 (by decide) (by decide))).trans (Cert.Kernel4Ideal.Gen.W_main_arg6 m (Cert.Kernel4Ideal.Gen.dats m) c)⟩) (Cert.Kernel4Ideal.Gen.run_main m g)

/-- The queries, the keys and the values are equal where the precondition holds. -/
theorem equal [Cert.Kernel4Ideal.Facts] [Cert.Reference4Ideal.Facts] [Cert.Pre_finite_latents.Facts] : Cert.algebraic_Kernel4Ideal_Reference4Ideal_pre_finite_latents := by
  intro m g m' g' hp ha
  refine ⟨fun c => still (lanes (outQ (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg5)))),
    fun c => turnedQ (lanes (outQ (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg5)))),
    fun c => still (lanes (outK (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg6)))),
    fun c => turnedK (lanes (outK (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg6)))),
    fun c => rows (outV (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg6))),
    kernel_run m g, ?_⟩
  refine (θ_run Cert.Reference4Ideal.defs _ _).mono (fun r h c => ?_) (Cert.Reference4Ideal.Value.run m' g')
  obtain ⟨h0, h1, h2, h3, h4, h5, h6⟩ := ha c
  obtain ⟨r0, r1, r2, r3, r4, hr⟩ := h c
  obtain ⟨f0, f1, f2, f3, f5⟩ := finite _ _ _ _ _ _ _ (hp c)
  exact ⟨r0.trans ((res0_eq m' c _ _ _ _ _ h0 h1 h2 h3 h5).trans (same0 _ _ _ _ _)),
    r1.trans ((res1_eq m' c _ _ _ _ _ h0 h1 h2 h3 h5).trans (same1 _ _ _ _ _ (real_of_finite f0) (real_of_finite f1) (real_of_finite f2) (real_of_finite f3) (real_of_finite f5))),
    r2.trans ((res2_eq m' c _ _ _ _ _ h0 h1 h2 h4 h6).trans (same2 _ _ _ _ _)),
    r3.trans ((res3_eq m' c _ _ _ h0 h1 h2).trans (same3 _ _ _ _ _ (real_of_finite f0) (real_of_finite f1) (real_of_finite f2))),
    r4.trans ((res4_eq m' c _ _ _ _ _ h0 h1 h2 h4 h6).trans (same4 _ _ _ _ _)), hr⟩

end Cert.Latents
-- ==== Proof.Arrange.lean ====
/-
The arrangement of the input weights: the columns of the weights put in the order in which the input projection reads them, with zeros
between, some with their sign changed and some times a factor. What a block holds, column range by column range.
-/
module

public import proofs.«01_k».proof.Proof.Gen.Kernel5Ideal.Value
public import Idealize.ShloMosaic.Lib.Pointwise
public import Idealize.ShloMosaic.Lib.Claim
public import Idealize.ShloMosaic.Lib.Pipeline.ValueKit

set_option maxRecDepth 16384

@[expose] public section

namespace Cert.Arrange

open Idealize.ShloMosaic Idealize.SL.Sem
open Cert.Kernel5Ideal Cert.Kernel5Ideal.Gen

/-! ## Stores of whole column ranges -/

/-- What is held under the last store is what it stored. -/
theorem under {o n : Nat} (inb : ∀ a, (![0, 0, o] : Fin 3 → Nat) a + (![1, 256, n] : Fin 3 → Nat) a ≤ S1x256x4480.size a)
    (w : (Rect.unit (s := S1x256x4480) ![0, 0, o] ![1, 256, n] inb).shape.Idx → Elt Ideal .bf16) (L : List (View.Piece (Elt Ideal) S1x256x4480 .bf16))
    (a : Fin 256) (l : Fin n) (j : Fin 4480) (h : j.val = o + l.val) :
    View.canon (⟨Rect.unit ![0, 0, o] ![1, 256, n] inb, w⟩ :: L) (ix3 0 a j) = w (ix3 0 a l) := by
  have e : (ix3 0 a j : S1x256x4480.Idx) = (Rect.unit (s := S1x256x4480) ![0, 0, o] ![1, 256, n] inb).emb (ix3 0 a l) := by
    funext i
    match i with
    | ⟨0, _⟩ => rfl
    | ⟨1, _⟩ => exact Fin.ext (by show a.val = 0 + 1 * a.val; omega)
    | ⟨2, _⟩ => exact Fin.ext (by show j.val = o + 1 * l.val; omega)
  rw [e]
  exact View.canon_cons_emb _ w L _

/-- Beside the last store it is what the earlier ones left. -/
theorem beside {o n : Nat} (inb : ∀ a, (![0, 0, o] : Fin 3 → Nat) a + (![1, 256, n] : Fin 3 → Nat) a ≤ S1x256x4480.size a)
    (w : (Rect.unit (s := S1x256x4480) ![0, 0, o] ![1, 256, n] inb).shape.Idx → Elt Ideal .bf16) (L : List (View.Piece (Elt Ideal) S1x256x4480 .bf16))
    (a : Fin 256) (j : Fin 4480) (h : j.val < o ∨ o + n ≤ j.val) :
    View.canon (⟨Rect.unit ![0, 0, o] ![1, 256, n] inb, w⟩ :: L) (ix3 0 a j) = View.canon L (ix3 0 a j) := by
  refine View.canon_cons_of_not_mem ⟨Rect.unit ![0, 0, o] ![1, 256, n] inb, w⟩ L fun hm => ?_
  have := (Rect.mem_set_unit (s := S1x256x4480) (inb := inb)).mp hm (2 : Fin 3)
  have h2 : o ≤ j.val ∧ j.val < o + n := this
  omega

/-- A load of a column range. -/
theorem cols {o n : Nat} (X : Vec Ideal S1x256x3976 .f32) (inb : ∀ a, (![0, 0, o] : Fin 3 → Nat) a + (![1, 256, n] : Fin 3 → Nat) a ≤ S1x256x3976.size a)
    (a : Fin 256) (l : Fin n) (k : Fin 3976) (h : k.val = o + l.val) :
    View.ld X (Rect.unit ![0, 0, o] ![1, 256, n] inb) (ix3 0 a l) = X (ix3 0 a k) := by
  show X _ = X _
  refine congrArg X (funext fun i => ?_)
  match i with
  | ⟨0, _⟩ => rfl
  | ⟨1, _⟩ => exact Fin.ext (by show 0 + 1 * a.val = a.val; omega)
  | ⟨2, _⟩ => exact Fin.ext (by show o + 1 * l.val = k.val; omega)

/-! ## What each store holds -/

/-- The factor of the second mixer's queries. -/
noncomputable def factorB : EReal := (((Real.sqrt 64)⁻¹ * (Real.log 2)⁻¹ : ℝ) : EReal)

theorem factorB_eq : Named.named (F := Ideal) Cert.Kernel5Ideal.κ "b_scale" (φ := .f32) 0x3E38AA3B#32 = factorB :=
  IdealRules.named_const.ideal_named_scalar _ _ _ _ rfl

theorem bitsNeg : Ideal.ofBits .f32 0xBF800000#32 = ((-1 : ℝ) : EReal) := by
  simp [Ideal.ofBits, Ideal.ieee, -EReal.coe_mul]; norm_num

theorem p4224 (v : Vec Ideal S1x256x384 .f32) (a : Fin 256) (l : Fin 256) : k0_pay4 v (ix3 0 a l) = v (ix3 0 a ⟨96 + l, by omega⟩) := by
  pointwise [k0_pay4]

theorem p3968 (v : Vec Ideal S1x256x384 .f32) (a : Fin 256) (l : Fin 256) : k0_pay3 v (ix3 0 a l) = v (ix3 0 a ⟨96 + l, by omega⟩) := by
  pointwise [k0_pay3]

theorem p3712 (v : Vec Ideal S1x256x384 .f32) (a : Fin 256) (l : Fin 256) :
    k0_pay2 v (ix3 0 a l) = (v (ix3 0 a ⟨96 + l, by omega⟩) * factorB : EReal) := by
  rw [← factorB_eq]
  pointwise [k0_pay2]

theorem p3680 (v : Vec Ideal S1x256x128 .f32) (a : Fin 256) (l : Fin 32) : k0_pay1 (k0_pay29 v) (ix3 0 a l) = v (ix3 0 a ⟨96 + l, by omega⟩) := by
  pointwise [k0_pay1, k0_pay29]

theorem p3648 (v : Vec Ideal S1x256x128 .f32) (a : Fin 256) (l : Fin 32) : k0_pay28 v (ix3 0 a l) = v (ix3 0 a ⟨96 + l, by omega⟩) := by
  pointwise [k0_pay28]

theorem p3616 (v : Vec Ideal S1x256x128 .f32) (a : Fin 256) (l : Fin 32) : k0_pay27 v (ix3 0 a l) = v (ix3 0 a ⟨96 + l, by omega⟩) := by
  pointwise [k0_pay27]

theorem p3584 (v : Vec Ideal S1x256x128 .f32) (a : Fin 256) (l : Fin 32) : k0_pay26 v (ix3 0 a l) = v (ix3 0 a ⟨96 + l, by omega⟩) := by
  pointwise [k0_pay26]

theorem p3328 (v : Vec Ideal S1x256x384 .f32) (a : Fin 256) (l : Fin 256) : k0_pay25 v (ix3 0 a l) = v (ix3 0 a ⟨8 + l, by omega⟩) := by
  pointwise [k0_pay25]

theorem p3072 (v : Vec Ideal S1x256x384 .f32) (a : Fin 256) (l : Fin 256) : k0_pay24 v (ix3 0 a l) = v (ix3 0 a ⟨96 + l, by omega⟩) := by
  pointwise [k0_pay24]

theorem p2816 (v : Vec Ideal S1x256x384 .f32) (a : Fin 256) (l : Fin 256) : k0_pay23 v (ix3 0 a l) = v (ix3 0 a ⟨96 + l, by omega⟩) := by
  pointwise [k0_pay23]

theorem p2560 (v : Vec Ideal S1x256x264 .f32) (a : Fin 256) (l : Fin 256) : k0_pay22 v (ix3 0 a l) = v (ix3 0 a ⟨8 + l, by omega⟩) := by
  pointwise [k0_pay22]

theorem p2304 (v : Vec Ideal S1x256x384 .f32) (a : Fin 256) (l : Fin 256) : k0_pay21 v (ix3 0 a l) = v (ix3 0 a ⟨8 + l, by omega⟩) := by
  pointwise [k0_pay21]

theorem p2048 (v : Vec Ideal S1x256x384 .f32) (a : Fin 256) (l : Fin 256) : k0_pay20 (k0_pay19 v) (ix3 0 a l) = v (ix3 0 a ⟨8 + l, by omega⟩) := by
  pointwise [k0_pay20, k0_pay19]

theorem p1792 (v : Vec Ideal S1x256x384 .f32) (a : Fin 256) (l : Fin 256) : k0_pay18 v (ix3 0 a l) = v (ix3 0 a ⟨8 + l, by omega⟩) := by
  pointwise [k0_pay18]

theorem p1536 (v : Vec Ideal S1x256x384 .f32) (a : Fin 256) (l : Fin 256) : k0_pay17 v (ix3 0 a l) = v (ix3 0 a ⟨96 + l, by omega⟩) := by
  pointwise [k0_pay17]

theorem p1280 (v : Vec Ideal S1x256x384 .f32) (a : Fin 256) (l : Fin 256) : k0_pay16 v (ix3 0 a l) = v (ix3 0 a ⟨96 + l, by omega⟩) := by
  pointwise [k0_pay16]

theorem p1024 (v : Vec Ideal S1x256x384 .f32) (a : Fin 256) (l : Fin 256) : k0_pay15 (k0_pay14 v) (ix3 0 a l) = v (ix3 0 a ⟨96 + l, by omega⟩) := by
  pointwise [k0_pay15, k0_pay14]

theorem p768 (v : Vec Ideal S1x256x384 .f32) (a : Fin 256) (l : Fin 256) : k0_pay13 v (ix3 0 a l) = v (ix3 0 a ⟨96 + l, by omega⟩) := by
  pointwise [k0_pay13]

theorem p640 (v : Vec Ideal S1x256x128 .f32) (a : Fin 256) (l : Fin 8) : k0_pay12 v (ix3 0 a l) = v (ix3 0 a ⟨0 + l, by omega⟩) := by
  pointwise [k0_pay12]

theorem p592 (v : Vec Ideal S1x256x128 .f32) (a : Fin 256) (l : Fin 16) : k0_pay11 v (ix3 0 a l) = v (ix3 0 a ⟨64 + l, by omega⟩) := by
  pointwise [k0_pay11]

theorem p576 (v : Vec Ideal S1x256x128 .f32) (a : Fin 256) (l : Fin 16) :
    k0_pay10 (k0_pay9 v) (Scalar.ofBits .f32 0xBF800000#32) (ix3 0 a l) = (-(v (ix3 0 a ⟨80 + l, by omega⟩)) : EReal) := by
  have e : k0_pay10 (k0_pay9 v) (Scalar.ofBits .f32 0xBF800000#32) (ix3 0 a l) = (v (ix3 0 a ⟨80 + l, by omega⟩) * Ideal.ofBits .f32 0xBF800000#32 : EReal) := by
    pointwise [k0_pay10, k0_pay9]
  rw [e, bitsNeg, EReal.coe_neg, EReal.coe_one, mul_neg, mul_one]

theorem p448 (v : Vec Ideal S1x256x128 .f32) (a : Fin 256) (l : Fin 32) : k0_pay8 v (ix3 0 a l) = v (ix3 0 a ⟨64 + l, by omega⟩) := by
  pointwise [k0_pay8]

theorem p256 (v : Vec Ideal S1x256x256 .f32) (a : Fin 256) (l : Fin 128) : k0_pay7 v (ix3 0 a l) = v (ix3 0 a ⟨64 + l, by omega⟩) := by
  pointwise [k0_pay7]

theorem p0 (v : Vec Ideal S1x256x256 .f32) (a : Fin 256) (l : Fin 192) : k0_pay6 v (ix3 0 a l) = v (ix3 0 a ⟨0 + l, by omega⟩) := by
  pointwise [k0_pay6]

theorem zero_pay (a : Fin 256) (j : Fin 4480) : k0_pay5 (F := Ideal) (ix3 0 a j) = (0 : EReal) := by
  refine Eq.trans ?_ (Ideal.ofBits_zero_bf16)
  pointwise [k0_pay5]

/-! ## The block -/

/-- A block of the arranged weights, of a block of the weights. -/
noncomputable def block (X : Vec Ideal S1x256x3976 .f32) : Vec Ideal S1x256x4480 .bf16 :=
  View.canon
    ([⟨Rect.unit ![0, 0, 4224] ![1, 256, 256] inb_S1x256x4480_S1x256x256_0_0_4224, k0_pay4 (View.ld X (Rect.unit ![0, 0, 1024] ![1, 256, 384] inb_S1x256x3976_S1x256x384_0_0_1024))⟩,
      ⟨Rect.unit ![0, 0, 3968] ![1, 256, 256] inb_S1x256x4480_S1x256x256_0_0_3968, k0_pay3 (View.ld X (Rect.unit ![0, 0, 768] ![1, 256, 384] inb_S1x256x3976_S1x256x384_0_0_768))⟩,
      ⟨Rect.unit ![0, 0, 3712] ![1, 256, 256] inb_S1x256x4480_S1x256x256_0_0_3712, k0_pay2 (View.ld X (Rect.unit ![0, 0, 512] ![1, 256, 384] inb_S1x256x3976_S1x256x384_0_0_512))⟩,
      ⟨Rect.unit ![0, 0, 3680] ![1, 256, 32] inb_S1x256x4480_S1x256x32_0_0_3680, k0_pay1 (k0_pay29 (View.ld X (Rect.unit ![0, 0, 2560] ![1, 256, 128] inb_S1x256x3976_S1x256x128_0_0_2560)))⟩,
      ⟨Rect.unit ![0, 0, 3648] ![1, 256, 32] inb_S1x256x4480_S1x256x32_0_0_3648, k0_pay28 (View.ld X (Rect.unit ![0, 0, 2560] ![1, 256, 128] inb_S1x256x3976_S1x256x128_0_0_2560))⟩,
      ⟨Rect.unit ![0, 0, 3616] ![1, 256, 32] inb_S1x256x4480_S1x256x32_0_0_3616, k0_pay27 (View.ld X (Rect.unit ![0, 0, 2560] ![1, 256, 128] inb_S1x256x3976_S1x256x128_0_0_2560))⟩,
      ⟨Rect.unit ![0, 0, 3584] ![1, 256, 32] inb_S1x256x4480_S1x256x32_0_0_3584, k0_pay26 (View.ld X (Rect.unit ![0, 0, 2560] ![1, 256, 128] inb_S1x256x3976_S1x256x128_0_0_2560))⟩,
      ⟨Rect.unit ![0, 0, 3328] ![1, 256, 256] inb_S1x256x4480_S1x256x256_0_0_3328, k0_pay25 (View.ld X (Rect.unit ![0, 0, 3200] ![1, 256, 384] inb_S1x256x3976_S1x256x384_0_0_3200))⟩,
      ⟨Rect.unit ![0, 0, 3072] ![1, 256, 256] inb_S1x256x4480_S1x256x256_0_0_3072, k0_pay24 (View.ld X (Rect.unit ![0, 0, 2304] ![1, 256, 384] inb_S1x256x3976_S1x256x384_0_0_2304))⟩,
      ⟨Rect.unit ![0, 0, 2816] ![1, 256, 256] inb_S1x256x4480_S1x256x256_0_0_2816, k0_pay23 (View.ld X (Rect.unit ![0, 0, 1792] ![1, 256, 384] inb_S1x256x3976_S1x256x384_0_0_1792))⟩,
      ⟨Rect.unit ![0, 0, 2560] ![1, 256, 256] inb_S1x256x4480_S1x256x256_0_0_2560, k0_pay22 (View.ld X (Rect.unit ![0, 0, 3712] ![1, 256, 264] inb_S1x256x3976_S1x256x264_0_0_3712))⟩,
      ⟨Rect.unit ![0, 0, 2304] ![1, 256, 256] inb_S1x256x4480_S1x256x256_0_0_2304, k0_pay21 (View.ld X (Rect.unit ![0, 0, 3456] ![1, 256, 384] inb_S1x256x3976_S1x256x384_0_0_3456))⟩,
      ⟨Rect.unit ![0, 0, 2048] ![1, 256, 256] inb_S1x256x4480_S1x256x256_0_0_2048, k0_pay20 (k0_pay19 (View.ld X (Rect.unit ![0, 0, 2944] ![1, 256, 384] inb_S1x256x3976_S1x256x384_0_0_2944)))⟩,
      ⟨Rect.unit ![0, 0, 1792] ![1, 256, 256] inb_S1x256x4480_S1x256x256_0_0_1792, k0_pay18 (View.ld X (Rect.unit ![0, 0, 2688] ![1, 256, 384] inb_S1x256x3976_S1x256x384_0_0_2688))⟩,
      ⟨Rect.unit ![0, 0, 1536] ![1, 256, 256] inb_S1x256x4480_S1x256x256_0_0_1536, k0_pay17 (View.ld X (Rect.unit ![0, 0, 2048] ![1, 256, 384] inb_S1x256x3976_S1x256x384_0_0_2048))⟩,
      ⟨Rect.unit ![0, 0, 1280] ![1, 256, 256] inb_S1x256x4480_S1x256x256_0_0_1280, k0_pay16 (View.ld X (Rect.unit ![0, 0, 1536] ![1, 256, 384] inb_S1x256x3976_S1x256x384_0_0_1536))⟩,
      ⟨Rect.unit ![0, 0, 1024] ![1, 256, 256] inb_S1x256x4480_S1x256x256_0_0_1024, k0_pay15 (k0_pay14 (View.ld X (Rect.unit ![0, 0, 1280] ![1, 256, 384] inb_S1x256x3976_S1x256x384_0_0_1280)))⟩,
      ⟨Rect.unit ![0, 0, 768] ![1, 256, 256] inb_S1x256x4480_S1x256x256_0_0_768, k0_pay13 (View.ld X (Rect.unit ![0, 0, 256] ![1, 256, 384] inb_S1x256x3976_S1x256x384_0_0_256))⟩,
      ⟨Rect.unit ![0, 0, 640] ![1, 256, 8] inb_S1x256x4480_S1x256x8_0_0_640, k0_pay12 (View.ld X (Rect.unit ![0, 0, 2688] ![1, 256, 128] inb_S1x256x3976_S1x256x128_0_0_2688))⟩,
      ⟨Rect.unit ![0, 0, 592] ![1, 256, 16] inb_S1x256x4480_S1x256x16_0_0_592, k0_pay11 (View.ld X (Rect.unit ![0, 0, 256] ![1, 256, 128] inb_S1x256x3976_S1x256x128_0_0_256))⟩,
      ⟨Rect.unit ![0, 0, 576] ![1, 256, 16] inb_S1x256x4480_S1x256x16_0_0_576, k0_pay10 (k0_pay9 (View.ld X (Rect.unit ![0, 0, 256] ![1, 256, 128] inb_S1x256x3976_S1x256x128_0_0_256))) (Scalar.ofBits .f32 0xBF800000#32)⟩,
      ⟨Rect.unit ![0, 0, 448] ![1, 256, 32] inb_S1x256x4480_S1x256x32_0_0_448, k0_pay8 (View.ld X (Rect.unit ![0, 0, 256] ![1, 256, 128] inb_S1x256x3976_S1x256x128_0_0_256))⟩,
      ⟨Rect.unit ![0, 0, 256] ![1, 256, 128] inb_S1x256x4480_S1x256x128_0_0_256, k0_pay7 (View.ld X (Rect.unit ![0, 0, 128] ![1, 256, 256] inb_S1x256x3976_S1x256x256_0_0_128))⟩,
      ⟨Rect.unit ![0, 0, 0] ![1, 256, 192] inb_S1x256x4480_S1x256x192_0_0_0, k0_pay6 (View.ld X (Rect.unit ![0, 0, 0] ![1, 256, 256] inb_S1x256x3976_S1x256x256_0_0_0))⟩,
      ⟨Rect.unit ![0, 0, 0] ![1, 256, 4480] inb_S1x256x4480_S1x256x4480_0_0_0, (k0_pay5 (F := Ideal))⟩] :
      List (View.Piece (Elt Ideal) S1x256x4480 .bf16))

theorem outs_eq (m : (ℓ : Loc nD τ sig) → Buf (Elt Ideal) ℓ) (c : Dev nD) (t : Fin cfg0.N) (a : Fin 256) (j : Fin 4480) : outsAt0 m c t (ix3 0 a j) = block (iblk m c 0 t) (ix3 0 a j) := by
  unfold outsAt0
  frame_out

section

variable (X : Vec Ideal S1x256x3976 .f32) (a : Fin 256)

theorem at4224 (l : Fin 256) : block X (ix3 0 a ⟨4224 + l, by omega⟩) = X (ix3 0 a ⟨1120 + l, by omega⟩) := by
  unfold block
  repeat refine (beside _ _ _ a _ (by first | exact Or.inl (by dsimp only; omega) | exact Or.inr (by dsimp only; omega))).trans ?_
  refine (under _ _ _ a l _ rfl).trans ?_
  exact (p4224 _ a l).trans (cols X _ a _ _ (by dsimp only; omega))

theorem at3968 (l : Fin 256) : block X (ix3 0 a ⟨3968 + l, by omega⟩) = X (ix3 0 a ⟨864 + l, by omega⟩) := by
  unfold block
  repeat refine (beside _ _ _ a _ (by first | exact Or.inl (by dsimp only; omega) | exact Or.inr (by dsimp only; omega))).trans ?_
  refine (under _ _ _ a l _ rfl).trans ?_
  exact (p3968 _ a l).trans (cols X _ a _ _ (by dsimp only; omega))

theorem at3712 (l : Fin 256) : block X (ix3 0 a ⟨3712 + l, by omega⟩) = (X (ix3 0 a ⟨608 + l, by omega⟩) * factorB : EReal) := by
  unfold block
  repeat refine (beside _ _ _ a _ (by first | exact Or.inl (by dsimp only; omega) | exact Or.inr (by dsimp only; omega))).trans ?_
  refine (under _ _ _ a l _ rfl).trans ?_
  exact (p3712 _ a l).trans (congrArg (fun z : EReal => z * factorB) (cols X _ a _ _ (by dsimp only; omega)))

theorem at3680 (l : Fin 32) : block X (ix3 0 a ⟨3680 + l, by omega⟩) = X (ix3 0 a ⟨2656 + l, by omega⟩) := by
  unfold block
  repeat refine (beside _ _ _ a _ (by first | exact Or.inl (by dsimp only; omega) | exact Or.inr (by dsimp only; omega))).trans ?_
  refine (under _ _ _ a l _ rfl).trans ?_
  exact (p3680 _ a l).trans (cols X _ a _ _ (by dsimp only; omega))

theorem at3648 (l : Fin 32) : block X (ix3 0 a ⟨3648 + l, by omega⟩) = X (ix3 0 a ⟨2656 + l, by omega⟩) := by
  unfold block
  repeat refine (beside _ _ _ a _ (by first | exact Or.inl (by dsimp only; omega) | exact Or.inr (by dsimp only; omega))).trans ?_
  refine (under _ _ _ a l _ rfl).trans ?_
  exact (p3648 _ a l).trans (cols X _ a _ _ (by dsimp only; omega))

theorem at3616 (l : Fin 32) : block X (ix3 0 a ⟨3616 + l, by omega⟩) = X (ix3 0 a ⟨2656 + l, by omega⟩) := by
  unfold block
  repeat refine (beside _ _ _ a _ (by first | exact Or.inl (by dsimp only; omega) | exact Or.inr (by dsimp only; omega))).trans ?_
  refine (under _ _ _ a l _ rfl).trans ?_
  exact (p3616 _ a l).trans (cols X _ a _ _ (by dsimp only; omega))

theorem at3584 (l : Fin 32) : block X (ix3 0 a ⟨3584 + l, by omega⟩) = X (ix3 0 a ⟨2656 + l, by omega⟩) := by
  unfold block
  repeat refine (beside _ _ _ a _ (by first | exact Or.inl (by dsimp only; omega) | exact Or.inr (by dsimp only; omega))).trans ?_
  refine (under _ _ _ a l _ rfl).trans ?_
  exact (p3584 _ a l).trans (cols X _ a _ _ (by dsimp only; omega))

theorem at3328 (l : Fin 256) : block X (ix3 0 a ⟨3328 + l, by omega⟩) = X (ix3 0 a ⟨3208 + l, by omega⟩) := by
  unfold block
  repeat refine (beside _ _ _ a _ (by first | exact Or.inl (by dsimp only; omega) | exact Or.inr (by dsimp only; omega))).trans ?_
  refine (under _ _ _ a l _ rfl).trans ?_
  exact (p3328 _ a l).trans (cols X _ a _ _ (by dsimp only; omega))

theorem at3072 (l : Fin 256) : block X (ix3 0 a ⟨3072 + l, by omega⟩) = X (ix3 0 a ⟨2400 + l, by omega⟩) := by
  unfold block
  repeat refine (beside _ _ _ a _ (by first | exact Or.inl (by dsimp only; omega) | exact Or.inr (by dsimp only; omega))).trans ?_
  refine (under _ _ _ a l _ rfl).trans ?_
  exact (p3072 _ a l).trans (cols X _ a _ _ (by dsimp only; omega))

theorem at2816 (l : Fin 256) : block X (ix3 0 a ⟨2816 + l, by omega⟩) = X (ix3 0 a ⟨1888 + l, by omega⟩) := by
  unfold block
  repeat refine (beside _ _ _ a _ (by first | exact Or.inl (by dsimp only; omega) | exact Or.inr (by dsimp only; omega))).trans ?_
  refine (under _ _ _ a l _ rfl).trans ?_
  exact (p2816 _ a l).trans (cols X _ a _ _ (by dsimp only; omega))

theorem at2560 (l : Fin 256) : block X (ix3 0 a ⟨2560 + l, by omega⟩) = X (ix3 0 a ⟨3720 + l, by omega⟩) := by
  unfold block
  repeat refine (beside _ _ _ a _ (by first | exact Or.inl (by dsimp only; omega) | exact Or.inr (by dsimp only; omega))).trans ?_
  refine (under _ _ _ a l _ rfl).trans ?_
  exact (p2560 _ a l).trans (cols X _ a _ _ (by dsimp only; omega))

theorem at2304 (l : Fin 256) : block X (ix3 0 a ⟨2304 + l, by omega⟩) = X (ix3 0 a ⟨3464 + l, by omega⟩) := by
  unfold block
  repeat refine (beside _ _ _ a _ (by first | exact Or.inl (by dsimp only; omega) | exact Or.inr (by dsimp only; omega))).trans ?_
  refine (under _ _ _ a l _ rfl).trans ?_
  exact (p2304 _ a l).trans (cols X _ a _ _ (by dsimp only; omega))

theorem at2048 (l : Fin 256) : block X (ix3 0 a ⟨2048 + l, by omega⟩) = X (ix3 0 a ⟨2952 + l, by omega⟩) := by
  unfold block
  repeat refine (beside _ _ _ a _ (by first | exact Or.inl (by dsimp only; omega) | exact Or.inr (by dsimp only; omega))).trans ?_
  refine (under _ _ _ a l _ rfl).trans ?_
  exact (p2048 _ a l).trans (cols X _ a _ _ (by dsimp only; omega))

theorem at1792 (l : Fin 256) : block X (ix3 0 a ⟨1792 + l, by omega⟩) = X (ix3 0 a ⟨2696 + l, by omega⟩) := by
  unfold block
  repeat refine (beside _ _ _ a _ (by first | exact Or.inl (by dsimp only; omega) | exact Or.inr (by dsimp only; omega))).trans ?_
  refine (under _ _ _ a l _ rfl).trans ?_
  exact (p1792 _ a l).trans (cols X _ a _ _ (by dsimp only; omega))

theorem at1536 (l : Fin 256) : block X (ix3 0 a ⟨1536 + l, by omega⟩) = X (ix3 0 a ⟨2144 + l, by omega⟩) := by
  unfold block
  repeat refine (beside _ _ _ a _ (by first | exact Or.inl (by dsimp only; omega) | exact Or.inr (by dsimp only; omega))).trans ?_
  refine (under _ _ _ a l _ rfl).trans ?_
  exact (p1536 _ a l).trans (cols X _ a _ _ (by dsimp only; omega))

theorem at1280 (l : Fin 256) : block X (ix3 0 a ⟨1280 + l, by omega⟩) = X (ix3 0 a ⟨1632 + l, by omega⟩) := by
  unfold block
  repeat refine (beside _ _ _ a _ (by first | exact Or.inl (by dsimp only; omega) | exact Or.inr (by dsimp only; omega))).trans ?_
  refine (under _ _ _ a l _ rfl).trans ?_
  exact (p1280 _ a l).trans (cols X _ a _ _ (by dsimp only; omega))

theorem at1024 (l : Fin 256) : block X (ix3 0 a ⟨1024 + l, by omega⟩) = X (ix3 0 a ⟨1376 + l, by omega⟩) := by
  unfold block
  repeat refine (beside _ _ _ a _ (by first | exact Or.inl (by dsimp only; omega) | exact Or.inr (by dsimp only; omega))).trans ?_
  refine (under _ _ _ a l _ rfl).trans ?_
  exact (p1024 _ a l).trans (cols X _ a _ _ (by dsimp only; omega))

theorem at768 (l : Fin 256) : block X (ix3 0 a ⟨768 + l, by omega⟩) = X (ix3 0 a ⟨352 + l, by omega⟩) := by
  unfold block
  repeat refine (beside _ _ _ a _ (by first | exact Or.inl (by dsimp only; omega) | exact Or.inr (by dsimp only; omega))).trans ?_
  refine (under _ _ _ a l _ rfl).trans ?_
  exact (p768 _ a l).trans (cols X _ a _ _ (by dsimp only; omega))

theorem at640 (l : Fin 8) : block X (ix3 0 a ⟨640 + l, by omega⟩) = X (ix3 0 a ⟨2688 + l, by omega⟩) := by
  unfold block
  repeat refine (beside _ _ _ a _ (by first | exact Or.inl (by dsimp only; omega) | exact Or.inr (by dsimp only; omega))).trans ?_
  refine (under _ _ _ a l _ rfl).trans ?_
  exact (p640 _ a l).trans (cols X _ a _ _ (by dsimp only; omega))

theorem at592 (l : Fin 16) : block X (ix3 0 a ⟨592 + l, by omega⟩) = X (ix3 0 a ⟨320 + l, by omega⟩) := by
  unfold block
  repeat refine (beside _ _ _ a _ (by first | exact Or.inl (by dsimp only; omega) | exact Or.inr (by dsimp only; omega))).trans ?_
  refine (under _ _ _ a l _ rfl).trans ?_
  exact (p592 _ a l).trans (cols X _ a _ _ (by dsimp only; omega))

theorem at576 (l : Fin 16) : block X (ix3 0 a ⟨576 + l, by omega⟩) = (-(X (ix3 0 a ⟨336 + l, by omega⟩)) : EReal) := by
  unfold block
  repeat refine (beside _ _ _ a _ (by first | exact Or.inl (by dsimp only; omega) | exact Or.inr (by dsimp only; omega))).trans ?_
  refine (under _ _ _ a l _ rfl).trans ?_
  exact (p576 _ a l).trans (congrArg (fun z : EReal => -z) (cols X _ a _ _ (by dsimp only; omega)))

theorem at448 (l : Fin 32) : block X (ix3 0 a ⟨448 + l, by omega⟩) = X (ix3 0 a ⟨320 + l, by omega⟩) := by
  unfold block
  repeat refine (beside _ _ _ a _ (by first | exact Or.inl (by dsimp only; omega) | exact Or.inr (by dsimp only; omega))).trans ?_
  refine (under _ _ _ a l _ rfl).trans ?_
  exact (p448 _ a l).trans (cols X _ a _ _ (by dsimp only; omega))

theorem at256 (l : Fin 128) : block X (ix3 0 a ⟨256 + l, by omega⟩) = X (ix3 0 a ⟨192 + l, by omega⟩) := by
  unfold block
  repeat refine (beside _ _ _ a _ (by first | exact Or.inl (by dsimp only; omega) | exact Or.inr (by dsimp only; omega))).trans ?_
  refine (under _ _ _ a l _ rfl).trans ?_
  exact (p256 _ a l).trans (cols X _ a _ _ (by dsimp only; omega))

theorem at0 (l : Fin 192) : block X (ix3 0 a ⟨0 + l, by omega⟩) = X (ix3 0 a ⟨0 + l, by omega⟩) := by
  unfold block
  repeat refine (beside _ _ _ a _ (by first | exact Or.inl (by dsimp only; omega) | exact Or.inr (by dsimp only; omega))).trans ?_
  refine (under _ _ _ a l _ rfl).trans ?_
  exact (p0 _ a l).trans (cols X _ a _ _ (by dsimp only; omega))

theorem at192 (l : Fin 64) : block X (ix3 0 a ⟨192 + l, by omega⟩) = (0 : EReal) := by
  unfold block
  iterate 24 refine (beside _ _ _ a _ (by first | exact Or.inl (by dsimp only; omega) | exact Or.inr (by dsimp only; omega))).trans ?_
  refine (under _ _ _ a ⟨192 + l, by omega⟩ _ (by dsimp only; omega)).trans ?_
  exact zero_pay a _

theorem at384 (l : Fin 64) : block X (ix3 0 a ⟨384 + l, by omega⟩) = (0 : EReal) := by
  unfold block
  iterate 24 refine (beside _ _ _ a _ (by first | exact Or.inl (by dsimp only; omega) | exact Or.inr (by dsimp only; omega))).trans ?_
  refine (under _ _ _ a ⟨384 + l, by omega⟩ _ (by dsimp only; omega)).trans ?_
  exact zero_pay a _

theorem at480 (l : Fin 96) : block X (ix3 0 a ⟨480 + l, by omega⟩) = (0 : EReal) := by
  unfold block
  iterate 24 refine (beside _ _ _ a _ (by first | exact Or.inl (by dsimp only; omega) | exact Or.inr (by dsimp only; omega))).trans ?_
  refine (under _ _ _ a ⟨480 + l, by omega⟩ _ (by dsimp only; omega)).trans ?_
  exact zero_pay a _

theorem at608 (l : Fin 32) : block X (ix3 0 a ⟨608 + l, by omega⟩) = (0 : EReal) := by
  unfold block
  iterate 24 refine (beside _ _ _ a _ (by first | exact Or.inl (by dsimp only; omega) | exact Or.inr (by dsimp only; omega))).trans ?_
  refine (under _ _ _ a ⟨608 + l, by omega⟩ _ (by dsimp only; omega)).trans ?_
  exact zero_pay a _

theorem at648 (l : Fin 120) : block X (ix3 0 a ⟨648 + l, by omega⟩) = (0 : EReal) := by
  unfold block
  iterate 24 refine (beside _ _ _ a _ (by first | exact Or.inl (by dsimp only; omega) | exact Or.inr (by dsimp only; omega))).trans ?_
  refine (under _ _ _ a ⟨648 + l, by omega⟩ _ (by dsimp only; omega)).trans ?_
  exact zero_pay a _

end

end Cert.Arrange
-- ==== Proof.ArrRef.lean ====
/-
The reference's arrangement of the input weights, column range by column range.
-/
module

public import proofs.«01_k».proof.Proof.Gen.Reference5Ideal.Run
public import proofs.«01_k».proof.Proof.Arrange
public import proofs.«01_k».proof.Proof.MlaRef

set_option maxRecDepth 16384

@[expose] public section

namespace Cert.Arrange

open Idealize.ShloMosaic Idealize.SL.Sem
open Cert.Reference5Ideal Cert.Reference5Ideal.Gen

/-- The factor of the second mixer's queries, as the reference computes it. -/
noncomputable def scaleB : FVec Ideal S_ .f32 :=
  Host.divf (constant S_ .f32 0x3F800000#32) (mulf (Host.sqrt (constant S_ .f32 0x42800000#32)) (Host.log (constant S_ .f32 0x40000000#32)))

theorem scaleB_eq (i : S_.Idx) : scaleB i = factorB := by
  have bits64 : Ideal.ofBits .f32 0x42800000#32 = ((64 : ℝ) : EReal) := by
    simp [Ideal.ofBits, Ideal.ieee, -EReal.coe_mul]; norm_num
  show Ideal.div (Ideal.ofBits .f32 0x3F800000#32) (Ideal.sqrt (Ideal.ofBits .f32 0x42800000#32) * Ideal.log (Ideal.ofBits .f32 0x40000000#32)) = _
  rw [Ideal.ofBits_one_f32, bits64, Cert.InProj.bits2, Ideal.sqrt_coe, Ideal.log_coe, if_neg (by norm_num), if_neg (by norm_num), ← EReal.coe_mul,
    Cert.Attn.div_coe _ (mul_ne_zero (Real.sqrt_ne_zero'.2 (by norm_num)) (Real.log_pos (by norm_num)).ne'), one_mul, mul_inv]
  rfl

section

variable (w : FVec Ideal S2x1024x3976 .f32)

/-- The columns the first mixer's latents are made of, with their rotated copies and the padding. -/
noncomputable def left : FVec Ideal S2x1024x640 .f32 :=
  concatenate S2x1024x640 2 [⟨S2x1024x192, extractStridedSlice S2x1024x192 ![0, 0, 0] w slices_S2x1024x3976_S2x1024x192_0_0_0⟩,
    ⟨S2x1024x64, broadcastInDim S2x1024x64 ![] bcast_S_S2x1024x64 (constant S_ .f32 0x00000000#32)⟩,
    ⟨S2x1024x128, extractStridedSlice S2x1024x128 ![0, 0, 192] w slices_S2x1024x3976_S2x1024x128_0_0_192⟩,
    ⟨S2x1024x64, broadcastInDim S2x1024x64 ![] bcast_S_S2x1024x64 (constant S_ .f32 0x00000000#32)⟩,
    ⟨S2x1024x32, extractStridedSlice S2x1024x32 ![0, 0, 320] w slices_S2x1024x3976_S2x1024x32_0_0_320⟩,
    ⟨S2x1024x96, broadcastInDim S2x1024x96 ![] bcast_S_S2x1024x96 (constant S_ .f32 0x00000000#32)⟩,
    ⟨S2x1024x16, Host.negf (extractStridedSlice S2x1024x16 ![0, 0, 16] (extractStridedSlice S2x1024x32 ![0, 0, 320] w slices_S2x1024x3976_S2x1024x32_0_0_320) slices_S2x1024x32_S2x1024x16_0_0_16)⟩,
    ⟨S2x1024x16, extractStridedSlice S2x1024x16 ![0, 0, 0] (extractStridedSlice S2x1024x32 ![0, 0, 320] w slices_S2x1024x3976_S2x1024x32_0_0_320) slices_S2x1024x32_S2x1024x16_0_0_0⟩,
    ⟨S2x1024x32, broadcastInDim S2x1024x32 ![] bcast_S_S2x1024x32 (constant S_ .f32 0x00000000#32)⟩]
    concatenates_S2x1024x192_S2x1024x64_S2x1024x128_S2x1024x64_S2x1024x32_S2x1024x96_S2x1024x16_S2x1024x16_S2x1024x32_S2x1024x640_d2

/-- The columns of the single precision outputs. -/
noncomputable def mid : FVec Ideal S2x1024x2176 .f32 :=
  concatenate S2x1024x2176 2 [⟨S2x1024x8, extractStridedSlice S2x1024x8 ![0, 0, 2688] w slices_S2x1024x3976_S2x1024x8_0_0_2688⟩,
    ⟨S2x1024x120, broadcastInDim S2x1024x120 ![] bcast_S_S2x1024x120 (constant S_ .f32 0x00000000#32)⟩,
    ⟨S2x1024x256, extractStridedSlice S2x1024x256 ![0, 0, 352] w slices_S2x1024x3976_S2x1024x256_0_0_352⟩,
    ⟨S2x1024x256, extractStridedSlice S2x1024x256 ![0, 0, 1376] w slices_S2x1024x3976_S2x1024x256_0_0_1376⟩,
    ⟨S2x1024x256, extractStridedSlice S2x1024x256 ![0, 0, 1632] w slices_S2x1024x3976_S2x1024x256_0_0_1632⟩,
    ⟨S2x1024x256, extractStridedSlice S2x1024x256 ![0, 0, 2144] w slices_S2x1024x3976_S2x1024x256_0_0_2144⟩,
    ⟨S2x1024x256, extractStridedSlice S2x1024x256 ![0, 0, 2696] w slices_S2x1024x3976_S2x1024x256_0_0_2696⟩,
    ⟨S2x1024x256, extractStridedSlice S2x1024x256 ![0, 0, 2952] w slices_S2x1024x3976_S2x1024x256_0_0_2952⟩,
    ⟨S2x1024x256, extractStridedSlice S2x1024x256 ![0, 0, 3464] w slices_S2x1024x3976_S2x1024x256_0_0_3464⟩,
    ⟨S2x1024x256, extractStridedSlice S2x1024x256 ![0, 0, 3720] w slices_S2x1024x3976_S2x1024x256_0_0_3720⟩]
    concatenates_S2x1024x8_S2x1024x120_S2x1024x256_S2x1024x256_S2x1024x256_S2x1024x256_S2x1024x256_S2x1024x256_S2x1024x256_S2x1024x256_S2x1024x2176_d2

/-- The columns of the half precision outputs. -/
noncomputable def right : FVec Ideal S2x1024x896 .f32 :=
  concatenate S2x1024x896 2 [⟨S2x1024x256, extractStridedSlice S2x1024x256 ![0, 0, 1888] w slices_S2x1024x3976_S2x1024x256_0_0_1888⟩,
    ⟨S2x1024x256, extractStridedSlice S2x1024x256 ![0, 0, 2400] w slices_S2x1024x3976_S2x1024x256_0_0_2400⟩,
    ⟨S2x1024x256, extractStridedSlice S2x1024x256 ![0, 0, 3208] w slices_S2x1024x3976_S2x1024x256_0_0_3208⟩,
    ⟨S2x1024x32, extractStridedSlice S2x1024x32 ![0, 0, 2656] w slices_S2x1024x3976_S2x1024x32_0_0_2656⟩,
    ⟨S2x1024x32, extractStridedSlice S2x1024x32 ![0, 0, 2656] w slices_S2x1024x3976_S2x1024x32_0_0_2656⟩,
    ⟨S2x1024x32, extractStridedSlice S2x1024x32 ![0, 0, 2656] w slices_S2x1024x3976_S2x1024x32_0_0_2656⟩,
    ⟨S2x1024x32, extractStridedSlice S2x1024x32 ![0, 0, 2656] w slices_S2x1024x3976_S2x1024x32_0_0_2656⟩]
    concatenates_S2x1024x256_S2x1024x256_S2x1024x256_S2x1024x32_S2x1024x32_S2x1024x32_S2x1024x32_S2x1024x896_d2

/-- The columns of the second mixer, its queries multiplied by the factor. -/
noncomputable def slabs : FVec Ideal S2x1024x768 .f32 :=
  concatenate S2x1024x768 2 [⟨S2x1024x256, mulf (extractStridedSlice S2x1024x256 ![0, 0, 608] w slices_S2x1024x3976_S2x1024x256_0_0_608) (broadcastInDim S2x1024x256 ![] bcast_S_S2x1024x256 scaleB)⟩,
    ⟨S2x1024x256, extractStridedSlice S2x1024x256 ![0, 0, 864] w slices_S2x1024x3976_S2x1024x256_0_0_864⟩,
    ⟨S2x1024x256, extractStridedSlice S2x1024x256 ![0, 0, 1120] w slices_S2x1024x3976_S2x1024x256_0_0_1120⟩]
    concatenates_S2x1024x256_S2x1024x256_S2x1024x256_S2x1024x768_d2

/-- The four side by side: the reference's result. -/
noncomputable def arranged : FVec Ideal S2x1024x4480 .bf16 :=
  truncf .bf16 (concatenate S2x1024x4480 2 [⟨S2x1024x640, left w⟩, ⟨S2x1024x2176, mid w⟩, ⟨S2x1024x896, right w⟩, ⟨S2x1024x768, slabs w⟩]
    concatenates_S2x1024x640_S2x1024x2176_S2x1024x896_S2x1024x768_S2x1024x4480_d2) bitsLt_bf16_f32

theorem result_eq (m : (ℓ : Loc nD τ sig) → Buf (Elt Ideal) ℓ) (c : Dev nD) (e : m ((c.tc : Thread nD τ).loc main_arg0) = w) :
    Cert.Reference5Ideal.Value.res_out0 m c = arranged w := by
  subst e
  rfl

variable (d : Fin 2) (k : Fin 1024)

/-! ## The parts side by side -/

theorem part_left (j : Fin 640) : arranged w (ix3 d k ⟨0 + j, by omega⟩) = left w (ix3 d k j) := by
  unfold arranged
  generalize left w = L
  generalize mid w = M
  generalize right w = R
  generalize slabs w = S
  pointwise
  all_goals
    repeat first | rw [dif_pos (by omega)] | rw [dif_neg (by omega)]
    exact congrArg (fun l => L (ix3 d k l)) (Fin.ext (by dsimp only; omega))

theorem part_mid (j : Fin 2176) : arranged w (ix3 d k ⟨640 + j, by omega⟩) = mid w (ix3 d k j) := by
  unfold arranged
  generalize left w = L
  generalize mid w = M
  generalize right w = R
  generalize slabs w = S
  pointwise
  all_goals
    repeat first | rw [dif_pos (by omega)] | rw [dif_neg (by omega)]
    exact congrArg (fun l => M (ix3 d k l)) (Fin.ext (by dsimp only; omega))

theorem part_right (j : Fin 896) : arranged w (ix3 d k ⟨2816 + j, by omega⟩) = right w (ix3 d k j) := by
  unfold arranged
  generalize left w = L
  generalize mid w = M
  generalize right w = R
  generalize slabs w = S
  pointwise
  all_goals
    repeat first | rw [dif_pos (by omega)] | rw [dif_neg (by omega)]
    exact congrArg (fun l => R (ix3 d k l)) (Fin.ext (by dsimp only; omega))

theorem part_slabs (j : Fin 768) : arranged w (ix3 d k ⟨3712 + j, by omega⟩) = slabs w (ix3 d k j) := by
  unfold arranged
  generalize left w = L
  generalize mid w = M
  generalize right w = R
  generalize slabs w = S
  pointwise
  all_goals
    repeat first | rw [dif_pos (by omega)] | rw [dif_neg (by omega)]
    exact congrArg (fun l => S (ix3 d k l)) (Fin.ext (by dsimp only; omega))

/-! ## The column ranges -/

theorem ref0 (l : Fin 192) : arranged w (ix3 d k ⟨0 + l, by omega⟩) = w (ix3 d k ⟨0 + l, by omega⟩) := by
  refine Eq.trans ?_ ((part_left w d k ⟨0 + l, by omega⟩).trans ?_)
  · exact congrArg (fun q => arranged w (ix3 d k q)) (Fin.ext (by show 0 + l.val = 0 + (0 + l.val); omega))
  · pointwise [left]
    all_goals
      repeat first | rw [dif_pos (by omega)] | rw [dif_neg (by omega)]
      exact congrArg (fun q => w (ix3 d k q)) (Fin.ext (by dsimp only; omega))

theorem ref192 (l : Fin 64) : arranged w (ix3 d k ⟨192 + l, by omega⟩) = (0 : EReal) := by
  refine Eq.trans ?_ ((part_left w d k ⟨192 + l, by omega⟩).trans ?_)
  · exact congrArg (fun q => arranged w (ix3 d k q)) (Fin.ext (by show 192 + l.val = 0 + (192 + l.val); omega))
  · refine Eq.trans ?_ Ideal.ofBits_zero_f32
    pointwise [left]
    all_goals
      repeat first | rw [dif_pos (by omega)] | rw [dif_neg (by omega)]

theorem ref256 (l : Fin 128) : arranged w (ix3 d k ⟨256 + l, by omega⟩) = w (ix3 d k ⟨192 + l, by omega⟩) := by
  refine Eq.trans ?_ ((part_left w d k ⟨256 + l, by omega⟩).trans ?_)
  · exact congrArg (fun q => arranged w (ix3 d k q)) (Fin.ext (by show 256 + l.val = 0 + (256 + l.val); omega))
  · pointwise [left]
    all_goals
      repeat first | rw [dif_pos (by omega)] | rw [dif_neg (by omega)]
      exact congrArg (fun q => w (ix3 d k q)) (Fin.ext (by dsimp only; omega))

theorem ref384 (l : Fin 64) : arranged w (ix3 d k ⟨384 + l, by omega⟩) = (0 : EReal) := by
  refine Eq.trans ?_ ((part_left w d k ⟨384 + l, by omega⟩).trans ?_)
  · exact congrArg (fun q => arranged w (ix3 d k q)) (Fin.ext (by show 384 + l.val = 0 + (384 + l.val); omega))
  · refine Eq.trans ?_ Ideal.ofBits_zero_f32
    pointwise [left]
    all_goals
      repeat first | rw [dif_pos (by omega)] | rw [dif_neg (by omega)]

theorem ref448 (l : Fin 32) : arranged w (ix3 d k ⟨448 + l, by omega⟩) = w (ix3 d k ⟨320 + l, by omega⟩) := by
  refine Eq.trans ?_ ((part_left w d k ⟨448 + l, by omega⟩).trans ?_)
  · exact congrArg (fun q => arranged w (ix3 d k q)) (Fin.ext (by show 448 + l.val = 0 + (448 + l.val); omega))
  · pointwise [left]
    all_goals
      repeat first | rw [dif_pos (by omega)] | rw [dif_neg (by omega)]
      exact congrArg (fun q => w (ix3 d k q)) (Fin.ext (by dsimp only; omega))

theorem ref480 (l : Fin 96) : arranged w (ix3 d k ⟨480 + l, by omega⟩) = (0 : EReal) := by
  refine Eq.trans ?_ ((part_left w d k ⟨480 + l, by omega⟩).trans ?_)
  · exact congrArg (fun q => arranged w (ix3 d k q)) (Fin.ext (by show 480 + l.val = 0 + (480 + l.val); omega))
  · refine Eq.trans ?_ Ideal.ofBits_zero_f32
    pointwise [left]
    all_goals
      repeat first | rw [dif_pos (by omega)] | rw [dif_neg (by omega)]

theorem ref576 (l : Fin 16) : arranged w (ix3 d k ⟨576 + l, by omega⟩) = (-(w (ix3 d k ⟨336 + l, by omega⟩)) : EReal) := by
  refine Eq.trans ?_ ((part_left w d k ⟨576 + l, by omega⟩).trans ?_)
  · exact congrArg (fun q => arranged w (ix3 d k q)) (Fin.ext (by show 576 + l.val = 0 + (576 + l.val); omega))
  · pointwise [left]
    all_goals
      repeat first | rw [dif_pos (by omega)] | rw [dif_neg (by omega)]
      exact congrArg (fun q => (-(w (ix3 d k q)) : EReal)) (Fin.ext (by dsimp only; omega))

theorem ref592 (l : Fin 16) : arranged w (ix3 d k ⟨592 + l, by omega⟩) = w (ix3 d k ⟨320 + l, by omega⟩) := by
  refine Eq.trans ?_ ((part_left w d k ⟨592 + l, by omega⟩).trans ?_)
  · exact congrArg (fun q => arranged w (ix3 d k q)) (Fin.ext (by show 592 + l.val = 0 + (592 + l.val); omega))
  · pointwise [left]
    all_goals
      repeat first | rw [dif_pos (by omega)] | rw [dif_neg (by omega)]
      exact congrArg (fun q => w (ix3 d k q)) (Fin.ext (by dsimp only; omega))

theorem ref608 (l : Fin 32) : arranged w (ix3 d k ⟨608 + l, by omega⟩) = (0 : EReal) := by
  refine Eq.trans ?_ ((part_left w d k ⟨608 + l, by omega⟩).trans ?_)
  · exact congrArg (fun q => arranged w (ix3 d k q)) (Fin.ext (by show 608 + l.val = 0 + (608 + l.val); omega))
  · refine Eq.trans ?_ Ideal.ofBits_zero_f32
    pointwise [left]
    all_goals
      repeat first | rw [dif_pos (by omega)] | rw [dif_neg (by omega)]

theorem ref640 (l : Fin 8) : arranged w (ix3 d k ⟨640 + l, by omega⟩) = w (ix3 d k ⟨2688 + l, by omega⟩) := by
  refine Eq.trans ?_ ((part_mid w d k ⟨0 + l, by omega⟩).trans ?_)
  · exact congrArg (fun q => arranged w (ix3 d k q)) (Fin.ext (by show 640 + l.val = 640 + (0 + l.val); omega))
  · pointwise [mid]
    all_goals
      repeat first | rw [dif_pos (by omega)] | rw [dif_neg (by omega)]
      exact congrArg (fun q => w (ix3 d k q)) (Fin.ext (by dsimp only; omega))

theorem ref648 (l : Fin 120) : arranged w (ix3 d k ⟨648 + l, by omega⟩) = (0 : EReal) := by
  refine Eq.trans ?_ ((part_mid w d k ⟨8 + l, by omega⟩).trans ?_)
  · exact congrArg (fun q => arranged w (ix3 d k q)) (Fin.ext (by show 648 + l.val = 640 + (8 + l.val); omega))
  · refine Eq.trans ?_ Ideal.ofBits_zero_f32
    pointwise [mid]
    all_goals
      repeat first | rw [dif_pos (by omega)] | rw [dif_neg (by omega)]

theorem ref768 (l : Fin 256) : arranged w (ix3 d k ⟨768 + l, by omega⟩) = w (ix3 d k ⟨352 + l, by omega⟩) := by
  refine Eq.trans ?_ ((part_mid w d k ⟨128 + l, by omega⟩).trans ?_)
  · exact congrArg (fun q => arranged w (ix3 d k q)) (Fin.ext (by show 768 + l.val = 640 + (128 + l.val); omega))
  · pointwise [mid]
    all_goals
      repeat first | rw [dif_pos (by omega)] | rw [dif_neg (by omega)]
      exact congrArg (fun q => w (ix3 d k q)) (Fin.ext (by dsimp only; omega))

theorem ref1024 (l : Fin 256) : arranged w (ix3 d k ⟨1024 + l, by omega⟩) = w (ix3 d k ⟨1376 + l, by omega⟩) := by
  refine Eq.trans ?_ ((part_mid w d k ⟨384 + l, by omega⟩).trans ?_)
  · exact congrArg (fun q => arranged w (ix3 d k q)) (Fin.ext (by show 1024 + l.val = 640 + (384 + l.val); omega))
  · pointwise [mid]
    all_goals
      repeat first | rw [dif_pos (by omega)] | rw [dif_neg (by omega)]
      exact congrArg (fun q => w (ix3 d k q)) (Fin.ext (by dsimp only; omega))

theorem ref1280 (l : Fin 256) : arranged w (ix3 d k ⟨1280 + l, by omega⟩) = w (ix3 d k ⟨1632 + l, by omega⟩) := by
  refine Eq.trans ?_ ((part_mid w d k ⟨640 + l, by omega⟩).trans ?_)
  · exact congrArg (fun q => arranged w (ix3 d k q)) (Fin.ext (by show 1280 + l.val = 640 + (640 + l.val); omega))
  · pointwise [mid]
    all_goals
      repeat first | rw [dif_pos (by omega)] | rw [dif_neg (by omega)]
      exact congrArg (fun q => w (ix3 d k q)) (Fin.ext (by dsimp only; omega))

theorem ref1536 (l : Fin 256) : arranged w (ix3 d k ⟨1536 + l, by omega⟩) = w (ix3 d k ⟨2144 + l, by omega⟩) := by
  refine Eq.trans ?_ ((part_mid w d k ⟨896 + l, by omega⟩).trans ?_)
  · exact congrArg (fun q => arranged w (ix3 d k q)) (Fin.ext (by show 1536 + l.val = 640 + (896 + l.val); omega))
  · pointwise [mid]
    all_goals
      repeat first | rw [dif_pos (by omega)] | rw [dif_neg (by omega)]
      exact congrArg (fun q => w (ix3 d k q)) (Fin.ext (by dsimp only; omega))

theorem ref1792 (l : Fin 256) : arranged w (ix3 d k ⟨1792 + l, by omega⟩) = w (ix3 d k ⟨2696 + l, by omega⟩) := by
  refine Eq.trans ?_ ((part_mid w d k ⟨1152 + l, by omega⟩).trans ?_)
  · exact congrArg (fun q => arranged w (ix3 d k q)) (Fin.ext (by show 1792 + l.val = 640 + (1152 + l.val); omega))
  · pointwise [mid]
    all_goals
      repeat first | rw [dif_pos (by omega)] | rw [dif_neg (by omega)]
      exact congrArg (fun q => w (ix3 d k q)) (Fin.ext (by dsimp only; omega))

theorem ref2048 (l : Fin 256) : arranged w (ix3 d k ⟨2048 + l, by omega⟩) = w (ix3 d k ⟨2952 + l, by omega⟩) := by
  refine Eq.trans ?_ ((part_mid w d k ⟨1408 + l, by omega⟩).trans ?_)
  · exact congrArg (fun q => arranged w (ix3 d k q)) (Fin.ext (by show 2048 + l.val = 640 + (1408 + l.val); omega))
  · pointwise [mid]
    all_goals
      repeat first | rw [dif_pos (by omega)] | rw [dif_neg (by omega)]
      exact congrArg (fun q => w (ix3 d k q)) (Fin.ext (by dsimp only; omega))

theorem ref2304 (l : Fin 256) : arranged w (ix3 d k ⟨2304 + l, by omega⟩) = w (ix3 d k ⟨3464 + l, by omega⟩) := by
  refine Eq.trans ?_ ((part_mid w d k ⟨1664 + l, by omega⟩).trans ?_)
  · exact congrArg (fun q => arranged w (ix3 d k q)) (Fin.ext (by show 2304 + l.val = 640 + (1664 + l.val); omega))
  · pointwise [mid]
    all_goals
      repeat first | rw [dif_pos (by omega)] | rw [dif_neg (by omega)]
      exact congrArg (fun q => w (ix3 d k q)) (Fin.ext (by dsimp only; omega))

theorem ref2560 (l : Fin 256) : arranged w (ix3 d k ⟨2560 + l, by omega⟩) = w (ix3 d k ⟨3720 + l, by omega⟩) := by
  refine Eq.trans ?_ ((part_mid w d k ⟨1920 + l, by omega⟩).trans ?_)
  · exact congrArg (fun q => arranged w (ix3 d k q)) (Fin.ext (by show 2560 + l.val = 640 + (1920 + l.val); omega))
  · pointwise [mid]
    all_goals
      repeat first | rw [dif_pos (by omega)] | rw [dif_neg (by omega)]
      exact congrArg (fun q => w (ix3 d k q)) (Fin.ext (by dsimp only; omega))

theorem ref2816 (l : Fin 256) : arranged w (ix3 d k ⟨2816 + l, by omega⟩) = w (ix3 d k ⟨1888 + l, by omega⟩) := by
  refine Eq.trans ?_ ((part_right w d k ⟨0 + l, by omega⟩).trans ?_)
  · exact congrArg (fun q => arranged w (ix3 d k q)) (Fin.ext (by show 2816 + l.val = 2816 + (0 + l.val); omega))
  · pointwise [right]
    all_goals
      repeat first | rw [dif_pos (by omega)] | rw [dif_neg (by omega)]
      exact congrArg (fun q => w (ix3 d k q)) (Fin.ext (by dsimp only; omega))

theorem ref3072 (l : Fin 256) : arranged w (ix3 d k ⟨3072 + l, by omega⟩) = w (ix3 d k ⟨2400 + l, by omega⟩) := by
  refine Eq.trans ?_ ((part_right w d k ⟨256 + l, by omega⟩).trans ?_)
  · exact congrArg (fun q => arranged w (ix3 d k q)) (Fin.ext (by show 3072 + l.val = 2816 + (256 + l.val); omega))
  · pointwise [right]
    all_goals
      repeat first | rw [dif_pos (by omega)] | rw [dif_neg (by omega)]
      exact congrArg (fun q => w (ix3 d k q)) (Fin.ext (by dsimp only; omega))

theorem ref3328 (l : Fin 256) : arranged w (ix3 d k ⟨3328 + l, by omega⟩) = w (ix3 d k ⟨3208 + l, by omega⟩) := by
  refine Eq.trans ?_ ((part_right w d k ⟨512 + l, by omega⟩).trans ?_)
  · exact congrArg (fun q => arranged w (ix3 d k q)) (Fin.ext (by show 3328 + l.val = 2816 + (512 + l.val); omega))
  · pointwise [right]
    all_goals
      repeat first | rw [dif_pos (by omega)] | rw [dif_neg (by omega)]
      exact congrArg (fun q => w (ix3 d k q)) (Fin.ext (by dsimp only; omega))

theorem ref3584 (l : Fin 32) : arranged w (ix3 d k ⟨3584 + l, by omega⟩) = w (ix3 d k ⟨2656 + l, by omega⟩) := by
  refine Eq.trans ?_ ((part_right w d k ⟨768 + l, by omega⟩).trans ?_)
  · exact congrArg (fun q => arranged w (ix3 d k q)) (Fin.ext (by show 3584 + l.val = 2816 + (768 + l.val); omega))
  · pointwise [right]
    all_goals
      repeat first | rw [dif_pos (by omega)] | rw [dif_neg (by omega)]
      exact congrArg (fun q => w (ix3 d k q)) (Fin.ext (by dsimp only; omega))

theorem ref3616 (l : Fin 32) : arranged w (ix3 d k ⟨3616 + l, by omega⟩) = w (ix3 d k ⟨2656 + l, by omega⟩) := by
  refine Eq.trans ?_ ((part_right w d k ⟨800 + l, by omega⟩).trans ?_)
  · exact congrArg (fun q => arranged w (ix3 d k q)) (Fin.ext (by show 3616 + l.val = 2816 + (800 + l.val); omega))
  · pointwise [right]
    all_goals
      repeat first | rw [dif_pos (by omega)] | rw [dif_neg (by omega)]
      exact congrArg (fun q => w (ix3 d k q)) (Fin.ext (by dsimp only; omega))

theorem ref3648 (l : Fin 32) : arranged w (ix3 d k ⟨3648 + l, by omega⟩) = w (ix3 d k ⟨2656 + l, by omega⟩) := by
  refine Eq.trans ?_ ((part_right w d k ⟨832 + l, by omega⟩).trans ?_)
  · exact congrArg (fun q => arranged w (ix3 d k q)) (Fin.ext (by show 3648 + l.val = 2816 + (832 + l.val); omega))
  · pointwise [right]
    all_goals
      repeat first | rw [dif_pos (by omega)] | rw [dif_neg (by omega)]
      exact congrArg (fun q => w (ix3 d k q)) (Fin.ext (by dsimp only; omega))

theorem ref3680 (l : Fin 32) : arranged w (ix3 d k ⟨3680 + l, by omega⟩) = w (ix3 d k ⟨2656 + l, by omega⟩) := by
  refine Eq.trans ?_ ((part_right w d k ⟨864 + l, by omega⟩).trans ?_)
  · exact congrArg (fun q => arranged w (ix3 d k q)) (Fin.ext (by show 3680 + l.val = 2816 + (864 + l.val); omega))
  · pointwise [right]
    all_goals
      repeat first | rw [dif_pos (by omega)] | rw [dif_neg (by omega)]
      exact congrArg (fun q => w (ix3 d k q)) (Fin.ext (by dsimp only; omega))

theorem ref3712 (l : Fin 256) : arranged w (ix3 d k ⟨3712 + l, by omega⟩) = (w (ix3 d k ⟨608 + l, by omega⟩) * factorB : EReal) := by
  refine Eq.trans ?_ ((part_slabs w d k ⟨0 + l, by omega⟩).trans ?_)
  · exact congrArg (fun q => arranged w (ix3 d k q)) (Fin.ext (by show 3712 + l.val = 3712 + (0 + l.val); omega))
  · rw [← scaleB_eq ix0]
    unfold slabs
    generalize scaleB = s
    pointwise
    all_goals
      repeat first | rw [dif_pos (by omega)] | rw [dif_neg (by omega)]
      exact congrArg (fun q => (w (ix3 d k q) * s ix0 : EReal)) (Fin.ext (by dsimp only; omega))

theorem ref3968 (l : Fin 256) : arranged w (ix3 d k ⟨3968 + l, by omega⟩) = w (ix3 d k ⟨864 + l, by omega⟩) := by
  refine Eq.trans ?_ ((part_slabs w d k ⟨256 + l, by omega⟩).trans ?_)
  · exact congrArg (fun q => arranged w (ix3 d k q)) (Fin.ext (by show 3968 + l.val = 3712 + (256 + l.val); omega))
  · pointwise [slabs]
    all_goals
      repeat first | rw [dif_pos (by omega)] | rw [dif_neg (by omega)]
      exact congrArg (fun q => w (ix3 d k q)) (Fin.ext (by dsimp only; omega))

theorem ref4224 (l : Fin 256) : arranged w (ix3 d k ⟨4224 + l, by omega⟩) = w (ix3 d k ⟨1120 + l, by omega⟩) := by
  refine Eq.trans ?_ ((part_slabs w d k ⟨512 + l, by omega⟩).trans ?_)
  · exact congrArg (fun q => arranged w (ix3 d k q)) (Fin.ext (by show 4224 + l.val = 3712 + (512 + l.val); omega))
  · pointwise [slabs]
    all_goals
      repeat first | rw [dif_pos (by omega)] | rw [dif_neg (by omega)]
      exact congrArg (fun q => w (ix3 d k q)) (Fin.ext (by dsimp only; omega))

/-- A block of the kernel is the reference's rows, where its operand is the rows of the weights. -/
theorem same (X : Vec Ideal Cert.Kernel5Ideal.S1x256x3976 .f32) (a : Fin 256) (h : ∀ q : Fin 3976, X (ix3 0 a q) = w (ix3 d k q)) (j : Fin 4480) :
    block X (ix3 0 a j) = arranged w (ix3 d k j) := by
  rcases Nat.lt_or_ge j.val 1536 with h1536 | h1536
  · rcases Nat.lt_or_ge j.val 592 with h592 | h592
    · rcases Nat.lt_or_ge j.val 384 with h384 | h384
      · rcases Nat.lt_or_ge j.val 192 with h192 | h192
        · have e : (⟨0 + (j - 0), by omega⟩ : Fin 4480) = j := Fin.ext (by dsimp only; omega)
          have r := (at0 X a ⟨j - 0, by omega⟩).trans ((h _).trans (ref0 w d k ⟨j - 0, by omega⟩).symm)
          dsimp only at r
          rwa [e] at r
        · rcases Nat.lt_or_ge j.val 256 with h256 | h256
          · have e : (⟨192 + (j - 192), by omega⟩ : Fin 4480) = j := Fin.ext (by dsimp only; omega)
            have r := (at192 X a ⟨j - 192, by omega⟩).trans (ref192 w d k ⟨j - 192, by omega⟩).symm
            dsimp only at r
            rwa [e] at r
          · have e : (⟨256 + (j - 256), by omega⟩ : Fin 4480) = j := Fin.ext (by dsimp only; omega)
            have r := (at256 X a ⟨j - 256, by omega⟩).trans ((h _).trans (ref256 w d k ⟨j - 256, by omega⟩).symm)
            dsimp only at r
            rwa [e] at r
      · rcases Nat.lt_or_ge j.val 480 with h480 | h480
        · rcases Nat.lt_or_ge j.val 448 with h448 | h448
          · have e : (⟨384 + (j - 384), by omega⟩ : Fin 4480) = j := Fin.ext (by dsimp only; omega)
            have r := (at384 X a ⟨j - 384, by omega⟩).trans (ref384 w d k ⟨j - 384, by omega⟩).symm
            dsimp only at r
            rwa [e] at r
          · have e : (⟨448 + (j - 448), by omega⟩ : Fin 4480) = j := Fin.ext (by dsimp only; omega)
            have r := (at448 X a ⟨j - 448, by omega⟩).trans ((h _).trans (ref448 w d k ⟨j - 448, by omega⟩).symm)
            dsimp only at r
            rwa [e] at r
        · rcases Nat.lt_or_ge j.val 576 with h576 | h576
          · have e : (⟨480 + (j - 480), by omega⟩ : Fin 4480) = j := Fin.ext (by dsimp only; omega)
            have r := (at480 X a ⟨j - 480, by omega⟩).trans (ref480 w d k ⟨j - 480, by omega⟩).symm
            dsimp only at r
            rwa [e] at r
          · have e : (⟨576 + (j - 576), by omega⟩ : Fin 4480) = j := Fin.ext (by dsimp only; omega)
            have r := (at576 X a ⟨j - 576, by omega⟩).trans ((congrArg (fun z : EReal => -z) (h _)).trans (ref576 w d k ⟨j - 576, by omega⟩).symm)
            dsimp only at r
            rwa [e] at r
    · rcases Nat.lt_or_ge j.val 648 with h648 | h648
      · rcases Nat.lt_or_ge j.val 608 with h608 | h608
        · have e : (⟨592 + (j - 592), by omega⟩ : Fin 4480) = j := Fin.ext (by dsimp only; omega)
          have r := (at592 X a ⟨j - 592, by omega⟩).trans ((h _).trans (ref592 w d k ⟨j - 592, by omega⟩).symm)
          dsimp only at r
          rwa [e] at r
        · rcases Nat.lt_or_ge j.val 640 with h640 | h640
          · have e : (⟨608 + (j - 608), by omega⟩ : Fin 4480) = j := Fin.ext (by dsimp only; omega)
            have r := (at608 X a ⟨j - 608, by omega⟩).trans (ref608 w d k ⟨j - 608, by omega⟩).symm
            dsimp only at r
            rwa [e] at r
          · have e : (⟨640 + (j - 640), by omega⟩ : Fin 4480) = j := Fin.ext (by dsimp only; omega)
            have r := (at640 X a ⟨j - 640, by omega⟩).trans ((h _).trans (ref640 w d k ⟨j - 640, by omega⟩).symm)
            dsimp only at r
            rwa [e] at r
      · rcases Nat.lt_or_ge j.val 1024 with h1024 | h1024
        · rcases Nat.lt_or_ge j.val 768 with h768 | h768
          · have e : (⟨648 + (j - 648), by omega⟩ : Fin 4480) = j := Fin.ext (by dsimp only; omega)
            have r := (at648 X a ⟨j - 648, by omega⟩).trans (ref648 w d k ⟨j - 648, by omega⟩).symm
            dsimp only at r
            rwa [e] at r
          · have e : (⟨768 + (j - 768), by omega⟩ : Fin 4480) = j := Fin.ext (by dsimp only; omega)
            have r := (at768 X a ⟨j - 768, by omega⟩).trans ((h _).trans (ref768 w d k ⟨j - 768, by omega⟩).symm)
            dsimp only at r
            rwa [e] at r
        · rcases Nat.lt_or_ge j.val 1280 with h1280 | h1280
          · have e : (⟨1024 + (j - 1024), by omega⟩ : Fin 4480) = j := Fin.ext (by dsimp only; omega)
            have r := (at1024 X a ⟨j - 1024, by omega⟩).trans ((h _).trans (ref1024 w d k ⟨j - 1024, by omega⟩).symm)
            dsimp only at r
            rwa [e] at r
          · have e : (⟨1280 + (j - 1280), by omega⟩ : Fin 4480) = j := Fin.ext (by dsimp only; omega)
            have r := (at1280 X a ⟨j - 1280, by omega⟩).trans ((h _).trans (ref1280 w d k ⟨j - 1280, by omega⟩).symm)
            dsimp only at r
            rwa [e] at r
  · rcases Nat.lt_or_ge j.val 3328 with h3328 | h3328
    · rcases Nat.lt_or_ge j.val 2304 with h2304 | h2304
      · rcases Nat.lt_or_ge j.val 1792 with h1792 | h1792
        · have e : (⟨1536 + (j - 1536), by omega⟩ : Fin 4480) = j := Fin.ext (by dsimp only; omega)
          have r := (at1536 X a ⟨j - 1536, by omega⟩).trans ((h _).trans (ref1536 w d k ⟨j - 1536, by omega⟩).symm)
          dsimp only at r
          rwa [e] at r
        · rcases Nat.lt_or_ge j.val 2048 with h2048 | h2048
          · have e : (⟨1792 + (j - 1792), by omega⟩ : Fin 4480) = j := Fin.ext (by dsimp only; omega)
            have r := (at1792 X a ⟨j - 1792, by omega⟩).trans ((h _).trans (ref1792 w d k ⟨j - 1792, by omega⟩).symm)
            dsimp only at r
            rwa [e] at r
          · have e : (⟨2048 + (j - 2048), by omega⟩ : Fin 4480) = j := Fin.ext (by dsimp only; omega)
            have r := (at2048 X a ⟨j - 2048, by omega⟩).trans ((h _).trans (ref2048 w d k ⟨j - 2048, by omega⟩).symm)
            dsimp only at r
            rwa [e] at r
      · rcases Nat.lt_or_ge j.val 2816 with h2816 | h2816
        · rcases Nat.lt_or_ge j.val 2560 with h2560 | h2560
          · have e : (⟨2304 + (j - 2304), by omega⟩ : Fin 4480) = j := Fin.ext (by dsimp only; omega)
            have r := (at2304 X a ⟨j - 2304, by omega⟩).trans ((h _).trans (ref2304 w d k ⟨j - 2304, by omega⟩).symm)
            dsimp only at r
            rwa [e] at r
          · have e : (⟨2560 + (j - 2560), by omega⟩ : Fin 4480) = j := Fin.ext (by dsimp only; omega)
            have r := (at2560 X a ⟨j - 2560, by omega⟩).trans ((h _).trans (ref2560 w d k ⟨j - 2560, by omega⟩).symm)
            dsimp only at r
            rwa [e] at r
        · rcases Nat.lt_or_ge j.val 3072 with h3072 | h3072
          · have e : (⟨2816 + (j - 2816), by omega⟩ : Fin 4480) = j := Fin.ext (by dsimp only; omega)
            have r := (at2816 X a ⟨j - 2816, by omega⟩).trans ((h _).trans (ref2816 w d k ⟨j - 2816, by omega⟩).symm)
            dsimp only at r
            rwa [e] at r
          · have e : (⟨3072 + (j - 3072), by omega⟩ : Fin 4480) = j := Fin.ext (by dsimp only; omega)
            have r := (at3072 X a ⟨j - 3072, by omega⟩).trans ((h _).trans (ref3072 w d k ⟨j - 3072, by omega⟩).symm)
            dsimp only at r
            rwa [e] at r
    · rcases Nat.lt_or_ge j.val 3680 with h3680 | h3680
      · rcases Nat.lt_or_ge j.val 3616 with h3616 | h3616
        · rcases Nat.lt_or_ge j.val 3584 with h3584 | h3584
          · have e : (⟨3328 + (j - 3328), by omega⟩ : Fin 4480) = j := Fin.ext (by dsimp only; omega)
            have r := (at3328 X a ⟨j - 3328, by omega⟩).trans ((h _).trans (ref3328 w d k ⟨j - 3328, by omega⟩).symm)
            dsimp only at r
            rwa [e] at r
          · have e : (⟨3584 + (j - 3584), by omega⟩ : Fin 4480) = j := Fin.ext (by dsimp only; omega)
            have r := (at3584 X a ⟨j - 3584, by omega⟩).trans ((h _).trans (ref3584 w d k ⟨j - 3584, by omega⟩).symm)
            dsimp only at r
            rwa [e] at r
        · rcases Nat.lt_or_ge j.val 3648 with h3648 | h3648
          · have e : (⟨3616 + (j - 3616), by omega⟩ : Fin 4480) = j := Fin.ext (by dsimp only; omega)
            have r := (at3616 X a ⟨j - 3616, by omega⟩).trans ((h _).trans (ref3616 w d k ⟨j - 3616, by omega⟩).symm)
            dsimp only at r
            rwa [e] at r
          · have e : (⟨3648 + (j - 3648), by omega⟩ : Fin 4480) = j := Fin.ext (by dsimp only; omega)
            have r := (at3648 X a ⟨j - 3648, by omega⟩).trans ((h _).trans (ref3648 w d k ⟨j - 3648, by omega⟩).symm)
            dsimp only at r
            rwa [e] at r
      · rcases Nat.lt_or_ge j.val 3968 with h3968 | h3968
        · rcases Nat.lt_or_ge j.val 3712 with h3712 | h3712
          · have e : (⟨3680 + (j - 3680), by omega⟩ : Fin 4480) = j := Fin.ext (by dsimp only; omega)
            have r := (at3680 X a ⟨j - 3680, by omega⟩).trans ((h _).trans (ref3680 w d k ⟨j - 3680, by omega⟩).symm)
            dsimp only at r
            rwa [e] at r
          · have e : (⟨3712 + (j - 3712), by omega⟩ : Fin 4480) = j := Fin.ext (by dsimp only; omega)
            have r := (at3712 X a ⟨j - 3712, by omega⟩).trans ((congrArg (fun z : EReal => z * factorB) (h _)).trans (ref3712 w d k ⟨j - 3712, by omega⟩).symm)
            dsimp only at r
            rwa [e] at r
        · rcases Nat.lt_or_ge j.val 4224 with h4224 | h4224
          · have e : (⟨3968 + (j - 3968), by omega⟩ : Fin 4480) = j := Fin.ext (by dsimp only; omega)
            have r := (at3968 X a ⟨j - 3968, by omega⟩).trans ((h _).trans (ref3968 w d k ⟨j - 3968, by omega⟩).symm)
            dsimp only at r
            rwa [e] at r
          · have e : (⟨4224 + (j - 4224), by omega⟩ : Fin 4480) = j := Fin.ext (by dsimp only; omega)
            have r := (at4224 X a ⟨j - 4224, by omega⟩).trans ((h _).trans (ref4224 w d k ⟨j - 4224, by omega⟩).symm)
            dsimp only at r
            rwa [e] at r

end

end Cert.Arrange
-- ==== Proof.ArrClaim.lean ====
/-
The two statements on the arrangement of the input weights that Proof.lean cites: the reference's frame and that the results are equal.
-/
module

public import proofs.«01_k».proof.Defs
public import proofs.«01_k».proof.Proof.ArrRef
public import Idealize.ShloMosaic.Adequacy
public import Idealize.ShloMosaic.Init

set_option maxRecDepth 16384

@[expose] public section

namespace Cert.Arrange

open Idealize.ShloMosaic Idealize.SL.Sem

section

open Cert.Kernel5Ideal Cert.Kernel5Ideal.Gen

variable (m : (ℓ : Loc nD τ sig) → Buf (Elt Ideal) ℓ)

/-- There are 8 points. -/
theorem lt8 (t : Fin cfg0.N) : t.val < 8 := by
  have h : cfg0.N = 8 := by decide +kernel
  exact h ▸ t.isLt

/-- The block index of each window at a point. -/
theorem index0 : ∀ t : Fin cfg0.N, win0_0.index t 0 = t.val / 4 ∧ win0_0.index t 1 = t.val % 4 ∧ win0_0.index t 2 = 0 :=
  (by decide +kernel : ∀ t : Fin grid0.N, _)
theorem index1 : ∀ t : Fin cfg0.N, win0_1.index t 0 = t.val / 4 ∧ win0_1.index t 1 = t.val % 4 ∧ win0_1.index t 2 = 0 :=
  (by decide +kernel : ∀ t : Fin grid0.N, _)

/-- The block of the weights. -/
theorem read0 (c : Dev nD) (t : Fin cfg0.N) (d : Fin 2) (hd : t.val / 4 = d.val) (a : Fin 256) (r : Fin 1024) (hr : r.val = 256 * (t.val % 4) + a.val) (j : Fin 3976) :
    iblk m c 0 t (ix3 0 a j) = m ((c.tc : Thread nD τ).loc main_arg0) (ix3 d r j) := by
  have := index0 t
  have e : V m c main_arg0 = m ((c.tc : Thread nD τ).loc main_arg0) := rfl
  rw [← e]
  blk_ext [iblk]

/-- The result array is the reference's array of the argument. -/
theorem final (c : Dev nD) (w : FVec Ideal S2x1024x3976 .f32) (e0 : m ((c.tc : Thread nD τ).loc main_arg0) = w) :
    (dats m 0 c).arrAt 1 cfg0.N = arranged w := by
  refine (dats m 0 c).arrAt_eq_of_covers 1 _ (by decide +kernel) fun t hf y => ?_
  blk_simp
  rw [after0_1]
  have hi := index1 t
  have ht := lt8 t
  obtain ⟨a, j, rfl⟩ : ∃ (a : Fin 256) (j : Fin 4480), y = ix3 0 a j := ⟨y 1, y 2, by blk_ext⟩
  have e : (win0_1.blk t).view.emb (ix3 0 a j) = (ix3 ⟨t.val / 4, by omega⟩ ⟨256 * (t.val % 4) + a, by omega⟩ j : S2x1024x4480.Idx) := by
    blk_ext
  rw [e]
  refine (outs_eq m c t a j).trans (same w _ _ _ a (fun q => ?_) j)
  exact (read0 m c t _ rfl a _ rfl q).trans (congrFun e0 _)

end

/-- The reference terminates with its argument unchanged and, as it declares no semaphore, every counter at zero. -/
theorem frame (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0) :=
  (θ_run Cert.Reference5Ideal.defs _ _).mono (fun r h => ⟨fun c => (h c).2, Idealize.ShloMosaic.sem_eq_zero_of_no_sems (by decide) r.2⟩)
    (Cert.Reference5Ideal.Value.run (F := Ideal) m g)

/-- The two arrangements of the input weights are equal. -/
theorem equal [Cert.Kernel5Ideal.Facts] [Cert.Reference5Ideal.Facts] : Cert.algebraic_Kernel5Ideal_Reference5Ideal := by
  intro m g m' g' _ ha
  refine ⟨fun c => (Cert.Kernel5Ideal.Gen.dats m 0 c).arrAt 1 Cert.Kernel5Ideal.cfg0.N, Cert.Kernel5Ideal.Value.run_blocks m g, ?_⟩
  refine (θ_run Cert.Reference5Ideal.defs _ _).mono (fun r h c => ⟨(h c).1.trans ?_, (h c).2⟩) (Cert.Reference5Ideal.Value.run m' g')
  have h0 := ha c
  exact (result_eq _ m' c h0).trans (final m c _ rfl).symm

end Cert.Arrange
-- ==== Proof.lean ====
/-
The proof of `Cert.Claim`: the frames and the preservation are the generated ones; the attention's value claim joins the
result array of the kernel (`Attn.final`) to the reference's result (`AttnRef.result_apply`) where the precondition makes the
queries and the keys finite (`AttnPre.finite`); the value claims of the two projections are `OutProj.equal` and
`InProj.equal`, that of the queries, the keys and the values is `Latents.equal`, and
that of the arranged weights is `Arrange.equal`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Final
public import proofs.«01_k».proof.Proof.Ref
public import proofs.«01_k».proof.Proof.Pre
public import proofs.«01_k».proof.Proof.OutClaim
public import proofs.«01_k».proof.Proof.InClaim
public import proofs.«01_k».proof.Proof.MlaClaim
public import proofs.«01_k».proof.Proof.ArrClaim
public import Idealize.ShloMosaic.Adequacy
public import Idealize.ShloMosaic.Init

@[expose] public section

noncomputable section

namespace Cert.Proof

open Idealize.ShloMosaic Idealize.SL.Sem Cert.Kernel

/-- The reference terminates with its arguments unchanged and, as it declares no semaphore, every counter at zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The kernel's result array is the reference's result. -/
theorem result_eq [Cert.Pre_finite_scores.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hp : Pre_KernelIdeal_finite_scores m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_out0 m' c = (Cert.KernelIdeal.Gen.dats m 0 c).arrAt 5 Cert.KernelIdeal.cfg0.N := by
  obtain ⟨f0, f1, f2, f3⟩ := Cert.AttnPre.finite _ _ _ _ _ _ (hp c)
  exact (Cert.Attn.final m c _ _ _ _ _ _ f0 f1 f2 f3 rfl rfl rfl rfl rfl rfl (Cert.ReferenceIdeal.Value.res_out0 m' c)
    fun b r h d => Cert.AttnRef.result_apply m' c _ _ _ _ _ _ h0 h1 h2 h3 h4 h5 f0 f1 f2 f3 b r h d).symm

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.AttnPre.facts, Cert.Latents.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    fun m g _ => Cert.Kernel2.Gen.frame m g,
    fun m g _ => Cert.Kernel2Ideal.Gen.frame m g,
    fun m g _ => Cert.OutProj.frame m g,
    fun m g _ => Cert.Kernel3.Gen.frame m g,
    fun m g _ => Cert.Kernel3Ideal.Gen.frame m g,
    fun m g _ => Cert.InProj.frame m g,
    fun m g _ => Cert.Kernel4.Gen.frame m g,
    fun m g _ => Cert.Kernel4Ideal.Gen.frame m g,
    fun m g _ => Cert.Kernel4Ideal.Gen.frame m g,
    fun m g _ => Cert.Latents.frame m g,
    fun m g _ => Cert.Latents.frame m g,
    fun m g _ => Cert.Kernel5.Gen.frame m g,
    fun m g _ => Cert.Kernel5Ideal.Gen.frame m g,
    fun m g _ => Cert.Arrange.frame m g,
    trivial,
    fun m g m' g' hp ha => by
      haveI := Cert.AttnPre.facts
      refine ⟨fun c => (Cert.KernelIdeal.Gen.dats m 0 c).arrAt 5 Cert.KernelIdeal.cfg0.N, ?_, ?_⟩
      · exact Cert.KernelIdeal.Value.run_blocks m g
      · refine (θ_run Cert.ReferenceIdeal.defs _ _).mono (fun r h c => ⟨(h c).1.trans ?_, (h c).2⟩) (Cert.ReferenceIdeal.Value.run m' g')
        obtain ⟨h0, h1, h2, h3, h4, h5⟩ := ha c
        exact result_eq m m' hp c h0 h1 h2 h3 h4 h5,
    trivial,
    Cert.OutProj.equal,
    trivial,
    Cert.InProj.equal,
    ⟨IdealRules.named_const.statement Cert.Kernel4Ideal.κ "inv_q_lora" .f32 0x3BAAAAAB#32 _ rfl,
      IdealRules.named_const.statement Cert.Kernel4Ideal.κ "q_scale" .f32 0x3E16C740#32 _ rfl⟩,
    by
      haveI := Cert.Latents.facts
      exact Cert.Latents.equal,
    IdealRules.named_const.statement Cert.Kernel5Ideal.κ "b_scale" .f32 0x3E38AA3B#32 _ rfl,
    Cert.Arrange.equal⟩

end Cert.Proof

end
